-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Experts [hPre_blocks_name_experts : Cert.Pre_blocks_name_experts.Facts] (m : (ℓ : Loc Cert.Experts.nD Cert.Experts.τ Cert.Experts.sig) → Buf (Elt Bits) ℓ) : Prop :=
  ∀ c : Dev Cert.Experts.nD,
    (Cert.Pre_blocks_name_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_blocks_name_experts : Cert.Pre_blocks_name_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_name_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_blocks_name_experts [hPre_blocks_name_experts : Cert.Pre_blocks_name_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_name_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Experts [hExperts : Cert.Experts.Facts] [hPre_blocks_name_experts : Cert.Pre_blocks_name_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_blocks_name_experts : Cert.Pre_blocks_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_blocks_name_experts [hExpertsReferenceIdeal : Cert.ExpertsReferenceIdeal.Facts] [hPre_blocks_name_experts : Cert.Pre_blocks_name_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_blocks_name_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def preserves_Kernel_KernelIdeal : Prop :=
  IdealRules.named_const.Statement Cert.KernelIdeal.κ "inv96" .f32 0x3C2AAAAB#32 ((96⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v34_0)) (v1 : (c : Dev Cert.ProjIdeal.nD) → Buf (Elt Ideal) ((c.tc : Thread Cert.ProjIdeal.nD Cert.ProjIdeal.τ).loc Cert.ProjIdeal.main_v34_1)) (v2 : (c : Dev Cert.ProjIdeal.nD) → Buf (Elt Ideal) ((c.tc : Thread Cert.ProjIdeal.nD Cert.ProjIdeal.τ).loc Cert.ProjIdeal.main_v34_2)) (v3 : (c : Dev Cert.ProjIdeal.nD) → Buf (Elt Ideal) ((c.tc : Thread Cert.ProjIdeal.nD Cert.ProjIdeal.τ).loc Cert.ProjIdeal.main_v34_3)) (v4 : (c : Dev Cert.ProjIdeal.nD) → Buf (Elt Ideal) ((c.tc : Thread Cert.ProjIdeal.nD Cert.ProjIdeal.τ).loc Cert.ProjIdeal.main_v34_4)) (v5 : (c : Dev Cert.ProjIdeal.nD) → Buf (Elt Ideal) ((c.tc : Thread Cert.ProjIdeal.nD Cert.ProjIdeal.τ).loc Cert.ProjIdeal.main_v34_5)) (v6 : (c : Dev Cert.ProjIdeal.nD) → Buf (Elt Ideal) ((c.tc : Thread Cert.ProjIdeal.nD Cert.ProjIdeal.τ).loc Cert.ProjIdeal.main_v34_6)) (v7 : (c : Dev Cert.ProjIdeal.nD) → Buf (Elt Ideal) ((c.tc : Thread Cert.ProjIdeal.nD Cert.ProjIdeal.τ).loc Cert.ProjIdeal.main_v34_7)) (v8 : (c : Dev Cert.ProjIdeal.nD) → Buf (Elt Ideal) ((c.tc : Thread Cert.ProjIdeal.nD Cert.ProjIdeal.τ).loc Cert.ProjIdeal.main_v34_8)) (v9 : (c : Dev Cert.ProjIdeal.nD) → Buf (Elt Ideal) ((c.tc : Thread Cert.ProjIdeal.nD Cert.ProjIdeal.τ).loc Cert.ProjIdeal.main_v34_9)) (v10 : (c : Dev Cert.ProjIdeal.nD) → Buf (Elt Ideal) ((c.tc : Thread Cert.ProjIdeal.nD Cert.ProjIdeal.τ).loc Cert.ProjIdeal.main_v34_10)) (v11 : (c : Dev Cert.ProjIdeal.nD) → Buf (Elt Ideal) ((c.tc : Thread Cert.ProjIdeal.nD Cert.ProjIdeal.τ).loc Cert.ProjIdeal.main_v34_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v34_0) = v0 c
          ∧ r.2.mem ((c.tc : Thread Cert.ProjIdeal.nD Cert.ProjIdeal.τ).loc Cert.ProjIdeal.main_v34_1) = v1 c
          ∧ r.2.mem ((c.tc : Thread Cert.ProjIdeal.nD Cert.ProjIdeal.τ).loc Cert.ProjIdeal.main_v34_2) = v2 c
          ∧ r.2.mem ((c.tc : Thread Cert.ProjIdeal.nD Cert.ProjIdeal.τ).loc Cert.ProjIdeal.main_v34_3) = v3 c
          ∧ r.2.mem ((c.tc : Thread Cert.ProjIdeal.nD Cert.ProjIdeal.τ).loc Cert.ProjIdeal.main_v34_4) = v4 c
          ∧ r.2.mem ((c.tc : Thread Cert.ProjIdeal.nD Cert.ProjIdeal.τ).loc Cert.ProjIdeal.main_v34_5) = v5 c
          ∧ r.2.mem ((c.tc : Thread Cert.ProjIdeal.nD Cert.ProjIdeal.τ).loc Cert.ProjIdeal.main_v34_6) = v6 c
          ∧ r.2.mem ((c.tc : Thread Cert.ProjIdeal.nD Cert.ProjIdeal.τ).loc Cert.ProjIdeal.main_v34_7) = v7 c
          ∧ r.2.mem ((c.tc : Thread Cert.ProjIdeal.nD Cert.ProjIdeal.τ).loc Cert.ProjIdeal.main_v34_8) = v8 c
          ∧ r.2.mem ((c.tc : Thread Cert.ProjIdeal.nD Cert.ProjIdeal.τ).loc Cert.ProjIdeal.main_v34_9) = v9 c
          ∧ r.2.mem ((c.tc : Thread Cert.ProjIdeal.nD Cert.ProjIdeal.τ).loc Cert.ProjIdeal.main_v34_10) = v10 c
          ∧ r.2.mem ((c.tc : Thread Cert.ProjIdeal.nD Cert.ProjIdeal.τ).loc Cert.ProjIdeal.main_v34_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v38) = v0 c
          ∧ r.2.mem ((c.tc : Thread Cert.ProjReferenceIdeal.nD Cert.ProjReferenceIdeal.τ).loc Cert.ProjReferenceIdeal.main_v42) = v1 c
          ∧ r.2.mem ((c.tc : Thread Cert.ProjReferenceIdeal.nD Cert.ProjReferenceIdeal.τ).loc Cert.ProjReferenceIdeal.main_v46) = v2 c
          ∧ r.2.mem ((c.tc : Thread Cert.ProjReferenceIdeal.nD Cert.ProjReferenceIdeal.τ).loc Cert.ProjReferenceIdeal.main_v50) = v3 c
          ∧ r.2.mem ((c.tc : Thread Cert.ProjReferenceIdeal.nD Cert.ProjReferenceIdeal.τ).loc Cert.ProjReferenceIdeal.main_v53) = v4 c
          ∧ r.2.mem ((c.tc : Thread Cert.ProjReferenceIdeal.nD Cert.ProjReferenceIdeal.τ).loc Cert.ProjReferenceIdeal.main_v55) = v5 c
          ∧ r.2.mem ((c.tc : Thread Cert.ProjReferenceIdeal.nD Cert.ProjReferenceIdeal.τ).loc Cert.ProjReferenceIdeal.main_v57) = v6 c
          ∧ r.2.mem ((c.tc : Thread Cert.ProjReferenceIdeal.nD Cert.ProjReferenceIdeal.τ).loc Cert.ProjReferenceIdeal.main_v59) = v7 c
          ∧ r.2.mem ((c.tc : Thread Cert.ProjReferenceIdeal.nD Cert.ProjReferenceIdeal.τ).loc Cert.ProjReferenceIdeal.main_v61) = v8 c
          ∧ r.2.mem ((c.tc : Thread Cert.ProjReferenceIdeal.nD Cert.ProjReferenceIdeal.τ).loc Cert.ProjReferenceIdeal.main_v66) = v9 c
          ∧ r.2.mem ((c.tc : Thread Cert.ProjReferenceIdeal.nD Cert.ProjReferenceIdeal.τ).loc Cert.ProjReferenceIdeal.main_v68) = v10 c
          ∧ r.2.mem ((c.tc : Thread Cert.ProjReferenceIdeal.nD Cert.ProjReferenceIdeal.τ).loc Cert.ProjReferenceIdeal.main_v69) = v11 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_blocks_name_experts : Cert.Pre_blocks_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v33) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hExperts : Cert.Experts.Facts) (hExpertsIdeal : Cert.ExpertsIdeal.Facts) (hExpertsReferenceIdeal : Cert.ExpertsReferenceIdeal.Facts) (hPre_blocks_name_experts : Cert.Pre_blocks_name_experts.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Experts (hExperts := hExperts) (hPre_blocks_name_experts := hPre_blocks_name_experts)
    ∧ quiescent_ExpertsIdeal (hExpertsIdeal := hExpertsIdeal) (hPre_blocks_name_experts := hPre_blocks_name_experts)
    ∧ quiescent_ExpertsReferenceIdeal (hExpertsReferenceIdeal := hExpertsReferenceIdeal)
    ∧ quiescent_ExpertsReferenceIdeal_pre_blocks_name_experts (hExpertsReferenceIdeal := hExpertsReferenceIdeal) (hPre_blocks_name_experts := hPre_blocks_name_experts)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Experts_ExpertsIdeal
    ∧ algebraic_ExpertsIdeal_ExpertsReferenceIdeal (hExpertsIdeal := hExpertsIdeal) (hExpertsReferenceIdeal := hExpertsReferenceIdeal) (hPre_blocks_name_experts := hPre_blocks_name_experts)
-- ==== Pre_blocks_name_experts.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S73728x1024 .f32) (main_arg3 : FVec F S32x1024x512 .f32) (main_arg4 : FVec F S32x1024x512 .f32) (main_arg5 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S4x8192x192 : Shape := ⟨3, ![4, 8192, 192]⟩
abbrev S4x8192x384 : Shape := ⟨3, ![4, 8192, 384]⟩
abbrev S4x8192x16 : Shape := ⟨3, ![4, 8192, 16]⟩
abbrev S16x192 : Shape := ⟨2, ![16, 192]⟩
abbrev S192 : Shape := ⟨1, ![192]⟩
abbrev S96 : Shape := ⟨1, ![96]⟩
abbrev S32768x192 : Shape := ⟨2, ![32768, 192]⟩
abbrev S32768x4x48 : Shape := ⟨3, ![32768, 4, 48]⟩
abbrev S_ : Shape := ⟨0, ![]⟩
abbrev S32768x4x128 : Shape := ⟨3, ![32768, 4, 128]⟩
abbrev S32768x512 : Shape := ⟨2, ![32768, 512]⟩
abbrev S32768x384 : Shape := ⟨2, ![32768, 384]⟩
abbrev S32768x4x96 : Shape := ⟨3, ![32768, 4, 96]⟩
abbrev S32768x16 : Shape := ⟨2, ![32768, 16]⟩
abbrev S32768x128 : Shape := ⟨2, ![32768, 128]⟩
abbrev S16x4x48 : Shape := ⟨3, ![16, 4, 48]⟩
abbrev S16x4x128 : Shape := ⟨3, ![16, 4, 128]⟩
abbrev S16x512 : Shape := ⟨2, ![16, 512]⟩
abbrev S128x512 : Shape := ⟨2, ![128, 512]⟩
abbrev S1x192 : Shape := ⟨2, ![1, 192]⟩
abbrev S1x4x48 : Shape := ⟨3, ![1, 4, 48]⟩
abbrev S1x4x128 : Shape := ⟨3, ![1, 4, 128]⟩
abbrev S1x512 : Shape := ⟨2, ![1, 512]⟩
abbrev S1x96 : Shape := ⟨2, ![1, 96]⟩
abbrev S1x1x1x96 : Shape := ⟨4, ![1, 1, 1, 96]⟩
abbrev S1x1x4x96 : Shape := ⟨4, ![1, 1, 4, 96]⟩
abbrev S1x384 : Shape := ⟨2, ![1, 384]⟩
abbrev S1x4x96 : Shape := ⟨3, ![1, 4, 96]⟩
abbrev S4x8192x512 : Shape := ⟨3, ![4, 8192, 512]⟩
abbrev S4x8192x128 : Shape := ⟨3, ![4, 8192, 128]⟩
abbrev S1x512x512 : Shape := ⟨3, ![1, 512, 512]⟩
abbrev S1x512x128 : Shape := ⟨3, ![1, 512, 128]⟩
abbrev S4x128x128 : Shape := ⟨3, ![4, 128, 128]⟩
abbrev S512x128 : Shape := ⟨2, ![512, 128]⟩
abbrev S512x512 : Shape := ⟨2, ![512, 512]⟩
abbrev S64x64 : Shape := ⟨2, ![64, 64]⟩
abbrev S64x512 : Shape := ⟨2, ![64, 512]⟩
abbrev S1x64x512 : Shape := ⟨3, ![1, 64, 512]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S1x128 : Shape := ⟨2, ![1, 128]⟩
abbrev S64 : Shape := ⟨1, ![64]⟩
abbrev S64x1 : Shape := ⟨2, ![64, 1]⟩

abbrev nBuf : Space → Nat
  | .hbm => 69
  | .vmem => 16
  | .smem => 0
  | _ => 0

abbrev bufTy : (tb : Table) → Fin (tcTables nBuf tb) → BufTy
  | .hbm, ⟨0, _⟩ => ⟨S4x8192x192, .bf16⟩
  | .hbm, ⟨1, _⟩ => ⟨S4x8192x192, .bf16⟩
  | .hbm, ⟨2, _⟩ => ⟨S4x8192x384, .bf16⟩
  | .hbm, ⟨3, _⟩ => ⟨S4x8192x16, .bf16⟩
  | .hbm, ⟨4, _⟩ => ⟨S4x8192x384, .bf16⟩
  | .hbm, ⟨5, _⟩ => ⟨S16x192, .f32⟩
  | .hbm, ⟨6, _⟩ => ⟨S192, .f32⟩
  | .hbm, ⟨7, _⟩ => ⟨S96, .f32⟩
  | .hbm, ⟨8, _⟩ => ⟨S32768x192, .bf16⟩
  | .hbm, ⟨9, _⟩ => ⟨S32768x4x48, .bf16⟩
  | .hbm, ⟨10, _⟩ => ⟨S_, .i32⟩
  | .hbm, ⟨11, _⟩ => ⟨S_, .bf16⟩
  | .hbm, ⟨12, _⟩ => ⟨S32768x4x128, .bf16⟩
  | .hbm, ⟨13, _⟩ => ⟨S32768x512, .bf16⟩
  | .hbm, ⟨14, _⟩ => ⟨S32768x192, .bf16⟩
  | .hbm, ⟨15, _⟩ => ⟨S32768x4x48, .bf16⟩
  | .hbm, ⟨16, _⟩ => ⟨S_, .i32⟩
  | .hbm, ⟨17, _⟩ => ⟨S_, .bf16⟩
  | .hbm, ⟨18, _⟩ => ⟨S32768x4x128, .bf16⟩
  | .hbm, ⟨19, _⟩ => ⟨S32768x512, .bf16⟩
  | .hbm, ⟨20, _⟩ => ⟨S32768x384, .bf16⟩
  | .hbm, ⟨21, _⟩ => ⟨S32768x4x96, .bf16⟩
  | .hbm, ⟨22, _⟩ => ⟨S_, .i32⟩
  | .hbm, ⟨23, _⟩ => ⟨S_, .bf16⟩
  | .hbm, ⟨24, _⟩ => ⟨S32768x4x128, .bf16⟩
  | .hbm, ⟨25, _⟩ => ⟨S32768x512, .bf16⟩
  | .hbm, ⟨26, _⟩ => ⟨S32768x384, .bf16⟩
  | .hbm, ⟨27, _⟩ => ⟨S32768x4x96, .bf16⟩
  | .hbm, ⟨28, _⟩ => ⟨S_, .i32⟩
  | .hbm, ⟨29, _⟩ => ⟨S_, .bf16⟩
  | .hbm, ⟨30, _⟩ => ⟨S32768x4x128, .bf16⟩
  | .hbm, ⟨31, _⟩ => ⟨S32768x512, .bf16⟩
  | .hbm, ⟨32, _⟩ => ⟨S32768x16, .bf16⟩
  | .hbm, ⟨33, _⟩ => ⟨S_, .i32⟩
  | .hbm, ⟨34, _⟩ => ⟨S_, .bf16⟩
  | .hbm, ⟨35, _⟩ => ⟨S32768x128, .bf16⟩
  | .hbm, ⟨36, _⟩ => ⟨S16x4x48, .f32⟩
  | .hbm, ⟨37, _⟩ => ⟨S_, .i32⟩
  | .hbm, ⟨38, _⟩ => ⟨S_, .f32⟩
  | .hbm, ⟨39, _⟩ => ⟨S16x4x128, .f32⟩
  | .hbm, ⟨40, _⟩ => ⟨S16x512, .f32⟩
  | .hbm, ⟨41, _⟩ => ⟨S_, .i32⟩
  | .hbm, ⟨42, _⟩ => ⟨S_, .f32⟩
  | .hbm, ⟨43, _⟩ => ⟨S128x512, .f32⟩
  | .hbm, ⟨44, _⟩ => ⟨S_, .i32⟩
  | .hbm, ⟨45, _⟩ => ⟨S_, .f32⟩
  | .hbm, ⟨46, _⟩ => ⟨S128x512, .f32⟩
  | .hbm, ⟨47, _⟩ => ⟨S1x192, .f32⟩
  | .hbm, ⟨48, _⟩ => ⟨S1x4x48, .f32⟩
  | .hbm, ⟨49, _⟩ => ⟨S_, .i32⟩
  | .hbm, ⟨50, _⟩ => ⟨S_, .f32⟩
  | .hbm, ⟨51, _⟩ => ⟨S1x4x128, .f32⟩
  | .hbm, ⟨52, _⟩ => ⟨S1x512, .f32⟩
  | .hbm, ⟨53, _⟩ => ⟨S1x96, .f32⟩
  | .hbm, ⟨54, _⟩ => ⟨S1x1x1x96, .f32⟩
  | .hbm, ⟨55, _⟩ => ⟨S1x1x4x96, .f32⟩
  | .hbm, ⟨56, _⟩ => ⟨S1x384, .f32⟩
  | .hbm, ⟨57, _⟩ => ⟨S1x4x96, .f32⟩
  | .hbm, ⟨58, _⟩ => ⟨S_, .i32⟩
  | .hbm, ⟨59, _⟩ => ⟨S_, .f32⟩
  | .hbm, ⟨60, _⟩ => ⟨S1x4x128, .f32⟩
  | .hbm, ⟨61, _⟩ => ⟨S1x512, .f32⟩
  | .hbm, ⟨62, _⟩ => ⟨S4x8192x512, .bf16⟩
  | .hbm, ⟨63, _⟩ => ⟨S4x8192x512, .bf16⟩
  | .hbm, ⟨64, _⟩ => ⟨S4x8192x512, .bf16⟩
  | .hbm, ⟨65, _⟩ => ⟨S4x8192x512, .bf16⟩
  | .hbm, ⟨66, _⟩ => ⟨S4x8192x128, .bf16⟩
  | .hbm, ⟨67, _⟩ => ⟨S128x512, .bf16⟩
  | .hbm, ⟨68, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x128, .bf16⟩
  | .local _ .vmem, ⟨9, _⟩ => ⟨S1x512x128, .bf16⟩
  | .local _ .vmem, ⟨10, _⟩ => ⟨S128x512, .bf16⟩
  | .local _ .vmem, ⟨11, _⟩ => ⟨S1x512, .f32⟩
  | .local _ .vmem, ⟨12, _⟩ => ⟨S1x512, .f32⟩
  | .local _ .vmem, ⟨13, _⟩ => ⟨S1x512x512, .bf16⟩
  | .local _ .vmem, ⟨14, _⟩ => ⟨S1x512x512, .bf16⟩
  | .local _ .vmem, ⟨15, _⟩ => ⟨S4x128x128, .f32⟩
  | _, _ => ⟨S4x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_call3_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_call4_v0 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_call5_v0 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_call6_v0 : Ref sig .tc := ⟨.hbm, 42, rfl⟩
abbrev main_v21 : Ref sig .tc := ⟨.hbm, 43, rfl⟩
abbrev main_c_6 : Ref sig .tc := ⟨.hbm, 44, rfl⟩
abbrev main_call7_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_call8_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_call9_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "inv96" => some ((96⁻¹ : ℝ) : EReal)
  | _ => none
-- ==== ReferenceIdeal.lean ====
abbrev S4x8192x192 : Shape := ⟨3, ![4, 8192, 192]⟩
abbrev S4x8192x384 : Shape := ⟨3, ![4, 8192, 384]⟩
abbrev S4x8192x16 : Shape := ⟨3, ![4, 8192, 16]⟩
abbrev S16x192 : Shape := ⟨2, ![16, 192]⟩
abbrev S192 : Shape := ⟨1, ![192]⟩
abbrev S96 : Shape := ⟨1, ![96]⟩
abbrev S1x1x192 : Shape := ⟨3, ![1, 1, 192]⟩
abbrev S_ : Shape := ⟨0, ![]⟩
abbrev S4x128x64x4x48 : Shape := ⟨5, ![4, 128, 64, 4, 48]⟩
abbrev S4x4x128x64x48 : Shape := ⟨5, ![4, 4, 128, 64, 48]⟩
abbrev S4x128x64x4x96 : Shape := ⟨5, ![4, 128, 64, 4, 96]⟩
abbrev S4x4x128x64x96 : Shape := ⟨5, ![4, 4, 128, 64, 96]⟩
abbrev S4x4x128x1x48 : Shape := ⟨5, ![4, 4, 128, 1, 48]⟩
abbrev S64x64 : Shape := ⟨2, ![64, 64]⟩
abbrev S4x4x128x64x64 : Shape := ⟨5, ![4, 4, 128, 64, 64]⟩
abbrev S4x4x128x48x96 : Shape := ⟨5, ![4, 4, 128, 48, 96]⟩
abbrev S4x4x128x48 : Shape := ⟨4, ![4, 4, 128, 48]⟩
abbrev S4x4x48x96 : Shape := ⟨4, ![4, 4, 48, 96]⟩
abbrev S128x4x4x48 : Shape := ⟨4, ![128, 4, 4, 48]⟩
abbrev S128x4x4x48x96 : Shape := ⟨5, ![128, 4, 4, 48, 96]⟩
abbrev S1x4x4x48 : Shape := ⟨4, ![1, 4, 4, 48]⟩
abbrev S4x4x48 : Shape := ⟨3, ![4, 4, 48]⟩
abbrev S1x4x4x48x96 : Shape := ⟨5, ![1, 4, 4, 48, 96]⟩
abbrev S4x4x48x1 : Shape := ⟨4, ![4, 4, 48, 1]⟩
abbrev S4x8192x4x96 : Shape := ⟨4, ![4, 8192, 4, 96]⟩
abbrev S4x8192x4 : Shape := ⟨3, ![4, 8192, 4]⟩
abbrev S4x8192x4x1 : Shape := ⟨4, ![4, 8192, 4, 1]⟩
abbrev S1x1x1x96 : Shape := ⟨4, ![1, 1, 1, 96]⟩
abbrev S4x8192x4x128 : Shape := ⟨4, ![4, 8192, 4, 128]⟩
abbrev S4x8192x512 : Shape := ⟨3, ![4, 8192, 512]⟩

abbrev nBuf : Space → Nat
  | .hbm => 155
  | .vmem => 0
  | .smem => 0
  | _ => 0

abbrev hbmTy0_0 (i : Nat) : BufTy := match i % 128 with
  | 0 => ⟨S4x8192x192, .bf16⟩
  | 1 => ⟨S4x8192x192, .bf16⟩
  | 2 => ⟨S4x8192x384, .bf16⟩
  | 3 => ⟨S4x8192x16, .bf16⟩
  | 4 => ⟨S4x8192x384, .bf16⟩
  | 5 => ⟨S16x192, .f32⟩
  | 6 => ⟨S192, .f32⟩
  | 7 => ⟨S96, .f32⟩
  | 8 => ⟨S4x8192x16, .f32⟩
  | 9 => ⟨S4x8192x192, .f32⟩
  | 10 => ⟨S1x1x192, .f32⟩
  | 11 => ⟨S4x8192x192, .f32⟩
  | 12 => ⟨S4x8192x192, .f32⟩
  | 13 => ⟨S4x8192x192, .f32⟩
  | 14 => ⟨S_, .f32⟩
  | 15 => ⟨S4x8192x192, .f32⟩
  | 16 => ⟨S4x8192x192, .f32⟩
  | 17 => ⟨S4x8192x192, .f32⟩
  | 18 => ⟨S4x8192x192, .f32⟩
  | 19 => ⟨S4x8192x192, .i1⟩
  | 20 => ⟨S4x8192x192, .f32⟩
  | 21 => ⟨S4x8192x192, .f32⟩
  | 22 => ⟨S4x8192x192, .f32⟩
  | 23 => ⟨S4x8192x192, .f32⟩
  | 24 => ⟨S4x8192x192, .f32⟩
  | 25 => ⟨S4x8192x192, .f32⟩
  | 26 => ⟨S4x8192x192, .f32⟩
  | 27 => ⟨S4x8192x192, .f32⟩
  | 28 => ⟨S4x8192x192, .f32⟩
  | 29 => ⟨S_, .f32⟩
  | 30 => ⟨S4x8192x192, .f32⟩
  | 31 => ⟨S4x8192x192, .f32⟩
  | 32 => ⟨S4x8192x192, .f32⟩
  | 33 => ⟨S4x128x64x4x48, .f32⟩
  | 34 => ⟨S4x4x128x64x48, .f32⟩
  | 35 => ⟨S_, .f32⟩
  | 36 => ⟨S4x4x128x64x48, .f32⟩
  | 37 => ⟨S4x4x128x64x48, .f32⟩
  | 38 => ⟨S4x8192x192, .f32⟩
  | 39 => ⟨S4x128x64x4x48, .f32⟩
  | 40 => ⟨S4x4x128x64x48, .f32⟩
  | 41 => ⟨S4x8192x384, .f32⟩
  | 42 => ⟨S4x128x64x4x96, .f32⟩
  | 43 => ⟨S4x4x128x64x96, .f32⟩
  | 44 => ⟨S4x128x64x4x48, .f32⟩
  | 45 => ⟨S4x4x128x64x48, .f32⟩
  | 46 => ⟨S_, .f32⟩
  | 47 => ⟨S_, .f32⟩
  | 48 => ⟨S4x4x128x64x48, .f32⟩
  | 49 => ⟨S4x4x128x1x48, .f32⟩
  | 50 => ⟨S4x4x128x64x48, .f32⟩
  | 51 => ⟨S4x4x128x64x48, .f32⟩
  | 52 => ⟨S_, .i1⟩
  | 53 => ⟨S64x64, .i1⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i1⟩
  | 60 => ⟨S_, .i1⟩
  | 61 => ⟨S64x64, .i1⟩
  | 62 => ⟨S64x64, .i1⟩
  | 63 => ⟨S4x4x128x64x48, .f32⟩
  | 64 => ⟨S4x4x128x64x48, .f32⟩
  | 65 => ⟨S4x4x128x64x48, .f32⟩
  | 66 => ⟨S4x4x128x64x64, .f32⟩
  | 67 => ⟨S_, .f32⟩
  | 68 => ⟨S_, .f32⟩
  | 69 => ⟨S4x4x128x64x64, .i1⟩
  | 70 => ⟨S4x4x128x64x64, .f32⟩
  | 71 => ⟨S4x4x128x64x64, .f32⟩
  | 72 => ⟨S4x4x128x64x96, .f32⟩
  | 73 => ⟨S4x4x128x64x48, .f32⟩
  | 74 => ⟨S4x4x128x64x48, .f32⟩
  | 75 => ⟨S4x4x128x64x48, .f32⟩
  | 76 => ⟨S4x4x128x64x48, .f32⟩
  | 77 => ⟨S4x4x128x48x96, .f32⟩
  | 78 => ⟨S4x4x128x48, .f32⟩
  | 79 => ⟨S4x4x128x48, .f32⟩
  | 80 => ⟨S_, .f32⟩
  | 81 => ⟨S4x4x48x96, .f32⟩
  | 82 => ⟨S128x4x4x48, .f32⟩
  | 83 => ⟨S128x4x4x48x96, .f32⟩
  | 84 => ⟨S_, .f32⟩
  | 85 => ⟨S128x4x4x48x96, .f32⟩
  | 86 => ⟨S_, .i32⟩
  | 87 => ⟨S128x4x4x48, .f32⟩
  | 88 => ⟨S128x4x4x48x96, .f32⟩
  | 89 => ⟨S_, .i32⟩
  | 90 => ⟨S4x4x48x96, .f32⟩
  | 91 => ⟨S128x4x4x48x96, .f32⟩
  | 92 => ⟨S_, .i32⟩
  | 93 => ⟨S_, .i1⟩
  | 94 => ⟨S_, .i32⟩
  | 95 => ⟨S_, .i32⟩
  | 96 => ⟨S_, .i32⟩
  | 97 => ⟨S1x4x4x48, .f32⟩
  | 98 => ⟨S4x4x48, .f32⟩
  | 99 => ⟨S_, .i32⟩
  | 100 => ⟨S_, .i32⟩
  | 101 => ⟨S_, .i32⟩
  | 102 => ⟨S_, .i32⟩
  | 103 => ⟨S1x4x4x48x96, .f32⟩
  | 104 => ⟨S4x4x48x96, .f32⟩
  | 105 => ⟨S4x4x48x1, .f32⟩
  | 106 => ⟨S4x4x48x96, .f32⟩
  | 107 => ⟨S4x4x48x96, .f32⟩
  | 108 => ⟨S4x4x48x96, .f32⟩
  | 109 => ⟨S1x4x4x48x96, .f32⟩
  | 110 => ⟨S_, .i32⟩
  | 111 => ⟨S_, .i32⟩
  | 112 => ⟨S_, .i32⟩
  | 113 => ⟨S_, .i32⟩
  | 114 => ⟨S128x4x4x48x96, .f32⟩
  | 115 => ⟨S_, .i32⟩
  | 116 => ⟨S_, .i32⟩
  | 117 => ⟨S4x4x128x48x96, .f32⟩
  | 118 => ⟨S4x4x128x64x96, .f32⟩
  | 119 => ⟨S4x4x128x64x96, .f32⟩
  | 120 => ⟨S4x128x64x4x96, .f32⟩
  | 121 => ⟨S4x8192x4x96, .f32⟩
  | 122 => ⟨S4x8192x4x96, .f32⟩
  | 123 => ⟨S_, .f32⟩
  | 124 => ⟨S4x8192x4, .f32⟩
  | 125 => ⟨S4x8192x4x1, .f32⟩
  | 126 => ⟨S_, .f32⟩
  | 127 => ⟨S4x8192x4x1, .f32⟩
  | _ => ⟨S4x8192x192, .bf16⟩

abbrev hbmTy0_1 (i : Nat) : BufTy := match i % 128 with
  | 0 => ⟨S4x8192x4x1, .f32⟩
  | 1 => ⟨S_, .f32⟩
  | 2 => ⟨S4x8192x4x1, .f32⟩
  | 3 => ⟨S4x8192x4x1, .f32⟩
  | 4 => ⟨S4x8192x4x1, .f32⟩
  | 5 => ⟨S4x8192x4x96, .f32⟩
  | 6 => ⟨S4x8192x4x96, .f32⟩
  | 7 => ⟨S1x1x1x96, .f32⟩
  | 8 => ⟨S4x8192x4x96, .f32⟩
  | 9 => ⟨S4x8192x4x96, .f32⟩
  | 10 => ⟨S4x8192x384, .f32⟩
  | 11 => ⟨S4x8192x384, .f32⟩
  | 12 => ⟨S4x8192x384, .f32⟩
  | 13 => ⟨S_, .f32⟩
  | 14 => ⟨S4x8192x384, .f32⟩
  | 15 => ⟨S4x8192x384, .f32⟩
  | 16 => ⟨S_, .f32⟩
  | 17 => ⟨S4x8192x384, .f32⟩
  | 18 => ⟨S4x8192x384, .f32⟩
  | 19 => ⟨S4x8192x384, .f32⟩
  | 20 => ⟨S4x8192x4x96, .f32⟩
  | 21 => ⟨S4x8192x4x96, .f32⟩
  | 22 => ⟨S_, .i32⟩
  | 23 => ⟨S_, .f32⟩
  | 24 => ⟨S4x8192x4x128, .f32⟩
  | 25 => ⟨S4x8192x512, .f32⟩
  | 26 => ⟨S4x8192x512, .bf16⟩
  | _ => ⟨S4x8192x192, .bf16⟩

abbrev hbmTy (i : Nat) : BufTy := match i / 128 with
  | 0 => hbmTy0_0 i
  | 1 => hbmTy0_1 i
  | _ => ⟨S4x8192x192, .bf16⟩

abbrev bufTy : (tb : Table) → Fin (tcTables nBuf tb) → BufTy
  | .hbm, ⟨i, _⟩ => hbmTy i
  | _, _ => ⟨S4x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call1_call0_cst : Ref sig .tc := ⟨.hbm, 46, rfl⟩
abbrev main_call1_call0_v0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c : Ref sig .tc := ⟨.hbm, 52, rfl⟩
abbrev main_v25 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_0 : Ref sig .tc := ⟨.hbm, 60, rfl⟩
abbrev main_call2_v5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_1 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_2 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_3 : Ref sig .tc := ⟨.hbm, 84, rfl⟩
abbrev main_v43 : Ref sig .tc := ⟨.hbm, 85, rfl⟩
abbrev main_c_4 : Ref sig .tc := ⟨.hbm, 86, rfl⟩
abbrev main_v44_0 : Ref sig .tc := ⟨.hbm, 87, rfl⟩
abbrev main_v44_1 : Ref sig .tc := ⟨.hbm, 88, rfl⟩
abbrev main_v44_2 : Ref sig .tc := ⟨.hbm, 89, rfl⟩
abbrev main_v44_3 : Ref sig .tc := ⟨.hbm, 90, rfl⟩
abbrev main_v44_4 : Ref sig .tc := ⟨.hbm, 91, rfl⟩
abbrev main_while0c_c_13 : Ref sig .tc := ⟨.hbm, 92, rfl⟩
abbrev main_while0c_v70 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_v0 : Ref sig .tc := ⟨.hbm, 97, rfl⟩
abbrev main_while0b_v70 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_call5_c_2 : Ref sig .tc := ⟨.hbm, 102, rfl⟩
abbrev main_while0b_call5_v0 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_call6_v0 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_v76 : Ref sig .tc := ⟨.hbm, 114, rfl⟩
abbrev main_while0b_c_13 : Ref sig .tc := ⟨.hbm, 115, rfl⟩
abbrev main_while0b_v77 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_5 : Ref sig .tc := ⟨.hbm, 123, rfl⟩
abbrev main_v51 : Ref sig .tc := ⟨.hbm, 124, rfl⟩
abbrev main_v52 : Ref sig .tc := ⟨.hbm, 125, rfl⟩
abbrev main_cst_6 : Ref sig .tc := ⟨.hbm, 126, rfl⟩
abbrev main_v53 : Ref sig .tc := ⟨.hbm, 127, rfl⟩
abbrev main_v54 : Ref sig .tc := ⟨.hbm, 128, rfl⟩
abbrev main_cst_7 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_call7_v0 : Ref sig .tc := ⟨.hbm, 139, rfl⟩
abbrev main_call7_v1 : Ref sig .tc := ⟨.hbm, 140, rfl⟩
abbrev main_call7_cst : Ref sig .tc := ⟨.hbm, 141, rfl⟩
abbrev main_call7_v2 : Ref sig .tc := ⟨.hbm, 142, rfl⟩
abbrev main_call7_v3 : Ref sig .tc := ⟨.hbm, 143, rfl⟩
abbrev main_call7_cst_0 : Ref sig .tc := ⟨.hbm, 144, rfl⟩
abbrev main_call7_v4 : Ref sig .tc := ⟨.hbm, 145, rfl⟩
abbrev main_call7_v5 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_c_8 : Ref sig .tc := ⟨.hbm, 150, rfl⟩
abbrev main_call8_v0 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩

abbrev nD : Nat := 1
abbrev τ : Topo := Topo.v7x

variable {F : FTy → Type} [FloatOps F]

abbrev main_while0_count : Scf.Loop 32 := ⟨0#32, 128#32, 1#32⟩
-- ==== Proj.lean ====
abbrev S32768x1024 : Shape := ⟨2, ![32768, 1024]⟩
abbrev S1024 : Shape := ⟨1, ![1024]⟩
abbrev S4x1024 : Shape := ⟨2, ![4, 1024]⟩
abbrev S1024x2616 : Shape := ⟨2, ![1024, 2616]⟩
abbrev S1024x192 : Shape := ⟨2, ![1024, 192]⟩
abbrev S1024x384 : Shape := ⟨2, ![1024, 384]⟩
abbrev S1024x16 : Shape := ⟨2, ![1024, 16]⟩
abbrev S1024x256 : Shape := ⟨2, ![1024, 256]⟩
abbrev S1024x32 : Shape := ⟨2, ![1024, 32]⟩
abbrev S1024x8 : Shape := ⟨2, ![1024, 8]⟩
abbrev S1024x4x48 : Shape := ⟨3, ![1024, 4, 48]⟩
abbrev S_ : Shape := ⟨0, ![]⟩
abbrev S1024x4x128 : Shape := ⟨3, ![1024, 4, 128]⟩
abbrev S1024x512 : Shape := ⟨2, ![1024, 512]⟩
abbrev S1024x4x96 : Shape := ⟨3, ![1024, 4, 96]⟩
abbrev S1024x128 : Shape := ⟨2, ![1024, 128]⟩
abbrev S1x1024x1x32 : Shape := ⟨4, ![1, 1024, 1, 32]⟩
abbrev S1x1024x8x32 : Shape := ⟨4, ![1, 1024, 8, 32]⟩
abbrev S1024x3968 : Shape := ⟨2, ![1024, 3968]⟩
abbrev S1x1024 : Shape := ⟨2, ![1, 1024]⟩
abbrev S4x1x1024 : Shape := ⟨3, ![4, 1, 1024]⟩
abbrev S32768x512 : Shape := ⟨2, ![32768, 512]⟩
abbrev S32768x128 : Shape := ⟨2, ![32768, 128]⟩
abbrev S32768x256 : Shape := ⟨2, ![32768, 256]⟩
abbrev S32768x384 : Shape := ⟨2, ![32768, 384]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S512x256 : Shape := ⟨2, ![512, 256]⟩
abbrev S512x384 : Shape := ⟨2, ![512, 384]⟩
abbrev S512 : Shape := ⟨1, ![512]⟩
abbrev S512x1 : Shape := ⟨2, ![512, 1]⟩

abbrev nBuf : Space → Nat
  | .hbm => 63
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2616, .f32⟩
  | .hbm, ⟨5, _⟩ => ⟨S1024x192, .f32⟩
  | .hbm, ⟨6, _⟩ => ⟨S1024x192, .f32⟩
  | .hbm, ⟨7, _⟩ => ⟨S1024x384, .f32⟩
  | .hbm, ⟨8, _⟩ => ⟨S1024x16, .f32⟩
  | .hbm, ⟨9, _⟩ => ⟨S1024x384, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x32, .f32⟩
  | .hbm, ⟨15, _⟩ => ⟨S1024x8, .f32⟩
  | .hbm, ⟨16, _⟩ => ⟨S1024x384, .f32⟩
  | .hbm, ⟨17, _⟩ => ⟨S1024x4x48, .f32⟩
  | .hbm, ⟨18, _⟩ => ⟨S_, .i32⟩
  | .hbm, ⟨19, _⟩ => ⟨S_, .f32⟩
  | .hbm, ⟨20, _⟩ => ⟨S1024x4x128, .f32⟩
  | .hbm, ⟨21, _⟩ => ⟨S1024x512, .f32⟩
  | .hbm, ⟨22, _⟩ => ⟨S1024x4x48, .f32⟩
  | .hbm, ⟨23, _⟩ => ⟨S_, .i32⟩
  | .hbm, ⟨24, _⟩ => ⟨S_, .f32⟩
  | .hbm, ⟨25, _⟩ => ⟨S1024x4x128, .f32⟩
  | .hbm, ⟨26, _⟩ => ⟨S1024x512, .f32⟩
  | .hbm, ⟨27, _⟩ => ⟨S1024x4x96, .f32⟩
  | .hbm, ⟨28, _⟩ => ⟨S_, .i32⟩
  | .hbm, ⟨29, _⟩ => ⟨S_, .f32⟩
  | .hbm, ⟨30, _⟩ => ⟨S1024x4x128, .f32⟩
  | .hbm, ⟨31, _⟩ => ⟨S1024x512, .f32⟩
  | .hbm, ⟨32, _⟩ => ⟨S1024x4x96, .f32⟩
  | .hbm, ⟨33, _⟩ => ⟨S_, .i32⟩
  | .hbm, ⟨34, _⟩ => ⟨S_, .f32⟩
  | .hbm, ⟨35, _⟩ => ⟨S1024x4x128, .f32⟩
  | .hbm, ⟨36, _⟩ => ⟨S1024x512, .f32⟩
  | .hbm, ⟨37, _⟩ => ⟨S_, .i32⟩
  | .hbm, ⟨38, _⟩ => ⟨S_, .f32⟩
  | .hbm, ⟨39, _⟩ => ⟨S1024x128, .f32⟩
  | .hbm, ⟨40, _⟩ => ⟨S1x1024x1x32, .f32⟩
  | .hbm, ⟨41, _⟩ => ⟨S1x1024x8x32, .f32⟩
  | .hbm, ⟨42, _⟩ => ⟨S1024x256, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x3968, .f32⟩
  | .hbm, ⟨47, _⟩ => ⟨S1024x3968, .bf16⟩
  | .hbm, ⟨48, _⟩ => ⟨S1x1024, .f32⟩
  | .hbm, ⟨49, _⟩ => ⟨S4x1x1024, .f32⟩
  | .hbm, ⟨50, _⟩ => ⟨S4x1x1024, .f32⟩
  | .hbm, ⟨51, _⟩ => ⟨S32768x512, .bf16⟩
  | .hbm, ⟨52, _⟩ => ⟨S32768x512, .bf16⟩
  | .hbm, ⟨53, _⟩ => ⟨S32768x512, .bf16⟩
  | .hbm, ⟨54, _⟩ => ⟨S32768x512, .bf16⟩
  | .hbm, ⟨55, _⟩ => ⟨S32768x128, .bf16⟩
  | .hbm, ⟨56, _⟩ => ⟨S32768x256, .bf16⟩
  | .hbm, ⟨57, _⟩ => ⟨S32768x256, .bf16⟩
  | .hbm, ⟨58, _⟩ => ⟨S32768x256, .bf16⟩
  | .hbm, ⟨59, _⟩ => ⟨S32768x256, .bf16⟩
  | .hbm, ⟨60, _⟩ => ⟨S32768x256, .bf16⟩
  | .hbm, ⟨61, _⟩ => ⟨S32768x128, .f32⟩
  | .hbm, ⟨62, _⟩ => ⟨S32768x384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3968, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x128, .f32⟩
  | .local _ .vmem, ⟨29, _⟩ => ⟨S512x128, .f32⟩
  | .local _ .vmem, ⟨30, _⟩ => ⟨S512x384, .f32⟩
  | .local _ .vmem, ⟨31, _⟩ => ⟨S512x384, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call3_v0 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_call4_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_call5_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v34_2 : Ref sig .tc := ⟨.hbm, 53, rfl⟩
abbrev main_v34_3 : Ref sig .tc := ⟨.hbm, 54, rfl⟩
abbrev main_v34_4 : Ref sig .tc := ⟨.hbm, 55, rfl⟩
abbrev main_v34_5 : Ref sig .tc := ⟨.hbm, 56, rfl⟩
abbrev main_v34_6 : Ref sig .tc := ⟨.hbm, 57, rfl⟩
abbrev main_v34_7 : Ref sig .tc := ⟨.hbm, 58, rfl⟩
abbrev main_v34_8 : Ref sig .tc := ⟨.hbm, 59, rfl⟩
abbrev main_v34_9 : Ref sig .tc := ⟨.hbm, 60, rfl⟩
abbrev main_v34_10 : Ref sig .tc := ⟨.hbm, 61, rfl⟩
abbrev main_v34_11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3968 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjReferenceIdeal.lean ====
abbrev S32768x1024 : Shape := ⟨2, ![32768, 1024]⟩
abbrev S1024 : Shape := ⟨1, ![1024]⟩
abbrev S4x1024 : Shape := ⟨2, ![4, 1024]⟩
abbrev S1024x2616 : Shape := ⟨2, ![1024, 2616]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x2616 : Shape := ⟨3, ![4, 8192, 2616]⟩
abbrev S4x8192x192 : Shape := ⟨3, ![4, 8192, 192]⟩
abbrev S4x8192x384 : Shape := ⟨3, ![4, 8192, 384]⟩
abbrev S4x8192x16 : Shape := ⟨3, ![4, 8192, 16]⟩
abbrev S4x8192x256 : Shape := ⟨3, ![4, 8192, 256]⟩
abbrev S4x8192x32 : Shape := ⟨3, ![4, 8192, 32]⟩
abbrev S4x8192x8 : Shape := ⟨3, ![4, 8192, 8]⟩
abbrev S4x8192x4x48 : Shape := ⟨4, ![4, 8192, 4, 48]⟩
abbrev S4x8192x4x128 : Shape := ⟨4, ![4, 8192, 4, 128]⟩
abbrev S32768x512 : Shape := ⟨2, ![32768, 512]⟩
abbrev S4x8192x4x96 : Shape := ⟨4, ![4, 8192, 4, 96]⟩
abbrev S4x8192x128 : Shape := ⟨3, ![4, 8192, 128]⟩
abbrev S32768x128 : Shape := ⟨2, ![32768, 128]⟩
abbrev S32768x256 : Shape := ⟨2, ![32768, 256]⟩
abbrev S1x4x1x8192x1x32 : Shape := ⟨6, ![1, 4, 1, 8192, 1, 32]⟩
abbrev S1x4x1x8192x8x32 : Shape := ⟨6, ![1, 4, 1, 8192, 8, 32]⟩
abbrev S32768x384 : Shape := ⟨2, ![32768, 384]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2616, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x2616, .f32⟩
  | .hbm, ⟨32, _⟩ => ⟨S4x8192x192, .f32⟩
  | .hbm, ⟨33, _⟩ => ⟨S4x8192x192, .f32⟩
  | .hbm, ⟨34, _⟩ => ⟨S4x8192x384, .f32⟩
  | .hbm, ⟨35, _⟩ => ⟨S4x8192x16, .f32⟩
  | .hbm, ⟨36, _⟩ => ⟨S4x8192x384, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S4x8192x32, .f32⟩
  | .hbm, ⟨42, _⟩ => ⟨S4x8192x8, .f32⟩
  | .hbm, ⟨43, _⟩ => ⟨S4x8192x384, .f32⟩
  | .hbm, ⟨44, _⟩ => ⟨S4x8192x4x48, .f32⟩
  | .hbm, ⟨45, _⟩ => ⟨S_, .i32⟩
  | .hbm, ⟨46, _⟩ => ⟨S_, .f32⟩
  | .hbm, ⟨47, _⟩ => ⟨S4x8192x4x128, .f32⟩
  | .hbm, ⟨48, _⟩ => ⟨S32768x512, .f32⟩
  | .hbm, ⟨49, _⟩ => ⟨S32768x512, .bf16⟩
  | .hbm, ⟨50, _⟩ => ⟨S4x8192x4x48, .f32⟩
  | .hbm, ⟨51, _⟩ => ⟨S_, .i32⟩
  | .hbm, ⟨52, _⟩ => ⟨S_, .f32⟩
  | .hbm, ⟨53, _⟩ => ⟨S4x8192x4x128, .f32⟩
  | .hbm, ⟨54, _⟩ => ⟨S32768x512, .f32⟩
  | .hbm, ⟨55, _⟩ => ⟨S32768x512, .bf16⟩
  | .hbm, ⟨56, _⟩ => ⟨S4x8192x4x96, .f32⟩
  | .hbm, ⟨57, _⟩ => ⟨S_, .i32⟩
  | .hbm, ⟨58, _⟩ => ⟨S_, .f32⟩
  | .hbm, ⟨59, _⟩ => ⟨S4x8192x4x128, .f32⟩
  | .hbm, ⟨60, _⟩ => ⟨S32768x512, .f32⟩
  | .hbm, ⟨61, _⟩ => ⟨S32768x512, .bf16⟩
  | .hbm, ⟨62, _⟩ => ⟨S4x8192x4x96, .f32⟩
  | .hbm, ⟨63, _⟩ => ⟨S_, .i32⟩
  | .hbm, ⟨64, _⟩ => ⟨S_, .f32⟩
  | .hbm, ⟨65, _⟩ => ⟨S4x8192x4x128, .f32⟩
  | .hbm, ⟨66, _⟩ => ⟨S32768x512, .f32⟩
  | .hbm, ⟨67, _⟩ => ⟨S32768x512, .bf16⟩
  | .hbm, ⟨68, _⟩ => ⟨S_, .i32⟩
  | .hbm, ⟨69, _⟩ => ⟨S_, .f32⟩
  | .hbm, ⟨70, _⟩ => ⟨S4x8192x128, .f32⟩
  | .hbm, ⟨71, _⟩ => ⟨S32768x128, .f32⟩
  | .hbm, ⟨72, _⟩ => ⟨S32768x128, .bf16⟩
  | .hbm, ⟨73, _⟩ => ⟨S32768x256, .f32⟩
  | .hbm, ⟨74, _⟩ => ⟨S32768x256, .bf16⟩
  | .hbm, ⟨75, _⟩ => ⟨S32768x256, .f32⟩
  | .hbm, ⟨76, _⟩ => ⟨S32768x256, .bf16⟩
  | .hbm, ⟨77, _⟩ => ⟨S32768x256, .f32⟩
  | .hbm, ⟨78, _⟩ => ⟨S32768x256, .bf16⟩
  | .hbm, ⟨79, _⟩ => ⟨S32768x256, .f32⟩
  | .hbm, ⟨80, _⟩ => ⟨S32768x256, .bf16⟩
  | .hbm, ⟨81, _⟩ => ⟨S1x4x1x8192x1x32, .f32⟩
  | .hbm, ⟨82, _⟩ => ⟨S1x4x1x8192x8x32, .f32⟩
  | .hbm, ⟨83, _⟩ => ⟨S4x8192x256, .f32⟩
  | .hbm, ⟨84, _⟩ => ⟨S32768x256, .f32⟩
  | .hbm, ⟨85, _⟩ => ⟨S32768x256, .bf16⟩
  | .hbm, ⟨86, _⟩ => ⟨S_, .i32⟩
  | .hbm, ⟨87, _⟩ => ⟨S_, .f32⟩
  | .hbm, ⟨88, _⟩ => ⟨S4x8192x128, .f32⟩
  | .hbm, ⟨89, _⟩ => ⟨S32768x128, .f32⟩
  | .hbm, ⟨90, _⟩ => ⟨S32768x384, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_call1_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_4 : Ref sig .tc := ⟨.hbm, 57, rfl⟩
abbrev main_call2_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_call4_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_7 : Ref sig .tc := ⟨.hbm, 86, rfl⟩
abbrev main_call5_v0 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S288x256x1024 : Shape := ⟨3, ![288, 256, 1024]⟩
abbrev S_ : Shape := ⟨0, ![]⟩
abbrev S288x1 : Shape := ⟨2, ![288, 1]⟩
abbrev S288x1024x512 : Shape := ⟨3, ![288, 1024, 512]⟩
abbrev S288x256x512 : Shape := ⟨3, ![288, 256, 512]⟩
abbrev S288x512x1024 : Shape := ⟨3, ![288, 512, 1024]⟩
abbrev S288x1x1 : Shape := ⟨3, ![288, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288x256x1024, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x1024x512, .f32⟩
  | .hbm, ⟨16, _⟩ => ⟨S288x256x512, .f32⟩
  | .hbm, ⟨17, _⟩ => ⟨S288x256x512, .f32⟩
  | .hbm, ⟨18, _⟩ => ⟨S288x256x512, .f32⟩
  | .hbm, ⟨19, _⟩ => ⟨S_, .f32⟩
  | .hbm, ⟨20, _⟩ => ⟨S288x256x512, .f32⟩
  | .hbm, ⟨21, _⟩ => ⟨S288x256x512, .f32⟩
  | .hbm, ⟨22, _⟩ => ⟨S_, .f32⟩
  | .hbm, ⟨23, _⟩ => ⟨S288x256x512, .f32⟩
  | .hbm, ⟨24, _⟩ => ⟨S288x256x512, .f32⟩
  | .hbm, ⟨25, _⟩ => ⟨S288x256x512, .f32⟩
  | .hbm, ⟨26, _⟩ => ⟨S_, .i32⟩
  | .hbm, ⟨27, _⟩ => ⟨S288, .i32⟩
  | .hbm, ⟨28, _⟩ => ⟨S288, .i1⟩
  | .hbm, ⟨29, _⟩ => ⟨S_, .i32⟩
  | .hbm, ⟨30, _⟩ => ⟨S288, .i32⟩
  | .hbm, ⟨31, _⟩ => ⟨S288, .i32⟩
  | .hbm, ⟨32, _⟩ => ⟨S288, .i32⟩
  | .hbm, ⟨33, _⟩ => ⟨S288x1, .i32⟩
  | .hbm, ⟨34, _⟩ => ⟨S288x1024x512, .f32⟩
  | .hbm, ⟨35, _⟩ => ⟨S288x256x512, .f32⟩
  | .hbm, ⟨36, _⟩ => ⟨S288x256x512, .f32⟩
  | .hbm, ⟨37, _⟩ => ⟨S_, .i32⟩
  | .hbm, ⟨38, _⟩ => ⟨S288, .i32⟩
  | .hbm, ⟨39, _⟩ => ⟨S288, .i1⟩
  | .hbm, ⟨40, _⟩ => ⟨S_, .i32⟩
  | .hbm, ⟨41, _⟩ => ⟨S288, .i32⟩
  | .hbm, ⟨42, _⟩ => ⟨S288, .i32⟩
  | .hbm, ⟨43, _⟩ => ⟨S288, .i32⟩
  | .hbm, ⟨44, _⟩ => ⟨S288x1, .i32⟩
  | .hbm, ⟨45, _⟩ => ⟨S288x512x1024, .f32⟩
  | .hbm, ⟨46, _⟩ => ⟨S288x256x1024, .f32⟩
  | .hbm, ⟨47, _⟩ => ⟨S288, .i32⟩
  | .hbm, ⟨48, _⟩ => ⟨S288x1x1, .i32⟩
  | .hbm, ⟨49, _⟩ => ⟨S_, .i32⟩
  | .hbm, ⟨50, _⟩ => ⟨S288x1x1, .i32⟩
  | .hbm, ⟨51, _⟩ => ⟨S288x1x1, .i1⟩
  | .hbm, ⟨52, _⟩ => ⟨S_, .f32⟩
  | .hbm, ⟨53, _⟩ => ⟨S_, .f32⟩
  | .hbm, ⟨54, _⟩ => ⟨S288x256x1024, .i1⟩
  | .hbm, ⟨55, _⟩ => ⟨S288x256x1024, .f32⟩
  | .hbm, ⟨56, _⟩ => ⟨S288x256x1024, .f32⟩
  | .hbm, ⟨57, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.Gla.Blocks.lean ====
/- The blocks of each grid point: 512 tokens of one sequence, or an array of weights whole. -/
module

public import proofs.«01_k».proof.Proof.Gen.KernelIdeal.Value
public import Idealize.ShloMosaic.Lib.Pointwise

@[expose] public section

set_option maxRecDepth 16384

noncomputable section

namespace Cert.Gla

open Cert.KernelIdeal Cert.KernelIdeal.Gen Idealize.ShloMosaic Idealize.ShloMosaic.TcCoe Idealize.SL.Sem

variable {F : FTy → Type} [FloatOps F] [Named F] (m : (ℓ : Loc nD τ sig) → Buf (Elt F) ℓ) (c : Dev nD) (t : Fin cfg0.N)

theorem t_lt : t.val < 64 := lt_of_lt_of_eq t.isLt N_0

/-- The sequence of a grid point. -/
def bt : Fin 4 := ⟨t.val / 16, by have := t_lt t; omega⟩
/-- The token at a row of a grid point's block. -/
def rt (a : Fin 512) : Fin 8192 := ⟨512 * (t.val % 16) + a.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, win0_1.index t (0 : Fin 3) = t.val / 16 ∧ win0_1.index t (1 : Fin 3) = t.val % 16 ∧ win0_1.index t (2 : Fin 3) = 0)
theorem idx2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, win0_2.index t (0 : Fin 3) = t.val / 16 ∧ win0_2.index t (1 : Fin 3) = t.val % 16 ∧ win0_2.index t (2 : Fin 3) = 0)
theorem idx3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, win0_3.index t (0 : Fin 3) = t.val / 16 ∧ win0_3.index t (1 : Fin 3) = t.val % 16 ∧ win0_3.index t (2 : Fin 3) = 0)
theorem idx4 : ∀ t : Fin cfg0.N, win0_4.index t (0 : Fin 3) = t.val / 16 ∧ win0_4.index t (1 : Fin 3) = t.val % 16 ∧ win0_4.index t (2 : Fin 3) = 0 :=
  (by decide +kernel : ∀ t : Fin grid0.N, win0_4.index t (0 : Fin 3) = t.val / 16 ∧ win0_4.index t (1 : Fin 3) = t.val % 16 ∧ win0_4.index t (2 : Fin 3) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem rd0 (X : Vec F S4x8192x512 .bf16) (a : Fin 512) (l : Fin 512) :
    (((cfg0.win 0).blk t).view.read (Elt F) X : Vec F S1x512x512 .bf16) (ix3 0 a l) = X (ix3 (bt t) (rt t a) l) := by
  obtain ⟨e0, e1, e2⟩ := idx0 t
  rw [View.read_apply]
  refine congrArg X (funext fun i => Fin.ext ?_)
  match i with
  | ⟨0, _⟩ => show win0_0.index t 0 * 1 + 1 * 0 = t.val / 16; rw [e0]; omega
  | ⟨1, _⟩ => show win0_0.index t 1 * 512 + 1 * a.val = 512 * (t.val % 16) + a.val; rw [e1]; omega
  | ⟨2, _⟩ => show win0_0.index t 2 * 512 + 1 * l.val = l.val; rw [e2]; omega

theorem rd1 (X : Vec F S4x8192x512 .bf16) (a : Fin 512) (l : Fin 512) :
    (((cfg0.win 1).blk t).view.read (Elt F) X : Vec F S1x512x512 .bf16) (ix3 0 a l) = X (ix3 (bt t) (rt t a) l) := by
  obtain ⟨e0, e1, e2⟩ := idx1 t
  rw [View.read_apply]
  refine congrArg X (funext fun i => Fin.ext ?_)
  match i with
  | ⟨0, _⟩ => show win0_1.index t 0 * 1 + 1 * 0 = t.val / 16; rw [e0]; omega
  | ⟨1, _⟩ => show win0_1.index t 1 * 512 + 1 * a.val = 512 * (t.val % 16) + a.val; rw [e1]; omega
  | ⟨2, _⟩ => show win0_1.index t 2 * 512 + 1 * l.val = l.val; rw [e2]; omega

theorem rd2 (X : Vec F S4x8192x512 .bf16) (a : Fin 512) (l : Fin 512) :
    (((cfg0.win 2).blk t).view.read (Elt F) X : Vec F S1x512x512 .bf16) (ix3 0 a l) = X (ix3 (bt t) (rt t a) l) := by
  obtain ⟨e0, e1, e2⟩ := idx2 t
  rw [View.read_apply]
  refine congrArg X (funext fun i => Fin.ext ?_)
  match i with
  | ⟨0, _⟩ => show win0_2.index t 0 * 1 + 1 * 0 = t.val / 16; rw [e0]; omega
  | ⟨1, _⟩ => show win0_2.index t 1 * 512 + 1 * a.val = 512 * (t.val % 16) + a.val; rw [e1]; omega
  | ⟨2, _⟩ => show win0_2.index t 2 * 512 + 1 * l.val = l.val; rw [e2]; omega

theorem rd3 (X : Vec F S4x8192x512 .bf16) (a : Fin 512) (l : Fin 512) :
    (((cfg0.win 3).blk t).view.read (Elt F) X : Vec F S1x512x512 .bf16) (ix3 0 a l) = X (ix3 (bt t) (rt t a) l) := by
  obtain ⟨e0, e1, e2⟩ := idx3 t
  rw [View.read_apply]
  refine congrArg X (funext fun i => Fin.ext ?_)
  match i with
  | ⟨0, _⟩ => show win0_3.index t 0 * 1 + 1 * 0 = t.val / 16; rw [e0]; omega
  | ⟨1, _⟩ => show win0_3.index t 1 * 512 + 1 * a.val = 512 * (t.val % 16) + a.val; rw [e1]; omega
  | ⟨2, _⟩ => show win0_3.index t 2 * 512 + 1 * l.val = l.val; rw [e2]; omega

theorem rd4 (X : Vec F S4x8192x128 .bf16) (a : Fin 512) (l : Fin 128) :
    (((cfg0.win 4).blk t).view.read (Elt F) X : Vec F S1x512x128 .bf16) (ix3 0 a l) = X (ix3 (bt t) (rt t a) l) := by
  obtain ⟨e0, e1, e2⟩ := idx4 t
  rw [View.read_apply]
  refine congrArg X (funext fun i => Fin.ext ?_)
  match i with
  | ⟨0, _⟩ => show win0_4.index t 0 * 1 + 1 * 0 = t.val / 16; rw [e0]; omega
  | ⟨1, _⟩ => show win0_4.index t 1 * 512 + 1 * a.val = 512 * (t.val % 16) + a.val; rw [e1]; omega
  | ⟨2, _⟩ => show win0_4.index t 2 * 128 + 1 * l.val = l.val; rw [e2]; omega

theorem rd5 (X : Vec F S128x512 .bf16) : (((cfg0.win 5).blk t).view.read (Elt F) X : Vec F S128x512 .bf16) = X := by
  obtain ⟨e0, e1⟩ := idx5 t
  funext j
  rw [View.read_apply]
  refine congrArg X (funext fun i => Fin.ext ?_)
  match i with
  | ⟨0, _⟩ => show win0_5.index t 0 * 128 + 1 * (j 0).val = (j 0).val; rw [e0]; omega
  | ⟨1, _⟩ => show win0_5.index t 1 * 512 + 1 * (j 1).val = (j 1).val; rw [e1]; omega

theorem rd6 (X : Vec F S1x512 .f32) : (((cfg0.win 6).blk t).view.read (Elt F) X : Vec F S1x512 .f32) = X := by
  obtain ⟨e0, e1⟩ := idx6 t
  funext j
  rw [View.read_apply]
  refine congrArg X (funext fun i => Fin.ext ?_)
  match i with
  | ⟨0, _⟩ => show win0_6.index t 0 * 1 + 1 * (j 0).val = (j 0).val; rw [e0]; omega
  | ⟨1, _⟩ => show win0_6.index t 1 * 512 + 1 * (j 1).val = (j 1).val; rw [e1]; omega

theorem rd7 (X : Vec F S1x512 .f32) : (((cfg0.win 7).blk t).view.read (Elt F) X : Vec F S1x512 .f32) = X := by
  obtain ⟨e0, e1⟩ := idx7 t
  funext j
  rw [View.read_apply]
  refine congrArg X (funext fun i => Fin.ext ?_)
  match i with
  | ⟨0, _⟩ => show win0_7.index t 0 * 1 + 1 * (j 0).val = (j 0).val; rw [e0]; omega
  | ⟨1, _⟩ => show win0_7.index t 1 * 512 + 1 * (j 1).val = (j 1).val; rw [e1]; omega

theorem ib0 (X : Vec F S4x8192x512 .bf16) (hX : V m c main_v34 = X) : iblk m c 0 t = ((cfg0.win 0).blk t).view.read (Elt F) X := by
  subst hX; rfl

theorem ib1 (X : Vec F S4x8192x512 .bf16) (hX : V m c main_v35 = X) : iblk m c 1 t = ((cfg0.win 1).blk t).view.read (Elt F) X := by
  subst hX; rfl

theorem ib2 (X : Vec F S4x8192x512 .bf16) (hX : V m c main_v36 = X) : iblk m c 2 t = ((cfg0.win 2).blk t).view.read (Elt F) X := by
  subst hX; rfl

theorem ib3 (X : Vec F S4x8192x512 .bf16) (hX : V m c main_v37 = X) : iblk m c 3 t = ((cfg0.win 3).blk t).view.read (Elt F) X := by
  subst hX; rfl

theorem ib4 (X : Vec F S4x8192x128 .bf16) (hX : V m c main_v38 = X) : iblk m c 4 t = ((cfg0.win 4).blk t).view.read (Elt F) X := by
  subst hX; rfl

theorem ib5 (X : Vec F S128x512 .bf16) (hX : V m c main_v39 = X) : iblk m c 5 t = ((cfg0.win 5).blk t).view.read (Elt F) X := by
  subst hX; rfl

theorem ib6 (X : Vec F S1x512 .f32) (hX : V m c main_v26 = X) : iblk m c 6 t = ((cfg0.win 6).blk t).view.read (Elt F) X := by
  subst hX; rfl

theorem ib7 (X : Vec F S1x512 .f32) (hX : V m c main_v33 = X) : iblk m c 7 t = ((cfg0.win 7).blk t).view.read (Elt F) X := by
  subst hX; rfl

end Cert.Gla

end
-- ==== Proof.Gla.Host.lean ====
/- What the kernel's windows' arrays hold when the grid is entered: the arguments, each head's channels filled up with zeros. -/
module

public import proofs.«01_k».proof.Proof.Gen.KernelIdeal.Value
public import Idealize.ShloMosaic.Lib.StableHlo.ReadAt
public import Idealize.ShloMosaic.Lib.Pointwise

@[expose] public section

set_option maxRecDepth 100000

noncomputable section

namespace Cert.Gla

open Cert.KernelIdeal Cert.KernelIdeal.Gen Idealize.ShloMosaic Idealize.ShloMosaic.TcCoe Idealize.SL.Sem

variable {F : FTy → Type} [FloatOps F] [Named F]

/-- Queries or keys, each head's channels filled up to 128. -/
def padK (x : Vec F S4x8192x192 .bf16) : Vec F S4x8192x512 .bf16 :=
  shapeCast S4x8192x512 (shapeCast S32768x512 (pad S32768x4x128 ![0, 0, 0] ![0, 0, 80] ![0, 0, 0]
    (shapeCast S32768x4x48 (shapeCast S32768x192 x shapeCasts_S4x8192x192_S32768x192) shapeCasts_S32768x192_S32768x4x48)
    (sitofp .bf16 (constantI S_ 32 0#32) : FVec F S_ .bf16) pads_S32768x4x48_S32768x4x128_000_000_0800 h_S_) shapeCasts_S32768x4x128_S32768x512) shapeCasts_S32768x512_S4x8192x512
/-- Values or output gates, each head's channels filled up to 128. -/
def padV (x : Vec F S4x8192x384 .bf16) : Vec F S4x8192x512 .bf16 :=
  shapeCast S4x8192x512 (shapeCast S32768x512 (pad S32768x4x128 ![0, 0, 0] ![0, 0, 32] ![0, 0, 0]
    (shapeCast S32768x4x96 (shapeCast S32768x384 x shapeCasts_S4x8192x384_S32768x384) shapeCasts_S32768x384_S32768x4x96)
    (sitofp .bf16 (constantI S_ 32 0#32) : FVec F S_ .bf16) pads_S32768x4x96_S32768x4x128_000_000_0320 h_S_) shapeCasts_S32768x4x128_S32768x512) shapeCasts_S32768x512_S4x8192x512
/-- The low-rank activations, filled up to 128. -/
def padL (x : Vec F S4x8192x16 .bf16) : Vec F S4x8192x128 .bf16 :=
  shapeCast S4x8192x128 (pad S32768x128 ![0, 0] ![0, 112] ![0, 0] (shapeCast S32768x16 x shapeCasts_S4x8192x16_S32768x16)
    (sitofp .bf16 (constantI S_ 32 0#32) : FVec F S_ .bf16) pads_S32768x16_S32768x128_000_01120 h_S_) shapeCasts_S32768x128_S4x8192x128
/-- The gate's weights, filled up. -/
def padW (x : Vec F S16x192 .f32) : Vec F S128x512 .bf16 :=
  truncf .bf16 (pad S128x512 ![0, 0] ![0, 0] ![0, 0] (pad S128x512 ![0, 0] ![112, 0] ![0, 0]
    (shapeCast S16x512 (pad S16x4x128 ![0, 0, 0] ![0, 0, 80] ![0, 0, 0] (shapeCast S16x4x48 x shapeCasts_S16x192_S16x4x48)
      (sitofp .f32 (constantI S_ 32 0#32) : FVec F S_ .f32) pads_S16x4x48_S16x4x128_000_000_0800 h_S_) shapeCasts_S16x4x128_S16x512)
    (sitofp .f32 (constantI S_ 32 0#32) : FVec F S_ .f32) pads_S16x512_S128x512_01120_000 h_S_)
    (sitofp .f32 (constantI S_ 32 0#32) : FVec F S_ .f32) pads_S128x512_S128x512_000_000 h_S_ : FVec F S128x512 .f32) bitsLt_bf16_f32
/-- The gate's bias, filled up. -/
def padB (x : Vec F S192 .f32) : Vec F S1x512 .f32 :=
  shapeCast S1x512 (pad S1x4x128 ![0, 0, 0] ![0, 0, 80] ![0, 0, 0] (shapeCast S1x4x48 (shapeCast S1x192 x shapeCasts_S192_S1x192) shapeCasts_S1x192_S1x4x48)
    (sitofp .f32 (constantI S_ 32 0#32) : FVec F S_ .f32) pads_S1x4x48_S1x4x128_000_000_0800 h_S_) shapeCasts_S1x4x128_S1x512
/-- The norm's gain, the same for each head, filled up. -/
def padN (x : Vec F S96 .f32) : Vec F S1x512 .f32 :=
  shapeCast S1x512 (pad S1x4x128 ![0, 0, 0] ![0, 0, 32] ![0, 0, 0] (shapeCast S1x4x96 (shapeCast S1x384 (broadcastInDim S1x1x4x96 ![0, 1, 2, 3] bcast_S1x1x1x96_S1x1x4x96_0_1_2_3
      (shapeCast S1x1x1x96 (shapeCast S1x96 x shapeCasts_S96_S1x96) shapeCasts_S1x96_S1x1x1x96)) shapeCasts_S1x1x4x96_S1x384) shapeCasts_S1x384_S1x4x96)
    (sitofp .f32 (constantI S_ 32 0#32) : FVec F S_ .f32) pads_S1x4x96_S1x4x128_000_000_0320 h_S_) shapeCasts_S1x4x128_S1x512

variable (m : (ℓ : Loc nD τ sig) → Buf (Elt F) ℓ) (c : Dev nD)

theorem V_v34 : V m c main_v34 = padK (m (c, Proc.devRef .tc main_arg0)) := by
  unfold V
  after_reads_simp
  simp -implicitDefEqProofs only [StableHlo.TRef.toBuf, StableHlo.TRef.ofBuf, cast_cast, cast_eq]
  clean_types
  unfold padK
  rfl
theorem V_v35 : V m c main_v35 = padK (m (c, Proc.devRef .tc main_arg1)) := by
  unfold V
  after_reads_simp
  simp -implicitDefEqProofs only [StableHlo.TRef.toBuf, StableHlo.TRef.ofBuf, cast_cast, cast_eq]
  clean_types
  unfold padK
  rfl
theorem V_v36 : V m c main_v36 = padV (m (c, Proc.devRef .tc main_arg2)) := by
  unfold V
  after_reads_simp
  simp -implicitDefEqProofs only [StableHlo.TRef.toBuf, StableHlo.TRef.ofBuf, cast_cast, cast_eq]
  clean_types
  unfold padV
  rfl
theorem V_v37 : V m c main_v37 = padV (m (c, Proc.devRef .tc main_arg4)) := by
  unfold V
  after_reads_simp
  simp -implicitDefEqProofs only [StableHlo.TRef.toBuf, StableHlo.TRef.ofBuf, cast_cast, cast_eq]
  clean_types
  unfold padV
  rfl
theorem V_v38 : V m c main_v38 = padL (m (c, Proc.devRef .tc main_arg3)) := by
  unfold V
  after_reads_simp
  simp -implicitDefEqProofs only [StableHlo.TRef.toBuf, StableHlo.TRef.ofBuf, cast_cast, cast_eq]
  clean_types
  unfold padL
  rfl
theorem V_v39 : V m c main_v39 = padW (m (c, Proc.devRef .tc main_arg5)) := by
  unfold V
  after_reads_simp
  simp -implicitDefEqProofs only [StableHlo.TRef.toBuf, StableHlo.TRef.ofBuf, cast_cast, cast_eq]
  clean_types
  unfold padW
  rfl
theorem V_v26 : V m c main_v26 = padB (m (c, Proc.devRef .tc main_arg6)) := by
  unfold V
  after_reads_simp
  simp -implicitDefEqProofs only [StableHlo.TRef.toBuf, StableHlo.TRef.ofBuf, cast_cast, cast_eq]
  clean_types
  unfold padB
  rfl
theorem V_v33 : V m c main_v33 = padN (m (c, Proc.devRef .tc main_arg7)) := by
  unfold V
  after_reads_simp
  simp -implicitDefEqProofs only [StableHlo.TRef.toBuf, StableHlo.TRef.ofBuf, cast_cast, cast_eq]
  clean_types
  unfold padN
  rfl

end Cert.Gla

end
-- ==== Proof.Gla.Tile.lean ====
/- One tile of the gated linear attention kernel: what the body computes for one chunk of 64 rows and one head, as functions of
   the blocks it loads, and how the pieces that the body stores are read back as those functions. -/
module

public import proofs.«01_k».proof.Proof.Gen.KernelIdeal.Value
public import Idealize.ShloMosaic.Lib.Pipeline.Value

@[expose] public section

set_option maxRecDepth 16384

noncomputable section

namespace Cert.Gla

open Cert.KernelIdeal Cert.KernelIdeal.Gen Idealize.ShloMosaic Idealize.ShloMosaic.TcCoe Idealize.SL.Sem

variable {F : FTy → Type} [FloatOps F] [Named F]

section Values
variable (o : ℕ) (ho : S512x512.Slices ![o, 0] S64x512) (l : ℕ) (hl : S64x512.Slices ![0, l] S64x128)
  (hl1 : S1x512.Slices ![0, l] S1x128)
  (lr : Vec F S1x512x128 .bf16) (gw : Vec F S128x512 .bf16) (gb : Vec F S1x512 .f32)

/-- The running sum of the gates over the chunk at row `o`. -/
def bcumV : FVec F S64x512 .f32 :=
  addf (addf
    (matmul dot_S64x64_S64x512_S64x512_1_0_0_1_n_n none (k0_pay9 (F := F)) (extractStridedSlice S64x512 ![o, 0] (k0_pay4 lr gw gb) ho) (constant S64x512 .f32 0x00000000#32))
    (matmul dot_S64x64_S64x512_S64x512_1_0_0_1_n_n none (k0_pay9 (F := F)) (extractStridedSlice S64x512 ![o, 0] (k0_pay6 lr gw gb) ho) (constant S64x512 .f32 0x00000000#32)))
    (matmul dot_S64x64_S64x512_S64x512_1_0_0_1_n_n none (k0_pay9 (F := F)) (extractStridedSlice S64x512 ![o, 0] (k0_pay7 lr gw gb) ho) (constant S64x512 .f32 0x00000000#32))

/-- Its last row. -/
def blastV : FVec F S1x512 .f32 := extractStridedSlice S1x512 ![63, 0] (bcumV o ho lr gw gb) slices_S64x512_o63_0_S1x512

/-- The chunk's decay. -/
def decV : FVec F S1x512 .f32 := exp (blastV o ho lr gw gb)

/-- The decayed queries. -/
def qdV (q : Vec F S1x64x512 .bf16) : FVec F S64x512 .bf16 :=
  truncf .bf16 (mulf (mulf (extf .f32 (shapeCast S64x512 q shapeCasts_S1x64x512_S64x512) bitsLt_bf16_f32)
    (broadcast S64x512 (Scalar.ofBits .f32 0x3E13CD3A#32))) (exp (bcumV o ho lr gw gb))) bitsLt_bf16_f32

/-- The keys with the decay since the chunk's start taken off. -/
def kdV (k : Vec F S1x64x512 .bf16) : FVec F S64x512 .bf16 :=
  truncf .bf16 (mulf (extf .f32 (shapeCast S64x512 k shapeCasts_S1x64x512_S64x512) bitsLt_bf16_f32)
    (exp (subf (broadcast S64x512 (Scalar.ofBits .f32 0x00000000#32)) (bcumV o ho lr gw gb)))) bitsLt_bf16_f32

/-- The keys with the decay to the chunk's end. -/
def kuV (k : Vec F S1x64x512 .bf16) : FVec F S64x512 .bf16 :=
  truncf .bf16 (mulf (extf .f32 (shapeCast S64x512 k shapeCasts_S1x64x512_S64x512) bitsLt_bf16_f32)
    (exp (subf (broadcastTo S64x512 (blastV o ho lr gw gb) broadcasts_S1x512_S64x512) (bcumV o ho lr gw gb)))) bitsLt_bf16_f32

/-- The state of one head after the chunk, from the state before it. -/
def updV (k : Vec F S1x64x512 .bf16) (v : Vec F S1x64x128 .bf16) (st : Vec F S1x128x128 .f32) : FVec F S1x128x128 .f32 :=
  shapeCast S1x128x128
    (addf (mulf (shapeCast S128x128 st shapeCasts_S1x128x128_S128x128)
        (broadcastTo S128x128 (extractStridedSlice S1x128 ![0, l] (decV o ho lr gw gb) hl1) broadcasts_S1x128_S128x128))
      (matmul dot_S64x128_S64x128_S128x128_0_0_1_1_n_n none (shapeCast S64x128 v shapeCasts_S1x64x128_S64x128)
        (extractStridedSlice S64x128 ![0, l] (kuV o ho lr gw gb k) hl) (constant S128x128 .f32 0x00000000#32)))
    shapeCasts_S128x128_S1x128x128

/-- The attention of one head inside the chunk, and the state's part. -/
def oV (q k : Vec F S1x64x512 .bf16) (v : Vec F S1x64x128 .bf16) (st : Vec F S1x128x128 .f32) : FVec F S64x128 .f32 :=
  addf
    (matmul dot_S64x64_S64x128_S64x128_1_0_0_1_n_n none
      (truncf .bf16 (select (k0_pay8)
        (matmul dot_S64x128_S64x128_S64x64_1_1_0_0_n_n none (extractStridedSlice S64x128 ![0, l] (qdV o ho lr gw gb q) hl)
          (extractStridedSlice S64x128 ![0, l] (kdV o ho lr gw gb k) hl) (constant S64x64 .f32 0x00000000#32))
        (broadcast S64x64 (Scalar.ofBits .f32 0x00000000#32))) bitsLt_bf16_f32)
      (shapeCast S64x128 v shapeCasts_S1x64x128_S64x128) (constant S64x128 .f32 0x00000000#32))
    (matmul dot_S64x128_S128x128_S64x128_1_1_0_0_n_n none (extractStridedSlice S64x128 ![0, l] (qdV o ho lr gw gb q) hl)
      (truncf .bf16 (shapeCast S128x128 st shapeCasts_S1x128x128_S128x128) bitsLt_bf16_f32) (constant S64x128 .f32 0x00000000#32))

/-- The output gate. -/
def siluV (r : Vec F S1x64x128 .bf16) : FVec F S64x128 .f32 :=
  mulf (extf .f32 (shapeCast S64x128 r shapeCasts_S1x64x128_S64x128) bitsLt_bf16_f32)
    (divf (broadcast S64x128 (Scalar.ofBits .f32 0x3F800000#32))
      (addf (broadcast S64x128 (Scalar.ofBits .f32 0x3F800000#32))
        (exp (subf (broadcast S64x128 (Scalar.ofBits .f32 0x00000000#32))
          (extf .f32 (shapeCast S64x128 r shapeCasts_S1x64x128_S64x128) bitsLt_bf16_f32)))))

/-- The normalisation of one head's rows, with its gain, times the output gate. -/
def normV (x : FVec F S64x128 .f32) (ng : Vec F S1x512 .f32) (r : Vec F S1x64x128 .bf16) : FVec F S1x64x128 .bf16 :=
  shapeCast S1x64x128 (truncf .bf16
    (mulf
      (mulf (mulf x (broadcastTo S64x128 (rsqrt (addf
          (mulf (shapeCast S64x1 (multiReduction .add [1] S64 (mulf x x) 0x00000000#32 reduces_S64x128_S64 (.inl rfl) rfl) shapeCasts_S64_S64x1)
            (broadcast S64x1 (Named.named κ "inv96" 0x3C2AAAAB#32)))
          (broadcast S64x1 (Scalar.ofBits .f32 0x358637BD#32)))) broadcasts_S64x1_S64x128))
        (broadcastTo S64x128 (extractStridedSlice S1x128 ![0, l] (shapeCast S1x512 ng shapeCasts_S1x512_S1x512) hl1) broadcasts_S1x128_S64x128))
      (siluV r)) bitsLt_bf16_f32) shapeCasts_S64x128_S1x64x128

/-- What the body stores for one head of the chunk. -/
def outV (ng : Vec F S1x512 .f32) (q k : Vec F S1x64x512 .bf16) (v r : Vec F S1x64x128 .bf16) (st : Vec F S1x128x128 .f32) :
    FVec F S1x64x128 .bf16 :=
  normV l hl1 (oV o ho l hl lr gw gb q k v st) ng r

end Values

/-! ## The tiles by chunk and head -/

theorem slO (n : Fin 8) : S512x512.Slices ![64 * n.val, 0] S64x512 := by revert n; decide
theorem slL (h : Fin 4) : S64x512.Slices ![0, 128 * h.val] S64x128 := by revert h; decide
theorem slL1 (h : Fin 4) : S1x512.Slices ![0, 128 * h.val] S1x128 := by revert h; decide
theorem inbR (n : Fin 8) : ∀ a, (![0, 64 * n.val, 0] : Fin 3 → Nat) a + S1x64x512.size a ≤ S1x512x512.size a := by revert n; decide
theorem inbT (n : Fin 8) (h : Fin 4) : ∀ a, (![0, 64 * n.val, 128 * h.val] : Fin 3 → Nat) a + S1x64x128.size a ≤ S1x512x512.size a := by
  revert n h; decide
theorem inbS (h : Fin 4) : ∀ a, (![h.val, 0, 0] : Fin 3 → Nat) a + S1x128x128.size a ≤ S4x128x128.size a := by revert h; decide

/-- Rows of the chunk `n`, all lanes. -/
abbrev rRow (n : Fin 8) : Rect S1x512x512 := Rect.unit (s := S1x512x512) ![0, 64 * n.val, 0] S1x64x512.size (inbR n)
/-- Rows of the chunk `n`, lanes of the head `h`. -/
abbrev rTile (n : Fin 8) (h : Fin 4) : Rect S1x512x512 := Rect.unit (s := S1x512x512) ![0, 64 * n.val, 128 * h.val] S1x64x128.size (inbT n h)
/-- The state of the head `h`. -/
abbrev rSt (h : Fin 4) : Rect S4x128x128 := Rect.unit (s := S4x128x128) ![h.val, 0, 0] S1x128x128.size (inbS h)

/-- An index of the states, inside its head's block. -/
def stIx (y : S4x128x128.Idx) : S1x128x128.Idx := fun a => match a with | 0 => (0 : Fin 1) | 1 => y 1 | 2 => y 2

section Tiles
variable (x0 x1 x2 x3 : Vec F S1x512x512 .bf16) (x4 : Vec F S1x512x128 .bf16) (x5 : Vec F S128x512 .bf16) (x6 x7 : Vec F S1x512 .f32)

/-- The head's state after chunk `n`. -/
def updT (n : Fin 8) (h : Fin 4) (st : Vec F S1x128x128 .f32) : Vec F S1x128x128 .f32 :=
  updV (64 * n.val) (slO n) (128 * h.val) (slL h) (slL1 h) x4 x5 x6 (View.ld x1 (rRow n)) (View.ld x2 (rTile n h)) st

/-- The head's rows of chunk `n`. -/
def outT (n : Fin 8) (h : Fin 4) (st : Vec F S1x128x128 .f32) : Vec F S1x64x128 .bf16 :=
  outV (64 * n.val) (slO n) (128 * h.val) (slL h) (slL1 h) x4 x5 x6 x7 (View.ld x0 (rRow n)) (View.ld x1 (rRow n))
    (View.ld x2 (rTile n h)) (View.ld x3 (rTile n h)) st

/-- The states of the four heads after chunk `n`. -/
def nextS (n : Fin 8) (st : Vec F S4x128x128 .f32) : Vec F S4x128x128 .f32 :=
  fun y => updT x1 x2 x4 x5 x6 n (y 0) (View.ld st (rSt (y 0))) (stIx y)

/-- The states before chunk `n`, from those before the first. -/
def stV (xs : Vec F S4x128x128 .f32) : ℕ → Vec F S4x128x128 .f32
  | 0 => xs
  | n + 1 => if hn : n < 8 then nextS x1 x2 x4 x5 x6 ⟨n, hn⟩ (stV xs n) else stV xs n

end Tiles

/-! ## Reading the stored pieces back -/

section Pieces
variable (x1 x2 : Vec F S1x512x512 .bf16) (x4 : Vec F S1x512x128 .bf16) (x5 : Vec F S128x512 .bf16) (x6 : Vec F S1x512 .f32)

abbrev PS (F : FTy → Type) := List (View.Piece (Elt F) S4x128x128 .f32)

/-- The heads before `h` hold their states after chunk `n`. -/
def Done (L : PS F) (n : Fin 8) (h : ℕ) (st : Vec F S4x128x128 .f32) : Prop :=
  ∀ y : S4x128x128.Idx, (y 0).val < h → View.canon L y = nextS x1 x2 x4 x5 x6 n st y

/-- The heads from `h` on hold their states before the chunk. -/
def Todo (L : PS F) (h : ℕ) (st : Vec F S4x128x128 .f32) : Prop :=
  ∀ y : S4x128x128.Idx, h ≤ (y 0).val → View.canon L y = st y

theorem mem_rSt (h : Fin 4) (y : S4x128x128.Idx) : y ∈ (rSt h).set ↔ (y 0).val = h.val := by
  rw [Rect.mem_set_unit]
  constructor
  · intro H
    have := H 0
    simp only [Matrix.cons_val_zero] at this
    have e : S1x128x128.size 0 = 1 := rfl
    omega
  · intro H a
    have hb := (y a).isLt
    fin_cases a
    · simp only [Fin.zero_eta, Matrix.cons_val_zero]
      have e : S1x128x128.size 0 = 1 := rfl
      omega
    · simpa using hb
    · simpa using hb

theorem canon_rSt_hit (h : Fin 4) (p : Vec F S1x128x128 .f32) (L : PS F) (y : S4x128x128.Idx) (hy : (y 0).val = h.val) :
    View.canon (⟨rSt h, p⟩ :: L) y = p (stIx y) := by
  have e : y = (rSt h).emb (stIx y) := by
    funext a
    apply Fin.ext
    rw [Rect.emb_apply]
    fin_cases a <;> simp [hy, stIx]
  conv_lhs => rw [e]
  exact View.canon_cons_emb (rSt h) p L _

theorem Done.step {L : PS F} {n : Fin 8} {h : Fin 4} {st : Vec F S4x128x128 .f32} {p : Vec F S1x128x128 .f32}
    (hL : Done x1 x2 x4 x5 x6 L n h.val st) (hp : p = updT x1 x2 x4 x5 x6 n h (View.ld st (rSt h))) :
    Done x1 x2 x4 x5 x6 (⟨rSt h, p⟩ :: L) n (h.val + 1) st := by
  intro y hy
  by_cases e : (y 0).val = h.val
  · rw [canon_rSt_hit h p L y e, hp]
    have e' : y 0 = h := Fin.ext e
    unfold nextS
    rw [e']
  · rw [View.canon_cons_of_not_mem _ _ (by rw [mem_rSt]; exact e)]
    exact hL y (by omega)

theorem Todo.step {L : PS F} {h : Fin 4} {st : Vec F S4x128x128 .f32} {p : Vec F S1x128x128 .f32}
    (hL : Todo L h.val st) : Todo (⟨rSt h, p⟩ :: L) (h.val + 1) st := by
  intro y hy
  rw [View.canon_cons_of_not_mem _ _ (by rw [mem_rSt]; omega)]
  exact hL y (by omega)

theorem Done.zero (L : PS F) (n : Fin 8) (st : Vec F S4x128x128 .f32) : Done x1 x2 x4 x5 x6 L n 0 st :=
  fun _ h => absurd h (Nat.not_lt_zero _)

theorem Done.next {L : PS F} {n : Fin 8} {st : Vec F S4x128x128 .f32} (h : Done x1 x2 x4 x5 x6 L n 4 st) :
    Todo L 0 (nextS x1 x2 x4 x5 x6 n st) := fun y _ => h y (y 0).isLt

theorem Todo.read {L : PS F} {h : ℕ} {st : Vec F S4x128x128 .f32} (hL : Todo L h st) (k : Fin 4) (hk : h ≤ k.val)
    {sig : RefSig} {κ : Kind} {sp : Space} (v : View sig κ sp S4x128x128 .f32) :
    v.readCov L (rSt k).toLoadRect = View.ld st (rSt k) := by
  rw [View.readCov_eq_canon']
  funext j
  refine hL _ ?_
  show h ≤ ((rSt k).emb j 0).val
  rw [Rect.emb_apply]
  simp
  omega

theorem canon_of_done {L : PS F} {n : Fin 8} {st : Vec F S4x128x128 .f32} (h : Done x1 x2 x4 x5 x6 L n 4 st) :
    View.canon L = nextS x1 x2 x4 x5 x6 n st := funext fun y => h y (y 0).isLt

end Pieces

end Cert.Gla

end
-- ==== Proof.Gla.Loads.lean ====
/- The tiles over the blocks as the body loads them from its buffers. -/
module

public import proofs.«01_k».proof.Proof.Gla.Tile

@[expose] public section

set_option maxRecDepth 16384

noncomputable section

namespace Cert.Gla

open Cert.KernelIdeal Cert.KernelIdeal.Gen Idealize.ShloMosaic Idealize.ShloMosaic.TcCoe Idealize.SL.Sem

variable {F : FTy → Type} [FloatOps F] [Named F]

variable (c : Dev nD) (i : grid0.Coords)
  (a2 : Memref sig .tc .vmem S1x512x512 .bf16) (h2 : a2.IsWhole) (a3 : Memref sig .tc .vmem S1x512x512 .bf16) (h3 : a3.IsWhole)
  (a4 : Memref sig .tc .vmem S1x512x512 .bf16) (h4 : a4.IsWhole) (a5 : Memref sig .tc .vmem S1x512x512 .bf16) (h5 : a5.IsWhole)
  (a6 : Memref sig .tc .vmem S1x512x128 .bf16) (h6 : a6.IsWhole) (a7 : Memref sig .tc .vmem S128x512 .bf16) (h7 : a7.IsWhole)
  (a8 : Memref sig .tc .vmem S1x512 .f32) (h8 : a8.IsWhole) (a9 : Memref sig .tc .vmem S1x512 .f32) (h9 : a9.IsWhole)
  (a10 : Memref sig .tc .vmem S1x512x512 .bf16) (h10 : a10.IsWhole) (a11 : Memref sig .tc .vmem S4x128x128 .f32) (h11 : a11.IsWhole)
  (x0 x1 x2 x3 : Vec F S1x512x512 .bf16) (x4 : Vec F S1x512x128 .bf16) (x5 : Vec F S128x512 .bf16) (x6 x7 : Vec F S1x512 .f32)

theorem hz3 : (![0, 0, 0] : Fin 3 → Nat) = fun _ => 0 := by funext a; fin_cases a <;> rfl
theorem hz2 : (![0, 0] : Fin 2 → Nat) = fun _ => 0 := by funext a; fin_cases a <;> rfl

/-- The gate's low-rank activations as the body loads them. -/
def ldLr : Vec F S1x512x128 .bf16 := View.readAt (Elt F) a6.view (Rect.unit (s := S1x512x128) ![0, 0, 0] S1x512x128.size inb_S1x512x128_S1x512x128_0_0_0).toLoadRect (h6.unread x4)
/-- The gate's weights as the body loads them. -/
def ldGw : Vec F S128x512 .bf16 := View.readAt (Elt F) a7.view (Rect.unit (s := S128x512) ![0, 0] S128x512.size inb_S128x512_S128x512_0_0).toLoadRect (h7.unread x5)
/-- The gate's bias as the body loads it. -/
def ldGb : Vec F S1x512 .f32 := View.readAt (Elt F) a8.view (Rect.unit (s := S1x512) ![0, 0] S1x512.size inb_S1x512_S1x512_0_0).toLoadRect (h8.unread x6)

theorem ldLr_eq : ldLr a6 h6 x4 = x4 := by unfold ldLr; rw [View.readAt_eq_ld, h6.read_unread, View.ld_unit_zero hz3]
theorem ldGw_eq : ldGw a7 h7 x5 = x5 := by unfold ldGw; rw [View.readAt_eq_ld, h7.read_unread, View.ld_unit_zero hz2]
theorem ldGb_eq : ldGb a8 h8 x6 = x6 := by unfold ldGb; rw [View.readAt_eq_ld, h8.read_unread, View.ld_unit_zero hz2]

/-- The next state over the loaded blocks. -/
def updR (n : Fin 8) (h : Fin 4) (R : Vec F S1x128x128 .f32) : Vec F S1x128x128 .f32 :=
  updV (64 * n.val) (slO n) (128 * h.val) (slL h) (slL1 h) (ldLr a6 h6 x4) (ldGw a7 h7 x5) (ldGb a8 h8 x6)
    (View.readAt (Elt F) a3.view (rRow n).toLoadRect (h3.unread x1)) (View.readAt (Elt F) a4.view (rTile n h).toLoadRect (h4.unread x2)) R

theorem updR_eq (n : Fin 8) (h : Fin 4) (R : Vec F S1x128x128 .f32) :
    updR a3 h3 a4 h4 a6 h6 a7 h7 a8 h8 x1 x2 x4 x5 x6 n h R = updT x1 x2 x4 x5 x6 n h R := by
  unfold updR updT
  rw [ldLr_eq, ldGw_eq, ldGb_eq, View.readAt_eq_ld, View.readAt_eq_ld, h3.read_unread, h4.read_unread]

/-- The output tile over the loaded blocks. -/
def outR (n : Fin 8) (h : Fin 4) (R : Vec F S1x128x128 .f32) : Vec F S1x64x128 .bf16 :=
  outV (64 * n.val) (slO n) (128 * h.val) (slL h) (slL1 h) (ldLr a6 h6 x4) (ldGw a7 h7 x5) (ldGb a8 h8 x6) (ldGb a9 h9 x7)
    (View.readAt (Elt F) a2.view (rRow n).toLoadRect (h2.unread x0)) (View.readAt (Elt F) a3.view (rRow n).toLoadRect (h3.unread x1))
    (View.readAt (Elt F) a4.view (rTile n h).toLoadRect (h4.unread x2)) (View.readAt (Elt F) a5.view (rTile n h).toLoadRect (h5.unread x3)) R

theorem outR_eq (n : Fin 8) (h : Fin 4) (R : Vec F S1x128x128 .f32) :
    outR a2 h2 a3 h3 a4 h4 a5 h5 a6 h6 a7 h7 a8 h8 a9 h9 x0 x1 x2 x3 x4 x5 x6 x7 n h R = outT x0 x1 x2 x3 x4 x5 x6 x7 n h R := by
  unfold outR outT
  rw [ldLr_eq, ldGw_eq, ldGb_eq, ldGb_eq, View.readAt_eq_ld, View.readAt_eq_ld, View.readAt_eq_ld, View.readAt_eq_ld,
    h2.read_unread, h3.read_unread, h4.read_unread, h5.read_unread]

/-- The scratch as the body loads one head's state of it. -/
theorem readSt (xs0 : Vec F S4x128x128 .f32) (h : Fin 4) :
    View.readAt (Elt F) a11.view (rSt h).toLoadRect (h11.unread xs0) = View.ld xs0 (rSt h) := by
  rw [View.readAt_eq_ld, h11.read_unread]

theorem stV_succ (xs : Vec F S4x128x128 .f32) (n : Fin 8) :
    stV x1 x2 x4 x5 x6 xs (n.val + 1) = nextS x1 x2 x4 x5 x6 n (stV x1 x2 x4 x5 x6 xs n.val) := by
  rw [stV, dif_pos n.isLt]

theorem Done.nextV {L : PS F} {xs : Vec F S4x128x128 .f32} {n : Fin 8}
    (h : Done x1 x2 x4 x5 x6 L n 4 (stV x1 x2 x4 x5 x6 xs n.val)) : Todo L 0 (stV x1 x2 x4 x5 x6 xs (n.val + 1)) := by
  rw [stV_succ]; exact h.next

/-- What the body leaves in the output block: chunk by chunk and head by head, over the states before the first chunk. -/
def outG (xs : Vec F S4x128x128 .f32) : Vec F S1x512x512 .bf16 := fun y =>
  outT x0 x1 x2 x3 x4 x5 x6 x7 ⟨(y 1).val / 64, by have h : (y 1).val < 512 := (y 1).isLt; omega⟩ ⟨(y 2).val / 128, by have h : (y 2).val < 512 := (y 2).isLt; omega⟩
    (View.ld (stV x1 x2 x4 x5 x6 xs ((y 1).val / 64)) (rSt ⟨(y 2).val / 128, by have h : (y 2).val < 512 := (y 2).isLt; omega⟩))
    (fun a => match a with | 0 => (0 : Fin 1) | 1 => (⟨(y 1).val % 64, Nat.mod_lt _ (by decide)⟩ : Fin 64) | 2 => (⟨(y 2).val % 128, Nat.mod_lt _ (by decide)⟩ : Fin 128))

theorem outG_tile (xs : Vec F S4x128x128 .f32) (n : Fin 8) (h : Fin 4) (p : Vec F S1x64x128 .bf16)
    (hp : p = outT x0 x1 x2 x3 x4 x5 x6 x7 n h (View.ld (stV x1 x2 x4 x5 x6 xs n.val) (rSt h))) (j : S1x64x128.Idx) :
    p j = outG x0 x1 x2 x3 x4 x5 x6 x7 xs ((rTile n h).emb j) := by
  have j0 : (j 0).val < 1 := (j 0).isLt
  have j1 : (j 1).val < 64 := (j 1).isLt
  have j2 : (j 2).val < 128 := (j 2).isLt
  have e1 : ((rTile n h).emb j 1).val = 64 * n.val + (j 1).val := by rw [Rect.emb_apply]; simp
  have e2 : ((rTile n h).emb j 2).val = 128 * h.val + (j 2).val := by rw [Rect.emb_apply]; simp
  unfold outG
  have en : (⟨((rTile n h).emb j 1).val / 64, by have h : ((rTile n h).emb j 1).val < 512 := ((rTile n h).emb j 1).isLt; omega⟩ : Fin 8) = n := Fin.ext (by show _ / 64 = n.val; omega)
  have eh : (⟨((rTile n h).emb j 2).val / 128, by have h : ((rTile n h).emb j 2).val < 512 := ((rTile n h).emb j 2).isLt; omega⟩ : Fin 4) = h := Fin.ext (by show _ / 128 = h.val; omega)
  have en' : ((rTile n h).emb j 1).val / 64 = n.val := by omega
  rw [en, eh, en', hp]
  refine congrArg _ (funext fun a => Fin.ext ?_)
  match a with
  | 0 => show (j 0).val = 0; omega
  | 1 => show (j 1).val = ((rTile n h).emb j 1).val % 64; omega
  | 2 => show (j 2).val = ((rTile n h).emb j 2).val % 128; omega

end Cert.Gla

end
-- ==== Proof.Gla.Law.lean ====
/- Facts about extended reals that the gated linear attention needs: the two spellings of its gate, a running sum taken in three
   parts, sums over padded lanes. -/
module

public import Idealize.ShloMosaic.PureOps
public import Idealize.ShloMosaic.Lib.IdealHost
public import Mathlib.Data.EReal.Inv
public import Mathlib.Algebra.BigOperators.Fin

@[expose] public section

noncomputable section

namespace Cert.Gla

open Idealize.ShloMosaic

/-- A sum over `K + p` lanes, zero from lane `K` on. -/
theorem sum_pad {N : ℕ} (K p : ℕ) (hN : N = K + p) (f : Fin N → EReal) (hz : ∀ x : Fin N, K ≤ x.val → f x = 0) :
    ∑ x, f x = ∑ x : Fin K, f ⟨x.val, by omega⟩ := by
  subst hN
  rw [Fin.sum_univ_add]
  have : ∑ i : Fin p, f (Fin.natAdd K i) = 0 := Finset.sum_eq_zero fun i _ => hz _ (by simp)
  rw [this, add_zero]
  rfl

/-- The sixteenth, as a word and as a quotient. -/
theorem bits_sixteenth : Ideal.ofBits .f32 0x3D800000#32 = ((16⁻¹ : ℝ) : EReal) := by
  simp [Ideal.ofBits, Ideal.ieee, -EReal.coe_mul]
  norm_num
theorem bits_sixteen : Ideal.ofBits .f32 0x41800000#32 = ((16 : ℝ) : EReal) := by
  simp [Ideal.ofBits, Ideal.ieee, -EReal.coe_mul]
  norm_num
theorem bits_ninetysix : Ideal.ofBits .f32 0x42C00000#32 = ((96 : ℝ) : EReal) := by
  simp [Ideal.ofBits, Ideal.ieee, -EReal.coe_mul]
  norm_num

theorem div_real (x : EReal) (r : ℝ) (hr : r ≠ 0) : Ideal.div x (r : EReal) = x * ((r⁻¹ : ℝ) : EReal) := by
  unfold Ideal.div
  rw [if_neg (by simpa using hr), EReal.coe_inv]

/-- The correction of the softplus: at least zero, and never the top. -/
theorem log1p_exp_nonneg (y : EReal) : 0 ≤ Ideal.log1p (Ideal.exp y) := by
  have key : ∀ r : ℝ, 0 ≤ r → 0 ≤ Ideal.log1p (r : EReal) := by
    intro r hr
    have e : (1 : EReal) + (r : EReal) = ((1 + r : ℝ) : EReal) := by push_cast; rfl
    unfold Ideal.log1p
    rw [e, show Ideal.log ((1 + r : ℝ) : EReal) = if 1 + r ≤ 0 then ⊥ else (Real.log (1 + r) : EReal) from rfl, if_neg (by linarith)]
    exact_mod_cast Real.log_nonneg (by linarith)
  induction y with
  | bot => exact key 0 le_rfl
  | top =>
    have : Ideal.log1p (Ideal.exp ⊤) = ⊤ := by
      unfold Ideal.log1p
      rw [show Ideal.exp ⊤ = ⊤ from rfl, show (1 : EReal) + ⊤ = ⊤ from rfl]
      rfl
    rw [this]; exact le_top
  | coe r => exact key _ (Real.exp_pos r).le

/-- The gate of one activation, as the kernel computes it. -/
def gate (x : EReal) : EReal :=
  (min x 0 - Ideal.log1p (Ideal.exp (0 - max x (-x)))) * ((16⁻¹ : ℝ) : EReal)

theorem gate_ne_top (x : EReal) : gate x ≠ ⊤ := by
  unfold gate
  have h1 : min x 0 - Ideal.log1p (Ideal.exp (0 - max x (-x))) ≤ 0 := by
    have ha : min x 0 ≤ 0 := min_le_right _ _
    have hb := log1p_exp_nonneg (0 - max x (-x))
    calc min x 0 - Ideal.log1p (Ideal.exp (0 - max x (-x))) ≤ 0 - 0 := EReal.sub_le_sub ha hb
      _ = 0 := by simp
  have h2 : (min x 0 - Ideal.log1p (Ideal.exp (0 - max x (-x)))) * ((16⁻¹ : ℝ) : EReal) ≤ 0 :=
    mul_nonpos_of_nonpos_of_nonneg h1 (by norm_num)
  intro h
  rw [h] at h2
  exact absurd h2 (by simp)

/-- The gate as the logarithm of the sigmoid, over sixteen. -/
theorem gate_eq (x : EReal) :
    Ideal.div (-(max (-x) 0 + Ideal.log1p (Ideal.exp (-(max (-x) (- -x)))))) ((16 : ℝ) : EReal) = gate x := by
  rw [div_real _ _ (by norm_num)]
  unfold gate
  have hb := log1p_exp_nonneg (0 - max x (-x))
  have e1 : -(max (-x) (- -x)) = 0 - max x (-x) := by rw [neg_neg, max_comm, zero_sub]
  rw [e1]
  have hm : (0 : EReal) ≤ max (-x) 0 := le_max_right _ _
  rw [EReal.neg_add (.inl (fun h => by rw [h] at hm; exact absurd hm (by simp))) (.inr (fun h => by rw [h] at hb; exact absurd hb (by simp)))]
  have e2 : -max (-x) 0 = min x 0 := by
    rw [max_def, min_def]
    by_cases h : -x ≤ 0
    · rw [if_pos h, neg_zero]
      have h' : 0 ≤ x := by have := EReal.neg_le_neg_iff.mpr h; simpa using this
      by_cases h2 : x ≤ 0
      · rw [if_pos h2]; exact le_antisymm h' h2
      · rw [if_neg h2]
    · rw [if_neg h, neg_neg]
      have h' : x ≤ 0 := by
        have := (EReal.neg_le_neg_iff (a := -x) (b := 0)).mpr (le_of_lt (not_le.mp h))
        simpa using this
      rw [if_pos h']
  rw [e2]

/-- A sum under 0/1 weights of values below the top, taken as the sum of the values, of their remainders and of the remainders'
    remainders: the remainders are zero but where the value is the bottom. -/
theorem sum_parts {n : ℕ} (w f : Fin n → EReal) (hw : ∀ x, w x = 0 ∨ w x = 1) (hf : ∀ x, f x ≠ ⊤) :
    ∑ x, w x * f x + ∑ x, w x * (f x - f x) + ∑ x, w x * (f x - f x - (f x - f x)) = ∑ x, w x * f x := by
  by_cases h : ∃ x, w x = 1 ∧ f x = ⊥
  · obtain ⟨x, hx, hb⟩ := h
    have hs : ∑ x, w x * f x = ⊥ := by
      rw [← Finset.add_sum_erase _ _ (Finset.mem_univ x), hx, hb, one_mul, EReal.bot_add]
    rw [hs, EReal.bot_add, EReal.bot_add]
  · have hz : ∀ x, w x * (f x - f x) = 0 ∧ w x * (f x - f x - (f x - f x)) = 0 := by
      intro x
      rcases hw x with h0 | h1
      · rw [h0, zero_mul, zero_mul]; exact ⟨rfl, rfl⟩
      · have hb : f x ≠ ⊥ := fun hb => h ⟨x, h1, hb⟩
        have e : f x - f x = 0 := EReal.sub_self (hf x) hb
        rw [e, h1]; simp
    rw [Finset.sum_eq_zero fun x _ => (hz x).1, Finset.sum_eq_zero fun x _ => (hz x).2, add_zero, add_zero]

theorem bits_1 (b : BitVec 1) : b = 0#1 ∨ b = 1#1 := BitVec.eq_zero_or_eq_one b

/-- A comparison of two small indices. -/
theorem sge_small (a b : Fin 64) : IntOp.cmpi .sge (BitVec.ofNat 32 a.val) (BitVec.ofNat 32 b.val) = BitVec.ofBool (decide (b.val ≤ a.val)) := by
  revert a b
  decide +kernel

end Cert.Gla

end
-- ==== Proof.Gla.Spec.lean ====
/- The gated linear attention, written once over the extended reals: chunks of 64 tokens, a state carried from chunk to chunk. -/
module

public import proofs.«01_k».proof.Proof.Gla.Law

@[expose] public section

noncomputable section

namespace Cert.Gla

open Idealize.ShloMosaic

/-- The running sum of a chunk's gates. -/
def cum (g : Fin 64 → EReal) (s : Fin 64) : EReal := ∑ x : Fin 64, if x.val ≤ s.val then g x else 0

/-- The attention inside a chunk and the state's part, over `D` channels of the keys. -/
def attn {D : ℕ} (qd kd : Fin 64 → Fin D → EReal) (v : Fin 64 → EReal) (st : Fin D → EReal) (s : Fin 64) : EReal :=
  (∑ x : Fin 64, (if x.val ≤ s.val then ∑ d, qd s d * kd x d else 0) * v x) + ∑ d, qd s d * st d

/-- The normalised and gated output of one channel: `o` its value, `ss` the sum of the head's squares, `ng` the gain, `r` the gate. -/
def fin (o ss ng r : EReal) : EReal :=
  o * Ideal.rsqrt (ss * ((96⁻¹ : ℝ) : EReal) + Ideal.ofBits .f32 0x358637BD#32) * ng * (r * Ideal.div 1 (1 + Ideal.exp (-r)))

/-- The queries' scale. -/
abbrev c48 : EReal := Ideal.ofBits .f32 0x3E13CD3A#32

/-- The token `s` of chunk `N`. -/
def tok (N : ℕ) (s : Fin 64) : Fin 8192 := ⟨(64 * N + s.val) % 8192, Nat.mod_lt _ (by decide)⟩
/-- The channel `d` of the keys of head `h`. -/
def kc (h : Fin 4) (d : Fin 48) : Fin 192 := ⟨48 * h.val + d.val, by omega⟩
/-- The channel `e` of the values of head `h`. -/
def vc (h : Fin 4) (e : Fin 96) : Fin 384 := ⟨96 * h.val + e.val, by omega⟩

/-- The arguments of the attention: queries, keys, values, the gate's low-rank activations, the output gate, the gate's weights and
    bias, and the norm's gain. -/
structure Args where
  q : Fin 4 → Fin 8192 → Fin 192 → EReal
  k : Fin 4 → Fin 8192 → Fin 192 → EReal
  v : Fin 4 → Fin 8192 → Fin 384 → EReal
  lr : Fin 4 → Fin 8192 → Fin 16 → EReal
  r : Fin 4 → Fin 8192 → Fin 384 → EReal
  gw : Fin 16 → Fin 192 → EReal
  gb : Fin 192 → EReal
  ng : Fin 96 → EReal

namespace Args
variable (A : Args) (b : Fin 4)

/-- The gate's argument. -/
def GA (t : Fin 8192) (c : Fin 192) : EReal := (∑ x : Fin 16, A.lr b t x * A.gw x c) + A.gb c
/-- The running sum of a chunk's gates. -/
def BC (N : ℕ) (s : Fin 64) (c : Fin 192) : EReal := cum (fun x => gate (A.GA b (tok N x) c)) s
/-- The decayed queries. -/
def QD (N : ℕ) (h : Fin 4) (s : Fin 64) (d : Fin 48) : EReal := A.q b (tok N s) (kc h d) * c48 * Ideal.exp (A.BC b N s (kc h d))
/-- The keys with the decay since the chunk's start taken off. -/
def KD (N : ℕ) (h : Fin 4) (s : Fin 64) (d : Fin 48) : EReal := A.k b (tok N s) (kc h d) * Ideal.exp (-(A.BC b N s (kc h d)))
/-- The keys with the decay to the chunk's end. -/
def KU (N : ℕ) (h : Fin 4) (s : Fin 64) (d : Fin 48) : EReal :=
  A.k b (tok N s) (kc h d) * Ideal.exp (A.BC b N 63 (kc h d) - A.BC b N s (kc h d))
/-- The state before chunk `N`. -/
def ST (h : Fin 4) (d : Fin 48) (e : Fin 96) : ℕ → EReal
  | 0 => 0
  | N + 1 => Ideal.exp (A.BC b N 63 (kc h d)) * ST h d e N + ∑ s : Fin 64, A.KU b N h s d * A.v b (tok N s) (vc h e)
/-- The attention. -/
def O (N : ℕ) (h : Fin 4) (s : Fin 64) (e : Fin 96) : EReal :=
  attn (A.QD b N h) (A.KD b N h) (fun x => A.v b (tok N x) (vc h e)) (fun d => A.ST b h d e N) s
/-- The result at a token's head and channel. -/
def RES (N : ℕ) (h : Fin 4) (s : Fin 64) (e : Fin 96) : EReal :=
  fin (A.O b N h s e) (∑ x : Fin 96, A.O b N h s x * A.O b N h s x) (A.ng e) (A.r b (tok N s) (vc h e))
end Args

end Cert.Gla

end
-- ==== Proof.Gla.Read.lean ====
/- One tile of the gated linear attention kernel read at an index, over the extended reals. -/
module

public import proofs.«01_k».proof.Proof.Gla.Loads
public import proofs.«01_k».proof.Proof.Gla.Spec
public import Idealize.ShloMosaic.Lib.Pointwise

@[expose] public section

set_option maxRecDepth 16384

noncomputable section

namespace Cert.Gla

open Cert.KernelIdeal Cert.KernelIdeal.Gen Idealize.ShloMosaic Idealize.ShloMosaic.TcCoe Idealize.SL.Sem

variable (x0 x1 x2 x3 : Vec Ideal S1x512x512 .bf16) (x4 : Vec Ideal S1x512x128 .bf16) (x5 : Vec Ideal S128x512 .bf16) (x6 x7 : Vec Ideal S1x512 .f32)

/-- The row `s` of chunk `n`. -/
abbrev rw_ (n : Fin 8) (s : Fin 64) : Fin 512 := ⟨64 * n.val + s.val, by omega⟩
/-- The lane `d` of head `h`. -/
abbrev ln (h : Fin 4) (d : Fin 128) : Fin 512 := ⟨128 * h.val + d.val, by omega⟩

/-- The gate's argument at a row and a lane. -/
def glK (a l : Fin 512) : EReal := (∑ x : Fin 128, x4 (ix3 0 a x) * x5 (ix2 x l)) + x6 (ix2 0 l)

/-- The running sum of the gates at a row of the chunk and a lane. -/
def bcK (n : Fin 8) (s : Fin 64) (l : Fin 512) : EReal := cum (fun x => gate (glK x4 x5 x6 (rw_ n x) l)) s

theorem pay3_at (a b : Fin 512) : k0_pay3 x4 x5 x6 (ix2 a b) = gate (glK x4 x5 x6 a b) := by
  pointwise [k0_pay3]
  rw [bits_sixteenth]
  rfl

theorem pay9_at (a b : Fin 64) : k0_pay9 (F := Ideal) (ix2 a b) = if b.val ≤ a.val then 1 else 0 := by
  pointwise [k0_pay9, k0_pay8]
  rw [sge_small]
  by_cases h : b.val ≤ a.val
  · rw [decide_eq_true h, if_pos h]
    show (((BitVec.setWidth 32 (1#1)).toInt : ℝ) : EReal) = 1
    simp
  · rw [decide_eq_false h, if_neg h]
    show (((BitVec.setWidth 32 (0#1)).toInt : ℝ) : EReal) = 0
    simp

theorem bcum_at (n : Fin 8) (a : Fin 64) (b : Fin 512) :
    bcumV (64 * n.val) (slO n) x4 x5 x6 (ix2 a b) = bcK x4 x5 x6 n a b := by
  pointwise [bcumV, k0_pay7, k0_pay6, k0_pay5, k0_pay4]
  refine (sum_parts (fun x => k0_pay9 (F := Ideal) (ix2 a x)) (fun x => k0_pay3 x4 x5 x6 (ix2 (rw_ n x) b)) ?_ ?_).trans ?_
  · intro x
    simp only [pay9_at]
    split
    · exact .inr rfl
    · exact .inl rfl
  · intro x
    simp only [pay3_at]
    exact gate_ne_top _
  · unfold bcK cum
    refine Finset.sum_congr rfl fun x _ => ?_
    simp only [pay9_at, pay3_at]
    split
    · exact one_mul _
    · exact zero_mul _

/-- The decayed queries, the keys, and the keys to the chunk's end, at a row and a lane. -/
def qdK (n : Fin 8) (s : Fin 64) (l : Fin 512) : EReal := x0 (ix3 0 (rw_ n s) l) * c48 * Ideal.exp (bcK x4 x5 x6 n s l)
def kdK (n : Fin 8) (s : Fin 64) (l : Fin 512) : EReal := x1 (ix3 0 (rw_ n s) l) * Ideal.exp (-(bcK x4 x5 x6 n s l))
def kuK (n : Fin 8) (s : Fin 64) (l : Fin 512) : EReal := x1 (ix3 0 (rw_ n s) l) * Ideal.exp (bcK x4 x5 x6 n 63 l - bcK x4 x5 x6 n s l)

theorem qd_at (n : Fin 8) (s : Fin 64) (l : Fin 512) :
    qdV (64 * n.val) (slO n) x4 x5 x6 (View.ld x0 (rRow n)) (ix2 s l) = qdK x0 x4 x5 x6 n s l := by
  pointwise [qdV]
  rw [bcum_at]; rfl
theorem kd_at (n : Fin 8) (s : Fin 64) (l : Fin 512) :
    kdV (64 * n.val) (slO n) x4 x5 x6 (View.ld x1 (rRow n)) (ix2 s l) = kdK x1 x4 x5 x6 n s l := by
  pointwise [kdV]
  rw [bcum_at, zero_sub]; rfl
theorem ku_at (n : Fin 8) (s : Fin 64) (l : Fin 512) :
    kuV (64 * n.val) (slO n) x4 x5 x6 (View.ld x1 (rRow n)) (ix2 s l) = kuK x1 x4 x5 x6 n s l := by
  pointwise [kuV, blastV]
  rw [bcum_at, bcum_at]; rfl
theorem dec_at (n : Fin 8) (l : Fin 512) :
    decV (64 * n.val) (slO n) x4 x5 x6 (ix2 0 l) = Ideal.exp (bcK x4 x5 x6 n 63 l) := by
  pointwise [decV, blastV]
  rw [bcum_at]

/-- The state of a head after a chunk. -/
theorem upd_at (n : Fin 8) (h : Fin 4) (e d : Fin 128) (st : Vec Ideal S1x128x128 .f32) :
    updT x1 x2 x4 x5 x6 n h st (ix3 0 e d) = st (ix3 0 e d) * Ideal.exp (bcK x4 x5 x6 n 63 (ln h d))
      + ∑ s : Fin 64, x2 (ix3 0 (rw_ n s) (ln h e)) * kuK x1 x4 x5 x6 n s (ln h d) := by
  pointwise [updT, updV]
  rw [dec_at]
  simp only [ku_at]

theorem pay8_at (a b : Fin 64) : k0_pay8 (ix2 a b) = BitVec.ofBool (decide (b.val ≤ a.val)) := by
  pointwise [k0_pay8]
  rw [sge_small]

theorem select_tri {α : Type} (a b : Fin 64) (x y : α) : Scalar.select (BitVec.ofBool (decide (b.val ≤ a.val))) x y = if b.val ≤ a.val then x else y := by
  by_cases h : b.val ≤ a.val
  · rw [decide_eq_true h, if_pos h]; rfl
  · rw [decide_eq_false h, if_neg h]; rfl

/-- The attention of a head's row, at a channel. -/
def atK (n : Fin 8) (h : Fin 4) (st : Vec Ideal S1x128x128 .f32) (s : Fin 64) (e : Fin 128) : EReal :=
  attn (fun s d => qdK x0 x4 x5 x6 n s (ln h d)) (fun s d => kdK x1 x4 x5 x6 n s (ln h d)) (fun x => x2 (ix3 0 (rw_ n x) (ln h e)))
    (fun d => st (ix3 0 e d)) s

theorem o_at (n : Fin 8) (h : Fin 4) (st : Vec Ideal S1x128x128 .f32) (s : Fin 64) (e : Fin 128) :
    oV (64 * n.val) (slO n) (128 * h.val) (slL h) x4 x5 x6 (View.ld x0 (rRow n)) (View.ld x1 (rRow n)) (View.ld x2 (rTile n h)) st (ix2 s e)
      = atK x0 x1 x2 x4 x5 x6 n h st s e := by
  pointwise [oV]
  unfold atK attn
  simp only [qd_at, kd_at, pay8_at, select_tri]
  refine congrArg (· + _) (Finset.sum_congr rfl fun x _ => ?_)
  by_cases hx : x.val ≤ s.val
  · rw [if_pos hx, if_pos hx]
  · rw [if_neg hx, if_neg hx, zero_mul]

theorem inv96 : Named.named (F := Ideal) κ "inv96" (φ := .f32) 0x3C2AAAAB#32 = ((96⁻¹ : ℝ) : EReal) := rfl

/-- What the body stores for a head's row, at a channel. -/
theorem out_at (n : Fin 8) (h : Fin 4) (st : Vec Ideal S1x128x128 .f32) (s : Fin 64) (e : Fin 128) :
    outT x0 x1 x2 x3 x4 x5 x6 x7 n h st (ix3 0 s e) = fin (atK x0 x1 x2 x4 x5 x6 n h st s e)
      (∑ x : Fin 128, atK x0 x1 x2 x4 x5 x6 n h st s x * atK x0 x1 x2 x4 x5 x6 n h st s x) (x7 (ix2 0 (ln h e)))
      (x3 (ix3 0 (rw_ n s) (ln h e))) := by
  pointwise [outT, outV, normV, siluV]
  simp only [o_at]
  rw [inv96, zero_sub]
  rfl

end Cert.Gla

end
-- ==== Proof.Gla.Block.lean ====
/- One block of the kernel, eight chunks, against the attention written once: the state after each chunk and what is stored. -/
module

public import proofs.«01_k».proof.Proof.Gla.Read

@[expose] public section

set_option maxRecDepth 16384

noncomputable section

namespace Cert.Gla

open Cert.KernelIdeal Cert.KernelIdeal.Gen Idealize.ShloMosaic Idealize.ShloMosaic.TcCoe Idealize.SL.Sem

/-- One head's state after a chunk. -/
theorem nextS_ld (x1 x2 : Vec Ideal S1x512x512 .bf16) (x4 : Vec Ideal S1x512x128 .bf16) (x5 : Vec Ideal S128x512 .bf16) (x6 : Vec Ideal S1x512 .f32)
    (n : Fin 8) (h : Fin 4) (st : Vec Ideal S4x128x128 .f32) :
    View.ld (nextS x1 x2 x4 x5 x6 n st) (rSt h) = updT x1 x2 x4 x5 x6 n h (View.ld st (rSt h)) := by
  funext y
  have j0 : (y 0).val < 1 := (y 0).isLt
  have e0 : ((rSt h).emb y) 0 = h := Fin.ext (by rw [Rect.emb_apply]; simp; omega)
  have e1 : stIx ((rSt h).emb y) = y := by
    funext a
    apply Fin.ext
    fin_cases a
    · simp [stIx]; omega
    · simp [stIx, Rect.emb_apply]
    · simp [stIx, Rect.emb_apply]
  show updT x1 x2 x4 x5 x6 n (((rSt h).emb y) 0) (View.ld st (rSt (((rSt h).emb y) 0))) (stIx ((rSt h).emb y)) = _
  rw [e0, e1]

/-- The blocks of batch `b`, rows of the chunks from `8 j` on, hold the arguments, each head's channels filled up with zeros. -/
structure Blk (A : Args) (b : Fin 4) (j : ℕ) (x0 x1 x2 x3 : Vec Ideal S1x512x512 .bf16) (x4 : Vec Ideal S1x512x128 .bf16)
    (x5 : Vec Ideal S128x512 .bf16) (x6 x7 : Vec Ideal S1x512 .f32) : Prop where
  q : ∀ (n : Fin 8) (s : Fin 64) (h : Fin 4) (d : Fin 128), x0 (ix3 0 (rw_ n s) (ln h d)) = if hd : d.val < 48 then A.q b (tok (8 * j + n.val) s) (kc h ⟨d.val, hd⟩) else 0
  k : ∀ (n : Fin 8) (s : Fin 64) (h : Fin 4) (d : Fin 128), x1 (ix3 0 (rw_ n s) (ln h d)) = if hd : d.val < 48 then A.k b (tok (8 * j + n.val) s) (kc h ⟨d.val, hd⟩) else 0
  v : ∀ (n : Fin 8) (s : Fin 64) (h : Fin 4) (e : Fin 128), x2 (ix3 0 (rw_ n s) (ln h e)) = if he : e.val < 96 then A.v b (tok (8 * j + n.val) s) (vc h ⟨e.val, he⟩) else 0
  r : ∀ (n : Fin 8) (s : Fin 64) (h : Fin 4) (e : Fin 96), x3 (ix3 0 (rw_ n s) (ln h ⟨e.val, by omega⟩)) = A.r b (tok (8 * j + n.val) s) (vc h e)
  lr : ∀ (n : Fin 8) (s : Fin 64) (x : Fin 128), x4 (ix3 0 (rw_ n s) x) = if hx : x.val < 16 then A.lr b (tok (8 * j + n.val) s) ⟨x.val, hx⟩ else 0
  gw : ∀ (x : Fin 16) (h : Fin 4) (d : Fin 48), x5 (ix2 ⟨x.val, by omega⟩ (ln h ⟨d.val, by omega⟩)) = A.gw x (kc h d)
  gb : ∀ (h : Fin 4) (d : Fin 48), x6 (ix2 0 (ln h ⟨d.val, by omega⟩)) = A.gb (kc h d)
  ng : ∀ (h : Fin 4) (e : Fin 96), x7 (ix2 0 (ln h ⟨e.val, by omega⟩)) = A.ng e

section
variable {A : Args} {b : Fin 4} {j : ℕ} {x0 x1 x2 x3 : Vec Ideal S1x512x512 .bf16} {x4 : Vec Ideal S1x512x128 .bf16}
  {x5 : Vec Ideal S128x512 .bf16} {x6 x7 : Vec Ideal S1x512 .f32} (B : Blk A b j x0 x1 x2 x3 x4 x5 x6 x7)
include B

theorem Blk.gl (n : Fin 8) (s : Fin 64) (h : Fin 4) (d : Fin 48) :
    glK x4 x5 x6 (rw_ n s) (ln h ⟨d.val, by omega⟩) = A.GA b (tok (8 * j + n.val) s) (kc h d) := by
  unfold glK Args.GA
  rw [B.gb, sum_pad 16 112 rfl _ (fun x hx => by rw [B.lr, dif_neg (by omega), zero_mul])]
  refine congrArg (· + _) (Finset.sum_congr rfl fun x _ => ?_)
  rw [B.lr, dif_pos x.isLt, B.gw]

theorem Blk.bc (n : Fin 8) (s : Fin 64) (h : Fin 4) (d : Fin 48) :
    bcK x4 x5 x6 n s (ln h ⟨d.val, by omega⟩) = A.BC b (8 * j + n.val) s (kc h d) := by
  unfold bcK Args.BC
  exact congrArg (cum · s) (funext fun x => by rw [B.gl])

theorem Blk.qd (n : Fin 8) (s : Fin 64) (h : Fin 4) (d : Fin 128) :
    qdK x0 x4 x5 x6 n s (ln h d) = if hd : d.val < 48 then A.QD b (8 * j + n.val) h s ⟨d.val, hd⟩ else 0 := by
  unfold qdK
  rw [B.q]
  by_cases hd : d.val < 48
  · rw [dif_pos hd, dif_pos hd, B.bc n s h ⟨d.val, hd⟩]; rfl
  · rw [dif_neg hd, dif_neg hd, zero_mul, zero_mul]

theorem Blk.kd (n : Fin 8) (s : Fin 64) (h : Fin 4) (d : Fin 48) :
    kdK x1 x4 x5 x6 n s (ln h ⟨d.val, by omega⟩) = A.KD b (8 * j + n.val) h s d := by
  unfold kdK
  rw [B.k, dif_pos d.isLt, B.bc n s h d]; rfl

theorem Blk.ku (n : Fin 8) (s : Fin 64) (h : Fin 4) (d : Fin 128) :
    kuK x1 x4 x5 x6 n s (ln h d) = if hd : d.val < 48 then A.KU b (8 * j + n.val) h s ⟨d.val, hd⟩ else 0 := by
  unfold kuK
  rw [B.k]
  by_cases hd : d.val < 48
  · rw [dif_pos hd, dif_pos hd, B.bc n s h ⟨d.val, hd⟩, B.bc n 63 h ⟨d.val, hd⟩]; rfl
  · rw [dif_neg hd, dif_neg hd, zero_mul]

/-- The states hold the attention's states before chunk `N`, and zeros on the filled channels. -/
def Holds (A : Args) (b : Fin 4) (N : ℕ) (h : Fin 4) (st : Vec Ideal S1x128x128 .f32) : Prop :=
  ∀ e d : Fin 128, st (ix3 0 e d) = if hd : d.val < 48 ∧ e.val < 96 then A.ST b h ⟨d.val, hd.1⟩ ⟨e.val, hd.2⟩ N else 0

theorem Blk.upd (n : Fin 8) (h : Fin 4) (st : Vec Ideal S1x128x128 .f32) (hs : Holds A b (8 * j + n.val) h st) :
    Holds A b (8 * j + n.val + 1) h (updT x1 x2 x4 x5 x6 n h st) := by
  intro e d
  rw [upd_at, hs e d]
  by_cases hd : d.val < 48 ∧ e.val < 96
  · rw [dif_pos hd, dif_pos hd, B.bc n 63 h ⟨d.val, hd.1⟩, mul_comm]
    show _ = Ideal.exp _ * _ + _
    refine congrArg (_ + ·) (Finset.sum_congr rfl fun s _ => ?_)
    rw [B.ku, dif_pos hd.1, B.v, dif_pos hd.2, mul_comm]
  · rw [dif_neg hd, dif_neg hd, zero_mul, zero_add]
    refine Finset.sum_eq_zero fun s _ => ?_
    rw [B.ku, B.v]
    by_cases h1 : d.val < 48
    · rw [dif_neg (fun h2 => hd ⟨h1, h2⟩), zero_mul]
    · rw [dif_neg h1, mul_zero]

theorem Blk.at (n : Fin 8) (h : Fin 4) (st : Vec Ideal S1x128x128 .f32) (hs : Holds A b (8 * j + n.val) h st) (s : Fin 64) (e : Fin 128) :
    atK x0 x1 x2 x4 x5 x6 n h st s e = if he : e.val < 96 then A.O b (8 * j + n.val) h s ⟨e.val, he⟩ else 0 := by
  unfold atK attn
  rw [sum_pad 48 80 rfl (fun d => qdK x0 x4 x5 x6 n s (ln h d) * st (ix3 0 e d)) (fun d hd => by rw [B.qd, dif_neg (by omega), zero_mul])]
  by_cases he : e.val < 96
  · rw [dif_pos he]
    unfold Args.O attn
    refine congrArg₂ (· + ·) (Finset.sum_congr rfl fun x _ => ?_) (Finset.sum_congr rfl fun d _ => ?_)
    · dsimp only
      rw [B.v, dif_pos he]
      refine congrArg (· * _) ?_
      split
      · rw [sum_pad 48 80 rfl (fun d => qdK x0 x4 x5 x6 n s (ln h d) * kdK x1 x4 x5 x6 n x (ln h d)) (fun d hd => by rw [B.qd, dif_neg (by omega), zero_mul])]
        refine Finset.sum_congr rfl fun d _ => ?_
        rw [B.qd, dif_pos d.isLt, B.kd]
      · rfl
    · dsimp only
      rw [B.qd, dif_pos d.isLt, hs, dif_pos ⟨d.isLt, he⟩]
  · rw [dif_neg he, Finset.sum_eq_zero (fun x _ => by dsimp only; rw [B.v, dif_neg he, mul_zero]),
      Finset.sum_eq_zero (fun d _ => by rw [hs, dif_neg (fun h2 => he h2.2), mul_zero]), zero_add]

/-- What is stored for a head's row, at a channel. -/
theorem Blk.out (n : Fin 8) (h : Fin 4) (st : Vec Ideal S1x128x128 .f32) (hs : Holds A b (8 * j + n.val) h st) (s : Fin 64) (e : Fin 128) :
    outT x0 x1 x2 x3 x4 x5 x6 x7 n h st (ix3 0 s e) = if he : e.val < 96 then A.RES b (8 * j + n.val) h s ⟨e.val, he⟩ else 0 := by
  rw [out_at, B.at n h st hs s e]
  by_cases he : e.val < 96
  · rw [dif_pos he, dif_pos he]
    unfold Args.RES
    rw [B.ng h ⟨e.val, he⟩, B.r n s h ⟨e.val, he⟩,
      sum_pad 96 32 rfl _ (fun x hx => by rw [B.at n h st hs, dif_neg (by omega), zero_mul])]
    have e : ∀ x : Fin 96, atK x0 x1 x2 x4 x5 x6 n h st s ⟨x.val, by omega⟩ = A.O b (8 * j + n.val) h s x := fun x => by
      rw [B.at n h st hs, dif_pos x.isLt]
    simp only [e]
  · rw [dif_neg he, dif_neg he]
    unfold fin
    rw [zero_mul, zero_mul, zero_mul]

/-- The states of the four heads, chunk by chunk. -/
theorem Blk.states (xs : Vec Ideal S4x128x128 .f32) (hs : ∀ h, Holds A b (8 * j) h (View.ld xs (rSt h))) :
    ∀ n : ℕ, n ≤ 8 → ∀ h, Holds A b (8 * j + n) h (View.ld (stV x1 x2 x4 x5 x6 xs n) (rSt h))
  | 0, _, h => hs h
  | n + 1, hn, h => by
    have ih := Blk.states xs hs n (by omega) h
    have e : View.ld (stV x1 x2 x4 x5 x6 xs (n + 1)) (rSt h) = updT x1 x2 x4 x5 x6 ⟨n, by omega⟩ h (View.ld (stV x1 x2 x4 x5 x6 xs n) (rSt h)) := by
      rw [stV, dif_pos (by omega : n < 8)]
      exact nextS_ld x1 x2 x4 x5 x6 ⟨n, by omega⟩ h _
    rw [e]
    exact B.upd ⟨n, by omega⟩ h _ ih

end

end Cert.Gla

end
-- ==== Proof.Gla.Arrays.lean ====
/- The windows' arrays at an index. -/
module

public import proofs.«01_k».proof.Proof.Gla.Host
public import proofs.«01_k».proof.Proof.Gla.Block

@[expose] public section

set_option maxRecDepth 16384

noncomputable section

namespace Cert.Gla

open Cert.KernelIdeal Cert.KernelIdeal.Gen Idealize.ShloMosaic Idealize.ShloMosaic.TcCoe Idealize.SL.Sem

theorem zero_word (φ : FTy) : FloatOps.sitofp (F := Ideal) φ (0#32) = (0 : EReal) := by
  show (((0#32).toInt : ℝ) : EReal) = 0
  simp

/-- An entry of an array read at equal indices. -/
theorem at3 {n0 n1 n2 : ℕ} {α : Type} (x : (⟨3, ![n0, n1, n2]⟩ : Shape).Idx → α) {a a' : Fin n0} {b b' : Fin n1} {d d' : Fin n2}
    (ha : a.val = a'.val) (hb : b.val = b'.val) (hd : d.val = d'.val) : x (ix3 a b d) = x (ix3 a' b' d') := by
  rw [Fin.ext ha, Fin.ext hb, Fin.ext hd]

theorem padK_at (x : Vec Ideal S4x8192x192 .bf16) (b : Fin 4) (t : Fin 8192) (h : Fin 4) (d : Fin 128) :
    padK x (ix3 b t (ln h d)) = if hd : d.val < 48 then x (ix3 b t (kc h ⟨d.val, hd⟩)) else 0 := by
  generalize hl : ln h d = l
  have hl' : l.val = 128 * h.val + d.val := by rw [← hl]
  pointwise [padK]
  rw [zero_word]
  by_cases hd : d.val < 48
  · rw [dif_pos hd, dif_pos (by omega)]
    exact at3 x (by simp only [] <;> omega) (by simp only [] <;> omega) (by simp only [kc] <;> omega)
  · rw [dif_neg hd, dif_neg (by omega)]

theorem padV_at (x : Vec Ideal S4x8192x384 .bf16) (b : Fin 4) (t : Fin 8192) (h : Fin 4) (d : Fin 128) :
    padV x (ix3 b t (ln h d)) = if hd : d.val < 96 then x (ix3 b t (vc h ⟨d.val, hd⟩)) else 0 := by
  generalize hl : ln h d = l
  have hl' : l.val = 128 * h.val + d.val := by rw [← hl]
  pointwise [padV]
  rw [zero_word]
  by_cases hd : d.val < 96
  · rw [dif_pos hd, dif_pos (by omega)]
    exact at3 x (by simp only [] <;> omega) (by simp only [] <;> omega) (by simp only [vc] <;> omega)
  · rw [dif_neg hd, dif_neg (by omega)]

theorem padL_at (x : Vec Ideal S4x8192x16 .bf16) (b : Fin 4) (t : Fin 8192) (l : Fin 128) :
    padL x (ix3 b t l) = if hd : l.val < 16 then x (ix3 b t ⟨l.val, hd⟩) else 0 := by
  pointwise [padL]
  rw [zero_word]
  by_cases hd : l.val < 16
  · rw [dif_pos hd, dif_pos (by omega)]
  · rw [dif_neg hd, dif_neg (by omega)]

theorem padW_at (x : Vec Ideal S16x192 .f32) (a : Fin 16) (h : Fin 4) (d : Fin 48) :
    padW x (ix2 ⟨a.val, by omega⟩ (ln h ⟨d.val, by omega⟩)) = x (ix2 a (kc h d)) := by
  generalize hl : ln h (⟨d.val, by omega⟩ : Fin 128) = l
  have hl' : l.val = 128 * h.val + d.val := by rw [← hl]
  generalize ha : (⟨a.val, by omega⟩ : Fin 128) = a'
  have ha' : a'.val = a.val := by rw [← ha]
  pointwise [padW]
  rw [dif_pos (by omega), dif_pos (by omega)]
  exact congrArg₂ (fun y z => x (ix2 y z)) (Fin.ext ha') (Fin.ext (by simp only [kc] <;> omega))

theorem padB_at (x : Vec Ideal S192 .f32) (h : Fin 4) (d : Fin 48) :
    padB x (ix2 0 (ln h ⟨d.val, by omega⟩)) = x (ix1 (kc h d)) := by
  generalize hl : ln h (⟨d.val, by omega⟩ : Fin 128) = l
  have hl' : l.val = 128 * h.val + d.val := by rw [← hl]
  pointwise [padB]
  rw [dif_pos (by omega)]
  exact congrArg (fun z => x (ix1 z)) (Fin.ext (by simp only [kc] <;> omega))

theorem padN_at (x : Vec Ideal S96 .f32) (h : Fin 4) (e : Fin 96) :
    padN x (ix2 0 (ln h ⟨e.val, by omega⟩)) = x (ix1 e) := by
  generalize hl : ln h (⟨e.val, by omega⟩ : Fin 128) = l
  have hl' : l.val = 128 * h.val + e.val := by rw [← hl]
  pointwise [padN]
  rw [dif_pos (by omega)]
  exact congrArg (fun z => x (ix1 z)) (Fin.ext (by simp only [] <;> omega))

end Cert.Gla

end
-- ==== Proof.Gla.Args.lean ====
/- The attention's arguments, as read from the arrays of a memory. -/
module

public import proofs.«01_k».proof.Proof.Gla.Spec
public import Idealize.ShloMosaic.Lib.Pointwise

@[expose] public section

noncomputable section

namespace Cert.Gla

open Idealize.ShloMosaic

/-- The arguments of the attention, read from the arrays. -/
def argsOf (q k : Vec Ideal ⟨3, ![4, 8192, 192]⟩ .bf16) (v : Vec Ideal ⟨3, ![4, 8192, 384]⟩ .bf16) (lr : Vec Ideal ⟨3, ![4, 8192, 16]⟩ .bf16)
    (r : Vec Ideal ⟨3, ![4, 8192, 384]⟩ .bf16) (gw : Vec Ideal ⟨2, ![16, 192]⟩ .f32) (gb : Vec Ideal ⟨1, ![192]⟩ .f32) (ng : Vec Ideal ⟨1, ![96]⟩ .f32) : Args where
  q b t c := q (ix3 b t c)
  k b t c := k (ix3 b t c)
  v b t c := v (ix3 b t c)
  lr b t c := lr (ix3 b t c)
  r b t c := r (ix3 b t c)
  gw a c := gw (ix2 a c)
  gb c := gb (ix1 c)
  ng e := ng (ix1 e)

end Cert.Gla

end
-- ==== Proof.Gla.StatesA.lean ====
/- The states that the body stores, chunk by chunk (the scratch zeroed first). -/
module

public import proofs.«01_k».proof.Proof.Gla.Loads

@[expose] public section

set_option maxRecDepth 16384
set_option maxHeartbeats 1000000
noncomputable section

namespace Cert.Gla

open Cert.KernelIdeal Cert.KernelIdeal.Gen Idealize.ShloMosaic Idealize.ShloMosaic.TcCoe Idealize.SL.Sem

variable {F : FTy → Type} [FloatOps F] [Named F]

variable (c : Dev nD) (i : grid0.Coords)
  (a2 : Memref sig .tc .vmem S1x512x512 .bf16) (h2 : a2.IsWhole) (a3 : Memref sig .tc .vmem S1x512x512 .bf16) (h3 : a3.IsWhole)
  (a4 : Memref sig .tc .vmem S1x512x512 .bf16) (h4 : a4.IsWhole) (a5 : Memref sig .tc .vmem S1x512x512 .bf16) (h5 : a5.IsWhole)
  (a6 : Memref sig .tc .vmem S1x512x128 .bf16) (h6 : a6.IsWhole) (a7 : Memref sig .tc .vmem S128x512 .bf16) (h7 : a7.IsWhole)
  (a8 : Memref sig .tc .vmem S1x512 .f32) (h8 : a8.IsWhole) (a9 : Memref sig .tc .vmem S1x512 .f32) (h9 : a9.IsWhole)
  (a10 : Memref sig .tc .vmem S1x512x512 .bf16) (h10 : a10.IsWhole) (a11 : Memref sig .tc .vmem S4x128x128 .f32) (h11 : a11.IsWhole)
  (x0 x1 x2 x3 : Vec F S1x512x512 .bf16) (x4 : Vec F S1x512x128 .bf16) (x5 : Vec F S128x512 .bf16) (x6 x7 : Vec F S1x512 .f32)

include c i a2 h2 a3 h3 a4 h4 a5 h5 a6 h6 a7 h7 a8 h8 a9 h9 a10 h10 a11 h11 x0 x1 x2 x3 x4 x5 x6 x7

theorem todoA_z : Todo (kernelRun0_A.sl.HS0_1 (F := F)) 0 (stV x1 x2 x4 x5 x6 (k0_pay2 (F := F)) 0) := fun y _ => congrFun (View.canon_cons_unit_zero hz3 _ _ _) y

theorem doneA_0 : Done x1 x2 x4 x5 x6 (kernelRun0_A.sl.HS0_2 c a3 h3 a4 h4 a6 h6 a7 h7 a8 h8 a11 x1 x2 x4 x5 x6) (⟨0, by decide⟩ : Fin 8) 1 (stV x1 x2 x4 x5 x6 (k0_pay2 (F := F)) 0) :=
  Done.step x1 x2 x4 x5 x6 (n := (⟨0, by decide⟩ : Fin 8)) (h := (⟨0, by decide⟩ : Fin 4)) (L := (kernelRun0_A.sl.HS0_1 (F := F))) (st := (stV x1 x2 x4 x5 x6 (k0_pay2 (F := F)) 0)) (Done.zero x1 x2 x4 x5 x6 (kernelRun0_A.sl.HS0_1 (F := F)) (⟨0, by decide⟩ : Fin 8) (stV x1 x2 x4 x5 x6 (k0_pay2 (F := F)) 0))
    ((rfl : _ = updR a3 h3 a4 h4 a6 h6 a7 h7 a8 h8 x1 x2 x4 x5 x6 (⟨0, by decide⟩ : Fin 8) (⟨0, by decide⟩ : Fin 4) (a11.view.readCov (kernelRun0_A.sl.HS0_1 (F := F)) (rSt (⟨0, by decide⟩ : Fin 4)).toLoadRect)).trans
      ((updR_eq a3 h3 a4 h4 a6 h6 a7 h7 a8 h8 x1 x2 x4 x5 x6 (⟨0, by decide⟩ : Fin 8) (⟨0, by decide⟩ : Fin 4) _).trans (congrArg _ (Todo.read (todoA_z c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_0 : Todo (kernelRun0_A.sl.HS0_2 c a3 h3 a4 h4 a6 h6 a7 h7 a8 h8 a11 x1 x2 x4 x5 x6) 1 (stV x1 x2 x4 x5 x6 (k0_pay2 (F := F)) 0) := Todo.step (h := (⟨0, by decide⟩ : Fin 4)) (L := (kernelRun0_A.sl.HS0_1 (F := F))) (st := (stV x1 x2 x4 x5 x6 (k0_pay2 (F := F)) 0)) (todoA_z c i a2 h2 a3 h3 a4 h4 a5 h5 a6 h6 a7 h7 a8 h8 a9 h9 a10 h10 a11 h11 x0 x1 x2 x3 x4 x5 x6 x7)

theorem doneA_1 : Done x1 x2 x4 x5 x6 (kernelRun0_A.sl.HS0_3 c a3 h3 a4 h4 a6 h6 a7 h7 a8 h8 a11 x1 x2 x4 x5 x6) (⟨0, by decide⟩ : Fin 8) 2 (stV x1 x2 x4 x5 x6 (k0_pay2 (F := F)) 0) :=
  Done.step x1 x2 x4 x5 x6 (n := (⟨0, by decide⟩ : Fin 8)) (h := (⟨1, by decide⟩ : Fin 4)) (L := (kernelRun0_A.sl.HS0_2 c a3 h3 a4 h4 a6 h6 a7 h7 a8 h8 a11 x1 x2 x4 x5 x6)) (st := (stV x1 x2 x4 x5 x6 (k0_pay2 (F := F)) 0)) ((doneA_0 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨0, by decide⟩ : Fin 8) (⟨1, by decide⟩ : Fin 4) (a11.view.readCov (kernelRun0_A.sl.HS0_2 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨0, by decide⟩ : Fin 8) (⟨1, by decide⟩ : Fin 4) _).trans (congrArg _ (Todo.read (todoA_0 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_1 : Todo (kernelRun0_A.sl.HS0_3 c a3 h3 a4 h4 a6 h6 a7 h7 a8 h8 a11 x1 x2 x4 x5 x6) 2 (stV x1 x2 x4 x5 x6 (k0_pay2 (F := F)) 0) := Todo.step (h := (⟨1, by decide⟩ : Fin 4)) (L := (kernelRun0_A.sl.HS0_2 c a3 h3 a4 h4 a6 h6 a7 h7 a8 h8 a11 x1 x2 x4 x5 x6)) (st := (stV x1 x2 x4 x5 x6 (k0_pay2 (F := F)) 0)) (todoA_0 c i a2 h2 a3 h3 a4 h4 a5 h5 a6 h6 a7 h7 a8 h8 a9 h9 a10 h10 a11 h11 x0 x1 x2 x3 x4 x5 x6 x7)

theorem doneA_2 : Done x1 x2 x4 x5 x6 (kernelRun0_A.sl.HS0_4 c a3 h3 a4 h4 a6 h6 a7 h7 a8 h8 a11 x1 x2 x4 x5 x6) (⟨0, by decide⟩ : Fin 8) 3 (stV x1 x2 x4 x5 x6 (k0_pay2 (F := F)) 0) :=
  Done.step x1 x2 x4 x5 x6 (n := (⟨0, by decide⟩ : Fin 8)) (h := (⟨2, by decide⟩ : Fin 4)) (L := (kernelRun0_A.sl.HS0_3 c a3 h3 a4 h4 a6 h6 a7 h7 a8 h8 a11 x1 x2 x4 x5 x6)) (st := (stV x1 x2 x4 x5 x6 (k0_pay2 (F := F)) 0)) ((doneA_1 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨0, by decide⟩ : Fin 8) (⟨2, by decide⟩ : Fin 4) (a11.view.readCov (kernelRun0_A.sl.HS0_3 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨0, by decide⟩ : Fin 8) (⟨2, by decide⟩ : Fin 4) _).trans (congrArg _ (Todo.read (todoA_1 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_2 : Todo (kernelRun0_A.sl.HS0_4 c a3 h3 a4 h4 a6 h6 a7 h7 a8 h8 a11 x1 x2 x4 x5 x6) 3 (stV x1 x2 x4 x5 x6 (k0_pay2 (F := F)) 0) := Todo.step (h := (⟨2, by decide⟩ : Fin 4)) (L := (kernelRun0_A.sl.HS0_3 c a3 h3 a4 h4 a6 h6 a7 h7 a8 h8 a11 x1 x2 x4 x5 x6)) (st := (stV x1 x2 x4 x5 x6 (k0_pay2 (F := F)) 0)) (todoA_1 c i a2 h2 a3 h3 a4 h4 a5 h5 a6 h6 a7 h7 a8 h8 a9 h9 a10 h10 a11 h11 x0 x1 x2 x3 x4 x5 x6 x7)

theorem doneA_3 : Done x1 x2 x4 x5 x6 (kernelRun0_A.sl.HS0_5 c a3 h3 a4 h4 a6 h6 a7 h7 a8 h8 a11 x1 x2 x4 x5 x6) (⟨0, by decide⟩ : Fin 8) 4 (stV x1 x2 x4 x5 x6 (k0_pay2 (F := F)) 0) :=
  Done.step x1 x2 x4 x5 x6 (n := (⟨0, by decide⟩ : Fin 8)) (h := (⟨3, by decide⟩ : Fin 4)) (L := (kernelRun0_A.sl.HS0_4 c a3 h3 a4 h4 a6 h6 a7 h7 a8 h8 a11 x1 x2 x4 x5 x6)) (st := (stV x1 x2 x4 x5 x6 (k0_pay2 (F := F)) 0)) ((doneA_2 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨0, by decide⟩ : Fin 8) (⟨3, by decide⟩ : Fin 4) (a11.view.readCov (kernelRun0_A.sl.HS0_4 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨0, by decide⟩ : Fin 8) (⟨3, by decide⟩ : Fin 4) _).trans (congrArg _ (Todo.read (todoA_2 c i a2 h2 a3 h3 a4 h4 a5 h5 a6 h6 a7 h7 a8 h8 a9 h9 a10 h10 a11 h11 x0 x1 x2 x3 x4 x5 x6 x7) (⟨3, by decide⟩ : Fin 4) (Nat.le_refl _) a11.view))))

theorem todoA_3 : Todo (kernelRun0_A.sl.HS0_5 c a3 h3 a4 h4 a6 h6 a7 h7 a8 h8 a11 x1 x2 x4 x5 x6) 0 (stV x1 x2 x4 x5 x6 (k0_pay2 (F := F)) 1) := Done.nextV x1 x2 x4 x5 x6 (n := (⟨0, by decide⟩ : Fin 8)) (doneA_3 c i a2 h2 a3 h3 a4 h4 a5 h5 a6 h6 a7 h7 a8 h8 a9 h9 a10 h10 a11 h11 x0 x1 x2 x3 x4 x5 x6 x7)

theorem doneA_4 : Done x1 x2 x4 x5 x6 (kernelRun0_A.sl.HS0_6 c a3 h3 a4 h4 a6 h6 a7 h7 a8 h8 a11 x1 x2 x4 x5 x6) (⟨1, by decide⟩ : Fin 8) 1 (stV x1 x2 x4 x5 x6 (k0_pay2 (F := F)) 1) :=
  Done.step x1 x2 x4 x5 x6 (n := (⟨1, by decide⟩ : Fin 8)) (h := (⟨0, by decide⟩ : Fin 4)) (L := (kernelRun0_A.sl.HS0_5 c a3 h3 a4 h4 a6 h6 a7 h7 a8 h8 a11 x1 x2 x4 x5 x6)) (st := (stV x1 x2 x4 x5 x6 (k0_pay2 (F := F)) 1)) (Done.zero x1 x2 x4 x5 x6 (kernelRun0_A.sl.HS0_5 c a3 h3 a4 h4 a6 h6 a7 h7 a8 h8 a11 x1 x2 x4 x5 x6) (⟨1, by decide⟩ : Fin 8) (stV x1 x2 x4 x5 x6 (k0_pay2 (F := F)) 1))
    ((rfl : _ = updR a3 h3 a4 h4 a6 h6 a7 h7 a8 h8 x1 x2 x4 x5 x6 (⟨1, by decide⟩ : Fin 8) (⟨0, by decide⟩ : Fin 4) (a11.view.readCov (kernelRun0_A.sl.HS0_5 c a3 h3 a4 h4 a6 h6 a7 h7 a8 h8 a11 x1 x2 x4 x5 x6) (rSt (⟨0, by decide⟩ : Fin 4)).toLoadRect)).trans
      ((updR_eq a3 h3 a4 h4 a6 h6 a7 h7 a8 h8 x1 x2 x4 x5 x6 (⟨1, by decide⟩ : Fin 8) (⟨0, by decide⟩ : Fin 4) _).trans (congrArg _ (Todo.read (todoA_3 c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_4 : Todo (kernelRun0_A.sl.HS0_6 c a3 h3 a4 h4 a6 h6 a7 h7 a8 h8 a11 x1 x2 x4 x5 x6) 1 (stV x1 x2 x4 x5 x6 (k0_pay2 (F := F)) 1) := Todo.step (h := (⟨0, by decide⟩ : Fin 4)) (L := (kernelRun0_A.sl.HS0_5 c a3 h3 a4 h4 a6 h6 a7 h7 a8 h8 a11 x1 x2 x4 x5 x6)) (st := (stV x1 x2 x4 x5 x6 (k0_pay2 (F := F)) 1)) (todoA_3 c i a2 h2 a3 h3 a4 h4 a5 h5 a6 h6 a7 h7 a8 h8 a9 h9 a10 h10 a11 h11 x0 x1 x2 x3 x4 x5 x6 x7)

theorem doneA_5 : Done x1 x2 x4 x5 x6 (kernelRun0_A.sl.HS0_7 c a3 h3 a4 h4 a6 h6 a7 h7 a8 h8 a11 x1 x2 x4 x5 x6) (⟨1, by decide⟩ : Fin 8) 2 (stV x1 x2 x4 x5 x6 (k0_pay2 (F := F)) 1) :=
  Done.step x1 x2 x4 x5 x6 (n := (⟨1, by decide⟩ : Fin 8)) (h := (⟨1, by decide⟩ : Fin 4)) (L := (kernelRun0_A.sl.HS0_6 c a3 h3 a4 h4 a6 h6 a7 h7 a8 h8 a11 x1 x2 x4 x5 x6)) (st := (stV x1 x2 x4 x5 x6 (k0_pay2 (F := F)) 1)) ((doneA_4 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨1, by decide⟩ : Fin 8) (⟨1, by decide⟩ : Fin 4) (a11.view.readCov (kernelRun0_A.sl.HS0_6 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨1, by decide⟩ : Fin 8) (⟨1, by decide⟩ : Fin 4) _).trans (congrArg _ (Todo.read (todoA_4 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_5 : Todo (kernelRun0_A.sl.HS0_7 c a3 h3 a4 h4 a6 h6 a7 h7 a8 h8 a11 x1 x2 x4 x5 x6) 2 (stV x1 x2 x4 x5 x6 (k0_pay2 (F := F)) 1) := Todo.step (h := (⟨1, by decide⟩ : Fin 4)) (L := (kernelRun0_A.sl.HS0_6 c a3 h3 a4 h4 a6 h6 a7 h7 a8 h8 a11 x1 x2 x4 x5 x6)) (st := (stV x1 x2 x4 x5 x6 (k0_pay2 (F := F)) 1)) (todoA_4 c i a2 h2 a3 h3 a4 h4 a5 h5 a6 h6 a7 h7 a8 h8 a9 h9 a10 h10 a11 h11 x0 x1 x2 x3 x4 x5 x6 x7)

theorem doneA_6 : Done x1 x2 x4 x5 x6 (kernelRun0_A.sl.HS0_8 c a3 h3 a4 h4 a6 h6 a7 h7 a8 h8 a11 x1 x2 x4 x5 x6) (⟨1, by decide⟩ : Fin 8) 3 (stV x1 x2 x4 x5 x6 (k0_pay2 (F := F)) 1) :=
  Done.step x1 x2 x4 x5 x6 (n := (⟨1, by decide⟩ : Fin 8)) (h := (⟨2, by decide⟩ : Fin 4)) (L := (kernelRun0_A.sl.HS0_7 c a3 h3 a4 h4 a6 h6 a7 h7 a8 h8 a11 x1 x2 x4 x5 x6)) (st := (stV x1 x2 x4 x5 x6 (k0_pay2 (F := F)) 1)) ((doneA_5 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨1, by decide⟩ : Fin 8) (⟨2, by decide⟩ : Fin 4) (a11.view.readCov (kernelRun0_A.sl.HS0_7 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨1, by decide⟩ : Fin 8) (⟨2, by decide⟩ : Fin 4) _).trans (congrArg _ (Todo.read (todoA_5 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_6 : Todo (kernelRun0_A.sl.HS0_8 c a3 h3 a4 h4 a6 h6 a7 h7 a8 h8 a11 x1 x2 x4 x5 x6) 3 (stV x1 x2 x4 x5 x6 (k0_pay2 (F := F)) 1) := Todo.step (h := (⟨2, by decide⟩ : Fin 4)) (L := (kernelRun0_A.sl.HS0_7 c a3 h3 a4 h4 a6 h6 a7 h7 a8 h8 a11 x1 x2 x4 x5 x6)) (st := (stV x1 x2 x4 x5 x6 (k0_pay2 (F := F)) 1)) (todoA_5 c i a2 h2 a3 h3 a4 h4 a5 h5 a6 h6 a7 h7 a8 h8 a9 h9 a10 h10 a11 h11 x0 x1 x2 x3 x4 x5 x6 x7)

theorem doneA_7 : Done x1 x2 x4 x5 x6 (kernelRun0_A.sl.HS0_9 c a3 h3 a4 h4 a6 h6 a7 h7 a8 h8 a11 x1 x2 x4 x5 x6) (⟨1, by decide⟩ : Fin 8) 4 (stV x1 x2 x4 x5 x6 (k0_pay2 (F := F)) 1) :=
  Done.step x1 x2 x4 x5 x6 (n := (⟨1, by decide⟩ : Fin 8)) (h := (⟨3, by decide⟩ : Fin 4)) (L := (kernelRun0_A.sl.HS0_8 c a3 h3 a4 h4 a6 h6 a7 h7 a8 h8 a11 x1 x2 x4 x5 x6)) (st := (stV x1 x2 x4 x5 x6 (k0_pay2 (F := F)) 1)) ((doneA_6 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨1, by decide⟩ : Fin 8) (⟨3, by decide⟩ : Fin 4) (a11.view.readCov (kernelRun0_A.sl.HS0_8 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨1, by decide⟩ : Fin 8) (⟨3, by decide⟩ : Fin 4) _).trans (congrArg _ (Todo.read (todoA_6 c i a2 h2 a3 h3 a4 h4 a5 h5 a6 h6 a7 h7 a8 h8 a9 h9 a10 h10 a11 h11 x0 x1 x2 x3 x4 x5 x6 x7) (⟨3, by decide⟩ : Fin 4) (Nat.le_refl _) a11.view))))

theorem todoA_7 : Todo (kernelRun0_A.sl.HS0_9 c a3 h3 a4 h4 a6 h6 a7 h7 a8 h8 a11 x1 x2 x4 x5 x6) 0 (stV x1 x2 x4 x5 x6 (k0_pay2 (F := F)) 2) := Done.nextV x1 x2 x4 x5 x6 (n := (⟨1, by decide⟩ : Fin 8)) (doneA_7 c i a2 h2 a3 h3 a4 h4 a5 h5 a6 h6 a7 h7 a8 h8 a9 h9 a10 h10 a11 h11 x0 x1 x2 x3 x4 x5 x6 x7)

theorem doneA_8 : Done x1 x2 x4 x5 x6 (kernelRun0_A.sl.HS0_10 c a3 h3 a4 h4 a6 h6 a7 h7 a8 h8 a11 x1 x2 x4 x5 x6) (⟨2, by decide⟩ : Fin 8) 1 (stV x1 x2 x4 x5 x6 (k0_pay2 (F := F)) 2) :=
  Done.step x1 x2 x4 x5 x6 (n := (⟨2, by decide⟩ : Fin 8)) (h := (⟨0, by decide⟩ : Fin 4)) (L := (kernelRun0_A.sl.HS0_9 c a3 h3 a4 h4 a6 h6 a7 h7 a8 h8 a11 x1 x2 x4 x5 x6)) (st := (stV x1 x2 x4 x5 x6 (k0_pay2 (F := F)) 2)) (Done.zero x1 x2 x4 x5 x6 (kernelRun0_A.sl.HS0_9 c a3 h3 a4 h4 a6 h6 a7 h7 a8 h8 a11 x1 x2 x4 x5 x6) (⟨2, by decide⟩ : Fin 8) (stV x1 x2 x4 x5 x6 (k0_pay2 (F := F)) 2))
    ((rfl : _ = updR a3 h3 a4 h4 a6 h6 a7 h7 a8 h8 x1 x2 x4 x5 x6 (⟨2, by decide⟩ : Fin 8) (⟨0, by decide⟩ : Fin 4) (a11.view.readCov (kernelRun0_A.sl.HS0_9 c a3 h3 a4 h4 a6 h6 a7 h7 a8 h8 a11 x1 x2 x4 x5 x6) (rSt (⟨0, by decide⟩ : Fin 4)).toLoadRect)).trans
      ((updR_eq a3 h3 a4 h4 a6 h6 a7 h7 a8 h8 x1 x2 x4 x5 x6 (⟨2, by decide⟩ : Fin 8) (⟨0, by decide⟩ : Fin 4) _).trans (congrArg _ (Todo.read (todoA_7 c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_8 : Todo (kernelRun0_A.sl.HS0_10 c a3 h3 a4 h4 a6 h6 a7 h7 a8 h8 a11 x1 x2 x4 x5 x6) 1 (stV x1 x2 x4 x5 x6 (k0_pay2 (F := F)) 2) := Todo.step (h := (⟨0, by decide⟩ : Fin 4)) (L := (kernelRun0_A.sl.HS0_9 c a3 h3 a4 h4 a6 h6 a7 h7 a8 h8 a11 x1 x2 x4 x5 x6)) (st := (stV x1 x2 x4 x5 x6 (k0_pay2 (F := F)) 2)) (todoA_7 c i a2 h2 a3 h3 a4 h4 a5 h5 a6 h6 a7 h7 a8 h8 a9 h9 a10 h10 a11 h11 x0 x1 x2 x3 x4 x5 x6 x7)

theorem doneA_9 : Done x1 x2 x4 x5 x6 (kernelRun0_A.sl.HS0_11 c a3 h3 a4 h4 a6 h6 a7 h7 a8 h8 a11 x1 x2 x4 x5 x6) (⟨2, by decide⟩ : Fin 8) 2 (stV x1 x2 x4 x5 x6 (k0_pay2 (F := F)) 2) :=
  Done.step x1 x2 x4 x5 x6 (n := (⟨2, by decide⟩ : Fin 8)) (h := (⟨1, by decide⟩ : Fin 4)) (L := (kernelRun0_A.sl.HS0_10 c a3 h3 a4 h4 a6 h6 a7 h7 a8 h8 a11 x1 x2 x4 x5 x6)) (st := (stV x1 x2 x4 x5 x6 (k0_pay2 (F := F)) 2)) ((doneA_8 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨2, by decide⟩ : Fin 8) (⟨1, by decide⟩ : Fin 4) (a11.view.readCov (kernelRun0_A.sl.HS0_10 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨2, by decide⟩ : Fin 8) (⟨1, by decide⟩ : Fin 4) _).trans (congrArg _ (Todo.read (todoA_8 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_9 : Todo (kernelRun0_A.sl.HS0_11 c a3 h3 a4 h4 a6 h6 a7 h7 a8 h8 a11 x1 x2 x4 x5 x6) 2 (stV x1 x2 x4 x5 x6 (k0_pay2 (F := F)) 2) := Todo.step (h := (⟨1, by decide⟩ : Fin 4)) (L := (kernelRun0_A.sl.HS0_10 c a3 h3 a4 h4 a6 h6 a7 h7 a8 h8 a11 x1 x2 x4 x5 x6)) (st := (stV x1 x2 x4 x5 x6 (k0_pay2 (F := F)) 2)) (todoA_8 c i a2 h2 a3 h3 a4 h4 a5 h5 a6 h6 a7 h7 a8 h8 a9 h9 a10 h10 a11 h11 x0 x1 x2 x3 x4 x5 x6 x7)

theorem doneA_10 : Done x1 x2 x4 x5 x6 (kernelRun0_A.sl.HS0_12 c a3 h3 a4 h4 a6 h6 a7 h7 a8 h8 a11 x1 x2 x4 x5 x6) (⟨2, by decide⟩ : Fin 8) 3 (stV x1 x2 x4 x5 x6 (k0_pay2 (F := F)) 2) :=
  Done.step x1 x2 x4 x5 x6 (n := (⟨2, by decide⟩ : Fin 8)) (h := (⟨2, by decide⟩ : Fin 4)) (L := (kernelRun0_A.sl.HS0_11 c a3 h3 a4 h4 a6 h6 a7 h7 a8 h8 a11 x1 x2 x4 x5 x6)) (st := (stV x1 x2 x4 x5 x6 (k0_pay2 (F := F)) 2)) ((doneA_9 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨2, by decide⟩ : Fin 8) (⟨2, by decide⟩ : Fin 4) (a11.view.readCov (kernelRun0_A.sl.HS0_11 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨2, by decide⟩ : Fin 8) (⟨2, by decide⟩ : Fin 4) _).trans (congrArg _ (Todo.read (todoA_9 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_10 : Todo (kernelRun0_A.sl.HS0_12 c a3 h3 a4 h4 a6 h6 a7 h7 a8 h8 a11 x1 x2 x4 x5 x6) 3 (stV x1 x2 x4 x5 x6 (k0_pay2 (F := F)) 2) := Todo.step (h := (⟨2, by decide⟩ : Fin 4)) (L := (kernelRun0_A.sl.HS0_11 c a3 h3 a4 h4 a6 h6 a7 h7 a8 h8 a11 x1 x2 x4 x5 x6)) (st := (stV x1 x2 x4 x5 x6 (k0_pay2 (F := F)) 2)) (todoA_9 c i a2 h2 a3 h3 a4 h4 a5 h5 a6 h6 a7 h7 a8 h8 a9 h9 a10 h10 a11 h11 x0 x1 x2 x3 x4 x5 x6 x7)

theorem doneA_11 : Done x1 x2 x4 x5 x6 (kernelRun0_A.sl.HS0_13 c a3 h3 a4 h4 a6 h6 a7 h7 a8 h8 a11 x1 x2 x4 x5 x6) (⟨2, by decide⟩ : Fin 8) 4 (stV x1 x2 x4 x5 x6 (k0_pay2 (F := F)) 2) :=
  Done.step x1 x2 x4 x5 x6 (n := (⟨2, by decide⟩ : Fin 8)) (h := (⟨3, by decide⟩ : Fin 4)) (L := (kernelRun0_A.sl.HS0_12 c a3 h3 a4 h4 a6 h6 a7 h7 a8 h8 a11 x1 x2 x4 x5 x6)) (st := (stV x1 x2 x4 x5 x6 (k0_pay2 (F := F)) 2)) ((doneA_10 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨2, by decide⟩ : Fin 8) (⟨3, by decide⟩ : Fin 4) (a11.view.readCov (kernelRun0_A.sl.HS0_12 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨2, by decide⟩ : Fin 8) (⟨3, by decide⟩ : Fin 4) _).trans (congrArg _ (Todo.read (todoA_10 c i a2 h2 a3 h3 a4 h4 a5 h5 a6 h6 a7 h7 a8 h8 a9 h9 a10 h10 a11 h11 x0 x1 x2 x3 x4 x5 x6 x7) (⟨3, by decide⟩ : Fin 4) (Nat.le_refl _) a11.view))))

theorem todoA_11 : Todo (kernelRun0_A.sl.HS0_13 c a3 h3 a4 h4 a6 h6 a7 h7 a8 h8 a11 x1 x2 x4 x5 x6) 0 (stV x1 x2 x4 x5 x6 (k0_pay2 (F := F)) 3) := Done.nextV x1 x2 x4 x5 x6 (n := (⟨2, by decide⟩ : Fin 8)) (doneA_11 c i a2 h2 a3 h3 a4 h4 a5 h5 a6 h6 a7 h7 a8 h8 a9 h9 a10 h10 a11 h11 x0 x1 x2 x3 x4 x5 x6 x7)

theorem doneA_12 : Done x1 x2 x4 x5 x6 (kernelRun0_A.sl.HS0_14 c a3 h3 a4 h4 a6 h6 a7 h7 a8 h8 a11 x1 x2 x4 x5 x6) (⟨3, by decide⟩ : Fin 8) 1 (stV x1 x2 x4 x5 x6 (k0_pay2 (F := F)) 3) :=
  Done.step x1 x2 x4 x5 x6 (n := (⟨3, by decide⟩ : Fin 8)) (h := (⟨0, by decide⟩ : Fin 4)) (L := (kernelRun0_A.sl.HS0_13 c a3 h3 a4 h4 a6 h6 a7 h7 a8 h8 a11 x1 x2 x4 x5 x6)) (st := (stV x1 x2 x4 x5 x6 (k0_pay2 (F := F)) 3)) (Done.zero x1 x2 x4 x5 x6 (kernelRun0_A.sl.HS0_13 c a3 h3 a4 h4 a6 h6 a7 h7 a8 h8 a11 x1 x2 x4 x5 x6) (⟨3, by decide⟩ : Fin 8) (stV x1 x2 x4 x5 x6 (k0_pay2 (F := F)) 3))
    ((rfl : _ = updR a3 h3 a4 h4 a6 h6 a7 h7 a8 h8 x1 x2 x4 x5 x6 (⟨3, by decide⟩ : Fin 8) (⟨0, by decide⟩ : Fin 4) (a11.view.readCov (kernelRun0_A.sl.HS0_13 c a3 h3 a4 h4 a6 h6 a7 h7 a8 h8 a11 x1 x2 x4 x5 x6) (rSt (⟨0, by decide⟩ : Fin 4)).toLoadRect)).trans
      ((updR_eq a3 h3 a4 h4 a6 h6 a7 h7 a8 h8 x1 x2 x4 x5 x6 (⟨3, by decide⟩ : Fin 8) (⟨0, by decide⟩ : Fin 4) _).trans (congrArg _ (Todo.read (todoA_11 c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_12 : Todo (kernelRun0_A.sl.HS0_14 c a3 h3 a4 h4 a6 h6 a7 h7 a8 h8 a11 x1 x2 x4 x5 x6) 1 (stV x1 x2 x4 x5 x6 (k0_pay2 (F := F)) 3) := Todo.step (h := (⟨0, by decide⟩ : Fin 4)) (L := (kernelRun0_A.sl.HS0_13 c a3 h3 a4 h4 a6 h6 a7 h7 a8 h8 a11 x1 x2 x4 x5 x6)) (st := (stV x1 x2 x4 x5 x6 (k0_pay2 (F := F)) 3)) (todoA_11 c i a2 h2 a3 h3 a4 h4 a5 h5 a6 h6 a7 h7 a8 h8 a9 h9 a10 h10 a11 h11 x0 x1 x2 x3 x4 x5 x6 x7)

theorem doneA_13 : Done x1 x2 x4 x5 x6 (kernelRun0_A.sl.HS0_15 c a3 h3 a4 h4 a6 h6 a7 h7 a8 h8 a11 x1 x2 x4 x5 x6) (⟨3, by decide⟩ : Fin 8) 2 (stV x1 x2 x4 x5 x6 (k0_pay2 (F := F)) 3) :=
  Done.step x1 x2 x4 x5 x6 (n := (⟨3, by decide⟩ : Fin 8)) (h := (⟨1, by decide⟩ : Fin 4)) (L := (kernelRun0_A.sl.HS0_14 c a3 h3 a4 h4 a6 h6 a7 h7 a8 h8 a11 x1 x2 x4 x5 x6)) (st := (stV x1 x2 x4 x5 x6 (k0_pay2 (F := F)) 3)) ((doneA_12 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨3, by decide⟩ : Fin 8) (⟨1, by decide⟩ : Fin 4) (a11.view.readCov (kernelRun0_A.sl.HS0_14 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨3, by decide⟩ : Fin 8) (⟨1, by decide⟩ : Fin 4) _).trans (congrArg _ (Todo.read (todoA_12 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_13 : Todo (kernelRun0_A.sl.HS0_15 c a3 h3 a4 h4 a6 h6 a7 h7 a8 h8 a11 x1 x2 x4 x5 x6) 2 (stV x1 x2 x4 x5 x6 (k0_pay2 (F := F)) 3) := Todo.step (h := (⟨1, by decide⟩ : Fin 4)) (L := (kernelRun0_A.sl.HS0_14 c a3 h3 a4 h4 a6 h6 a7 h7 a8 h8 a11 x1 x2 x4 x5 x6)) (st := (stV x1 x2 x4 x5 x6 (k0_pay2 (F := F)) 3)) (todoA_12 c i a2 h2 a3 h3 a4 h4 a5 h5 a6 h6 a7 h7 a8 h8 a9 h9 a10 h10 a11 h11 x0 x1 x2 x3 x4 x5 x6 x7)

theorem doneA_14 : Done x1 x2 x4 x5 x6 (kernelRun0_A.sl.HS0_16 c a3 h3 a4 h4 a6 h6 a7 h7 a8 h8 a11 x1 x2 x4 x5 x6) (⟨3, by decide⟩ : Fin 8) 3 (stV x1 x2 x4 x5 x6 (k0_pay2 (F := F)) 3) :=
  Done.step x1 x2 x4 x5 x6 (n := (⟨3, by decide⟩ : Fin 8)) (h := (⟨2, by decide⟩ : Fin 4)) (L := (kernelRun0_A.sl.HS0_15 c a3 h3 a4 h4 a6 h6 a7 h7 a8 h8 a11 x1 x2 x4 x5 x6)) (st := (stV x1 x2 x4 x5 x6 (k0_pay2 (F := F)) 3)) ((doneA_13 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨3, by decide⟩ : Fin 8) (⟨2, by decide⟩ : Fin 4) (a11.view.readCov (kernelRun0_A.sl.HS0_15 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨3, by decide⟩ : Fin 8) (⟨2, by decide⟩ : Fin 4) _).trans (congrArg _ (Todo.read (todoA_13 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_14 : Todo (kernelRun0_A.sl.HS0_16 c a3 h3 a4 h4 a6 h6 a7 h7 a8 h8 a11 x1 x2 x4 x5 x6) 3 (stV x1 x2 x4 x5 x6 (k0_pay2 (F := F)) 3) := Todo.step (h := (⟨2, by decide⟩ : Fin 4)) (L := (kernelRun0_A.sl.HS0_15 c a3 h3 a4 h4 a6 h6 a7 h7 a8 h8 a11 x1 x2 x4 x5 x6)) (st := (stV x1 x2 x4 x5 x6 (k0_pay2 (F := F)) 3)) (todoA_13 c i a2 h2 a3 h3 a4 h4 a5 h5 a6 h6 a7 h7 a8 h8 a9 h9 a10 h10 a11 h11 x0 x1 x2 x3 x4 x5 x6 x7)

theorem doneA_15 : Done x1 x2 x4 x5 x6 (kernelRun0_A.sl.HS0_17 c a3 h3 a4 h4 a6 h6 a7 h7 a8 h8 a11 x1 x2 x4 x5 x6) (⟨3, by decide⟩ : Fin 8) 4 (stV x1 x2 x4 x5 x6 (k0_pay2 (F := F)) 3) :=
  Done.step x1 x2 x4 x5 x6 (n := (⟨3, by decide⟩ : Fin 8)) (h := (⟨3, by decide⟩ : Fin 4)) (L := (kernelRun0_A.sl.HS0_16 c a3 h3 a4 h4 a6 h6 a7 h7 a8 h8 a11 x1 x2 x4 x5 x6)) (st := (stV x1 x2 x4 x5 x6 (k0_pay2 (F := F)) 3)) ((doneA_14 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨3, by decide⟩ : Fin 8) (⟨3, by decide⟩ : Fin 4) (a11.view.readCov (kernelRun0_A.sl.HS0_16 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨3, by decide⟩ : Fin 8) (⟨3, by decide⟩ : Fin 4) _).trans (congrArg _ (Todo.read (todoA_14 c i a2 h2 a3 h3 a4 h4 a5 h5 a6 h6 a7 h7 a8 h8 a9 h9 a10 h10 a11 h11 x0 x1 x2 x3 x4 x5 x6 x7) (⟨3, by decide⟩ : Fin 4) (Nat.le_refl _) a11.view))))

theorem todoA_15 : Todo (kernelRun0_A.sl.HS0_17 c a3 h3 a4 h4 a6 h6 a7 h7 a8 h8 a11 x1 x2 x4 x5 x6) 0 (stV x1 x2 x4 x5 x6 (k0_pay2 (F := F)) 4) := Done.nextV x1 x2 x4 x5 x6 (n := (⟨3, by decide⟩ : Fin 8)) (doneA_15 c i a2 h2 a3 h3 a4 h4 a5 h5 a6 h6 a7 h7 a8 h8 a9 h9 a10 h10 a11 h11 x0 x1 x2 x3 x4 x5 x6 x7)

theorem doneA_16 : Done x1 x2 x4 x5 x6 (kernelRun0_A.sl.HS0_18 c a3 h3 a4 h4 a6 h6 a7 h7 a8 h8 a11 x1 x2 x4 x5 x6) (⟨4, by decide⟩ : Fin 8) 1 (stV x1 x2 x4 x5 x6 (k0_pay2 (F := F)) 4) :=
  Done.step x1 x2 x4 x5 x6 (n := (⟨4, by decide⟩ : Fin 8)) (h := (⟨0, by decide⟩ : Fin 4)) (L := (kernelRun0_A.sl.HS0_17 c a3 h3 a4 h4 a6 h6 a7 h7 a8 h8 a11 x1 x2 x4 x5 x6)) (st := (stV x1 x2 x4 x5 x6 (k0_pay2 (F := F)) 4)) (Done.zero x1 x2 x4 x5 x6 (kernelRun0_A.sl.HS0_17 c a3 h3 a4 h4 a6 h6 a7 h7 a8 h8 a11 x1 x2 x4 x5 x6) (⟨4, by decide⟩ : Fin 8) (stV x1 x2 x4 x5 x6 (k0_pay2 (F := F)) 4))
    ((rfl : _ = updR a3 h3 a4 h4 a6 h6 a7 h7 a8 h8 x1 x2 x4 x5 x6 (⟨4, by decide⟩ : Fin 8) (⟨0, by decide⟩ : Fin 4) (a11.view.readCov (kernelRun0_A.sl.HS0_17 c a3 h3 a4 h4 a6 h6 a7 h7 a8 h8 a11 x1 x2 x4 x5 x6) (rSt (⟨0, by decide⟩ : Fin 4)).toLoadRect)).trans
      ((updR_eq a3 h3 a4 h4 a6 h6 a7 h7 a8 h8 x1 x2 x4 x5 x6 (⟨4, by decide⟩ : Fin 8) (⟨0, by decide⟩ : Fin 4) _).trans (congrArg _ (Todo.read (todoA_15 c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_16 : Todo (kernelRun0_A.sl.HS0_18 c a3 h3 a4 h4 a6 h6 a7 h7 a8 h8 a11 x1 x2 x4 x5 x6) 1 (stV x1 x2 x4 x5 x6 (k0_pay2 (F := F)) 4) := Todo.step (h := (⟨0, by decide⟩ : Fin 4)) (L := (kernelRun0_A.sl.HS0_17 c a3 h3 a4 h4 a6 h6 a7 h7 a8 h8 a11 x1 x2 x4 x5 x6)) (st := (stV x1 x2 x4 x5 x6 (k0_pay2 (F := F)) 4)) (todoA_15 c i a2 h2 a3 h3 a4 h4 a5 h5 a6 h6 a7 h7 a8 h8 a9 h9 a10 h10 a11 h11 x0 x1 x2 x3 x4 x5 x6 x7)

theorem doneA_17 : Done x1 x2 x4 x5 x6 (kernelRun0_A.sl.HS0_19 c a3 h3 a4 h4 a6 h6 a7 h7 a8 h8 a11 x1 x2 x4 x5 x6) (⟨4, by decide⟩ : Fin 8) 2 (stV x1 x2 x4 x5 x6 (k0_pay2 (F := F)) 4) :=
  Done.step x1 x2 x4 x5 x6 (n := (⟨4, by decide⟩ : Fin 8)) (h := (⟨1, by decide⟩ : Fin 4)) (L := (kernelRun0_A.sl.HS0_18 c a3 h3 a4 h4 a6 h6 a7 h7 a8 h8 a11 x1 x2 x4 x5 x6)) (st := (stV x1 x2 x4 x5 x6 (k0_pay2 (F := F)) 4)) ((doneA_16 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨4, by decide⟩ : Fin 8) (⟨1, by decide⟩ : Fin 4) (a11.view.readCov (kernelRun0_A.sl.HS0_18 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨4, by decide⟩ : Fin 8) (⟨1, by decide⟩ : Fin 4) _).trans (congrArg _ (Todo.read (todoA_16 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_17 : Todo (kernelRun0_A.sl.HS0_19 c a3 h3 a4 h4 a6 h6 a7 h7 a8 h8 a11 x1 x2 x4 x5 x6) 2 (stV x1 x2 x4 x5 x6 (k0_pay2 (F := F)) 4) := Todo.step (h := (⟨1, by decide⟩ : Fin 4)) (L := (kernelRun0_A.sl.HS0_18 c a3 h3 a4 h4 a6 h6 a7 h7 a8 h8 a11 x1 x2 x4 x5 x6)) (st := (stV x1 x2 x4 x5 x6 (k0_pay2 (F := F)) 4)) (todoA_16 c i a2 h2 a3 h3 a4 h4 a5 h5 a6 h6 a7 h7 a8 h8 a9 h9 a10 h10 a11 h11 x0 x1 x2 x3 x4 x5 x6 x7)

theorem doneA_18 : Done x1 x2 x4 x5 x6 (kernelRun0_A.sl.HS0_20 c a3 h3 a4 h4 a6 h6 a7 h7 a8 h8 a11 x1 x2 x4 x5 x6) (⟨4, by decide⟩ : Fin 8) 3 (stV x1 x2 x4 x5 x6 (k0_pay2 (F := F)) 4) :=
  Done.step x1 x2 x4 x5 x6 (n := (⟨4, by decide⟩ : Fin 8)) (h := (⟨2, by decide⟩ : Fin 4)) (L := (kernelRun0_A.sl.HS0_19 c a3 h3 a4 h4 a6 h6 a7 h7 a8 h8 a11 x1 x2 x4 x5 x6)) (st := (stV x1 x2 x4 x5 x6 (k0_pay2 (F := F)) 4)) ((doneA_17 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨4, by decide⟩ : Fin 8) (⟨2, by decide⟩ : Fin 4) (a11.view.readCov (kernelRun0_A.sl.HS0_19 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨4, by decide⟩ : Fin 8) (⟨2, by decide⟩ : Fin 4) _).trans (congrArg _ (Todo.read (todoA_17 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_18 : Todo (kernelRun0_A.sl.HS0_20 c a3 h3 a4 h4 a6 h6 a7 h7 a8 h8 a11 x1 x2 x4 x5 x6) 3 (stV x1 x2 x4 x5 x6 (k0_pay2 (F := F)) 4) := Todo.step (h := (⟨2, by decide⟩ : Fin 4)) (L := (kernelRun0_A.sl.HS0_19 c a3 h3 a4 h4 a6 h6 a7 h7 a8 h8 a11 x1 x2 x4 x5 x6)) (st := (stV x1 x2 x4 x5 x6 (k0_pay2 (F := F)) 4)) (todoA_17 c i a2 h2 a3 h3 a4 h4 a5 h5 a6 h6 a7 h7 a8 h8 a9 h9 a10 h10 a11 h11 x0 x1 x2 x3 x4 x5 x6 x7)

theorem doneA_19 : Done x1 x2 x4 x5 x6 (kernelRun0_A.sl.HS0_21 c a3 h3 a4 h4 a6 h6 a7 h7 a8 h8 a11 x1 x2 x4 x5 x6) (⟨4, by decide⟩ : Fin 8) 4 (stV x1 x2 x4 x5 x6 (k0_pay2 (F := F)) 4) :=
  Done.step x1 x2 x4 x5 x6 (n := (⟨4, by decide⟩ : Fin 8)) (h := (⟨3, by decide⟩ : Fin 4)) (L := (kernelRun0_A.sl.HS0_20 c a3 h3 a4 h4 a6 h6 a7 h7 a8 h8 a11 x1 x2 x4 x5 x6)) (st := (stV x1 x2 x4 x5 x6 (k0_pay2 (F := F)) 4)) ((doneA_18 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨4, by decide⟩ : Fin 8) (⟨3, by decide⟩ : Fin 4) (a11.view.readCov (kernelRun0_A.sl.HS0_20 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨4, by decide⟩ : Fin 8) (⟨3, by decide⟩ : Fin 4) _).trans (congrArg _ (Todo.read (todoA_18 c i a2 h2 a3 h3 a4 h4 a5 h5 a6 h6 a7 h7 a8 h8 a9 h9 a10 h10 a11 h11 x0 x1 x2 x3 x4 x5 x6 x7) (⟨3, by decide⟩ : Fin 4) (Nat.le_refl _) a11.view))))

theorem todoA_19 : Todo (kernelRun0_A.sl.HS0_21 c a3 h3 a4 h4 a6 h6 a7 h7 a8 h8 a11 x1 x2 x4 x5 x6) 0 (stV x1 x2 x4 x5 x6 (k0_pay2 (F := F)) 5) := Done.nextV x1 x2 x4 x5 x6 (n := (⟨4, by decide⟩ : Fin 8)) (doneA_19 c i a2 h2 a3 h3 a4 h4 a5 h5 a6 h6 a7 h7 a8 h8 a9 h9 a10 h10 a11 h11 x0 x1 x2 x3 x4 x5 x6 x7)

theorem doneA_20 : Done x1 x2 x4 x5 x6 (kernelRun0_A.sl.HS0_22 c a3 h3 a4 h4 a6 h6 a7 h7 a8 h8 a11 x1 x2 x4 x5 x6) (⟨5, by decide⟩ : Fin 8) 1 (stV x1 x2 x4 x5 x6 (k0_pay2 (F := F)) 5) :=
  Done.step x1 x2 x4 x5 x6 (n := (⟨5, by decide⟩ : Fin 8)) (h := (⟨0, by decide⟩ : Fin 4)) (L := (kernelRun0_A.sl.HS0_21 c a3 h3 a4 h4 a6 h6 a7 h7 a8 h8 a11 x1 x2 x4 x5 x6)) (st := (stV x1 x2 x4 x5 x6 (k0_pay2 (F := F)) 5)) (Done.zero x1 x2 x4 x5 x6 (kernelRun0_A.sl.HS0_21 c a3 h3 a4 h4 a6 h6 a7 h7 a8 h8 a11 x1 x2 x4 x5 x6) (⟨5, by decide⟩ : Fin 8) (stV x1 x2 x4 x5 x6 (k0_pay2 (F := F)) 5))
    ((rfl : _ = updR a3 h3 a4 h4 a6 h6 a7 h7 a8 h8 x1 x2 x4 x5 x6 (⟨5, by decide⟩ : Fin 8) (⟨0, by decide⟩ : Fin 4) (a11.view.readCov (kernelRun0_A.sl.HS0_21 c a3 h3 a4 h4 a6 h6 a7 h7 a8 h8 a11 x1 x2 x4 x5 x6) (rSt (⟨0, by decide⟩ : Fin 4)).toLoadRect)).trans
      ((updR_eq a3 h3 a4 h4 a6 h6 a7 h7 a8 h8 x1 x2 x4 x5 x6 (⟨5, by decide⟩ : Fin 8) (⟨0, by decide⟩ : Fin 4) _).trans (congrArg _ (Todo.read (todoA_19 c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_20 : Todo (kernelRun0_A.sl.HS0_22 c a3 h3 a4 h4 a6 h6 a7 h7 a8 h8 a11 x1 x2 x4 x5 x6) 1 (stV x1 x2 x4 x5 x6 (k0_pay2 (F := F)) 5) := Todo.step (h := (⟨0, by decide⟩ : Fin 4)) (L := (kernelRun0_A.sl.HS0_21 c a3 h3 a4 h4 a6 h6 a7 h7 a8 h8 a11 x1 x2 x4 x5 x6)) (st := (stV x1 x2 x4 x5 x6 (k0_pay2 (F := F)) 5)) (todoA_19 c i a2 h2 a3 h3 a4 h4 a5 h5 a6 h6 a7 h7 a8 h8 a9 h9 a10 h10 a11 h11 x0 x1 x2 x3 x4 x5 x6 x7)

theorem doneA_21 : Done x1 x2 x4 x5 x6 (kernelRun0_A.sl.HS0_23 c a3 h3 a4 h4 a6 h6 a7 h7 a8 h8 a11 x1 x2 x4 x5 x6) (⟨5, by decide⟩ : Fin 8) 2 (stV x1 x2 x4 x5 x6 (k0_pay2 (F := F)) 5) :=
  Done.step x1 x2 x4 x5 x6 (n := (⟨5, by decide⟩ : Fin 8)) (h := (⟨1, by decide⟩ : Fin 4)) (L := (kernelRun0_A.sl.HS0_22 c a3 h3 a4 h4 a6 h6 a7 h7 a8 h8 a11 x1 x2 x4 x5 x6)) (st := (stV x1 x2 x4 x5 x6 (k0_pay2 (F := F)) 5)) ((doneA_20 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨5, by decide⟩ : Fin 8) (⟨1, by decide⟩ : Fin 4) (a11.view.readCov (kernelRun0_A.sl.HS0_22 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨5, by decide⟩ : Fin 8) (⟨1, by decide⟩ : Fin 4) _).trans (congrArg _ (Todo.read (todoA_20 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_21 : Todo (kernelRun0_A.sl.HS0_23 c a3 h3 a4 h4 a6 h6 a7 h7 a8 h8 a11 x1 x2 x4 x5 x6) 2 (stV x1 x2 x4 x5 x6 (k0_pay2 (F := F)) 5) := Todo.step (h := (⟨1, by decide⟩ : Fin 4)) (L := (kernelRun0_A.sl.HS0_22 c a3 h3 a4 h4 a6 h6 a7 h7 a8 h8 a11 x1 x2 x4 x5 x6)) (st := (stV x1 x2 x4 x5 x6 (k0_pay2 (F := F)) 5)) (todoA_20 c i a2 h2 a3 h3 a4 h4 a5 h5 a6 h6 a7 h7 a8 h8 a9 h9 a10 h10 a11 h11 x0 x1 x2 x3 x4 x5 x6 x7)

theorem doneA_22 : Done x1 x2 x4 x5 x6 (kernelRun0_A.sl.HS0_24 c a3 h3 a4 h4 a6 h6 a7 h7 a8 h8 a11 x1 x2 x4 x5 x6) (⟨5, by decide⟩ : Fin 8) 3 (stV x1 x2 x4 x5 x6 (k0_pay2 (F := F)) 5) :=
  Done.step x1 x2 x4 x5 x6 (n := (⟨5, by decide⟩ : Fin 8)) (h := (⟨2, by decide⟩ : Fin 4)) (L := (kernelRun0_A.sl.HS0_23 c a3 h3 a4 h4 a6 h6 a7 h7 a8 h8 a11 x1 x2 x4 x5 x6)) (st := (stV x1 x2 x4 x5 x6 (k0_pay2 (F := F)) 5)) ((doneA_21 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨5, by decide⟩ : Fin 8) (⟨2, by decide⟩ : Fin 4) (a11.view.readCov (kernelRun0_A.sl.HS0_23 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨5, by decide⟩ : Fin 8) (⟨2, by decide⟩ : Fin 4) _).trans (congrArg _ (Todo.read (todoA_21 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_22 : Todo (kernelRun0_A.sl.HS0_24 c a3 h3 a4 h4 a6 h6 a7 h7 a8 h8 a11 x1 x2 x4 x5 x6) 3 (stV x1 x2 x4 x5 x6 (k0_pay2 (F := F)) 5) := Todo.step (h := (⟨2, by decide⟩ : Fin 4)) (L := (kernelRun0_A.sl.HS0_23 c a3 h3 a4 h4 a6 h6 a7 h7 a8 h8 a11 x1 x2 x4 x5 x6)) (st := (stV x1 x2 x4 x5 x6 (k0_pay2 (F := F)) 5)) (todoA_21 c i a2 h2 a3 h3 a4 h4 a5 h5 a6 h6 a7 h7 a8 h8 a9 h9 a10 h10 a11 h11 x0 x1 x2 x3 x4 x5 x6 x7)

theorem doneA_23 : Done x1 x2 x4 x5 x6 (kernelRun0_A.sl.HS0_25 c a3 h3 a4 h4 a6 h6 a7 h7 a8 h8 a11 x1 x2 x4 x5 x6) (⟨5, by decide⟩ : Fin 8) 4 (stV x1 x2 x4 x5 x6 (k0_pay2 (F := F)) 5) :=
  Done.step x1 x2 x4 x5 x6 (n := (⟨5, by decide⟩ : Fin 8)) (h := (⟨3, by decide⟩ : Fin 4)) (L := (kernelRun0_A.sl.HS0_24 c a3 h3 a4 h4 a6 h6 a7 h7 a8 h8 a11 x1 x2 x4 x5 x6)) (st := (stV x1 x2 x4 x5 x6 (k0_pay2 (F := F)) 5)) ((doneA_22 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨5, by decide⟩ : Fin 8) (⟨3, by decide⟩ : Fin 4) (a11.view.readCov (kernelRun0_A.sl.HS0_24 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨5, by decide⟩ : Fin 8) (⟨3, by decide⟩ : Fin 4) _).trans (congrArg _ (Todo.read (todoA_22 c i a2 h2 a3 h3 a4 h4 a5 h5 a6 h6 a7 h7 a8 h8 a9 h9 a10 h10 a11 h11 x0 x1 x2 x3 x4 x5 x6 x7) (⟨3, by decide⟩ : Fin 4) (Nat.le_refl _) a11.view))))

theorem todoA_23 : Todo (kernelRun0_A.sl.HS0_25 c a3 h3 a4 h4 a6 h6 a7 h7 a8 h8 a11 x1 x2 x4 x5 x6) 0 (stV x1 x2 x4 x5 x6 (k0_pay2 (F := F)) 6) := Done.nextV x1 x2 x4 x5 x6 (n := (⟨5, by decide⟩ : Fin 8)) (doneA_23 c i a2 h2 a3 h3 a4 h4 a5 h5 a6 h6 a7 h7 a8 h8 a9 h9 a10 h10 a11 h11 x0 x1 x2 x3 x4 x5 x6 x7)

theorem doneA_24 : Done x1 x2 x4 x5 x6 (kernelRun0_A.sl.HS0_26 c a3 h3 a4 h4 a6 h6 a7 h7 a8 h8 a11 x1 x2 x4 x5 x6) (⟨6, by decide⟩ : Fin 8) 1 (stV x1 x2 x4 x5 x6 (k0_pay2 (F := F)) 6) :=
  Done.step x1 x2 x4 x5 x6 (n := (⟨6, by decide⟩ : Fin 8)) (h := (⟨0, by decide⟩ : Fin 4)) (L := (kernelRun0_A.sl.HS0_25 c a3 h3 a4 h4 a6 h6 a7 h7 a8 h8 a11 x1 x2 x4 x5 x6)) (st := (stV x1 x2 x4 x5 x6 (k0_pay2 (F := F)) 6)) (Done.zero x1 x2 x4 x5 x6 (kernelRun0_A.sl.HS0_25 c a3 h3 a4 h4 a6 h6 a7 h7 a8 h8 a11 x1 x2 x4 x5 x6) (⟨6, by decide⟩ : Fin 8) (stV x1 x2 x4 x5 x6 (k0_pay2 (F := F)) 6))
    ((rfl : _ = updR a3 h3 a4 h4 a6 h6 a7 h7 a8 h8 x1 x2 x4 x5 x6 (⟨6, by decide⟩ : Fin 8) (⟨0, by decide⟩ : Fin 4) (a11.view.readCov (kernelRun0_A.sl.HS0_25 c a3 h3 a4 h4 a6 h6 a7 h7 a8 h8 a11 x1 x2 x4 x5 x6) (rSt (⟨0, by decide⟩ : Fin 4)).toLoadRect)).trans
      ((updR_eq a3 h3 a4 h4 a6 h6 a7 h7 a8 h8 x1 x2 x4 x5 x6 (⟨6, by decide⟩ : Fin 8) (⟨0, by decide⟩ : Fin 4) _).trans (congrArg _ (Todo.read (todoA_23 c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_24 : Todo (kernelRun0_A.sl.HS0_26 c a3 h3 a4 h4 a6 h6 a7 h7 a8 h8 a11 x1 x2 x4 x5 x6) 1 (stV x1 x2 x4 x5 x6 (k0_pay2 (F := F)) 6) := Todo.step (h := (⟨0, by decide⟩ : Fin 4)) (L := (kernelRun0_A.sl.HS0_25 c a3 h3 a4 h4 a6 h6 a7 h7 a8 h8 a11 x1 x2 x4 x5 x6)) (st := (stV x1 x2 x4 x5 x6 (k0_pay2 (F := F)) 6)) (todoA_23 c i a2 h2 a3 h3 a4 h4 a5 h5 a6 h6 a7 h7 a8 h8 a9 h9 a10 h10 a11 h11 x0 x1 x2 x3 x4 x5 x6 x7)

theorem doneA_25 : Done x1 x2 x4 x5 x6 (kernelRun0_A.sl.HS0_27 c a3 h3 a4 h4 a6 h6 a7 h7 a8 h8 a11 x1 x2 x4 x5 x6) (⟨6, by decide⟩ : Fin 8) 2 (stV x1 x2 x4 x5 x6 (k0_pay2 (F := F)) 6) :=
  Done.step x1 x2 x4 x5 x6 (n := (⟨6, by decide⟩ : Fin 8)) (h := (⟨1, by decide⟩ : Fin 4)) (L := (kernelRun0_A.sl.HS0_26 c a3 h3 a4 h4 a6 h6 a7 h7 a8 h8 a11 x1 x2 x4 x5 x6)) (st := (stV x1 x2 x4 x5 x6 (k0_pay2 (F := F)) 6)) ((doneA_24 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨6, by decide⟩ : Fin 8) (⟨1, by decide⟩ : Fin 4) (a11.view.readCov (kernelRun0_A.sl.HS0_26 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨6, by decide⟩ : Fin 8) (⟨1, by decide⟩ : Fin 4) _).trans (congrArg _ (Todo.read (todoA_24 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_25 : Todo (kernelRun0_A.sl.HS0_27 c a3 h3 a4 h4 a6 h6 a7 h7 a8 h8 a11 x1 x2 x4 x5 x6) 2 (stV x1 x2 x4 x5 x6 (k0_pay2 (F := F)) 6) := Todo.step (h := (⟨1, by decide⟩ : Fin 4)) (L := (kernelRun0_A.sl.HS0_26 c a3 h3 a4 h4 a6 h6 a7 h7 a8 h8 a11 x1 x2 x4 x5 x6)) (st := (stV x1 x2 x4 x5 x6 (k0_pay2 (F := F)) 6)) (todoA_24 c i a2 h2 a3 h3 a4 h4 a5 h5 a6 h6 a7 h7 a8 h8 a9 h9 a10 h10 a11 h11 x0 x1 x2 x3 x4 x5 x6 x7)

theorem doneA_26 : Done x1 x2 x4 x5 x6 (kernelRun0_A.sl.HS0_28 c a3 h3 a4 h4 a6 h6 a7 h7 a8 h8 a11 x1 x2 x4 x5 x6) (⟨6, by decide⟩ : Fin 8) 3 (stV x1 x2 x4 x5 x6 (k0_pay2 (F := F)) 6) :=
  Done.step x1 x2 x4 x5 x6 (n := (⟨6, by decide⟩ : Fin 8)) (h := (⟨2, by decide⟩ : Fin 4)) (L := (kernelRun0_A.sl.HS0_27 c a3 h3 a4 h4 a6 h6 a7 h7 a8 h8 a11 x1 x2 x4 x5 x6)) (st := (stV x1 x2 x4 x5 x6 (k0_pay2 (F := F)) 6)) ((doneA_25 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨6, by decide⟩ : Fin 8) (⟨2, by decide⟩ : Fin 4) (a11.view.readCov (kernelRun0_A.sl.HS0_27 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨6, by decide⟩ : Fin 8) (⟨2, by decide⟩ : Fin 4) _).trans (congrArg _ (Todo.read (todoA_25 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_26 : Todo (kernelRun0_A.sl.HS0_28 c a3 h3 a4 h4 a6 h6 a7 h7 a8 h8 a11 x1 x2 x4 x5 x6) 3 (stV x1 x2 x4 x5 x6 (k0_pay2 (F := F)) 6) := Todo.step (h := (⟨2, by decide⟩ : Fin 4)) (L := (kernelRun0_A.sl.HS0_27 c a3 h3 a4 h4 a6 h6 a7 h7 a8 h8 a11 x1 x2 x4 x5 x6)) (st := (stV x1 x2 x4 x5 x6 (k0_pay2 (F := F)) 6)) (todoA_25 c i a2 h2 a3 h3 a4 h4 a5 h5 a6 h6 a7 h7 a8 h8 a9 h9 a10 h10 a11 h11 x0 x1 x2 x3 x4 x5 x6 x7)

theorem doneA_27 : Done x1 x2 x4 x5 x6 (kernelRun0_A.sl.HS0_29 c a3 h3 a4 h4 a6 h6 a7 h7 a8 h8 a11 x1 x2 x4 x5 x6) (⟨6, by decide⟩ : Fin 8) 4 (stV x1 x2 x4 x5 x6 (k0_pay2 (F := F)) 6) :=
  Done.step x1 x2 x4 x5 x6 (n := (⟨6, by decide⟩ : Fin 8)) (h := (⟨3, by decide⟩ : Fin 4)) (L := (kernelRun0_A.sl.HS0_28 c a3 h3 a4 h4 a6 h6 a7 h7 a8 h8 a11 x1 x2 x4 x5 x6)) (st := (stV x1 x2 x4 x5 x6 (k0_pay2 (F := F)) 6)) ((doneA_26 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨6, by decide⟩ : Fin 8) (⟨3, by decide⟩ : Fin 4) (a11.view.readCov (kernelRun0_A.sl.HS0_28 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨6, by decide⟩ : Fin 8) (⟨3, by decide⟩ : Fin 4) _).trans (congrArg _ (Todo.read (todoA_26 c i a2 h2 a3 h3 a4 h4 a5 h5 a6 h6 a7 h7 a8 h8 a9 h9 a10 h10 a11 h11 x0 x1 x2 x3 x4 x5 x6 x7) (⟨3, by decide⟩ : Fin 4) (Nat.le_refl _) a11.view))))

theorem todoA_27 : Todo (kernelRun0_A.sl.HS0_29 c a3 h3 a4 h4 a6 h6 a7 h7 a8 h8 a11 x1 x2 x4 x5 x6) 0 (stV x1 x2 x4 x5 x6 (k0_pay2 (F := F)) 7) := Done.nextV x1 x2 x4 x5 x6 (n := (⟨6, by decide⟩ : Fin 8)) (doneA_27 c i a2 h2 a3 h3 a4 h4 a5 h5 a6 h6 a7 h7 a8 h8 a9 h9 a10 h10 a11 h11 x0 x1 x2 x3 x4 x5 x6 x7)

theorem doneA_28 : Done x1 x2 x4 x5 x6 (kernelRun0_A.sl.HS0_30 c a3 h3 a4 h4 a6 h6 a7 h7 a8 h8 a11 x1 x2 x4 x5 x6) (⟨7, by decide⟩ : Fin 8) 1 (stV x1 x2 x4 x5 x6 (k0_pay2 (F := F)) 7) :=
  Done.step x1 x2 x4 x5 x6 (n := (⟨7, by decide⟩ : Fin 8)) (h := (⟨0, by decide⟩ : Fin 4)) (L := (kernelRun0_A.sl.HS0_29 c a3 h3 a4 h4 a6 h6 a7 h7 a8 h8 a11 x1 x2 x4 x5 x6)) (st := (stV x1 x2 x4 x5 x6 (k0_pay2 (F := F)) 7)) (Done.zero x1 x2 x4 x5 x6 (kernelRun0_A.sl.HS0_29 c a3 h3 a4 h4 a6 h6 a7 h7 a8 h8 a11 x1 x2 x4 x5 x6) (⟨7, by decide⟩ : Fin 8) (stV x1 x2 x4 x5 x6 (k0_pay2 (F := F)) 7))
    ((rfl : _ = updR a3 h3 a4 h4 a6 h6 a7 h7 a8 h8 x1 x2 x4 x5 x6 (⟨7, by decide⟩ : Fin 8) (⟨0, by decide⟩ : Fin 4) (a11.view.readCov (kernelRun0_A.sl.HS0_29 c a3 h3 a4 h4 a6 h6 a7 h7 a8 h8 a11 x1 x2 x4 x5 x6) (rSt (⟨0, by decide⟩ : Fin 4)).toLoadRect)).trans
      ((updR_eq a3 h3 a4 h4 a6 h6 a7 h7 a8 h8 x1 x2 x4 x5 x6 (⟨7, by decide⟩ : Fin 8) (⟨0, by decide⟩ : Fin 4) _).trans (congrArg _ (Todo.read (todoA_27 c i a2 h2 a3 h3 a4 h4 a5 h5 a6 h6 a7 h7 a8 h8 a9 h9 a10 h10 a11 h11 x0 x1 x2 x3 x4 x5 x6 x7) (⟨0, by decide⟩ : Fin 4) (Nat.le_refl _) a11.view))))

theorem todoA_28 : Todo (kernelRun0_A.sl.HS0_30 c a3 h3 a4 h4 a6 h6 a7 h7 a8 h8 a11 x1 x2 x4 x5 x6) 1 (stV x1 x2 x4 x5 x6 (k0_pay2 (F := F)) 7) := Todo.step (h := (⟨0, by decide⟩ : Fin 4)) (L := (kernelRun0_A.sl.HS0_29 c a3 h3 a4 h4 a6 h6 a7 h7 a8 h8 a11 x1 x2 x4 x5 x6)) (st := (stV x1 x2 x4 x5 x6 (k0_pay2 (F := F)) 7)) (todoA_27 c i a2 h2 a3 h3 a4 h4 a5 h5 a6 h6 a7 h7 a8 h8 a9 h9 a10 h10 a11 h11 x0 x1 x2 x3 x4 x5 x6 x7)

theorem doneA_29 : Done x1 x2 x4 x5 x6 (kernelRun0_A.sl.HS0_31 c a3 h3 a4 h4 a6 h6 a7 h7 a8 h8 a11 x1 x2 x4 x5 x6) (⟨7, by decide⟩ : Fin 8) 2 (stV x1 x2 x4 x5 x6 (k0_pay2 (F := F)) 7) :=
  Done.step x1 x2 x4 x5 x6 (n := (⟨7, by decide⟩ : Fin 8)) (h := (⟨1, by decide⟩ : Fin 4)) (L := (kernelRun0_A.sl.HS0_30 c a3 h3 a4 h4 a6 h6 a7 h7 a8 h8 a11 x1 x2 x4 x5 x6)) (st := (stV x1 x2 x4 x5 x6 (k0_pay2 (F := F)) 7)) ((doneA_28 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨7, by decide⟩ : Fin 8) (⟨1, by decide⟩ : Fin 4) (a11.view.readCov (kernelRun0_A.sl.HS0_30 c a3 h3 a4 h4 a6 h6 a7 h7 a8 h8 a11 x1 x2 x4 x5 x6) (rSt (⟨1, by decide⟩ : Fin 4)).toLoadRect)).trans
      ((updR_eq a3 h3 a4 h4 a6 h6 a7 h7 a8 h8 x1 x2 x4 x5 x6 (⟨7, by decide⟩ : Fin 8) (⟨1, by decide⟩ : Fin 4) _).trans (congrArg _ (Todo.read (todoA_28 c i a2 h2 a3 h3 a4 h4 a5 h5 a6 h6 a7 h7 a8 h8 a9 h9 a10 h10 a11 h11 x0 x1 x2 x3 x4 x5 x6 x7) (⟨1, by decide⟩ : Fin 4) (Nat.le_refl _) a11.view))))

theorem todoA_29 : Todo (kernelRun0_A.sl.HS0_31 c a3 h3 a4 h4 a6 h6 a7 h7 a8 h8 a11 x1 x2 x4 x5 x6) 2 (stV x1 x2 x4 x5 x6 (k0_pay2 (F := F)) 7) := Todo.step (h := (⟨1, by decide⟩ : Fin 4)) (L := (kernelRun0_A.sl.HS0_30 c a3 h3 a4 h4 a6 h6 a7 h7 a8 h8 a11 x1 x2 x4 x5 x6)) (st := (stV x1 x2 x4 x5 x6 (k0_pay2 (F := F)) 7)) (todoA_28 c i a2 h2 a3 h3 a4 h4 a5 h5 a6 h6 a7 h7 a8 h8 a9 h9 a10 h10 a11 h11 x0 x1 x2 x3 x4 x5 x6 x7)

theorem doneA_30 : Done x1 x2 x4 x5 x6 (kernelRun0_A.sl.HS0_32 c a3 h3 a4 h4 a6 h6 a7 h7 a8 h8 a11 x1 x2 x4 x5 x6) (⟨7, by decide⟩ : Fin 8) 3 (stV x1 x2 x4 x5 x6 (k0_pay2 (F := F)) 7) :=
  Done.step x1 x2 x4 x5 x6 (n := (⟨7, by decide⟩ : Fin 8)) (h := (⟨2, by decide⟩ : Fin 4)) (L := (kernelRun0_A.sl.HS0_31 c a3 h3 a4 h4 a6 h6 a7 h7 a8 h8 a11 x1 x2 x4 x5 x6)) (st := (stV x1 x2 x4 x5 x6 (k0_pay2 (F := F)) 7)) ((doneA_29 c i a2 h2 a3 h3 a4 h4 a5 h5 a6 h6 a7 h7 a8 h8 a9 h9 a10 h10 a11 h11 x0 x1 x2 x3 x4 x5 x6 x7))
    ((rfl : _ = updR a3 h3 a4 h4 a6 h6 a7 h7 a8 h8 x1 x2 x4 x5 x6 (⟨7, by decide⟩ : Fin 8) (⟨2, by decide⟩ : Fin 4) (a11.view.readCov (kernelRun0_A.sl.HS0_31 c a3 h3 a4 h4 a6 h6 a7 h7 a8 h8 a11 x1 x2 x4 x5 x6) (rSt (⟨2, by decide⟩ : Fin 4)).toLoadRect)).trans
      ((updR_eq a3 h3 a4 h4 a6 h6 a7 h7 a8 h8 x1 x2 x4 x5 x6 (⟨7, by decide⟩ : Fin 8) (⟨2, by decide⟩ : Fin 4) _).trans (congrArg _ (Todo.read (todoA_29 c i a2 h2 a3 h3 a4 h4 a5 h5 a6 h6 a7 h7 a8 h8 a9 h9 a10 h10 a11 h11 x0 x1 x2 x3 x4 x5 x6 x7) (⟨2, by decide⟩ : Fin 4) (Nat.le_refl _) a11.view))))

theorem todoA_30 : Todo (kernelRun0_A.sl.HS0_32 c a3 h3 a4 h4 a6 h6 a7 h7 a8 h8 a11 x1 x2 x4 x5 x6) 3 (stV x1 x2 x4 x5 x6 (k0_pay2 (F := F)) 7) := Todo.step (h := (⟨2, by decide⟩ : Fin 4)) (L := (kernelRun0_A.sl.HS0_31 c a3 h3 a4 h4 a6 h6 a7 h7 a8 h8 a11 x1 x2 x4 x5 x6)) (st := (stV x1 x2 x4 x5 x6 (k0_pay2 (F := F)) 7)) (todoA_29 c i a2 h2 a3 h3 a4 h4 a5 h5 a6 h6 a7 h7 a8 h8 a9 h9 a10 h10 a11 h11 x0 x1 x2 x3 x4 x5 x6 x7)

end Cert.Gla

end
-- ==== Proof.Gla.OutA.lean ====
/- What the body leaves in the output block and in the scratch (the scratch zeroed first). -/
module

public import proofs.«01_k».proof.Proof.Gla.StatesA

@[expose] public section

set_option maxRecDepth 16384
set_option maxHeartbeats 2000000
noncomputable section

namespace Cert.Gla

open Cert.KernelIdeal Cert.KernelIdeal.Gen Idealize.ShloMosaic Idealize.ShloMosaic.TcCoe Idealize.SL.Sem

variable {F : FTy → Type} [FloatOps F] [Named F]

variable (c : Dev nD) (i : grid0.Coords)
  (a2 : Memref sig .tc .vmem S1x512x512 .bf16) (h2 : a2.IsWhole) (a3 : Memref sig .tc .vmem S1x512x512 .bf16) (h3 : a3.IsWhole)
  (a4 : Memref sig .tc .vmem S1x512x512 .bf16) (h4 : a4.IsWhole) (a5 : Memref sig .tc .vmem S1x512x512 .bf16) (h5 : a5.IsWhole)
  (a6 : Memref sig .tc .vmem S1x512x128 .bf16) (h6 : a6.IsWhole) (a7 : Memref sig .tc .vmem S128x512 .bf16) (h7 : a7.IsWhole)
  (a8 : Memref sig .tc .vmem S1x512 .f32) (h8 : a8.IsWhole) (a9 : Memref sig .tc .vmem S1x512 .f32) (h9 : a9.IsWhole)
  (a10 : Memref sig .tc .vmem S1x512x512 .bf16) (h10 : a10.IsWhole) (a11 : Memref sig .tc .vmem S4x128x128 .f32) (h11 : a11.IsWhole)
  (x0 x1 x2 x3 : Vec F S1x512x512 .bf16) (x4 : Vec F S1x512x128 .bf16) (x5 : Vec F S128x512 .bf16) (x6 x7 : Vec F S1x512 .f32)

include c i a2 h2 a3 h3 a4 h4 a5 h5 a6 h6 a7 h7 a8 h8 a9 h9 a10 h10 a11 h11 x0 x1 x2 x3 x4 x5 x6 x7

theorem soutA (hc0 : cond0_0 i) : sout0_A_0 c i a2 h2 a3 h3 a4 h4 a5 h5 a6 h6 a7 h7 a8 h8 a9 h9 a10 h10 a11 h11 hc0 x0 x1 x2 x3 x4 x5 x6 x7 = stV x1 x2 x4 x5 x6 (k0_pay2 (F := F)) 8 := by
  unfold sout0_A_0
  rw [View.read_writes_eq_canon _ _ _ (scover0_A_0 c i a2 h2 a3 h3 a4 h4 a5 h5 a6 h6 a7 h7 a8 h8 a9 h9 a10 h10 a11 h11 hc0 x0 x1 x2 x3 x4 x5 x6 x7)]
  unfold kernelRun0_A
  dsimp only
  have h := Done.step x1 x2 x4 x5 x6 (n := (⟨7, by decide⟩ : Fin 8)) (h := (⟨3, by decide⟩ : Fin 4)) (L := (kernelRun0_A.sl.HS0_32 c a3 h3 a4 h4 a6 h6 a7 h7 a8 h8 a11 x1 x2 x4 x5 x6)) (st := (stV x1 x2 x4 x5 x6 (k0_pay2 (F := F)) 7)) (doneA_30 c i a2 h2 a3 h3 a4 h4 a5 h5 a6 h6 a7 h7 a8 h8 a9 h9 a10 h10 a11 h11 x0 x1 x2 x3 x4 x5 x6 x7)
    ((rfl : _ = updR a3 h3 a4 h4 a6 h6 a7 h7 a8 h8 x1 x2 x4 x5 x6 (⟨7, by decide⟩ : Fin 8) (⟨3, by decide⟩ : Fin 4) (a11.view.readCov (kernelRun0_A.sl.HS0_32 c a3 h3 a4 h4 a6 h6 a7 h7 a8 h8 a11 x1 x2 x4 x5 x6) (rSt (⟨3, by decide⟩ : Fin 4)).toLoadRect)).trans
      ((updR_eq a3 h3 a4 h4 a6 h6 a7 h7 a8 h8 x1 x2 x4 x5 x6 (⟨7, by decide⟩ : Fin 8) (⟨3, by decide⟩ : Fin 4) _).trans (congrArg _ (Todo.read (todoA_30 c i a2 h2 a3 h3 a4 h4 a5 h5 a6 h6 a7 h7 a8 h8 a9 h9 a10 h10 a11 h11 x0 x1 x2 x3 x4 x5 x6 x7) (⟨3, by decide⟩ : Fin 4) (Nat.le_refl _) a11.view))))
  exact (canon_of_done x1 x2 x4 x5 x6 (n := (⟨7, by decide⟩ : Fin 8)) h).trans (stV_succ x1 x2 x4 x5 x6 (k0_pay2 (F := F)) (⟨7, by decide⟩ : Fin 8)).symm

theorem tileA_0 : outR a2 h2 a3 h3 a4 h4 a5 h5 a6 h6 a7 h7 a8 h8 a9 h9 x0 x1 x2 x3 x4 x5 x6 x7 (⟨0, by decide⟩ : Fin 8) (⟨0, by decide⟩ : Fin 4) (a11.view.readCov (kernelRun0_A.sl.HS0_1 (F := F)) (rSt (⟨0, by decide⟩ : Fin 4)).toLoadRect) = outT x0 x1 x2 x3 x4 x5 x6 x7 (⟨0, by decide⟩ : Fin 8) (⟨0, by decide⟩ : Fin 4) (View.ld (stV x1 x2 x4 x5 x6 (k0_pay2 (F := F)) 0) (rSt (⟨0, by decide⟩ : Fin 4))) :=
  (outR_eq a2 h2 a3 h3 a4 h4 a5 h5 a6 h6 a7 h7 a8 h8 a9 h9 x0 x1 x2 x3 x4 x5 x6 x7 (⟨0, by decide⟩ : Fin 8) (⟨0, by decide⟩ : Fin 4) _).trans (congrArg _ (Todo.read (todoA_z c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_1 : outR a2 h2 a3 h3 a4 h4 a5 h5 a6 h6 a7 h7 a8 h8 a9 h9 x0 x1 x2 x3 x4 x5 x6 x7 (⟨0, by decide⟩ : Fin 8) (⟨1, by decide⟩ : Fin 4) (a11.view.readCov (kernelRun0_A.sl.HS0_2 c a3 h3 a4 h4 a6 h6 a7 h7 a8 h8 a11 x1 x2 x4 x5 x6) (rSt (⟨1, by decide⟩ : Fin 4)).toLoadRect) = outT x0 x1 x2 x3 x4 x5 x6 x7 (⟨0, by decide⟩ : Fin 8) (⟨1, by decide⟩ : Fin 4) (View.ld (stV x1 x2 x4 x5 x6 (k0_pay2 (F := F)) 0) (rSt (⟨1, by decide⟩ : Fin 4))) :=
  (outR_eq a2 h2 a3 h3 a4 h4 a5 h5 a6 h6 a7 h7 a8 h8 a9 h9 x0 x1 x2 x3 x4 x5 x6 x7 (⟨0, by decide⟩ : Fin 8) (⟨1, by decide⟩ : Fin 4) _).trans (congrArg _ (Todo.read (todoA_0 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_2 : outR a2 h2 a3 h3 a4 h4 a5 h5 a6 h6 a7 h7 a8 h8 a9 h9 x0 x1 x2 x3 x4 x5 x6 x7 (⟨0, by decide⟩ : Fin 8) (⟨2, by decide⟩ : Fin 4) (a11.view.readCov (kernelRun0_A.sl.HS0_3 c a3 h3 a4 h4 a6 h6 a7 h7 a8 h8 a11 x1 x2 x4 x5 x6) (rSt (⟨2, by decide⟩ : Fin 4)).toLoadRect) = outT x0 x1 x2 x3 x4 x5 x6 x7 (⟨0, by decide⟩ : Fin 8) (⟨2, by decide⟩ : Fin 4) (View.ld (stV x1 x2 x4 x5 x6 (k0_pay2 (F := F)) 0) (rSt (⟨2, by decide⟩ : Fin 4))) :=
  (outR_eq a2 h2 a3 h3 a4 h4 a5 h5 a6 h6 a7 h7 a8 h8 a9 h9 x0 x1 x2 x3 x4 x5 x6 x7 (⟨0, by decide⟩ : Fin 8) (⟨2, by decide⟩ : Fin 4) _).trans (congrArg _ (Todo.read (todoA_1 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_3 : outR a2 h2 a3 h3 a4 h4 a5 h5 a6 h6 a7 h7 a8 h8 a9 h9 x0 x1 x2 x3 x4 x5 x6 x7 (⟨0, by decide⟩ : Fin 8) (⟨3, by decide⟩ : Fin 4) (a11.view.readCov (kernelRun0_A.sl.HS0_4 c a3 h3 a4 h4 a6 h6 a7 h7 a8 h8 a11 x1 x2 x4 x5 x6) (rSt (⟨3, by decide⟩ : Fin 4)).toLoadRect) = outT x0 x1 x2 x3 x4 x5 x6 x7 (⟨0, by decide⟩ : Fin 8) (⟨3, by decide⟩ : Fin 4) (View.ld (stV x1 x2 x4 x5 x6 (k0_pay2 (F := F)) 0) (rSt (⟨3, by decide⟩ : Fin 4))) :=
  (outR_eq a2 h2 a3 h3 a4 h4 a5 h5 a6 h6 a7 h7 a8 h8 a9 h9 x0 x1 x2 x3 x4 x5 x6 x7 (⟨0, by decide⟩ : Fin 8) (⟨3, by decide⟩ : Fin 4) _).trans (congrArg _ (Todo.read (todoA_2 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem tileA_4 : outR a2 h2 a3 h3 a4 h4 a5 h5 a6 h6 a7 h7 a8 h8 a9 h9 x0 x1 x2 x3 x4 x5 x6 x7 (⟨1, by decide⟩ : Fin 8) (⟨0, by decide⟩ : Fin 4) (a11.view.readCov (kernelRun0_A.sl.HS0_5 c a3 h3 a4 h4 a6 h6 a7 h7 a8 h8 a11 x1 x2 x4 x5 x6) (rSt (⟨0, by decide⟩ : Fin 4)).toLoadRect) = outT x0 x1 x2 x3 x4 x5 x6 x7 (⟨1, by decide⟩ : Fin 8) (⟨0, by decide⟩ : Fin 4) (View.ld (stV x1 x2 x4 x5 x6 (k0_pay2 (F := F)) 1) (rSt (⟨0, by decide⟩ : Fin 4))) :=
  (outR_eq a2 h2 a3 h3 a4 h4 a5 h5 a6 h6 a7 h7 a8 h8 a9 h9 x0 x1 x2 x3 x4 x5 x6 x7 (⟨1, by decide⟩ : Fin 8) (⟨0, by decide⟩ : Fin 4) _).trans (congrArg _ (Todo.read (todoA_3 c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_5 : outR a2 h2 a3 h3 a4 h4 a5 h5 a6 h6 a7 h7 a8 h8 a9 h9 x0 x1 x2 x3 x4 x5 x6 x7 (⟨1, by decide⟩ : Fin 8) (⟨1, by decide⟩ : Fin 4) (a11.view.readCov (kernelRun0_A.sl.HS0_6 c a3 h3 a4 h4 a6 h6 a7 h7 a8 h8 a11 x1 x2 x4 x5 x6) (rSt (⟨1, by decide⟩ : Fin 4)).toLoadRect) = outT x0 x1 x2 x3 x4 x5 x6 x7 (⟨1, by decide⟩ : Fin 8) (⟨1, by decide⟩ : Fin 4) (View.ld (stV x1 x2 x4 x5 x6 (k0_pay2 (F := F)) 1) (rSt (⟨1, by decide⟩ : Fin 4))) :=
  (outR_eq a2 h2 a3 h3 a4 h4 a5 h5 a6 h6 a7 h7 a8 h8 a9 h9 x0 x1 x2 x3 x4 x5 x6 x7 (⟨1, by decide⟩ : Fin 8) (⟨1, by decide⟩ : Fin 4) _).trans (congrArg _ (Todo.read (todoA_4 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_6 : outR a2 h2 a3 h3 a4 h4 a5 h5 a6 h6 a7 h7 a8 h8 a9 h9 x0 x1 x2 x3 x4 x5 x6 x7 (⟨1, by decide⟩ : Fin 8) (⟨2, by decide⟩ : Fin 4) (a11.view.readCov (kernelRun0_A.sl.HS0_7 c a3 h3 a4 h4 a6 h6 a7 h7 a8 h8 a11 x1 x2 x4 x5 x6) (rSt (⟨2, by decide⟩ : Fin 4)).toLoadRect) = outT x0 x1 x2 x3 x4 x5 x6 x7 (⟨1, by decide⟩ : Fin 8) (⟨2, by decide⟩ : Fin 4) (View.ld (stV x1 x2 x4 x5 x6 (k0_pay2 (F := F)) 1) (rSt (⟨2, by decide⟩ : Fin 4))) :=
  (outR_eq a2 h2 a3 h3 a4 h4 a5 h5 a6 h6 a7 h7 a8 h8 a9 h9 x0 x1 x2 x3 x4 x5 x6 x7 (⟨1, by decide⟩ : Fin 8) (⟨2, by decide⟩ : Fin 4) _).trans (congrArg _ (Todo.read (todoA_5 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_7 : outR a2 h2 a3 h3 a4 h4 a5 h5 a6 h6 a7 h7 a8 h8 a9 h9 x0 x1 x2 x3 x4 x5 x6 x7 (⟨1, by decide⟩ : Fin 8) (⟨3, by decide⟩ : Fin 4) (a11.view.readCov (kernelRun0_A.sl.HS0_8 c a3 h3 a4 h4 a6 h6 a7 h7 a8 h8 a11 x1 x2 x4 x5 x6) (rSt (⟨3, by decide⟩ : Fin 4)).toLoadRect) = outT x0 x1 x2 x3 x4 x5 x6 x7 (⟨1, by decide⟩ : Fin 8) (⟨3, by decide⟩ : Fin 4) (View.ld (stV x1 x2 x4 x5 x6 (k0_pay2 (F := F)) 1) (rSt (⟨3, by decide⟩ : Fin 4))) :=
  (outR_eq a2 h2 a3 h3 a4 h4 a5 h5 a6 h6 a7 h7 a8 h8 a9 h9 x0 x1 x2 x3 x4 x5 x6 x7 (⟨1, by decide⟩ : Fin 8) (⟨3, by decide⟩ : Fin 4) _).trans (congrArg _ (Todo.read (todoA_6 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem tileA_8 : outR a2 h2 a3 h3 a4 h4 a5 h5 a6 h6 a7 h7 a8 h8 a9 h9 x0 x1 x2 x3 x4 x5 x6 x7 (⟨2, by decide⟩ : Fin 8) (⟨0, by decide⟩ : Fin 4) (a11.view.readCov (kernelRun0_A.sl.HS0_9 c a3 h3 a4 h4 a6 h6 a7 h7 a8 h8 a11 x1 x2 x4 x5 x6) (rSt (⟨0, by decide⟩ : Fin 4)).toLoadRect) = outT x0 x1 x2 x3 x4 x5 x6 x7 (⟨2, by decide⟩ : Fin 8) (⟨0, by decide⟩ : Fin 4) (View.ld (stV x1 x2 x4 x5 x6 (k0_pay2 (F := F)) 2) (rSt (⟨0, by decide⟩ : Fin 4))) :=
  (outR_eq a2 h2 a3 h3 a4 h4 a5 h5 a6 h6 a7 h7 a8 h8 a9 h9 x0 x1 x2 x3 x4 x5 x6 x7 (⟨2, by decide⟩ : Fin 8) (⟨0, by decide⟩ : Fin 4) _).trans (congrArg _ (Todo.read (todoA_7 c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_9 : outR a2 h2 a3 h3 a4 h4 a5 h5 a6 h6 a7 h7 a8 h8 a9 h9 x0 x1 x2 x3 x4 x5 x6 x7 (⟨2, by decide⟩ : Fin 8) (⟨1, by decide⟩ : Fin 4) (a11.view.readCov (kernelRun0_A.sl.HS0_10 c a3 h3 a4 h4 a6 h6 a7 h7 a8 h8 a11 x1 x2 x4 x5 x6) (rSt (⟨1, by decide⟩ : Fin 4)).toLoadRect) = outT x0 x1 x2 x3 x4 x5 x6 x7 (⟨2, by decide⟩ : Fin 8) (⟨1, by decide⟩ : Fin 4) (View.ld (stV x1 x2 x4 x5 x6 (k0_pay2 (F := F)) 2) (rSt (⟨1, by decide⟩ : Fin 4))) :=
  (outR_eq a2 h2 a3 h3 a4 h4 a5 h5 a6 h6 a7 h7 a8 h8 a9 h9 x0 x1 x2 x3 x4 x5 x6 x7 (⟨2, by decide⟩ : Fin 8) (⟨1, by decide⟩ : Fin 4) _).trans (congrArg _ (Todo.read (todoA_8 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_10 : outR a2 h2 a3 h3 a4 h4 a5 h5 a6 h6 a7 h7 a8 h8 a9 h9 x0 x1 x2 x3 x4 x5 x6 x7 (⟨2, by decide⟩ : Fin 8) (⟨2, by decide⟩ : Fin 4) (a11.view.readCov (kernelRun0_A.sl.HS0_11 c a3 h3 a4 h4 a6 h6 a7 h7 a8 h8 a11 x1 x2 x4 x5 x6) (rSt (⟨2, by decide⟩ : Fin 4)).toLoadRect) = outT x0 x1 x2 x3 x4 x5 x6 x7 (⟨2, by decide⟩ : Fin 8) (⟨2, by decide⟩ : Fin 4) (View.ld (stV x1 x2 x4 x5 x6 (k0_pay2 (F := F)) 2) (rSt (⟨2, by decide⟩ : Fin 4))) :=
  (outR_eq a2 h2 a3 h3 a4 h4 a5 h5 a6 h6 a7 h7 a8 h8 a9 h9 x0 x1 x2 x3 x4 x5 x6 x7 (⟨2, by decide⟩ : Fin 8) (⟨2, by decide⟩ : Fin 4) _).trans (congrArg _ (Todo.read (todoA_9 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_11 : outR a2 h2 a3 h3 a4 h4 a5 h5 a6 h6 a7 h7 a8 h8 a9 h9 x0 x1 x2 x3 x4 x5 x6 x7 (⟨2, by decide⟩ : Fin 8) (⟨3, by decide⟩ : Fin 4) (a11.view.readCov (kernelRun0_A.sl.HS0_12 c a3 h3 a4 h4 a6 h6 a7 h7 a8 h8 a11 x1 x2 x4 x5 x6) (rSt (⟨3, by decide⟩ : Fin 4)).toLoadRect) = outT x0 x1 x2 x3 x4 x5 x6 x7 (⟨2, by decide⟩ : Fin 8) (⟨3, by decide⟩ : Fin 4) (View.ld (stV x1 x2 x4 x5 x6 (k0_pay2 (F := F)) 2) (rSt (⟨3, by decide⟩ : Fin 4))) :=
  (outR_eq a2 h2 a3 h3 a4 h4 a5 h5 a6 h6 a7 h7 a8 h8 a9 h9 x0 x1 x2 x3 x4 x5 x6 x7 (⟨2, by decide⟩ : Fin 8) (⟨3, by decide⟩ : Fin 4) _).trans (congrArg _ (Todo.read (todoA_10 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem tileA_12 : outR a2 h2 a3 h3 a4 h4 a5 h5 a6 h6 a7 h7 a8 h8 a9 h9 x0 x1 x2 x3 x4 x5 x6 x7 (⟨3, by decide⟩ : Fin 8) (⟨0, by decide⟩ : Fin 4) (a11.view.readCov (kernelRun0_A.sl.HS0_13 c a3 h3 a4 h4 a6 h6 a7 h7 a8 h8 a11 x1 x2 x4 x5 x6) (rSt (⟨0, by decide⟩ : Fin 4)).toLoadRect) = outT x0 x1 x2 x3 x4 x5 x6 x7 (⟨3, by decide⟩ : Fin 8) (⟨0, by decide⟩ : Fin 4) (View.ld (stV x1 x2 x4 x5 x6 (k0_pay2 (F := F)) 3) (rSt (⟨0, by decide⟩ : Fin 4))) :=
  (outR_eq a2 h2 a3 h3 a4 h4 a5 h5 a6 h6 a7 h7 a8 h8 a9 h9 x0 x1 x2 x3 x4 x5 x6 x7 (⟨3, by decide⟩ : Fin 8) (⟨0, by decide⟩ : Fin 4) _).trans (congrArg _ (Todo.read (todoA_11 c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_13 : outR a2 h2 a3 h3 a4 h4 a5 h5 a6 h6 a7 h7 a8 h8 a9 h9 x0 x1 x2 x3 x4 x5 x6 x7 (⟨3, by decide⟩ : Fin 8) (⟨1, by decide⟩ : Fin 4) (a11.view.readCov (kernelRun0_A.sl.HS0_14 c a3 h3 a4 h4 a6 h6 a7 h7 a8 h8 a11 x1 x2 x4 x5 x6) (rSt (⟨1, by decide⟩ : Fin 4)).toLoadRect) = outT x0 x1 x2 x3 x4 x5 x6 x7 (⟨3, by decide⟩ : Fin 8) (⟨1, by decide⟩ : Fin 4) (View.ld (stV x1 x2 x4 x5 x6 (k0_pay2 (F := F)) 3) (rSt (⟨1, by decide⟩ : Fin 4))) :=
  (outR_eq a2 h2 a3 h3 a4 h4 a5 h5 a6 h6 a7 h7 a8 h8 a9 h9 x0 x1 x2 x3 x4 x5 x6 x7 (⟨3, by decide⟩ : Fin 8) (⟨1, by decide⟩ : Fin 4) _).trans (congrArg _ (Todo.read (todoA_12 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_14 : outR a2 h2 a3 h3 a4 h4 a5 h5 a6 h6 a7 h7 a8 h8 a9 h9 x0 x1 x2 x3 x4 x5 x6 x7 (⟨3, by decide⟩ : Fin 8) (⟨2, by decide⟩ : Fin 4) (a11.view.readCov (kernelRun0_A.sl.HS0_15 c a3 h3 a4 h4 a6 h6 a7 h7 a8 h8 a11 x1 x2 x4 x5 x6) (rSt (⟨2, by decide⟩ : Fin 4)).toLoadRect) = outT x0 x1 x2 x3 x4 x5 x6 x7 (⟨3, by decide⟩ : Fin 8) (⟨2, by decide⟩ : Fin 4) (View.ld (stV x1 x2 x4 x5 x6 (k0_pay2 (F := F)) 3) (rSt (⟨2, by decide⟩ : Fin 4))) :=
  (outR_eq a2 h2 a3 h3 a4 h4 a5 h5 a6 h6 a7 h7 a8 h8 a9 h9 x0 x1 x2 x3 x4 x5 x6 x7 (⟨3, by decide⟩ : Fin 8) (⟨2, by decide⟩ : Fin 4) _).trans (congrArg _ (Todo.read (todoA_13 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_15 : outR a2 h2 a3 h3 a4 h4 a5 h5 a6 h6 a7 h7 a8 h8 a9 h9 x0 x1 x2 x3 x4 x5 x6 x7 (⟨3, by decide⟩ : Fin 8) (⟨3, by decide⟩ : Fin 4) (a11.view.readCov (kernelRun0_A.sl.HS0_16 c a3 h3 a4 h4 a6 h6 a7 h7 a8 h8 a11 x1 x2 x4 x5 x6) (rSt (⟨3, by decide⟩ : Fin 4)).toLoadRect) = outT x0 x1 x2 x3 x4 x5 x6 x7 (⟨3, by decide⟩ : Fin 8) (⟨3, by decide⟩ : Fin 4) (View.ld (stV x1 x2 x4 x5 x6 (k0_pay2 (F := F)) 3) (rSt (⟨3, by decide⟩ : Fin 4))) :=
  (outR_eq a2 h2 a3 h3 a4 h4 a5 h5 a6 h6 a7 h7 a8 h8 a9 h9 x0 x1 x2 x3 x4 x5 x6 x7 (⟨3, by decide⟩ : Fin 8) (⟨3, by decide⟩ : Fin 4) _).trans (congrArg _ (Todo.read (todoA_14 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem tileA_16 : outR a2 h2 a3 h3 a4 h4 a5 h5 a6 h6 a7 h7 a8 h8 a9 h9 x0 x1 x2 x3 x4 x5 x6 x7 (⟨4, by decide⟩ : Fin 8) (⟨0, by decide⟩ : Fin 4) (a11.view.readCov (kernelRun0_A.sl.HS0_17 c a3 h3 a4 h4 a6 h6 a7 h7 a8 h8 a11 x1 x2 x4 x5 x6) (rSt (⟨0, by decide⟩ : Fin 4)).toLoadRect) = outT x0 x1 x2 x3 x4 x5 x6 x7 (⟨4, by decide⟩ : Fin 8) (⟨0, by decide⟩ : Fin 4) (View.ld (stV x1 x2 x4 x5 x6 (k0_pay2 (F := F)) 4) (rSt (⟨0, by decide⟩ : Fin 4))) :=
  (outR_eq a2 h2 a3 h3 a4 h4 a5 h5 a6 h6 a7 h7 a8 h8 a9 h9 x0 x1 x2 x3 x4 x5 x6 x7 (⟨4, by decide⟩ : Fin 8) (⟨0, by decide⟩ : Fin 4) _).trans (congrArg _ (Todo.read (todoA_15 c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_17 : outR a2 h2 a3 h3 a4 h4 a5 h5 a6 h6 a7 h7 a8 h8 a9 h9 x0 x1 x2 x3 x4 x5 x6 x7 (⟨4, by decide⟩ : Fin 8) (⟨1, by decide⟩ : Fin 4) (a11.view.readCov (kernelRun0_A.sl.HS0_18 c a3 h3 a4 h4 a6 h6 a7 h7 a8 h8 a11 x1 x2 x4 x5 x6) (rSt (⟨1, by decide⟩ : Fin 4)).toLoadRect) = outT x0 x1 x2 x3 x4 x5 x6 x7 (⟨4, by decide⟩ : Fin 8) (⟨1, by decide⟩ : Fin 4) (View.ld (stV x1 x2 x4 x5 x6 (k0_pay2 (F := F)) 4) (rSt (⟨1, by decide⟩ : Fin 4))) :=
  (outR_eq a2 h2 a3 h3 a4 h4 a5 h5 a6 h6 a7 h7 a8 h8 a9 h9 x0 x1 x2 x3 x4 x5 x6 x7 (⟨4, by decide⟩ : Fin 8) (⟨1, by decide⟩ : Fin 4) _).trans (congrArg _ (Todo.read (todoA_16 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_18 : outR a2 h2 a3 h3 a4 h4 a5 h5 a6 h6 a7 h7 a8 h8 a9 h9 x0 x1 x2 x3 x4 x5 x6 x7 (⟨4, by decide⟩ : Fin 8) (⟨2, by decide⟩ : Fin 4) (a11.view.readCov (kernelRun0_A.sl.HS0_19 c a3 h3 a4 h4 a6 h6 a7 h7 a8 h8 a11 x1 x2 x4 x5 x6) (rSt (⟨2, by decide⟩ : Fin 4)).toLoadRect) = outT x0 x1 x2 x3 x4 x5 x6 x7 (⟨4, by decide⟩ : Fin 8) (⟨2, by decide⟩ : Fin 4) (View.ld (stV x1 x2 x4 x5 x6 (k0_pay2 (F := F)) 4) (rSt (⟨2, by decide⟩ : Fin 4))) :=
  (outR_eq a2 h2 a3 h3 a4 h4 a5 h5 a6 h6 a7 h7 a8 h8 a9 h9 x0 x1 x2 x3 x4 x5 x6 x7 (⟨4, by decide⟩ : Fin 8) (⟨2, by decide⟩ : Fin 4) _).trans (congrArg _ (Todo.read (todoA_17 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_19 : outR a2 h2 a3 h3 a4 h4 a5 h5 a6 h6 a7 h7 a8 h8 a9 h9 x0 x1 x2 x3 x4 x5 x6 x7 (⟨4, by decide⟩ : Fin 8) (⟨3, by decide⟩ : Fin 4) (a11.view.readCov (kernelRun0_A.sl.HS0_20 c a3 h3 a4 h4 a6 h6 a7 h7 a8 h8 a11 x1 x2 x4 x5 x6) (rSt (⟨3, by decide⟩ : Fin 4)).toLoadRect) = outT x0 x1 x2 x3 x4 x5 x6 x7 (⟨4, by decide⟩ : Fin 8) (⟨3, by decide⟩ : Fin 4) (View.ld (stV x1 x2 x4 x5 x6 (k0_pay2 (F := F)) 4) (rSt (⟨3, by decide⟩ : Fin 4))) :=
  (outR_eq a2 h2 a3 h3 a4 h4 a5 h5 a6 h6 a7 h7 a8 h8 a9 h9 x0 x1 x2 x3 x4 x5 x6 x7 (⟨4, by decide⟩ : Fin 8) (⟨3, by decide⟩ : Fin 4) _).trans (congrArg _ (Todo.read (todoA_18 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem tileA_20 : outR a2 h2 a3 h3 a4 h4 a5 h5 a6 h6 a7 h7 a8 h8 a9 h9 x0 x1 x2 x3 x4 x5 x6 x7 (⟨5, by decide⟩ : Fin 8) (⟨0, by decide⟩ : Fin 4) (a11.view.readCov (kernelRun0_A.sl.HS0_21 c a3 h3 a4 h4 a6 h6 a7 h7 a8 h8 a11 x1 x2 x4 x5 x6) (rSt (⟨0, by decide⟩ : Fin 4)).toLoadRect) = outT x0 x1 x2 x3 x4 x5 x6 x7 (⟨5, by decide⟩ : Fin 8) (⟨0, by decide⟩ : Fin 4) (View.ld (stV x1 x2 x4 x5 x6 (k0_pay2 (F := F)) 5) (rSt (⟨0, by decide⟩ : Fin 4))) :=
  (outR_eq a2 h2 a3 h3 a4 h4 a5 h5 a6 h6 a7 h7 a8 h8 a9 h9 x0 x1 x2 x3 x4 x5 x6 x7 (⟨5, by decide⟩ : Fin 8) (⟨0, by decide⟩ : Fin 4) _).trans (congrArg _ (Todo.read (todoA_19 c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_21 : outR a2 h2 a3 h3 a4 h4 a5 h5 a6 h6 a7 h7 a8 h8 a9 h9 x0 x1 x2 x3 x4 x5 x6 x7 (⟨5, by decide⟩ : Fin 8) (⟨1, by decide⟩ : Fin 4) (a11.view.readCov (kernelRun0_A.sl.HS0_22 c a3 h3 a4 h4 a6 h6 a7 h7 a8 h8 a11 x1 x2 x4 x5 x6) (rSt (⟨1, by decide⟩ : Fin 4)).toLoadRect) = outT x0 x1 x2 x3 x4 x5 x6 x7 (⟨5, by decide⟩ : Fin 8) (⟨1, by decide⟩ : Fin 4) (View.ld (stV x1 x2 x4 x5 x6 (k0_pay2 (F := F)) 5) (rSt (⟨1, by decide⟩ : Fin 4))) :=
  (outR_eq a2 h2 a3 h3 a4 h4 a5 h5 a6 h6 a7 h7 a8 h8 a9 h9 x0 x1 x2 x3 x4 x5 x6 x7 (⟨5, by decide⟩ : Fin 8) (⟨1, by decide⟩ : Fin 4) _).trans (congrArg _ (Todo.read (todoA_20 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_22 : outR a2 h2 a3 h3 a4 h4 a5 h5 a6 h6 a7 h7 a8 h8 a9 h9 x0 x1 x2 x3 x4 x5 x6 x7 (⟨5, by decide⟩ : Fin 8) (⟨2, by decide⟩ : Fin 4) (a11.view.readCov (kernelRun0_A.sl.HS0_23 c a3 h3 a4 h4 a6 h6 a7 h7 a8 h8 a11 x1 x2 x4 x5 x6) (rSt (⟨2, by decide⟩ : Fin 4)).toLoadRect) = outT x0 x1 x2 x3 x4 x5 x6 x7 (⟨5, by decide⟩ : Fin 8) (⟨2, by decide⟩ : Fin 4) (View.ld (stV x1 x2 x4 x5 x6 (k0_pay2 (F := F)) 5) (rSt (⟨2, by decide⟩ : Fin 4))) :=
  (outR_eq a2 h2 a3 h3 a4 h4 a5 h5 a6 h6 a7 h7 a8 h8 a9 h9 x0 x1 x2 x3 x4 x5 x6 x7 (⟨5, by decide⟩ : Fin 8) (⟨2, by decide⟩ : Fin 4) _).trans (congrArg _ (Todo.read (todoA_21 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_23 : outR a2 h2 a3 h3 a4 h4 a5 h5 a6 h6 a7 h7 a8 h8 a9 h9 x0 x1 x2 x3 x4 x5 x6 x7 (⟨5, by decide⟩ : Fin 8) (⟨3, by decide⟩ : Fin 4) (a11.view.readCov (kernelRun0_A.sl.HS0_24 c a3 h3 a4 h4 a6 h6 a7 h7 a8 h8 a11 x1 x2 x4 x5 x6) (rSt (⟨3, by decide⟩ : Fin 4)).toLoadRect) = outT x0 x1 x2 x3 x4 x5 x6 x7 (⟨5, by decide⟩ : Fin 8) (⟨3, by decide⟩ : Fin 4) (View.ld (stV x1 x2 x4 x5 x6 (k0_pay2 (F := F)) 5) (rSt (⟨3, by decide⟩ : Fin 4))) :=
  (outR_eq a2 h2 a3 h3 a4 h4 a5 h5 a6 h6 a7 h7 a8 h8 a9 h9 x0 x1 x2 x3 x4 x5 x6 x7 (⟨5, by decide⟩ : Fin 8) (⟨3, by decide⟩ : Fin 4) _).trans (congrArg _ (Todo.read (todoA_22 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem tileA_24 : outR a2 h2 a3 h3 a4 h4 a5 h5 a6 h6 a7 h7 a8 h8 a9 h9 x0 x1 x2 x3 x4 x5 x6 x7 (⟨6, by decide⟩ : Fin 8) (⟨0, by decide⟩ : Fin 4) (a11.view.readCov (kernelRun0_A.sl.HS0_25 c a3 h3 a4 h4 a6 h6 a7 h7 a8 h8 a11 x1 x2 x4 x5 x6) (rSt (⟨0, by decide⟩ : Fin 4)).toLoadRect) = outT x0 x1 x2 x3 x4 x5 x6 x7 (⟨6, by decide⟩ : Fin 8) (⟨0, by decide⟩ : Fin 4) (View.ld (stV x1 x2 x4 x5 x6 (k0_pay2 (F := F)) 6) (rSt (⟨0, by decide⟩ : Fin 4))) :=
  (outR_eq a2 h2 a3 h3 a4 h4 a5 h5 a6 h6 a7 h7 a8 h8 a9 h9 x0 x1 x2 x3 x4 x5 x6 x7 (⟨6, by decide⟩ : Fin 8) (⟨0, by decide⟩ : Fin 4) _).trans (congrArg _ (Todo.read (todoA_23 c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_25 : outR a2 h2 a3 h3 a4 h4 a5 h5 a6 h6 a7 h7 a8 h8 a9 h9 x0 x1 x2 x3 x4 x5 x6 x7 (⟨6, by decide⟩ : Fin 8) (⟨1, by decide⟩ : Fin 4) (a11.view.readCov (kernelRun0_A.sl.HS0_26 c a3 h3 a4 h4 a6 h6 a7 h7 a8 h8 a11 x1 x2 x4 x5 x6) (rSt (⟨1, by decide⟩ : Fin 4)).toLoadRect) = outT x0 x1 x2 x3 x4 x5 x6 x7 (⟨6, by decide⟩ : Fin 8) (⟨1, by decide⟩ : Fin 4) (View.ld (stV x1 x2 x4 x5 x6 (k0_pay2 (F := F)) 6) (rSt (⟨1, by decide⟩ : Fin 4))) :=
  (outR_eq a2 h2 a3 h3 a4 h4 a5 h5 a6 h6 a7 h7 a8 h8 a9 h9 x0 x1 x2 x3 x4 x5 x6 x7 (⟨6, by decide⟩ : Fin 8) (⟨1, by decide⟩ : Fin 4) _).trans (congrArg _ (Todo.read (todoA_24 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_26 : outR a2 h2 a3 h3 a4 h4 a5 h5 a6 h6 a7 h7 a8 h8 a9 h9 x0 x1 x2 x3 x4 x5 x6 x7 (⟨6, by decide⟩ : Fin 8) (⟨2, by decide⟩ : Fin 4) (a11.view.readCov (kernelRun0_A.sl.HS0_27 c a3 h3 a4 h4 a6 h6 a7 h7 a8 h8 a11 x1 x2 x4 x5 x6) (rSt (⟨2, by decide⟩ : Fin 4)).toLoadRect) = outT x0 x1 x2 x3 x4 x5 x6 x7 (⟨6, by decide⟩ : Fin 8) (⟨2, by decide⟩ : Fin 4) (View.ld (stV x1 x2 x4 x5 x6 (k0_pay2 (F := F)) 6) (rSt (⟨2, by decide⟩ : Fin 4))) :=
  (outR_eq a2 h2 a3 h3 a4 h4 a5 h5 a6 h6 a7 h7 a8 h8 a9 h9 x0 x1 x2 x3 x4 x5 x6 x7 (⟨6, by decide⟩ : Fin 8) (⟨2, by decide⟩ : Fin 4) _).trans (congrArg _ (Todo.read (todoA_25 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_27 : outR a2 h2 a3 h3 a4 h4 a5 h5 a6 h6 a7 h7 a8 h8 a9 h9 x0 x1 x2 x3 x4 x5 x6 x7 (⟨6, by decide⟩ : Fin 8) (⟨3, by decide⟩ : Fin 4) (a11.view.readCov (kernelRun0_A.sl.HS0_28 c a3 h3 a4 h4 a6 h6 a7 h7 a8 h8 a11 x1 x2 x4 x5 x6) (rSt (⟨3, by decide⟩ : Fin 4)).toLoadRect) = outT x0 x1 x2 x3 x4 x5 x6 x7 (⟨6, by decide⟩ : Fin 8) (⟨3, by decide⟩ : Fin 4) (View.ld (stV x1 x2 x4 x5 x6 (k0_pay2 (F := F)) 6) (rSt (⟨3, by decide⟩ : Fin 4))) :=
  (outR_eq a2 h2 a3 h3 a4 h4 a5 h5 a6 h6 a7 h7 a8 h8 a9 h9 x0 x1 x2 x3 x4 x5 x6 x7 (⟨6, by decide⟩ : Fin 8) (⟨3, by decide⟩ : Fin 4) _).trans (congrArg _ (Todo.read (todoA_26 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem tileA_28 : outR a2 h2 a3 h3 a4 h4 a5 h5 a6 h6 a7 h7 a8 h8 a9 h9 x0 x1 x2 x3 x4 x5 x6 x7 (⟨7, by decide⟩ : Fin 8) (⟨0, by decide⟩ : Fin 4) (a11.view.readCov (kernelRun0_A.sl.HS0_29 c a3 h3 a4 h4 a6 h6 a7 h7 a8 h8 a11 x1 x2 x4 x5 x6) (rSt (⟨0, by decide⟩ : Fin 4)).toLoadRect) = outT x0 x1 x2 x3 x4 x5 x6 x7 (⟨7, by decide⟩ : Fin 8) (⟨0, by decide⟩ : Fin 4) (View.ld (stV x1 x2 x4 x5 x6 (k0_pay2 (F := F)) 7) (rSt (⟨0, by decide⟩ : Fin 4))) :=
  (outR_eq a2 h2 a3 h3 a4 h4 a5 h5 a6 h6 a7 h7 a8 h8 a9 h9 x0 x1 x2 x3 x4 x5 x6 x7 (⟨7, by decide⟩ : Fin 8) (⟨0, by decide⟩ : Fin 4) _).trans (congrArg _ (Todo.read (todoA_27 c i a2 h2 a3 h3 a4 h4 a5 h5 a6 h6 a7 h7 a8 h8 a9 h9 a10 h10 a11 h11 x0 x1 x2 x3 x4 x5 x6 x7) (⟨0, by decide⟩ : Fin 4) (Nat.le_refl _) a11.view))

theorem tileA_29 : outR a2 h2 a3 h3 a4 h4 a5 h5 a6 h6 a7 h7 a8 h8 a9 h9 x0 x1 x2 x3 x4 x5 x6 x7 (⟨7, by decide⟩ : Fin 8) (⟨1, by decide⟩ : Fin 4) (a11.view.readCov (kernelRun0_A.sl.HS0_30 c a3 h3 a4 h4 a6 h6 a7 h7 a8 h8 a11 x1 x2 x4 x5 x6) (rSt (⟨1, by decide⟩ : Fin 4)).toLoadRect) = outT x0 x1 x2 x3 x4 x5 x6 x7 (⟨7, by decide⟩ : Fin 8) (⟨1, by decide⟩ : Fin 4) (View.ld (stV x1 x2 x4 x5 x6 (k0_pay2 (F := F)) 7) (rSt (⟨1, by decide⟩ : Fin 4))) :=
  (outR_eq a2 h2 a3 h3 a4 h4 a5 h5 a6 h6 a7 h7 a8 h8 a9 h9 x0 x1 x2 x3 x4 x5 x6 x7 (⟨7, by decide⟩ : Fin 8) (⟨1, by decide⟩ : Fin 4) _).trans (congrArg _ (Todo.read (todoA_28 c i a2 h2 a3 h3 a4 h4 a5 h5 a6 h6 a7 h7 a8 h8 a9 h9 a10 h10 a11 h11 x0 x1 x2 x3 x4 x5 x6 x7) (⟨1, by decide⟩ : Fin 4) (Nat.le_refl _) a11.view))

theorem tileA_30 : outR a2 h2 a3 h3 a4 h4 a5 h5 a6 h6 a7 h7 a8 h8 a9 h9 x0 x1 x2 x3 x4 x5 x6 x7 (⟨7, by decide⟩ : Fin 8) (⟨2, by decide⟩ : Fin 4) (a11.view.readCov (kernelRun0_A.sl.HS0_31 c a3 h3 a4 h4 a6 h6 a7 h7 a8 h8 a11 x1 x2 x4 x5 x6) (rSt (⟨2, by decide⟩ : Fin 4)).toLoadRect) = outT x0 x1 x2 x3 x4 x5 x6 x7 (⟨7, by decide⟩ : Fin 8) (⟨2, by decide⟩ : Fin 4) (View.ld (stV x1 x2 x4 x5 x6 (k0_pay2 (F := F)) 7) (rSt (⟨2, by decide⟩ : Fin 4))) :=
  (outR_eq a2 h2 a3 h3 a4 h4 a5 h5 a6 h6 a7 h7 a8 h8 a9 h9 x0 x1 x2 x3 x4 x5 x6 x7 (⟨7, by decide⟩ : Fin 8) (⟨2, by decide⟩ : Fin 4) _).trans (congrArg _ (Todo.read (todoA_29 c i a2 h2 a3 h3 a4 h4 a5 h5 a6 h6 a7 h7 a8 h8 a9 h9 a10 h10 a11 h11 x0 x1 x2 x3 x4 x5 x6 x7) (⟨2, by decide⟩ : Fin 4) (Nat.le_refl _) a11.view))

theorem tileA_31 : outR a2 h2 a3 h3 a4 h4 a5 h5 a6 h6 a7 h7 a8 h8 a9 h9 x0 x1 x2 x3 x4 x5 x6 x7 (⟨7, by decide⟩ : Fin 8) (⟨3, by decide⟩ : Fin 4) (a11.view.readCov (kernelRun0_A.sl.HS0_32 c a3 h3 a4 h4 a6 h6 a7 h7 a8 h8 a11 x1 x2 x4 x5 x6) (rSt (⟨3, by decide⟩ : Fin 4)).toLoadRect) = outT x0 x1 x2 x3 x4 x5 x6 x7 (⟨7, by decide⟩ : Fin 8) (⟨3, by decide⟩ : Fin 4) (View.ld (stV x1 x2 x4 x5 x6 (k0_pay2 (F := F)) 7) (rSt (⟨3, by decide⟩ : Fin 4))) :=
  (outR_eq a2 h2 a3 h3 a4 h4 a5 h5 a6 h6 a7 h7 a8 h8 a9 h9 x0 x1 x2 x3 x4 x5 x6 x7 (⟨7, by decide⟩ : Fin 8) (⟨3, by decide⟩ : Fin 4) _).trans (congrArg _ (Todo.read (todoA_30 c i a2 h2 a3 h3 a4 h4 a5 h5 a6 h6 a7 h7 a8 h8 a9 h9 a10 h10 a11 h11 x0 x1 x2 x3 x4 x5 x6 x7) (⟨3, by decide⟩ : Fin 4) (Nat.le_refl _) a11.view))

theorem outA (hc0 : cond0_0 i) : out0_A_8 c i a2 h2 a3 h3 a4 h4 a5 h5 a6 h6 a7 h7 a8 h8 a9 h9 a10 h10 a11 h11 hc0 x0 x1 x2 x3 x4 x5 x6 x7 = outG x0 x1 x2 x3 x4 x5 x6 x7 (k0_pay2 (F := F)) := by
  funext y
  have hcov := cover0_A_8 c i a2 h2 a3 h3 a4 h4 a5 h5 a6 h6 a7 h7 a8 h8 a9 h9 a10 h10 a11 h11 hc0 x0 x1 x2 x3 x4 x5 x6 x7 y
  unfold out0_A_8
  rw [View.read_writes_eq_canon _ _ _ (cover0_A_8 c i a2 h2 a3 h3 a4 h4 a5 h5 a6 h6 a7 h7 a8 h8 a9 h9 a10 h10 a11 h11 hc0 x0 x1 x2 x3 x4 x5 x6 x7)]
  refine View.canon_apply_of_pieces (outG x0 x1 x2 x3 x4 x5 x6 x7 (k0_pay2 (F := F))) _ (fun p hp => ?_) y hcov
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact outG_tile x0 x1 x2 x3 x4 x5 x6 x7 (k0_pay2 (F := F)) (⟨7, by decide⟩ : Fin 8) (⟨3, by decide⟩ : Fin 4) _ (tileA_31 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨7, by decide⟩ : Fin 8) (⟨2, by decide⟩ : Fin 4) _ (tileA_30 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨7, by decide⟩ : Fin 8) (⟨1, by decide⟩ : Fin 4) _ (tileA_29 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨7, by decide⟩ : Fin 8) (⟨0, by decide⟩ : Fin 4) _ (tileA_28 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨6, by decide⟩ : Fin 8) (⟨3, by decide⟩ : Fin 4) _ (tileA_27 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨6, by decide⟩ : Fin 8) (⟨2, by decide⟩ : Fin 4) _ (tileA_26 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨6, by decide⟩ : Fin 8) (⟨1, by decide⟩ : Fin 4) _ (tileA_25 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨6, by decide⟩ : Fin 8) (⟨0, by decide⟩ : Fin 4) _ (tileA_24 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨5, by decide⟩ : Fin 8) (⟨3, by decide⟩ : Fin 4) _ (tileA_23 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨5, by decide⟩ : Fin 8) (⟨2, by decide⟩ : Fin 4) _ (tileA_22 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨5, by decide⟩ : Fin 8) (⟨1, by decide⟩ : Fin 4) _ (tileA_21 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨5, by decide⟩ : Fin 8) (⟨0, by decide⟩ : Fin 4) _ (tileA_20 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨4, by decide⟩ : Fin 8) (⟨3, by decide⟩ : Fin 4) _ (tileA_19 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨4, by decide⟩ : Fin 8) (⟨2, by decide⟩ : Fin 4) _ (tileA_18 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨4, by decide⟩ : Fin 8) (⟨1, by decide⟩ : Fin 4) _ (tileA_17 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨4, by decide⟩ : Fin 8) (⟨0, by decide⟩ : Fin 4) _ (tileA_16 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨3, by decide⟩ : Fin 8) (⟨3, by decide⟩ : Fin 4) _ (tileA_15 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨3, by decide⟩ : Fin 8) (⟨2, by decide⟩ : Fin 4) _ (tileA_14 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨3, by decide⟩ : Fin 8) (⟨1, by decide⟩ : Fin 4) _ (tileA_13 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨3, by decide⟩ : Fin 8) (⟨0, by decide⟩ : Fin 4) _ (tileA_12 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨2, by decide⟩ : Fin 8) (⟨3, by decide⟩ : Fin 4) _ (tileA_11 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨2, by decide⟩ : Fin 8) (⟨2, by decide⟩ : Fin 4) _ (tileA_10 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨2, by decide⟩ : Fin 8) (⟨1, by decide⟩ : Fin 4) _ (tileA_9 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨2, by decide⟩ : Fin 8) (⟨0, by decide⟩ : Fin 4) _ (tileA_8 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨1, by decide⟩ : Fin 8) (⟨3, by decide⟩ : Fin 4) _ (tileA_7 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨1, by decide⟩ : Fin 8) (⟨2, by decide⟩ : Fin 4) _ (tileA_6 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨1, by decide⟩ : Fin 8) (⟨1, by decide⟩ : Fin 4) _ (tileA_5 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨1, by decide⟩ : Fin 8) (⟨0, by decide⟩ : Fin 4) _ (tileA_4 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨0, by decide⟩ : Fin 8) (⟨3, by decide⟩ : Fin 4) _ (tileA_3 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨0, by decide⟩ : Fin 8) (⟨2, by decide⟩ : Fin 4) _ (tileA_2 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨0, by decide⟩ : Fin 8) (⟨1, by decide⟩ : Fin 4) _ (tileA_1 c i a2 h2 a3 h3 a4 h4 a5 h5 a6 h6 a7 h7 a8 h8 a9 h9 a10 h10 a11 h11 x0 x1 x2 x3 x4 x5 x6 x7)
  · exact outG_tile x0 x1 x2 x3 x4 x5 x6 x7 (k0_pay2 (F := F)) (⟨0, by decide⟩ : Fin 8) (⟨0, by decide⟩ : Fin 4) _ (tileA_0 c i a2 h2 a3 h3 a4 h4 a5 h5 a6 h6 a7 h7 a8 h8 a9 h9 a10 h10 a11 h11 x0 x1 x2 x3 x4 x5 x6 x7)

end Cert.Gla

end
-- ==== Proof.Gla.StatesB.lean ====
/- The states that the body stores, chunk by chunk (the scratch carried over). -/
module

public import proofs.«01_k».proof.Proof.Gla.Loads

@[expose] public section

set_option maxRecDepth 16384
set_option maxHeartbeats 1000000
noncomputable section

namespace Cert.Gla

open Cert.KernelIdeal Cert.KernelIdeal.Gen Idealize.ShloMosaic Idealize.ShloMosaic.TcCoe Idealize.SL.Sem

variable {F : FTy → Type} [FloatOps F] [Named F]

variable (c : Dev nD) (i : grid0.Coords)
  (a2 : Memref sig .tc .vmem S1x512x512 .bf16) (h2 : a2.IsWhole) (a3 : Memref sig .tc .vmem S1x512x512 .bf16) (h3 : a3.IsWhole)
  (a4 : Memref sig .tc .vmem S1x512x512 .bf16) (h4 : a4.IsWhole) (a5 : Memref sig .tc .vmem S1x512x512 .bf16) (h5 : a5.IsWhole)
  (a6 : Memref sig .tc .vmem S1x512x128 .bf16) (h6 : a6.IsWhole) (a7 : Memref sig .tc .vmem S128x512 .bf16) (h7 : a7.IsWhole)
  (a8 : Memref sig .tc .vmem S1x512 .f32) (h8 : a8.IsWhole) (a9 : Memref sig .tc .vmem S1x512 .f32) (h9 : a9.IsWhole)
  (a10 : Memref sig .tc .vmem S1x512x512 .bf16) (h10 : a10.IsWhole) (a11 : Memref sig .tc .vmem S4x128x128 .f32) (h11 : a11.IsWhole)
  (x0 x1 x2 x3 : Vec F S1x512x512 .bf16) (x4 : Vec F S1x512x128 .bf16) (x5 : Vec F S128x512 .bf16) (x6 x7 : Vec F S1x512 .f32)
  (xs0 : Vec F S4x128x128 .f32)

include c i a2 h2 a3 h3 a4 h4 a5 h5 a6 h6 a7 h7 a8 h8 a9 h9 a10 h10 a11 h11 x0 x1 x2 x3 x4 x5 x6 x7 xs0

theorem doneB_3 : Done x1 x2 x4 x5 x6 (kernelRun0_B.sl.HS0_4 c a3 h3 a4 h4 a6 h6 a7 h7 a8 h8 a11 h11 x1 x2 x4 x5 x6 xs0) (⟨0, by decide⟩ : Fin 8) 4 (stV x1 x2 x4 x5 x6 xs0 0) :=
  (Done.step x1 x2 x4 x5 x6 (n := (⟨0, by decide⟩ : Fin 8)) (h := (⟨3, by decide⟩ : Fin 4)) (st := xs0) ((Done.step x1 x2 x4 x5 x6 (n := (⟨0, by decide⟩ : Fin 8)) (h := (⟨2, by decide⟩ : Fin 4)) (st := xs0) ((Done.step x1 x2 x4 x5 x6 (n := (⟨0, by decide⟩ : Fin 8)) (h := (⟨1, by decide⟩ : Fin 4)) (st := xs0) ((Done.step x1 x2 x4 x5 x6 (n := (⟨0, by decide⟩ : Fin 8)) (h := (⟨0, by decide⟩ : Fin 4)) (st := xs0) (Done.zero x1 x2 x4 x5 x6 [] (⟨0, by decide⟩ : Fin 8) xs0) ((rfl : _ = updR a3 h3 a4 h4 a6 h6 a7 h7 a8 h8 x1 x2 x4 x5 x6 (⟨0, by decide⟩ : Fin 8) (⟨0, by decide⟩ : Fin 4) (View.readAt (Elt F) a11.view (rSt (⟨0, by decide⟩ : Fin 4)).toLoadRect (h11.unread xs0))).trans ((updR_eq a3 h3 a4 h4 a6 h6 a7 h7 a8 h8 x1 x2 x4 x5 x6 (⟨0, by decide⟩ : Fin 8) (⟨0, by decide⟩ : Fin 4) _).trans (congrArg _ (readSt a11 h11 xs0 (⟨0, by decide⟩ : Fin 4))))))) ((rfl : _ = updR a3 h3 a4 h4 a6 h6 a7 h7 a8 h8 x1 x2 x4 x5 x6 (⟨0, by decide⟩ : Fin 8) (⟨1, by decide⟩ : Fin 4) (View.readAt (Elt F) a11.view (rSt (⟨1, by decide⟩ : Fin 4)).toLoadRect (h11.unread xs0))).trans ((updR_eq a3 h3 a4 h4 a6 h6 a7 h7 a8 h8 x1 x2 x4 x5 x6 (⟨0, by decide⟩ : Fin 8) (⟨1, by decide⟩ : Fin 4) _).trans (congrArg _ (readSt a11 h11 xs0 (⟨1, by decide⟩ : Fin 4))))))) ((rfl : _ = updR a3 h3 a4 h4 a6 h6 a7 h7 a8 h8 x1 x2 x4 x5 x6 (⟨0, by decide⟩ : Fin 8) (⟨2, by decide⟩ : Fin 4) (View.readAt (Elt F) a11.view (rSt (⟨2, by decide⟩ : Fin 4)).toLoadRect (h11.unread xs0))).trans ((updR_eq a3 h3 a4 h4 a6 h6 a7 h7 a8 h8 x1 x2 x4 x5 x6 (⟨0, by decide⟩ : Fin 8) (⟨2, by decide⟩ : Fin 4) _).trans (congrArg _ (readSt a11 h11 xs0 (⟨2, by decide⟩ : Fin 4))))))) ((rfl : _ = updR a3 h3 a4 h4 a6 h6 a7 h7 a8 h8 x1 x2 x4 x5 x6 (⟨0, by decide⟩ : Fin 8) (⟨3, by decide⟩ : Fin 4) (View.readAt (Elt F) a11.view (rSt (⟨3, by decide⟩ : Fin 4)).toLoadRect (h11.unread xs0))).trans ((updR_eq a3 h3 a4 h4 a6 h6 a7 h7 a8 h8 x1 x2 x4 x5 x6 (⟨0, by decide⟩ : Fin 8) (⟨3, by decide⟩ : Fin 4) _).trans (congrArg _ (readSt a11 h11 xs0 (⟨3, by decide⟩ : Fin 4))))))

theorem todoB_3 : Todo (kernelRun0_B.sl.HS0_4 c a3 h3 a4 h4 a6 h6 a7 h7 a8 h8 a11 h11 x1 x2 x4 x5 x6 xs0) 0 (stV x1 x2 x4 x5 x6 xs0 1) := Done.nextV x1 x2 x4 x5 x6 (n := (⟨0, by decide⟩ : Fin 8)) (doneB_3 c i a2 h2 a3 h3 a4 h4 a5 h5 a6 h6 a7 h7 a8 h8 a9 h9 a10 h10 a11 h11 x0 x1 x2 x3 x4 x5 x6 x7 xs0)

theorem doneB_4 : Done x1 x2 x4 x5 x6 (kernelRun0_B.sl.HS0_5 c a3 h3 a4 h4 a6 h6 a7 h7 a8 h8 a11 h11 x1 x2 x4 x5 x6 xs0) (⟨1, by decide⟩ : Fin 8) 1 (stV x1 x2 x4 x5 x6 xs0 1) :=
  Done.step x1 x2 x4 x5 x6 (n := (⟨1, by decide⟩ : Fin 8)) (h := (⟨0, by decide⟩ : Fin 4)) (L := (kernelRun0_B.sl.HS0_4 c a3 h3 a4 h4 a6 h6 a7 h7 a8 h8 a11 h11 x1 x2 x4 x5 x6 xs0)) (st := (stV x1 x2 x4 x5 x6 xs0 1)) (Done.zero x1 x2 x4 x5 x6 (kernelRun0_B.sl.HS0_4 c a3 h3 a4 h4 a6 h6 a7 h7 a8 h8 a11 h11 x1 x2 x4 x5 x6 xs0) (⟨1, by decide⟩ : Fin 8) (stV x1 x2 x4 x5 x6 xs0 1))
    ((rfl : _ = updR a3 h3 a4 h4 a6 h6 a7 h7 a8 h8 x1 x2 x4 x5 x6 (⟨1, by decide⟩ : Fin 8) (⟨0, by decide⟩ : Fin 4) (a11.view.readCov (kernelRun0_B.sl.HS0_4 c a3 h3 a4 h4 a6 h6 a7 h7 a8 h8 a11 h11 x1 x2 x4 x5 x6 xs0) (rSt (⟨0, by decide⟩ : Fin 4)).toLoadRect)).trans
      ((updR_eq a3 h3 a4 h4 a6 h6 a7 h7 a8 h8 x1 x2 x4 x5 x6 (⟨1, by decide⟩ : Fin 8) (⟨0, by decide⟩ : Fin 4) _).trans (congrArg _ (Todo.read (todoB_3 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))))

theorem todoB_4 : Todo (kernelRun0_B.sl.HS0_5 c a3 h3 a4 h4 a6 h6 a7 h7 a8 h8 a11 h11 x1 x2 x4 x5 x6 xs0) 1 (stV x1 x2 x4 x5 x6 xs0 1) := Todo.step (h := (⟨0, by decide⟩ : Fin 4)) (L := (kernelRun0_B.sl.HS0_4 c a3 h3 a4 h4 a6 h6 a7 h7 a8 h8 a11 h11 x1 x2 x4 x5 x6 xs0)) (st := (stV x1 x2 x4 x5 x6 xs0 1)) (todoB_3 c i a2 h2 a3 h3 a4 h4 a5 h5 a6 h6 a7 h7 a8 h8 a9 h9 a10 h10 a11 h11 x0 x1 x2 x3 x4 x5 x6 x7 xs0)

theorem doneB_5 : Done x1 x2 x4 x5 x6 (kernelRun0_B.sl.HS0_6 c a3 h3 a4 h4 a6 h6 a7 h7 a8 h8 a11 h11 x1 x2 x4 x5 x6 xs0) (⟨1, by decide⟩ : Fin 8) 2 (stV x1 x2 x4 x5 x6 xs0 1) :=
  Done.step x1 x2 x4 x5 x6 (n := (⟨1, by decide⟩ : Fin 8)) (h := (⟨1, by decide⟩ : Fin 4)) (L := (kernelRun0_B.sl.HS0_5 c a3 h3 a4 h4 a6 h6 a7 h7 a8 h8 a11 h11 x1 x2 x4 x5 x6 xs0)) (st := (stV x1 x2 x4 x5 x6 xs0 1)) ((doneB_4 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨1, by decide⟩ : Fin 8) (⟨1, by decide⟩ : Fin 4) (a11.view.readCov (kernelRun0_B.sl.HS0_5 c a3 h3 a4 h4 a6 h6 a7 h7 a8 h8 a11 h11 x1 x2 x4 x5 x6 xs0) (rSt (⟨1, by decide⟩ : Fin 4)).toLoadRect)).trans
      ((updR_eq a3 h3 a4 h4 a6 h6 a7 h7 a8 h8 x1 x2 x4 x5 x6 (⟨1, by decide⟩ : Fin 8) (⟨1, by decide⟩ : Fin 4) _).trans (congrArg _ (Todo.read (todoB_4 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))))

theorem todoB_5 : Todo (kernelRun0_B.sl.HS0_6 c a3 h3 a4 h4 a6 h6 a7 h7 a8 h8 a11 h11 x1 x2 x4 x5 x6 xs0) 2 (stV x1 x2 x4 x5 x6 xs0 1) := Todo.step (h := (⟨1, by decide⟩ : Fin 4)) (L := (kernelRun0_B.sl.HS0_5 c a3 h3 a4 h4 a6 h6 a7 h7 a8 h8 a11 h11 x1 x2 x4 x5 x6 xs0)) (st := (stV x1 x2 x4 x5 x6 xs0 1)) (todoB_4 c i a2 h2 a3 h3 a4 h4 a5 h5 a6 h6 a7 h7 a8 h8 a9 h9 a10 h10 a11 h11 x0 x1 x2 x3 x4 x5 x6 x7 xs0)

theorem doneB_6 : Done x1 x2 x4 x5 x6 (kernelRun0_B.sl.HS0_7 c a3 h3 a4 h4 a6 h6 a7 h7 a8 h8 a11 h11 x1 x2 x4 x5 x6 xs0) (⟨1, by decide⟩ : Fin 8) 3 (stV x1 x2 x4 x5 x6 xs0 1) :=
  Done.step x1 x2 x4 x5 x6 (n := (⟨1, by decide⟩ : Fin 8)) (h := (⟨2, by decide⟩ : Fin 4)) (L := (kernelRun0_B.sl.HS0_6 c a3 h3 a4 h4 a6 h6 a7 h7 a8 h8 a11 h11 x1 x2 x4 x5 x6 xs0)) (st := (stV x1 x2 x4 x5 x6 xs0 1)) ((doneB_5 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨1, by decide⟩ : Fin 8) (⟨2, by decide⟩ : Fin 4) (a11.view.readCov (kernelRun0_B.sl.HS0_6 c a3 h3 a4 h4 a6 h6 a7 h7 a8 h8 a11 h11 x1 x2 x4 x5 x6 xs0) (rSt (⟨2, by decide⟩ : Fin 4)).toLoadRect)).trans
      ((updR_eq a3 h3 a4 h4 a6 h6 a7 h7 a8 h8 x1 x2 x4 x5 x6 (⟨1, by decide⟩ : Fin 8) (⟨2, by decide⟩ : Fin 4) _).trans (congrArg _ (Todo.read (todoB_5 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))))

theorem todoB_6 : Todo (kernelRun0_B.sl.HS0_7 c a3 h3 a4 h4 a6 h6 a7 h7 a8 h8 a11 h11 x1 x2 x4 x5 x6 xs0) 3 (stV x1 x2 x4 x5 x6 xs0 1) := Todo.step (h := (⟨2, by decide⟩ : Fin 4)) (L := (kernelRun0_B.sl.HS0_6 c a3 h3 a4 h4 a6 h6 a7 h7 a8 h8 a11 h11 x1 x2 x4 x5 x6 xs0)) (st := (stV x1 x2 x4 x5 x6 xs0 1)) (todoB_5 c i a2 h2 a3 h3 a4 h4 a5 h5 a6 h6 a7 h7 a8 h8 a9 h9 a10 h10 a11 h11 x0 x1 x2 x3 x4 x5 x6 x7 xs0)

theorem doneB_7 : Done x1 x2 x4 x5 x6 (kernelRun0_B.sl.HS0_8 c a3 h3 a4 h4 a6 h6 a7 h7 a8 h8 a11 h11 x1 x2 x4 x5 x6 xs0) (⟨1, by decide⟩ : Fin 8) 4 (stV x1 x2 x4 x5 x6 xs0 1) :=
  Done.step x1 x2 x4 x5 x6 (n := (⟨1, by decide⟩ : Fin 8)) (h := (⟨3, by decide⟩ : Fin 4)) (L := (kernelRun0_B.sl.HS0_7 c a3 h3 a4 h4 a6 h6 a7 h7 a8 h8 a11 h11 x1 x2 x4 x5 x6 xs0)) (st := (stV x1 x2 x4 x5 x6 xs0 1)) ((doneB_6 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨1, by decide⟩ : Fin 8) (⟨3, by decide⟩ : Fin 4) (a11.view.readCov (kernelRun0_B.sl.HS0_7 c a3 h3 a4 h4 a6 h6 a7 h7 a8 h8 a11 h11 x1 x2 x4 x5 x6 xs0) (rSt (⟨3, by decide⟩ : Fin 4)).toLoadRect)).trans
      ((updR_eq a3 h3 a4 h4 a6 h6 a7 h7 a8 h8 x1 x2 x4 x5 x6 (⟨1, by decide⟩ : Fin 8) (⟨3, by decide⟩ : Fin 4) _).trans (congrArg _ (Todo.read (todoB_6 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))))

theorem todoB_7 : Todo (kernelRun0_B.sl.HS0_8 c a3 h3 a4 h4 a6 h6 a7 h7 a8 h8 a11 h11 x1 x2 x4 x5 x6 xs0) 0 (stV x1 x2 x4 x5 x6 xs0 2) := Done.nextV x1 x2 x4 x5 x6 (n := (⟨1, by decide⟩ : Fin 8)) (doneB_7 c i a2 h2 a3 h3 a4 h4 a5 h5 a6 h6 a7 h7 a8 h8 a9 h9 a10 h10 a11 h11 x0 x1 x2 x3 x4 x5 x6 x7 xs0)

theorem doneB_8 : Done x1 x2 x4 x5 x6 (kernelRun0_B.sl.HS0_9 c a3 h3 a4 h4 a6 h6 a7 h7 a8 h8 a11 h11 x1 x2 x4 x5 x6 xs0) (⟨2, by decide⟩ : Fin 8) 1 (stV x1 x2 x4 x5 x6 xs0 2) :=
  Done.step x1 x2 x4 x5 x6 (n := (⟨2, by decide⟩ : Fin 8)) (h := (⟨0, by decide⟩ : Fin 4)) (L := (kernelRun0_B.sl.HS0_8 c a3 h3 a4 h4 a6 h6 a7 h7 a8 h8 a11 h11 x1 x2 x4 x5 x6 xs0)) (st := (stV x1 x2 x4 x5 x6 xs0 2)) (Done.zero x1 x2 x4 x5 x6 (kernelRun0_B.sl.HS0_8 c a3 h3 a4 h4 a6 h6 a7 h7 a8 h8 a11 h11 x1 x2 x4 x5 x6 xs0) (⟨2, by decide⟩ : Fin 8) (stV x1 x2 x4 x5 x6 xs0 2))
    ((rfl : _ = updR a3 h3 a4 h4 a6 h6 a7 h7 a8 h8 x1 x2 x4 x5 x6 (⟨2, by decide⟩ : Fin 8) (⟨0, by decide⟩ : Fin 4) (a11.view.readCov (kernelRun0_B.sl.HS0_8 c a3 h3 a4 h4 a6 h6 a7 h7 a8 h8 a11 h11 x1 x2 x4 x5 x6 xs0) (rSt (⟨0, by decide⟩ : Fin 4)).toLoadRect)).trans
      ((updR_eq a3 h3 a4 h4 a6 h6 a7 h7 a8 h8 x1 x2 x4 x5 x6 (⟨2, by decide⟩ : Fin 8) (⟨0, by decide⟩ : Fin 4) _).trans (congrArg _ (Todo.read (todoB_7 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))))

theorem todoB_8 : Todo (kernelRun0_B.sl.HS0_9 c a3 h3 a4 h4 a6 h6 a7 h7 a8 h8 a11 h11 x1 x2 x4 x5 x6 xs0) 1 (stV x1 x2 x4 x5 x6 xs0 2) := Todo.step (h := (⟨0, by decide⟩ : Fin 4)) (L := (kernelRun0_B.sl.HS0_8 c a3 h3 a4 h4 a6 h6 a7 h7 a8 h8 a11 h11 x1 x2 x4 x5 x6 xs0)) (st := (stV x1 x2 x4 x5 x6 xs0 2)) (todoB_7 c i a2 h2 a3 h3 a4 h4 a5 h5 a6 h6 a7 h7 a8 h8 a9 h9 a10 h10 a11 h11 x0 x1 x2 x3 x4 x5 x6 x7 xs0)

theorem doneB_9 : Done x1 x2 x4 x5 x6 (kernelRun0_B.sl.HS0_10 c a3 h3 a4 h4 a6 h6 a7 h7 a8 h8 a11 h11 x1 x2 x4 x5 x6 xs0) (⟨2, by decide⟩ : Fin 8) 2 (stV x1 x2 x4 x5 x6 xs0 2) :=
  Done.step x1 x2 x4 x5 x6 (n := (⟨2, by decide⟩ : Fin 8)) (h := (⟨1, by decide⟩ : Fin 4)) (L := (kernelRun0_B.sl.HS0_9 c a3 h3 a4 h4 a6 h6 a7 h7 a8 h8 a11 h11 x1 x2 x4 x5 x6 xs0)) (st := (stV x1 x2 x4 x5 x6 xs0 2)) ((doneB_8 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨2, by decide⟩ : Fin 8) (⟨1, by decide⟩ : Fin 4) (a11.view.readCov (kernelRun0_B.sl.HS0_9 c a3 h3 a4 h4 a6 h6 a7 h7 a8 h8 a11 h11 x1 x2 x4 x5 x6 xs0) (rSt (⟨1, by decide⟩ : Fin 4)).toLoadRect)).trans
      ((updR_eq a3 h3 a4 h4 a6 h6 a7 h7 a8 h8 x1 x2 x4 x5 x6 (⟨2, by decide⟩ : Fin 8) (⟨1, by decide⟩ : Fin 4) _).trans (congrArg _ (Todo.read (todoB_8 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))))

theorem todoB_9 : Todo (kernelRun0_B.sl.HS0_10 c a3 h3 a4 h4 a6 h6 a7 h7 a8 h8 a11 h11 x1 x2 x4 x5 x6 xs0) 2 (stV x1 x2 x4 x5 x6 xs0 2) := Todo.step (h := (⟨1, by decide⟩ : Fin 4)) (L := (kernelRun0_B.sl.HS0_9 c a3 h3 a4 h4 a6 h6 a7 h7 a8 h8 a11 h11 x1 x2 x4 x5 x6 xs0)) (st := (stV x1 x2 x4 x5 x6 xs0 2)) (todoB_8 c i a2 h2 a3 h3 a4 h4 a5 h5 a6 h6 a7 h7 a8 h8 a9 h9 a10 h10 a11 h11 x0 x1 x2 x3 x4 x5 x6 x7 xs0)

theorem doneB_10 : Done x1 x2 x4 x5 x6 (kernelRun0_B.sl.HS0_11 c a3 h3 a4 h4 a6 h6 a7 h7 a8 h8 a11 h11 x1 x2 x4 x5 x6 xs0) (⟨2, by decide⟩ : Fin 8) 3 (stV x1 x2 x4 x5 x6 xs0 2) :=
  Done.step x1 x2 x4 x5 x6 (n := (⟨2, by decide⟩ : Fin 8)) (h := (⟨2, by decide⟩ : Fin 4)) (L := (kernelRun0_B.sl.HS0_10 c a3 h3 a4 h4 a6 h6 a7 h7 a8 h8 a11 h11 x1 x2 x4 x5 x6 xs0)) (st := (stV x1 x2 x4 x5 x6 xs0 2)) ((doneB_9 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨2, by decide⟩ : Fin 8) (⟨2, by decide⟩ : Fin 4) (a11.view.readCov (kernelRun0_B.sl.HS0_10 c a3 h3 a4 h4 a6 h6 a7 h7 a8 h8 a11 h11 x1 x2 x4 x5 x6 xs0) (rSt (⟨2, by decide⟩ : Fin 4)).toLoadRect)).trans
      ((updR_eq a3 h3 a4 h4 a6 h6 a7 h7 a8 h8 x1 x2 x4 x5 x6 (⟨2, by decide⟩ : Fin 8) (⟨2, by decide⟩ : Fin 4) _).trans (congrArg _ (Todo.read (todoB_9 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))))

theorem todoB_10 : Todo (kernelRun0_B.sl.HS0_11 c a3 h3 a4 h4 a6 h6 a7 h7 a8 h8 a11 h11 x1 x2 x4 x5 x6 xs0) 3 (stV x1 x2 x4 x5 x6 xs0 2) := Todo.step (h := (⟨2, by decide⟩ : Fin 4)) (L := (kernelRun0_B.sl.HS0_10 c a3 h3 a4 h4 a6 h6 a7 h7 a8 h8 a11 h11 x1 x2 x4 x5 x6 xs0)) (st := (stV x1 x2 x4 x5 x6 xs0 2)) (todoB_9 c i a2 h2 a3 h3 a4 h4 a5 h5 a6 h6 a7 h7 a8 h8 a9 h9 a10 h10 a11 h11 x0 x1 x2 x3 x4 x5 x6 x7 xs0)

theorem doneB_11 : Done x1 x2 x4 x5 x6 (kernelRun0_B.sl.HS0_12 c a3 h3 a4 h4 a6 h6 a7 h7 a8 h8 a11 h11 x1 x2 x4 x5 x6 xs0) (⟨2, by decide⟩ : Fin 8) 4 (stV x1 x2 x4 x5 x6 xs0 2) :=
  Done.step x1 x2 x4 x5 x6 (n := (⟨2, by decide⟩ : Fin 8)) (h := (⟨3, by decide⟩ : Fin 4)) (L := (kernelRun0_B.sl.HS0_11 c a3 h3 a4 h4 a6 h6 a7 h7 a8 h8 a11 h11 x1 x2 x4 x5 x6 xs0)) (st := (stV x1 x2 x4 x5 x6 xs0 2)) ((doneB_10 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨2, by decide⟩ : Fin 8) (⟨3, by decide⟩ : Fin 4) (a11.view.readCov (kernelRun0_B.sl.HS0_11 c a3 h3 a4 h4 a6 h6 a7 h7 a8 h8 a11 h11 x1 x2 x4 x5 x6 xs0) (rSt (⟨3, by decide⟩ : Fin 4)).toLoadRect)).trans
      ((updR_eq a3 h3 a4 h4 a6 h6 a7 h7 a8 h8 x1 x2 x4 x5 x6 (⟨2, by decide⟩ : Fin 8) (⟨3, by decide⟩ : Fin 4) _).trans (congrArg _ (Todo.read (todoB_10 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))))

theorem todoB_11 : Todo (kernelRun0_B.sl.HS0_12 c a3 h3 a4 h4 a6 h6 a7 h7 a8 h8 a11 h11 x1 x2 x4 x5 x6 xs0) 0 (stV x1 x2 x4 x5 x6 xs0 3) := Done.nextV x1 x2 x4 x5 x6 (n := (⟨2, by decide⟩ : Fin 8)) (doneB_11 c i a2 h2 a3 h3 a4 h4 a5 h5 a6 h6 a7 h7 a8 h8 a9 h9 a10 h10 a11 h11 x0 x1 x2 x3 x4 x5 x6 x7 xs0)

theorem doneB_12 : Done x1 x2 x4 x5 x6 (kernelRun0_B.sl.HS0_13 c a3 h3 a4 h4 a6 h6 a7 h7 a8 h8 a11 h11 x1 x2 x4 x5 x6 xs0) (⟨3, by decide⟩ : Fin 8) 1 (stV x1 x2 x4 x5 x6 xs0 3) :=
  Done.step x1 x2 x4 x5 x6 (n := (⟨3, by decide⟩ : Fin 8)) (h := (⟨0, by decide⟩ : Fin 4)) (L := (kernelRun0_B.sl.HS0_12 c a3 h3 a4 h4 a6 h6 a7 h7 a8 h8 a11 h11 x1 x2 x4 x5 x6 xs0)) (st := (stV x1 x2 x4 x5 x6 xs0 3)) (Done.zero x1 x2 x4 x5 x6 (kernelRun0_B.sl.HS0_12 c a3 h3 a4 h4 a6 h6 a7 h7 a8 h8 a11 h11 x1 x2 x4 x5 x6 xs0) (⟨3, by decide⟩ : Fin 8) (stV x1 x2 x4 x5 x6 xs0 3))
    ((rfl : _ = updR a3 h3 a4 h4 a6 h6 a7 h7 a8 h8 x1 x2 x4 x5 x6 (⟨3, by decide⟩ : Fin 8) (⟨0, by decide⟩ : Fin 4) (a11.view.readCov (kernelRun0_B.sl.HS0_12 c a3 h3 a4 h4 a6 h6 a7 h7 a8 h8 a11 h11 x1 x2 x4 x5 x6 xs0) (rSt (⟨0, by decide⟩ : Fin 4)).toLoadRect)).trans
      ((updR_eq a3 h3 a4 h4 a6 h6 a7 h7 a8 h8 x1 x2 x4 x5 x6 (⟨3, by decide⟩ : Fin 8) (⟨0, by decide⟩ : Fin 4) _).trans (congrArg _ (Todo.read (todoB_11 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))))

theorem todoB_12 : Todo (kernelRun0_B.sl.HS0_13 c a3 h3 a4 h4 a6 h6 a7 h7 a8 h8 a11 h11 x1 x2 x4 x5 x6 xs0) 1 (stV x1 x2 x4 x5 x6 xs0 3) := Todo.step (h := (⟨0, by decide⟩ : Fin 4)) (L := (kernelRun0_B.sl.HS0_12 c a3 h3 a4 h4 a6 h6 a7 h7 a8 h8 a11 h11 x1 x2 x4 x5 x6 xs0)) (st := (stV x1 x2 x4 x5 x6 xs0 3)) (todoB_11 c i a2 h2 a3 h3 a4 h4 a5 h5 a6 h6 a7 h7 a8 h8 a9 h9 a10 h10 a11 h11 x0 x1 x2 x3 x4 x5 x6 x7 xs0)

theorem doneB_13 : Done x1 x2 x4 x5 x6 (kernelRun0_B.sl.HS0_14 c a3 h3 a4 h4 a6 h6 a7 h7 a8 h8 a11 h11 x1 x2 x4 x5 x6 xs0) (⟨3, by decide⟩ : Fin 8) 2 (stV x1 x2 x4 x5 x6 xs0 3) :=
  Done.step x1 x2 x4 x5 x6 (n := (⟨3, by decide⟩ : Fin 8)) (h := (⟨1, by decide⟩ : Fin 4)) (L := (kernelRun0_B.sl.HS0_13 c a3 h3 a4 h4 a6 h6 a7 h7 a8 h8 a11 h11 x1 x2 x4 x5 x6 xs0)) (st := (stV x1 x2 x4 x5 x6 xs0 3)) ((doneB_12 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨3, by decide⟩ : Fin 8) (⟨1, by decide⟩ : Fin 4) (a11.view.readCov (kernelRun0_B.sl.HS0_13 c a3 h3 a4 h4 a6 h6 a7 h7 a8 h8 a11 h11 x1 x2 x4 x5 x6 xs0) (rSt (⟨1, by decide⟩ : Fin 4)).toLoadRect)).trans
      ((updR_eq a3 h3 a4 h4 a6 h6 a7 h7 a8 h8 x1 x2 x4 x5 x6 (⟨3, by decide⟩ : Fin 8) (⟨1, by decide⟩ : Fin 4) _).trans (congrArg _ (Todo.read (todoB_12 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))))

theorem todoB_13 : Todo (kernelRun0_B.sl.HS0_14 c a3 h3 a4 h4 a6 h6 a7 h7 a8 h8 a11 h11 x1 x2 x4 x5 x6 xs0) 2 (stV x1 x2 x4 x5 x6 xs0 3) := Todo.step (h := (⟨1, by decide⟩ : Fin 4)) (L := (kernelRun0_B.sl.HS0_13 c a3 h3 a4 h4 a6 h6 a7 h7 a8 h8 a11 h11 x1 x2 x4 x5 x6 xs0)) (st := (stV x1 x2 x4 x5 x6 xs0 3)) (todoB_12 c i a2 h2 a3 h3 a4 h4 a5 h5 a6 h6 a7 h7 a8 h8 a9 h9 a10 h10 a11 h11 x0 x1 x2 x3 x4 x5 x6 x7 xs0)

theorem doneB_14 : Done x1 x2 x4 x5 x6 (kernelRun0_B.sl.HS0_15 c a3 h3 a4 h4 a6 h6 a7 h7 a8 h8 a11 h11 x1 x2 x4 x5 x6 xs0) (⟨3, by decide⟩ : Fin 8) 3 (stV x1 x2 x4 x5 x6 xs0 3) :=
  Done.step x1 x2 x4 x5 x6 (n := (⟨3, by decide⟩ : Fin 8)) (h := (⟨2, by decide⟩ : Fin 4)) (L := (kernelRun0_B.sl.HS0_14 c a3 h3 a4 h4 a6 h6 a7 h7 a8 h8 a11 h11 x1 x2 x4 x5 x6 xs0)) (st := (stV x1 x2 x4 x5 x6 xs0 3)) ((doneB_13 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨3, by decide⟩ : Fin 8) (⟨2, by decide⟩ : Fin 4) (a11.view.readCov (kernelRun0_B.sl.HS0_14 c a3 h3 a4 h4 a6 h6 a7 h7 a8 h8 a11 h11 x1 x2 x4 x5 x6 xs0) (rSt (⟨2, by decide⟩ : Fin 4)).toLoadRect)).trans
      ((updR_eq a3 h3 a4 h4 a6 h6 a7 h7 a8 h8 x1 x2 x4 x5 x6 (⟨3, by decide⟩ : Fin 8) (⟨2, by decide⟩ : Fin 4) _).trans (congrArg _ (Todo.read (todoB_13 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))))

theorem todoB_14 : Todo (kernelRun0_B.sl.HS0_15 c a3 h3 a4 h4 a6 h6 a7 h7 a8 h8 a11 h11 x1 x2 x4 x5 x6 xs0) 3 (stV x1 x2 x4 x5 x6 xs0 3) := Todo.step (h := (⟨2, by decide⟩ : Fin 4)) (L := (kernelRun0_B.sl.HS0_14 c a3 h3 a4 h4 a6 h6 a7 h7 a8 h8 a11 h11 x1 x2 x4 x5 x6 xs0)) (st := (stV x1 x2 x4 x5 x6 xs0 3)) (todoB_13 c i a2 h2 a3 h3 a4 h4 a5 h5 a6 h6 a7 h7 a8 h8 a9 h9 a10 h10 a11 h11 x0 x1 x2 x3 x4 x5 x6 x7 xs0)

theorem doneB_15 : Done x1 x2 x4 x5 x6 (kernelRun0_B.sl.HS0_16 c a3 h3 a4 h4 a6 h6 a7 h7 a8 h8 a11 h11 x1 x2 x4 x5 x6 xs0) (⟨3, by decide⟩ : Fin 8) 4 (stV x1 x2 x4 x5 x6 xs0 3) :=
  Done.step x1 x2 x4 x5 x6 (n := (⟨3, by decide⟩ : Fin 8)) (h := (⟨3, by decide⟩ : Fin 4)) (L := (kernelRun0_B.sl.HS0_15 c a3 h3 a4 h4 a6 h6 a7 h7 a8 h8 a11 h11 x1 x2 x4 x5 x6 xs0)) (st := (stV x1 x2 x4 x5 x6 xs0 3)) ((doneB_14 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨3, by decide⟩ : Fin 8) (⟨3, by decide⟩ : Fin 4) (a11.view.readCov (kernelRun0_B.sl.HS0_15 c a3 h3 a4 h4 a6 h6 a7 h7 a8 h8 a11 h11 x1 x2 x4 x5 x6 xs0) (rSt (⟨3, by decide⟩ : Fin 4)).toLoadRect)).trans
      ((updR_eq a3 h3 a4 h4 a6 h6 a7 h7 a8 h8 x1 x2 x4 x5 x6 (⟨3, by decide⟩ : Fin 8) (⟨3, by decide⟩ : Fin 4) _).trans (congrArg _ (Todo.read (todoB_14 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))))

theorem todoB_15 : Todo (kernelRun0_B.sl.HS0_16 c a3 h3 a4 h4 a6 h6 a7 h7 a8 h8 a11 h11 x1 x2 x4 x5 x6 xs0) 0 (stV x1 x2 x4 x5 x6 xs0 4) := Done.nextV x1 x2 x4 x5 x6 (n := (⟨3, by decide⟩ : Fin 8)) (doneB_15 c i a2 h2 a3 h3 a4 h4 a5 h5 a6 h6 a7 h7 a8 h8 a9 h9 a10 h10 a11 h11 x0 x1 x2 x3 x4 x5 x6 x7 xs0)

theorem doneB_16 : Done x1 x2 x4 x5 x6 (kernelRun0_B.sl.HS0_17 c a3 h3 a4 h4 a6 h6 a7 h7 a8 h8 a11 h11 x1 x2 x4 x5 x6 xs0) (⟨4, by decide⟩ : Fin 8) 1 (stV x1 x2 x4 x5 x6 xs0 4) :=
  Done.step x1 x2 x4 x5 x6 (n := (⟨4, by decide⟩ : Fin 8)) (h := (⟨0, by decide⟩ : Fin 4)) (L := (kernelRun0_B.sl.HS0_16 c a3 h3 a4 h4 a6 h6 a7 h7 a8 h8 a11 h11 x1 x2 x4 x5 x6 xs0)) (st := (stV x1 x2 x4 x5 x6 xs0 4)) (Done.zero x1 x2 x4 x5 x6 (kernelRun0_B.sl.HS0_16 c a3 h3 a4 h4 a6 h6 a7 h7 a8 h8 a11 h11 x1 x2 x4 x5 x6 xs0) (⟨4, by decide⟩ : Fin 8) (stV x1 x2 x4 x5 x6 xs0 4))
    ((rfl : _ = updR a3 h3 a4 h4 a6 h6 a7 h7 a8 h8 x1 x2 x4 x5 x6 (⟨4, by decide⟩ : Fin 8) (⟨0, by decide⟩ : Fin 4) (a11.view.readCov (kernelRun0_B.sl.HS0_16 c a3 h3 a4 h4 a6 h6 a7 h7 a8 h8 a11 h11 x1 x2 x4 x5 x6 xs0) (rSt (⟨0, by decide⟩ : Fin 4)).toLoadRect)).trans
      ((updR_eq a3 h3 a4 h4 a6 h6 a7 h7 a8 h8 x1 x2 x4 x5 x6 (⟨4, by decide⟩ : Fin 8) (⟨0, by decide⟩ : Fin 4) _).trans (congrArg _ (Todo.read (todoB_15 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))))

theorem todoB_16 : Todo (kernelRun0_B.sl.HS0_17 c a3 h3 a4 h4 a6 h6 a7 h7 a8 h8 a11 h11 x1 x2 x4 x5 x6 xs0) 1 (stV x1 x2 x4 x5 x6 xs0 4) := Todo.step (h := (⟨0, by decide⟩ : Fin 4)) (L := (kernelRun0_B.sl.HS0_16 c a3 h3 a4 h4 a6 h6 a7 h7 a8 h8 a11 h11 x1 x2 x4 x5 x6 xs0)) (st := (stV x1 x2 x4 x5 x6 xs0 4)) (todoB_15 c i a2 h2 a3 h3 a4 h4 a5 h5 a6 h6 a7 h7 a8 h8 a9 h9 a10 h10 a11 h11 x0 x1 x2 x3 x4 x5 x6 x7 xs0)

theorem doneB_17 : Done x1 x2 x4 x5 x6 (kernelRun0_B.sl.HS0_18 c a3 h3 a4 h4 a6 h6 a7 h7 a8 h8 a11 h11 x1 x2 x4 x5 x6 xs0) (⟨4, by decide⟩ : Fin 8) 2 (stV x1 x2 x4 x5 x6 xs0 4) :=
  Done.step x1 x2 x4 x5 x6 (n := (⟨4, by decide⟩ : Fin 8)) (h := (⟨1, by decide⟩ : Fin 4)) (L := (kernelRun0_B.sl.HS0_17 c a3 h3 a4 h4 a6 h6 a7 h7 a8 h8 a11 h11 x1 x2 x4 x5 x6 xs0)) (st := (stV x1 x2 x4 x5 x6 xs0 4)) ((doneB_16 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨4, by decide⟩ : Fin 8) (⟨1, by decide⟩ : Fin 4) (a11.view.readCov (kernelRun0_B.sl.HS0_17 c a3 h3 a4 h4 a6 h6 a7 h7 a8 h8 a11 h11 x1 x2 x4 x5 x6 xs0) (rSt (⟨1, by decide⟩ : Fin 4)).toLoadRect)).trans
      ((updR_eq a3 h3 a4 h4 a6 h6 a7 h7 a8 h8 x1 x2 x4 x5 x6 (⟨4, by decide⟩ : Fin 8) (⟨1, by decide⟩ : Fin 4) _).trans (congrArg _ (Todo.read (todoB_16 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))))

theorem todoB_17 : Todo (kernelRun0_B.sl.HS0_18 c a3 h3 a4 h4 a6 h6 a7 h7 a8 h8 a11 h11 x1 x2 x4 x5 x6 xs0) 2 (stV x1 x2 x4 x5 x6 xs0 4) := Todo.step (h := (⟨1, by decide⟩ : Fin 4)) (L := (kernelRun0_B.sl.HS0_17 c a3 h3 a4 h4 a6 h6 a7 h7 a8 h8 a11 h11 x1 x2 x4 x5 x6 xs0)) (st := (stV x1 x2 x4 x5 x6 xs0 4)) (todoB_16 c i a2 h2 a3 h3 a4 h4 a5 h5 a6 h6 a7 h7 a8 h8 a9 h9 a10 h10 a11 h11 x0 x1 x2 x3 x4 x5 x6 x7 xs0)

theorem doneB_18 : Done x1 x2 x4 x5 x6 (kernelRun0_B.sl.HS0_19 c a3 h3 a4 h4 a6 h6 a7 h7 a8 h8 a11 h11 x1 x2 x4 x5 x6 xs0) (⟨4, by decide⟩ : Fin 8) 3 (stV x1 x2 x4 x5 x6 xs0 4) :=
  Done.step x1 x2 x4 x5 x6 (n := (⟨4, by decide⟩ : Fin 8)) (h := (⟨2, by decide⟩ : Fin 4)) (L := (kernelRun0_B.sl.HS0_18 c a3 h3 a4 h4 a6 h6 a7 h7 a8 h8 a11 h11 x1 x2 x4 x5 x6 xs0)) (st := (stV x1 x2 x4 x5 x6 xs0 4)) ((doneB_17 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨4, by decide⟩ : Fin 8) (⟨2, by decide⟩ : Fin 4) (a11.view.readCov (kernelRun0_B.sl.HS0_18 c a3 h3 a4 h4 a6 h6 a7 h7 a8 h8 a11 h11 x1 x2 x4 x5 x6 xs0) (rSt (⟨2, by decide⟩ : Fin 4)).toLoadRect)).trans
      ((updR_eq a3 h3 a4 h4 a6 h6 a7 h7 a8 h8 x1 x2 x4 x5 x6 (⟨4, by decide⟩ : Fin 8) (⟨2, by decide⟩ : Fin 4) _).trans (congrArg _ (Todo.read (todoB_17 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))))

theorem todoB_18 : Todo (kernelRun0_B.sl.HS0_19 c a3 h3 a4 h4 a6 h6 a7 h7 a8 h8 a11 h11 x1 x2 x4 x5 x6 xs0) 3 (stV x1 x2 x4 x5 x6 xs0 4) := Todo.step (h := (⟨2, by decide⟩ : Fin 4)) (L := (kernelRun0_B.sl.HS0_18 c a3 h3 a4 h4 a6 h6 a7 h7 a8 h8 a11 h11 x1 x2 x4 x5 x6 xs0)) (st := (stV x1 x2 x4 x5 x6 xs0 4)) (todoB_17 c i a2 h2 a3 h3 a4 h4 a5 h5 a6 h6 a7 h7 a8 h8 a9 h9 a10 h10 a11 h11 x0 x1 x2 x3 x4 x5 x6 x7 xs0)

theorem doneB_19 : Done x1 x2 x4 x5 x6 (kernelRun0_B.sl.HS0_20 c a3 h3 a4 h4 a6 h6 a7 h7 a8 h8 a11 h11 x1 x2 x4 x5 x6 xs0) (⟨4, by decide⟩ : Fin 8) 4 (stV x1 x2 x4 x5 x6 xs0 4) :=
  Done.step x1 x2 x4 x5 x6 (n := (⟨4, by decide⟩ : Fin 8)) (h := (⟨3, by decide⟩ : Fin 4)) (L := (kernelRun0_B.sl.HS0_19 c a3 h3 a4 h4 a6 h6 a7 h7 a8 h8 a11 h11 x1 x2 x4 x5 x6 xs0)) (st := (stV x1 x2 x4 x5 x6 xs0 4)) ((doneB_18 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨4, by decide⟩ : Fin 8) (⟨3, by decide⟩ : Fin 4) (a11.view.readCov (kernelRun0_B.sl.HS0_19 c a3 h3 a4 h4 a6 h6 a7 h7 a8 h8 a11 h11 x1 x2 x4 x5 x6 xs0) (rSt (⟨3, by decide⟩ : Fin 4)).toLoadRect)).trans
      ((updR_eq a3 h3 a4 h4 a6 h6 a7 h7 a8 h8 x1 x2 x4 x5 x6 (⟨4, by decide⟩ : Fin 8) (⟨3, by decide⟩ : Fin 4) _).trans (congrArg _ (Todo.read (todoB_18 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))))

theorem todoB_19 : Todo (kernelRun0_B.sl.HS0_20 c a3 h3 a4 h4 a6 h6 a7 h7 a8 h8 a11 h11 x1 x2 x4 x5 x6 xs0) 0 (stV x1 x2 x4 x5 x6 xs0 5) := Done.nextV x1 x2 x4 x5 x6 (n := (⟨4, by decide⟩ : Fin 8)) (doneB_19 c i a2 h2 a3 h3 a4 h4 a5 h5 a6 h6 a7 h7 a8 h8 a9 h9 a10 h10 a11 h11 x0 x1 x2 x3 x4 x5 x6 x7 xs0)

theorem doneB_20 : Done x1 x2 x4 x5 x6 (kernelRun0_B.sl.HS0_21 c a3 h3 a4 h4 a6 h6 a7 h7 a8 h8 a11 h11 x1 x2 x4 x5 x6 xs0) (⟨5, by decide⟩ : Fin 8) 1 (stV x1 x2 x4 x5 x6 xs0 5) :=
  Done.step x1 x2 x4 x5 x6 (n := (⟨5, by decide⟩ : Fin 8)) (h := (⟨0, by decide⟩ : Fin 4)) (L := (kernelRun0_B.sl.HS0_20 c a3 h3 a4 h4 a6 h6 a7 h7 a8 h8 a11 h11 x1 x2 x4 x5 x6 xs0)) (st := (stV x1 x2 x4 x5 x6 xs0 5)) (Done.zero x1 x2 x4 x5 x6 (kernelRun0_B.sl.HS0_20 c a3 h3 a4 h4 a6 h6 a7 h7 a8 h8 a11 h11 x1 x2 x4 x5 x6 xs0) (⟨5, by decide⟩ : Fin 8) (stV x1 x2 x4 x5 x6 xs0 5))
    ((rfl : _ = updR a3 h3 a4 h4 a6 h6 a7 h7 a8 h8 x1 x2 x4 x5 x6 (⟨5, by decide⟩ : Fin 8) (⟨0, by decide⟩ : Fin 4) (a11.view.readCov (kernelRun0_B.sl.HS0_20 c a3 h3 a4 h4 a6 h6 a7 h7 a8 h8 a11 h11 x1 x2 x4 x5 x6 xs0) (rSt (⟨0, by decide⟩ : Fin 4)).toLoadRect)).trans
      ((updR_eq a3 h3 a4 h4 a6 h6 a7 h7 a8 h8 x1 x2 x4 x5 x6 (⟨5, by decide⟩ : Fin 8) (⟨0, by decide⟩ : Fin 4) _).trans (congrArg _ (Todo.read (todoB_19 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))))

theorem todoB_20 : Todo (kernelRun0_B.sl.HS0_21 c a3 h3 a4 h4 a6 h6 a7 h7 a8 h8 a11 h11 x1 x2 x4 x5 x6 xs0) 1 (stV x1 x2 x4 x5 x6 xs0 5) := Todo.step (h := (⟨0, by decide⟩ : Fin 4)) (L := (kernelRun0_B.sl.HS0_20 c a3 h3 a4 h4 a6 h6 a7 h7 a8 h8 a11 h11 x1 x2 x4 x5 x6 xs0)) (st := (stV x1 x2 x4 x5 x6 xs0 5)) (todoB_19 c i a2 h2 a3 h3 a4 h4 a5 h5 a6 h6 a7 h7 a8 h8 a9 h9 a10 h10 a11 h11 x0 x1 x2 x3 x4 x5 x6 x7 xs0)

theorem doneB_21 : Done x1 x2 x4 x5 x6 (kernelRun0_B.sl.HS0_22 c a3 h3 a4 h4 a6 h6 a7 h7 a8 h8 a11 h11 x1 x2 x4 x5 x6 xs0) (⟨5, by decide⟩ : Fin 8) 2 (stV x1 x2 x4 x5 x6 xs0 5) :=
  Done.step x1 x2 x4 x5 x6 (n := (⟨5, by decide⟩ : Fin 8)) (h := (⟨1, by decide⟩ : Fin 4)) (L := (kernelRun0_B.sl.HS0_21 c a3 h3 a4 h4 a6 h6 a7 h7 a8 h8 a11 h11 x1 x2 x4 x5 x6 xs0)) (st := (stV x1 x2 x4 x5 x6 xs0 5)) ((doneB_20 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨5, by decide⟩ : Fin 8) (⟨1, by decide⟩ : Fin 4) (a11.view.readCov (kernelRun0_B.sl.HS0_21 c a3 h3 a4 h4 a6 h6 a7 h7 a8 h8 a11 h11 x1 x2 x4 x5 x6 xs0) (rSt (⟨1, by decide⟩ : Fin 4)).toLoadRect)).trans
      ((updR_eq a3 h3 a4 h4 a6 h6 a7 h7 a8 h8 x1 x2 x4 x5 x6 (⟨5, by decide⟩ : Fin 8) (⟨1, by decide⟩ : Fin 4) _).trans (congrArg _ (Todo.read (todoB_20 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))))

theorem todoB_21 : Todo (kernelRun0_B.sl.HS0_22 c a3 h3 a4 h4 a6 h6 a7 h7 a8 h8 a11 h11 x1 x2 x4 x5 x6 xs0) 2 (stV x1 x2 x4 x5 x6 xs0 5) := Todo.step (h := (⟨1, by decide⟩ : Fin 4)) (L := (kernelRun0_B.sl.HS0_21 c a3 h3 a4 h4 a6 h6 a7 h7 a8 h8 a11 h11 x1 x2 x4 x5 x6 xs0)) (st := (stV x1 x2 x4 x5 x6 xs0 5)) (todoB_20 c i a2 h2 a3 h3 a4 h4 a5 h5 a6 h6 a7 h7 a8 h8 a9 h9 a10 h10 a11 h11 x0 x1 x2 x3 x4 x5 x6 x7 xs0)

theorem doneB_22 : Done x1 x2 x4 x5 x6 (kernelRun0_B.sl.HS0_23 c a3 h3 a4 h4 a6 h6 a7 h7 a8 h8 a11 h11 x1 x2 x4 x5 x6 xs0) (⟨5, by decide⟩ : Fin 8) 3 (stV x1 x2 x4 x5 x6 xs0 5) :=
  Done.step x1 x2 x4 x5 x6 (n := (⟨5, by decide⟩ : Fin 8)) (h := (⟨2, by decide⟩ : Fin 4)) (L := (kernelRun0_B.sl.HS0_22 c a3 h3 a4 h4 a6 h6 a7 h7 a8 h8 a11 h11 x1 x2 x4 x5 x6 xs0)) (st := (stV x1 x2 x4 x5 x6 xs0 5)) ((doneB_21 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨5, by decide⟩ : Fin 8) (⟨2, by decide⟩ : Fin 4) (a11.view.readCov (kernelRun0_B.sl.HS0_22 c a3 h3 a4 h4 a6 h6 a7 h7 a8 h8 a11 h11 x1 x2 x4 x5 x6 xs0) (rSt (⟨2, by decide⟩ : Fin 4)).toLoadRect)).trans
      ((updR_eq a3 h3 a4 h4 a6 h6 a7 h7 a8 h8 x1 x2 x4 x5 x6 (⟨5, by decide⟩ : Fin 8) (⟨2, by decide⟩ : Fin 4) _).trans (congrArg _ (Todo.read (todoB_21 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))))

theorem todoB_22 : Todo (kernelRun0_B.sl.HS0_23 c a3 h3 a4 h4 a6 h6 a7 h7 a8 h8 a11 h11 x1 x2 x4 x5 x6 xs0) 3 (stV x1 x2 x4 x5 x6 xs0 5) := Todo.step (h := (⟨2, by decide⟩ : Fin 4)) (L := (kernelRun0_B.sl.HS0_22 c a3 h3 a4 h4 a6 h6 a7 h7 a8 h8 a11 h11 x1 x2 x4 x5 x6 xs0)) (st := (stV x1 x2 x4 x5 x6 xs0 5)) (todoB_21 c i a2 h2 a3 h3 a4 h4 a5 h5 a6 h6 a7 h7 a8 h8 a9 h9 a10 h10 a11 h11 x0 x1 x2 x3 x4 x5 x6 x7 xs0)

theorem doneB_23 : Done x1 x2 x4 x5 x6 (kernelRun0_B.sl.HS0_24 c a3 h3 a4 h4 a6 h6 a7 h7 a8 h8 a11 h11 x1 x2 x4 x5 x6 xs0) (⟨5, by decide⟩ : Fin 8) 4 (stV x1 x2 x4 x5 x6 xs0 5) :=
  Done.step x1 x2 x4 x5 x6 (n := (⟨5, by decide⟩ : Fin 8)) (h := (⟨3, by decide⟩ : Fin 4)) (L := (kernelRun0_B.sl.HS0_23 c a3 h3 a4 h4 a6 h6 a7 h7 a8 h8 a11 h11 x1 x2 x4 x5 x6 xs0)) (st := (stV x1 x2 x4 x5 x6 xs0 5)) ((doneB_22 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨5, by decide⟩ : Fin 8) (⟨3, by decide⟩ : Fin 4) (a11.view.readCov (kernelRun0_B.sl.HS0_23 c a3 h3 a4 h4 a6 h6 a7 h7 a8 h8 a11 h11 x1 x2 x4 x5 x6 xs0) (rSt (⟨3, by decide⟩ : Fin 4)).toLoadRect)).trans
      ((updR_eq a3 h3 a4 h4 a6 h6 a7 h7 a8 h8 x1 x2 x4 x5 x6 (⟨5, by decide⟩ : Fin 8) (⟨3, by decide⟩ : Fin 4) _).trans (congrArg _ (Todo.read (todoB_22 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))))

theorem todoB_23 : Todo (kernelRun0_B.sl.HS0_24 c a3 h3 a4 h4 a6 h6 a7 h7 a8 h8 a11 h11 x1 x2 x4 x5 x6 xs0) 0 (stV x1 x2 x4 x5 x6 xs0 6) := Done.nextV x1 x2 x4 x5 x6 (n := (⟨5, by decide⟩ : Fin 8)) (doneB_23 c i a2 h2 a3 h3 a4 h4 a5 h5 a6 h6 a7 h7 a8 h8 a9 h9 a10 h10 a11 h11 x0 x1 x2 x3 x4 x5 x6 x7 xs0)

theorem doneB_24 : Done x1 x2 x4 x5 x6 (kernelRun0_B.sl.HS0_25 c a3 h3 a4 h4 a6 h6 a7 h7 a8 h8 a11 h11 x1 x2 x4 x5 x6 xs0) (⟨6, by decide⟩ : Fin 8) 1 (stV x1 x2 x4 x5 x6 xs0 6) :=
  Done.step x1 x2 x4 x5 x6 (n := (⟨6, by decide⟩ : Fin 8)) (h := (⟨0, by decide⟩ : Fin 4)) (L := (kernelRun0_B.sl.HS0_24 c a3 h3 a4 h4 a6 h6 a7 h7 a8 h8 a11 h11 x1 x2 x4 x5 x6 xs0)) (st := (stV x1 x2 x4 x5 x6 xs0 6)) (Done.zero x1 x2 x4 x5 x6 (kernelRun0_B.sl.HS0_24 c a3 h3 a4 h4 a6 h6 a7 h7 a8 h8 a11 h11 x1 x2 x4 x5 x6 xs0) (⟨6, by decide⟩ : Fin 8) (stV x1 x2 x4 x5 x6 xs0 6))
    ((rfl : _ = updR a3 h3 a4 h4 a6 h6 a7 h7 a8 h8 x1 x2 x4 x5 x6 (⟨6, by decide⟩ : Fin 8) (⟨0, by decide⟩ : Fin 4) (a11.view.readCov (kernelRun0_B.sl.HS0_24 c a3 h3 a4 h4 a6 h6 a7 h7 a8 h8 a11 h11 x1 x2 x4 x5 x6 xs0) (rSt (⟨0, by decide⟩ : Fin 4)).toLoadRect)).trans
      ((updR_eq a3 h3 a4 h4 a6 h6 a7 h7 a8 h8 x1 x2 x4 x5 x6 (⟨6, by decide⟩ : Fin 8) (⟨0, by decide⟩ : Fin 4) _).trans (congrArg _ (Todo.read (todoB_23 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))))

theorem todoB_24 : Todo (kernelRun0_B.sl.HS0_25 c a3 h3 a4 h4 a6 h6 a7 h7 a8 h8 a11 h11 x1 x2 x4 x5 x6 xs0) 1 (stV x1 x2 x4 x5 x6 xs0 6) := Todo.step (h := (⟨0, by decide⟩ : Fin 4)) (L := (kernelRun0_B.sl.HS0_24 c a3 h3 a4 h4 a6 h6 a7 h7 a8 h8 a11 h11 x1 x2 x4 x5 x6 xs0)) (st := (stV x1 x2 x4 x5 x6 xs0 6)) (todoB_23 c i a2 h2 a3 h3 a4 h4 a5 h5 a6 h6 a7 h7 a8 h8 a9 h9 a10 h10 a11 h11 x0 x1 x2 x3 x4 x5 x6 x7 xs0)

theorem doneB_25 : Done x1 x2 x4 x5 x6 (kernelRun0_B.sl.HS0_26 c a3 h3 a4 h4 a6 h6 a7 h7 a8 h8 a11 h11 x1 x2 x4 x5 x6 xs0) (⟨6, by decide⟩ : Fin 8) 2 (stV x1 x2 x4 x5 x6 xs0 6) :=
  Done.step x1 x2 x4 x5 x6 (n := (⟨6, by decide⟩ : Fin 8)) (h := (⟨1, by decide⟩ : Fin 4)) (L := (kernelRun0_B.sl.HS0_25 c a3 h3 a4 h4 a6 h6 a7 h7 a8 h8 a11 h11 x1 x2 x4 x5 x6 xs0)) (st := (stV x1 x2 x4 x5 x6 xs0 6)) ((doneB_24 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨6, by decide⟩ : Fin 8) (⟨1, by decide⟩ : Fin 4) (a11.view.readCov (kernelRun0_B.sl.HS0_25 c a3 h3 a4 h4 a6 h6 a7 h7 a8 h8 a11 h11 x1 x2 x4 x5 x6 xs0) (rSt (⟨1, by decide⟩ : Fin 4)).toLoadRect)).trans
      ((updR_eq a3 h3 a4 h4 a6 h6 a7 h7 a8 h8 x1 x2 x4 x5 x6 (⟨6, by decide⟩ : Fin 8) (⟨1, by decide⟩ : Fin 4) _).trans (congrArg _ (Todo.read (todoB_24 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))))

theorem todoB_25 : Todo (kernelRun0_B.sl.HS0_26 c a3 h3 a4 h4 a6 h6 a7 h7 a8 h8 a11 h11 x1 x2 x4 x5 x6 xs0) 2 (stV x1 x2 x4 x5 x6 xs0 6) := Todo.step (h := (⟨1, by decide⟩ : Fin 4)) (L := (kernelRun0_B.sl.HS0_25 c a3 h3 a4 h4 a6 h6 a7 h7 a8 h8 a11 h11 x1 x2 x4 x5 x6 xs0)) (st := (stV x1 x2 x4 x5 x6 xs0 6)) (todoB_24 c i a2 h2 a3 h3 a4 h4 a5 h5 a6 h6 a7 h7 a8 h8 a9 h9 a10 h10 a11 h11 x0 x1 x2 x3 x4 x5 x6 x7 xs0)

theorem doneB_26 : Done x1 x2 x4 x5 x6 (kernelRun0_B.sl.HS0_27 c a3 h3 a4 h4 a6 h6 a7 h7 a8 h8 a11 h11 x1 x2 x4 x5 x6 xs0) (⟨6, by decide⟩ : Fin 8) 3 (stV x1 x2 x4 x5 x6 xs0 6) :=
  Done.step x1 x2 x4 x5 x6 (n := (⟨6, by decide⟩ : Fin 8)) (h := (⟨2, by decide⟩ : Fin 4)) (L := (kernelRun0_B.sl.HS0_26 c a3 h3 a4 h4 a6 h6 a7 h7 a8 h8 a11 h11 x1 x2 x4 x5 x6 xs0)) (st := (stV x1 x2 x4 x5 x6 xs0 6)) ((doneB_25 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨6, by decide⟩ : Fin 8) (⟨2, by decide⟩ : Fin 4) (a11.view.readCov (kernelRun0_B.sl.HS0_26 c a3 h3 a4 h4 a6 h6 a7 h7 a8 h8 a11 h11 x1 x2 x4 x5 x6 xs0) (rSt (⟨2, by decide⟩ : Fin 4)).toLoadRect)).trans
      ((updR_eq a3 h3 a4 h4 a6 h6 a7 h7 a8 h8 x1 x2 x4 x5 x6 (⟨6, by decide⟩ : Fin 8) (⟨2, by decide⟩ : Fin 4) _).trans (congrArg _ (Todo.read (todoB_25 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))))

theorem todoB_26 : Todo (kernelRun0_B.sl.HS0_27 c a3 h3 a4 h4 a6 h6 a7 h7 a8 h8 a11 h11 x1 x2 x4 x5 x6 xs0) 3 (stV x1 x2 x4 x5 x6 xs0 6) := Todo.step (h := (⟨2, by decide⟩ : Fin 4)) (L := (kernelRun0_B.sl.HS0_26 c a3 h3 a4 h4 a6 h6 a7 h7 a8 h8 a11 h11 x1 x2 x4 x5 x6 xs0)) (st := (stV x1 x2 x4 x5 x6 xs0 6)) (todoB_25 c i a2 h2 a3 h3 a4 h4 a5 h5 a6 h6 a7 h7 a8 h8 a9 h9 a10 h10 a11 h11 x0 x1 x2 x3 x4 x5 x6 x7 xs0)

theorem doneB_27 : Done x1 x2 x4 x5 x6 (kernelRun0_B.sl.HS0_28 c a3 h3 a4 h4 a6 h6 a7 h7 a8 h8 a11 h11 x1 x2 x4 x5 x6 xs0) (⟨6, by decide⟩ : Fin 8) 4 (stV x1 x2 x4 x5 x6 xs0 6) :=
  Done.step x1 x2 x4 x5 x6 (n := (⟨6, by decide⟩ : Fin 8)) (h := (⟨3, by decide⟩ : Fin 4)) (L := (kernelRun0_B.sl.HS0_27 c a3 h3 a4 h4 a6 h6 a7 h7 a8 h8 a11 h11 x1 x2 x4 x5 x6 xs0)) (st := (stV x1 x2 x4 x5 x6 xs0 6)) ((doneB_26 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨6, by decide⟩ : Fin 8) (⟨3, by decide⟩ : Fin 4) (a11.view.readCov (kernelRun0_B.sl.HS0_27 c a3 h3 a4 h4 a6 h6 a7 h7 a8 h8 a11 h11 x1 x2 x4 x5 x6 xs0) (rSt (⟨3, by decide⟩ : Fin 4)).toLoadRect)).trans
      ((updR_eq a3 h3 a4 h4 a6 h6 a7 h7 a8 h8 x1 x2 x4 x5 x6 (⟨6, by decide⟩ : Fin 8) (⟨3, by decide⟩ : Fin 4) _).trans (congrArg _ (Todo.read (todoB_26 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))))

theorem todoB_27 : Todo (kernelRun0_B.sl.HS0_28 c a3 h3 a4 h4 a6 h6 a7 h7 a8 h8 a11 h11 x1 x2 x4 x5 x6 xs0) 0 (stV x1 x2 x4 x5 x6 xs0 7) := Done.nextV x1 x2 x4 x5 x6 (n := (⟨6, by decide⟩ : Fin 8)) (doneB_27 c i a2 h2 a3 h3 a4 h4 a5 h5 a6 h6 a7 h7 a8 h8 a9 h9 a10 h10 a11 h11 x0 x1 x2 x3 x4 x5 x6 x7 xs0)

theorem doneB_28 : Done x1 x2 x4 x5 x6 (kernelRun0_B.sl.HS0_29 c a3 h3 a4 h4 a6 h6 a7 h7 a8 h8 a11 h11 x1 x2 x4 x5 x6 xs0) (⟨7, by decide⟩ : Fin 8) 1 (stV x1 x2 x4 x5 x6 xs0 7) :=
  Done.step x1 x2 x4 x5 x6 (n := (⟨7, by decide⟩ : Fin 8)) (h := (⟨0, by decide⟩ : Fin 4)) (L := (kernelRun0_B.sl.HS0_28 c a3 h3 a4 h4 a6 h6 a7 h7 a8 h8 a11 h11 x1 x2 x4 x5 x6 xs0)) (st := (stV x1 x2 x4 x5 x6 xs0 7)) (Done.zero x1 x2 x4 x5 x6 (kernelRun0_B.sl.HS0_28 c a3 h3 a4 h4 a6 h6 a7 h7 a8 h8 a11 h11 x1 x2 x4 x5 x6 xs0) (⟨7, by decide⟩ : Fin 8) (stV x1 x2 x4 x5 x6 xs0 7))
    ((rfl : _ = updR a3 h3 a4 h4 a6 h6 a7 h7 a8 h8 x1 x2 x4 x5 x6 (⟨7, by decide⟩ : Fin 8) (⟨0, by decide⟩ : Fin 4) (a11.view.readCov (kernelRun0_B.sl.HS0_28 c a3 h3 a4 h4 a6 h6 a7 h7 a8 h8 a11 h11 x1 x2 x4 x5 x6 xs0) (rSt (⟨0, by decide⟩ : Fin 4)).toLoadRect)).trans
      ((updR_eq a3 h3 a4 h4 a6 h6 a7 h7 a8 h8 x1 x2 x4 x5 x6 (⟨7, by decide⟩ : Fin 8) (⟨0, by decide⟩ : Fin 4) _).trans (congrArg _ (Todo.read (todoB_27 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))))

theorem todoB_28 : Todo (kernelRun0_B.sl.HS0_29 c a3 h3 a4 h4 a6 h6 a7 h7 a8 h8 a11 h11 x1 x2 x4 x5 x6 xs0) 1 (stV x1 x2 x4 x5 x6 xs0 7) := Todo.step (h := (⟨0, by decide⟩ : Fin 4)) (L := (kernelRun0_B.sl.HS0_28 c a3 h3 a4 h4 a6 h6 a7 h7 a8 h8 a11 h11 x1 x2 x4 x5 x6 xs0)) (st := (stV x1 x2 x4 x5 x6 xs0 7)) (todoB_27 c i a2 h2 a3 h3 a4 h4 a5 h5 a6 h6 a7 h7 a8 h8 a9 h9 a10 h10 a11 h11 x0 x1 x2 x3 x4 x5 x6 x7 xs0)

theorem doneB_29 : Done x1 x2 x4 x5 x6 (kernelRun0_B.sl.HS0_30 c a3 h3 a4 h4 a6 h6 a7 h7 a8 h8 a11 h11 x1 x2 x4 x5 x6 xs0) (⟨7, by decide⟩ : Fin 8) 2 (stV x1 x2 x4 x5 x6 xs0 7) :=
  Done.step x1 x2 x4 x5 x6 (n := (⟨7, by decide⟩ : Fin 8)) (h := (⟨1, by decide⟩ : Fin 4)) (L := (kernelRun0_B.sl.HS0_29 c a3 h3 a4 h4 a6 h6 a7 h7 a8 h8 a11 h11 x1 x2 x4 x5 x6 xs0)) (st := (stV x1 x2 x4 x5 x6 xs0 7)) ((doneB_28 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨7, by decide⟩ : Fin 8) (⟨1, by decide⟩ : Fin 4) (a11.view.readCov (kernelRun0_B.sl.HS0_29 c a3 h3 a4 h4 a6 h6 a7 h7 a8 h8 a11 h11 x1 x2 x4 x5 x6 xs0) (rSt (⟨1, by decide⟩ : Fin 4)).toLoadRect)).trans
      ((updR_eq a3 h3 a4 h4 a6 h6 a7 h7 a8 h8 x1 x2 x4 x5 x6 (⟨7, by decide⟩ : Fin 8) (⟨1, by decide⟩ : Fin 4) _).trans (congrArg _ (Todo.read (todoB_28 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))))

theorem todoB_29 : Todo (kernelRun0_B.sl.HS0_30 c a3 h3 a4 h4 a6 h6 a7 h7 a8 h8 a11 h11 x1 x2 x4 x5 x6 xs0) 2 (stV x1 x2 x4 x5 x6 xs0 7) := Todo.step (h := (⟨1, by decide⟩ : Fin 4)) (L := (kernelRun0_B.sl.HS0_29 c a3 h3 a4 h4 a6 h6 a7 h7 a8 h8 a11 h11 x1 x2 x4 x5 x6 xs0)) (st := (stV x1 x2 x4 x5 x6 xs0 7)) (todoB_28 c i a2 h2 a3 h3 a4 h4 a5 h5 a6 h6 a7 h7 a8 h8 a9 h9 a10 h10 a11 h11 x0 x1 x2 x3 x4 x5 x6 x7 xs0)

theorem doneB_30 : Done x1 x2 x4 x5 x6 (kernelRun0_B.sl.HS0_31 c a3 h3 a4 h4 a6 h6 a7 h7 a8 h8 a11 h11 x1 x2 x4 x5 x6 xs0) (⟨7, by decide⟩ : Fin 8) 3 (stV x1 x2 x4 x5 x6 xs0 7) :=
  Done.step x1 x2 x4 x5 x6 (n := (⟨7, by decide⟩ : Fin 8)) (h := (⟨2, by decide⟩ : Fin 4)) (L := (kernelRun0_B.sl.HS0_30 c a3 h3 a4 h4 a6 h6 a7 h7 a8 h8 a11 h11 x1 x2 x4 x5 x6 xs0)) (st := (stV x1 x2 x4 x5 x6 xs0 7)) ((doneB_29 c i a2 h2 a3 h3 a4 h4 a5 h5 a6 h6 a7 h7 a8 h8 a9 h9 a10 h10 a11 h11 x0 x1 x2 x3 x4 x5 x6 x7 xs0))
    ((rfl : _ = updR a3 h3 a4 h4 a6 h6 a7 h7 a8 h8 x1 x2 x4 x5 x6 (⟨7, by decide⟩ : Fin 8) (⟨2, by decide⟩ : Fin 4) (a11.view.readCov (kernelRun0_B.sl.HS0_30 c a3 h3 a4 h4 a6 h6 a7 h7 a8 h8 a11 h11 x1 x2 x4 x5 x6 xs0) (rSt (⟨2, by decide⟩ : Fin 4)).toLoadRect)).trans
      ((updR_eq a3 h3 a4 h4 a6 h6 a7 h7 a8 h8 x1 x2 x4 x5 x6 (⟨7, by decide⟩ : Fin 8) (⟨2, by decide⟩ : Fin 4) _).trans (congrArg _ (Todo.read (todoB_29 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))))

theorem todoB_30 : Todo (kernelRun0_B.sl.HS0_31 c a3 h3 a4 h4 a6 h6 a7 h7 a8 h8 a11 h11 x1 x2 x4 x5 x6 xs0) 3 (stV x1 x2 x4 x5 x6 xs0 7) := Todo.step (h := (⟨2, by decide⟩ : Fin 4)) (L := (kernelRun0_B.sl.HS0_30 c a3 h3 a4 h4 a6 h6 a7 h7 a8 h8 a11 h11 x1 x2 x4 x5 x6 xs0)) (st := (stV x1 x2 x4 x5 x6 xs0 7)) (todoB_29 c i a2 h2 a3 h3 a4 h4 a5 h5 a6 h6 a7 h7 a8 h8 a9 h9 a10 h10 a11 h11 x0 x1 x2 x3 x4 x5 x6 x7 xs0)

end Cert.Gla

end
-- ==== Proof.Gla.OutB.lean ====
/- What the body leaves in the output block and in the scratch (the scratch carried over). -/
module

public import proofs.«01_k».proof.Proof.Gla.StatesB

@[expose] public section

set_option maxRecDepth 16384
set_option maxHeartbeats 2000000
noncomputable section

namespace Cert.Gla

open Cert.KernelIdeal Cert.KernelIdeal.Gen Idealize.ShloMosaic Idealize.ShloMosaic.TcCoe Idealize.SL.Sem

variable {F : FTy → Type} [FloatOps F] [Named F]

variable (c : Dev nD) (i : grid0.Coords)
  (a2 : Memref sig .tc .vmem S1x512x512 .bf16) (h2 : a2.IsWhole) (a3 : Memref sig .tc .vmem S1x512x512 .bf16) (h3 : a3.IsWhole)
  (a4 : Memref sig .tc .vmem S1x512x512 .bf16) (h4 : a4.IsWhole) (a5 : Memref sig .tc .vmem S1x512x512 .bf16) (h5 : a5.IsWhole)
  (a6 : Memref sig .tc .vmem S1x512x128 .bf16) (h6 : a6.IsWhole) (a7 : Memref sig .tc .vmem S128x512 .bf16) (h7 : a7.IsWhole)
  (a8 : Memref sig .tc .vmem S1x512 .f32) (h8 : a8.IsWhole) (a9 : Memref sig .tc .vmem S1x512 .f32) (h9 : a9.IsWhole)
  (a10 : Memref sig .tc .vmem S1x512x512 .bf16) (h10 : a10.IsWhole) (a11 : Memref sig .tc .vmem S4x128x128 .f32) (h11 : a11.IsWhole)
  (x0 x1 x2 x3 : Vec F S1x512x512 .bf16) (x4 : Vec F S1x512x128 .bf16) (x5 : Vec F S128x512 .bf16) (x6 x7 : Vec F S1x512 .f32)
  (xs0 : Vec F S4x128x128 .f32)

include c i a2 h2 a3 h3 a4 h4 a5 h5 a6 h6 a7 h7 a8 h8 a9 h9 a10 h10 a11 h11 x0 x1 x2 x3 x4 x5 x6 x7 xs0

theorem soutB (hc0 : ¬cond0_0 i) : sout0_B_0 c i a2 h2 a3 h3 a4 h4 a5 h5 a6 h6 a7 h7 a8 h8 a9 h9 a10 h10 a11 h11 hc0 x0 x1 x2 x3 x4 x5 x6 x7 xs0 = stV x1 x2 x4 x5 x6 xs0 8 := by
  unfold sout0_B_0
  rw [View.read_writes_eq_canon _ _ _ (scover0_B_0 c i a2 h2 a3 h3 a4 h4 a5 h5 a6 h6 a7 h7 a8 h8 a9 h9 a10 h10 a11 h11 hc0 x0 x1 x2 x3 x4 x5 x6 x7 xs0)]
  unfold kernelRun0_B
  dsimp only
  have h := Done.step x1 x2 x4 x5 x6 (n := (⟨7, by decide⟩ : Fin 8)) (h := (⟨3, by decide⟩ : Fin 4)) (L := (kernelRun0_B.sl.HS0_31 c a3 h3 a4 h4 a6 h6 a7 h7 a8 h8 a11 h11 x1 x2 x4 x5 x6 xs0)) (st := (stV x1 x2 x4 x5 x6 xs0 7)) (doneB_30 c i a2 h2 a3 h3 a4 h4 a5 h5 a6 h6 a7 h7 a8 h8 a9 h9 a10 h10 a11 h11 x0 x1 x2 x3 x4 x5 x6 x7 xs0)
    ((rfl : _ = updR a3 h3 a4 h4 a6 h6 a7 h7 a8 h8 x1 x2 x4 x5 x6 (⟨7, by decide⟩ : Fin 8) (⟨3, by decide⟩ : Fin 4) (a11.view.readCov (kernelRun0_B.sl.HS0_31 c a3 h3 a4 h4 a6 h6 a7 h7 a8 h8 a11 h11 x1 x2 x4 x5 x6 xs0) (rSt (⟨3, by decide⟩ : Fin 4)).toLoadRect)).trans
      ((updR_eq a3 h3 a4 h4 a6 h6 a7 h7 a8 h8 x1 x2 x4 x5 x6 (⟨7, by decide⟩ : Fin 8) (⟨3, by decide⟩ : Fin 4) _).trans (congrArg _ (Todo.read (todoB_30 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))))
  exact (canon_of_done x1 x2 x4 x5 x6 (n := (⟨7, by decide⟩ : Fin 8)) h).trans (stV_succ x1 x2 x4 x5 x6 xs0 (⟨7, by decide⟩ : Fin 8)).symm

theorem tileB_0 : outR a2 h2 a3 h3 a4 h4 a5 h5 a6 h6 a7 h7 a8 h8 a9 h9 x0 x1 x2 x3 x4 x5 x6 x7 (⟨0, by decide⟩ : Fin 8) (⟨0, by decide⟩ : Fin 4) (View.readAt (Elt F) a11.view (rSt (⟨0, by decide⟩ : Fin 4)).toLoadRect (h11.unread xs0)) = outT x0 x1 x2 x3 x4 x5 x6 x7 (⟨0, by decide⟩ : Fin 8) (⟨0, by decide⟩ : Fin 4) (View.ld (stV x1 x2 x4 x5 x6 xs0 0) (rSt (⟨0, by decide⟩ : Fin 4))) :=
  (outR_eq a2 h2 a3 h3 a4 h4 a5 h5 a6 h6 a7 h7 a8 h8 a9 h9 x0 x1 x2 x3 x4 x5 x6 x7 (⟨0, by decide⟩ : Fin 8) (⟨0, by decide⟩ : Fin 4) _).trans (congrArg _ (readSt a11 h11 xs0 (⟨0, by decide⟩ : Fin 4)))

theorem tileB_1 : outR a2 h2 a3 h3 a4 h4 a5 h5 a6 h6 a7 h7 a8 h8 a9 h9 x0 x1 x2 x3 x4 x5 x6 x7 (⟨0, by decide⟩ : Fin 8) (⟨1, by decide⟩ : Fin 4) (View.readAt (Elt F) a11.view (rSt (⟨1, by decide⟩ : Fin 4)).toLoadRect (h11.unread xs0)) = outT x0 x1 x2 x3 x4 x5 x6 x7 (⟨0, by decide⟩ : Fin 8) (⟨1, by decide⟩ : Fin 4) (View.ld (stV x1 x2 x4 x5 x6 xs0 0) (rSt (⟨1, by decide⟩ : Fin 4))) :=
  (outR_eq a2 h2 a3 h3 a4 h4 a5 h5 a6 h6 a7 h7 a8 h8 a9 h9 x0 x1 x2 x3 x4 x5 x6 x7 (⟨0, by decide⟩ : Fin 8) (⟨1, by decide⟩ : Fin 4) _).trans (congrArg _ (readSt a11 h11 xs0 (⟨1, by decide⟩ : Fin 4)))

theorem tileB_2 : outR a2 h2 a3 h3 a4 h4 a5 h5 a6 h6 a7 h7 a8 h8 a9 h9 x0 x1 x2 x3 x4 x5 x6 x7 (⟨0, by decide⟩ : Fin 8) (⟨2, by decide⟩ : Fin 4) (View.readAt (Elt F) a11.view (rSt (⟨2, by decide⟩ : Fin 4)).toLoadRect (h11.unread xs0)) = outT x0 x1 x2 x3 x4 x5 x6 x7 (⟨0, by decide⟩ : Fin 8) (⟨2, by decide⟩ : Fin 4) (View.ld (stV x1 x2 x4 x5 x6 xs0 0) (rSt (⟨2, by decide⟩ : Fin 4))) :=
  (outR_eq a2 h2 a3 h3 a4 h4 a5 h5 a6 h6 a7 h7 a8 h8 a9 h9 x0 x1 x2 x3 x4 x5 x6 x7 (⟨0, by decide⟩ : Fin 8) (⟨2, by decide⟩ : Fin 4) _).trans (congrArg _ (readSt a11 h11 xs0 (⟨2, by decide⟩ : Fin 4)))

theorem tileB_3 : outR a2 h2 a3 h3 a4 h4 a5 h5 a6 h6 a7 h7 a8 h8 a9 h9 x0 x1 x2 x3 x4 x5 x6 x7 (⟨0, by decide⟩ : Fin 8) (⟨3, by decide⟩ : Fin 4) (View.readAt (Elt F) a11.view (rSt (⟨3, by decide⟩ : Fin 4)).toLoadRect (h11.unread xs0)) = outT x0 x1 x2 x3 x4 x5 x6 x7 (⟨0, by decide⟩ : Fin 8) (⟨3, by decide⟩ : Fin 4) (View.ld (stV x1 x2 x4 x5 x6 xs0 0) (rSt (⟨3, by decide⟩ : Fin 4))) :=
  (outR_eq a2 h2 a3 h3 a4 h4 a5 h5 a6 h6 a7 h7 a8 h8 a9 h9 x0 x1 x2 x3 x4 x5 x6 x7 (⟨0, by decide⟩ : Fin 8) (⟨3, by decide⟩ : Fin 4) _).trans (congrArg _ (readSt a11 h11 xs0 (⟨3, by decide⟩ : Fin 4)))

theorem tileB_4 : outR a2 h2 a3 h3 a4 h4 a5 h5 a6 h6 a7 h7 a8 h8 a9 h9 x0 x1 x2 x3 x4 x5 x6 x7 (⟨1, by decide⟩ : Fin 8) (⟨0, by decide⟩ : Fin 4) (a11.view.readCov (kernelRun0_B.sl.HS0_4 c a3 h3 a4 h4 a6 h6 a7 h7 a8 h8 a11 h11 x1 x2 x4 x5 x6 xs0) (rSt (⟨0, by decide⟩ : Fin 4)).toLoadRect) = outT x0 x1 x2 x3 x4 x5 x6 x7 (⟨1, by decide⟩ : Fin 8) (⟨0, by decide⟩ : Fin 4) (View.ld (stV x1 x2 x4 x5 x6 xs0 1) (rSt (⟨0, by decide⟩ : Fin 4))) :=
  (outR_eq a2 h2 a3 h3 a4 h4 a5 h5 a6 h6 a7 h7 a8 h8 a9 h9 x0 x1 x2 x3 x4 x5 x6 x7 (⟨1, by decide⟩ : Fin 8) (⟨0, by decide⟩ : Fin 4) _).trans (congrArg _ (Todo.read (todoB_3 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))

theorem tileB_5 : outR a2 h2 a3 h3 a4 h4 a5 h5 a6 h6 a7 h7 a8 h8 a9 h9 x0 x1 x2 x3 x4 x5 x6 x7 (⟨1, by decide⟩ : Fin 8) (⟨1, by decide⟩ : Fin 4) (a11.view.readCov (kernelRun0_B.sl.HS0_5 c a3 h3 a4 h4 a6 h6 a7 h7 a8 h8 a11 h11 x1 x2 x4 x5 x6 xs0) (rSt (⟨1, by decide⟩ : Fin 4)).toLoadRect) = outT x0 x1 x2 x3 x4 x5 x6 x7 (⟨1, by decide⟩ : Fin 8) (⟨1, by decide⟩ : Fin 4) (View.ld (stV x1 x2 x4 x5 x6 xs0 1) (rSt (⟨1, by decide⟩ : Fin 4))) :=
  (outR_eq a2 h2 a3 h3 a4 h4 a5 h5 a6 h6 a7 h7 a8 h8 a9 h9 x0 x1 x2 x3 x4 x5 x6 x7 (⟨1, by decide⟩ : Fin 8) (⟨1, by decide⟩ : Fin 4) _).trans (congrArg _ (Todo.read (todoB_4 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))

theorem tileB_6 : outR a2 h2 a3 h3 a4 h4 a5 h5 a6 h6 a7 h7 a8 h8 a9 h9 x0 x1 x2 x3 x4 x5 x6 x7 (⟨1, by decide⟩ : Fin 8) (⟨2, by decide⟩ : Fin 4) (a11.view.readCov (kernelRun0_B.sl.HS0_6 c a3 h3 a4 h4 a6 h6 a7 h7 a8 h8 a11 h11 x1 x2 x4 x5 x6 xs0) (rSt (⟨2, by decide⟩ : Fin 4)).toLoadRect) = outT x0 x1 x2 x3 x4 x5 x6 x7 (⟨1, by decide⟩ : Fin 8) (⟨2, by decide⟩ : Fin 4) (View.ld (stV x1 x2 x4 x5 x6 xs0 1) (rSt (⟨2, by decide⟩ : Fin 4))) :=
  (outR_eq a2 h2 a3 h3 a4 h4 a5 h5 a6 h6 a7 h7 a8 h8 a9 h9 x0 x1 x2 x3 x4 x5 x6 x7 (⟨1, by decide⟩ : Fin 8) (⟨2, by decide⟩ : Fin 4) _).trans (congrArg _ (Todo.read (todoB_5 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))

theorem tileB_7 : outR a2 h2 a3 h3 a4 h4 a5 h5 a6 h6 a7 h7 a8 h8 a9 h9 x0 x1 x2 x3 x4 x5 x6 x7 (⟨1, by decide⟩ : Fin 8) (⟨3, by decide⟩ : Fin 4) (a11.view.readCov (kernelRun0_B.sl.HS0_7 c a3 h3 a4 h4 a6 h6 a7 h7 a8 h8 a11 h11 x1 x2 x4 x5 x6 xs0) (rSt (⟨3, by decide⟩ : Fin 4)).toLoadRect) = outT x0 x1 x2 x3 x4 x5 x6 x7 (⟨1, by decide⟩ : Fin 8) (⟨3, by decide⟩ : Fin 4) (View.ld (stV x1 x2 x4 x5 x6 xs0 1) (rSt (⟨3, by decide⟩ : Fin 4))) :=
  (outR_eq a2 h2 a3 h3 a4 h4 a5 h5 a6 h6 a7 h7 a8 h8 a9 h9 x0 x1 x2 x3 x4 x5 x6 x7 (⟨1, by decide⟩ : Fin 8) (⟨3, by decide⟩ : Fin 4) _).trans (congrArg _ (Todo.read (todoB_6 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))

theorem tileB_8 : outR a2 h2 a3 h3 a4 h4 a5 h5 a6 h6 a7 h7 a8 h8 a9 h9 x0 x1 x2 x3 x4 x5 x6 x7 (⟨2, by decide⟩ : Fin 8) (⟨0, by decide⟩ : Fin 4) (a11.view.readCov (kernelRun0_B.sl.HS0_8 c a3 h3 a4 h4 a6 h6 a7 h7 a8 h8 a11 h11 x1 x2 x4 x5 x6 xs0) (rSt (⟨0, by decide⟩ : Fin 4)).toLoadRect) = outT x0 x1 x2 x3 x4 x5 x6 x7 (⟨2, by decide⟩ : Fin 8) (⟨0, by decide⟩ : Fin 4) (View.ld (stV x1 x2 x4 x5 x6 xs0 2) (rSt (⟨0, by decide⟩ : Fin 4))) :=
  (outR_eq a2 h2 a3 h3 a4 h4 a5 h5 a6 h6 a7 h7 a8 h8 a9 h9 x0 x1 x2 x3 x4 x5 x6 x7 (⟨2, by decide⟩ : Fin 8) (⟨0, by decide⟩ : Fin 4) _).trans (congrArg _ (Todo.read (todoB_7 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))

theorem tileB_9 : outR a2 h2 a3 h3 a4 h4 a5 h5 a6 h6 a7 h7 a8 h8 a9 h9 x0 x1 x2 x3 x4 x5 x6 x7 (⟨2, by decide⟩ : Fin 8) (⟨1, by decide⟩ : Fin 4) (a11.view.readCov (kernelRun0_B.sl.HS0_9 c a3 h3 a4 h4 a6 h6 a7 h7 a8 h8 a11 h11 x1 x2 x4 x5 x6 xs0) (rSt (⟨1, by decide⟩ : Fin 4)).toLoadRect) = outT x0 x1 x2 x3 x4 x5 x6 x7 (⟨2, by decide⟩ : Fin 8) (⟨1, by decide⟩ : Fin 4) (View.ld (stV x1 x2 x4 x5 x6 xs0 2) (rSt (⟨1, by decide⟩ : Fin 4))) :=
  (outR_eq a2 h2 a3 h3 a4 h4 a5 h5 a6 h6 a7 h7 a8 h8 a9 h9 x0 x1 x2 x3 x4 x5 x6 x7 (⟨2, by decide⟩ : Fin 8) (⟨1, by decide⟩ : Fin 4) _).trans (congrArg _ (Todo.read (todoB_8 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))

theorem tileB_10 : outR a2 h2 a3 h3 a4 h4 a5 h5 a6 h6 a7 h7 a8 h8 a9 h9 x0 x1 x2 x3 x4 x5 x6 x7 (⟨2, by decide⟩ : Fin 8) (⟨2, by decide⟩ : Fin 4) (a11.view.readCov (kernelRun0_B.sl.HS0_10 c a3 h3 a4 h4 a6 h6 a7 h7 a8 h8 a11 h11 x1 x2 x4 x5 x6 xs0) (rSt (⟨2, by decide⟩ : Fin 4)).toLoadRect) = outT x0 x1 x2 x3 x4 x5 x6 x7 (⟨2, by decide⟩ : Fin 8) (⟨2, by decide⟩ : Fin 4) (View.ld (stV x1 x2 x4 x5 x6 xs0 2) (rSt (⟨2, by decide⟩ : Fin 4))) :=
  (outR_eq a2 h2 a3 h3 a4 h4 a5 h5 a6 h6 a7 h7 a8 h8 a9 h9 x0 x1 x2 x3 x4 x5 x6 x7 (⟨2, by decide⟩ : Fin 8) (⟨2, by decide⟩ : Fin 4) _).trans (congrArg _ (Todo.read (todoB_9 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))

theorem tileB_11 : outR a2 h2 a3 h3 a4 h4 a5 h5 a6 h6 a7 h7 a8 h8 a9 h9 x0 x1 x2 x3 x4 x5 x6 x7 (⟨2, by decide⟩ : Fin 8) (⟨3, by decide⟩ : Fin 4) (a11.view.readCov (kernelRun0_B.sl.HS0_11 c a3 h3 a4 h4 a6 h6 a7 h7 a8 h8 a11 h11 x1 x2 x4 x5 x6 xs0) (rSt (⟨3, by decide⟩ : Fin 4)).toLoadRect) = outT x0 x1 x2 x3 x4 x5 x6 x7 (⟨2, by decide⟩ : Fin 8) (⟨3, by decide⟩ : Fin 4) (View.ld (stV x1 x2 x4 x5 x6 xs0 2) (rSt (⟨3, by decide⟩ : Fin 4))) :=
  (outR_eq a2 h2 a3 h3 a4 h4 a5 h5 a6 h6 a7 h7 a8 h8 a9 h9 x0 x1 x2 x3 x4 x5 x6 x7 (⟨2, by decide⟩ : Fin 8) (⟨3, by decide⟩ : Fin 4) _).trans (congrArg _ (Todo.read (todoB_10 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))

theorem tileB_12 : outR a2 h2 a3 h3 a4 h4 a5 h5 a6 h6 a7 h7 a8 h8 a9 h9 x0 x1 x2 x3 x4 x5 x6 x7 (⟨3, by decide⟩ : Fin 8) (⟨0, by decide⟩ : Fin 4) (a11.view.readCov (kernelRun0_B.sl.HS0_12 c a3 h3 a4 h4 a6 h6 a7 h7 a8 h8 a11 h11 x1 x2 x4 x5 x6 xs0) (rSt (⟨0, by decide⟩ : Fin 4)).toLoadRect) = outT x0 x1 x2 x3 x4 x5 x6 x7 (⟨3, by decide⟩ : Fin 8) (⟨0, by decide⟩ : Fin 4) (View.ld (stV x1 x2 x4 x5 x6 xs0 3) (rSt (⟨0, by decide⟩ : Fin 4))) :=
  (outR_eq a2 h2 a3 h3 a4 h4 a5 h5 a6 h6 a7 h7 a8 h8 a9 h9 x0 x1 x2 x3 x4 x5 x6 x7 (⟨3, by decide⟩ : Fin 8) (⟨0, by decide⟩ : Fin 4) _).trans (congrArg _ (Todo.read (todoB_11 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))

theorem tileB_13 : outR a2 h2 a3 h3 a4 h4 a5 h5 a6 h6 a7 h7 a8 h8 a9 h9 x0 x1 x2 x3 x4 x5 x6 x7 (⟨3, by decide⟩ : Fin 8) (⟨1, by decide⟩ : Fin 4) (a11.view.readCov (kernelRun0_B.sl.HS0_13 c a3 h3 a4 h4 a6 h6 a7 h7 a8 h8 a11 h11 x1 x2 x4 x5 x6 xs0) (rSt (⟨1, by decide⟩ : Fin 4)).toLoadRect) = outT x0 x1 x2 x3 x4 x5 x6 x7 (⟨3, by decide⟩ : Fin 8) (⟨1, by decide⟩ : Fin 4) (View.ld (stV x1 x2 x4 x5 x6 xs0 3) (rSt (⟨1, by decide⟩ : Fin 4))) :=
  (outR_eq a2 h2 a3 h3 a4 h4 a5 h5 a6 h6 a7 h7 a8 h8 a9 h9 x0 x1 x2 x3 x4 x5 x6 x7 (⟨3, by decide⟩ : Fin 8) (⟨1, by decide⟩ : Fin 4) _).trans (congrArg _ (Todo.read (todoB_12 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))

theorem tileB_14 : outR a2 h2 a3 h3 a4 h4 a5 h5 a6 h6 a7 h7 a8 h8 a9 h9 x0 x1 x2 x3 x4 x5 x6 x7 (⟨3, by decide⟩ : Fin 8) (⟨2, by decide⟩ : Fin 4) (a11.view.readCov (kernelRun0_B.sl.HS0_14 c a3 h3 a4 h4 a6 h6 a7 h7 a8 h8 a11 h11 x1 x2 x4 x5 x6 xs0) (rSt (⟨2, by decide⟩ : Fin 4)).toLoadRect) = outT x0 x1 x2 x3 x4 x5 x6 x7 (⟨3, by decide⟩ : Fin 8) (⟨2, by decide⟩ : Fin 4) (View.ld (stV x1 x2 x4 x5 x6 xs0 3) (rSt (⟨2, by decide⟩ : Fin 4))) :=
  (outR_eq a2 h2 a3 h3 a4 h4 a5 h5 a6 h6 a7 h7 a8 h8 a9 h9 x0 x1 x2 x3 x4 x5 x6 x7 (⟨3, by decide⟩ : Fin 8) (⟨2, by decide⟩ : Fin 4) _).trans (congrArg _ (Todo.read (todoB_13 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))

theorem tileB_15 : outR a2 h2 a3 h3 a4 h4 a5 h5 a6 h6 a7 h7 a8 h8 a9 h9 x0 x1 x2 x3 x4 x5 x6 x7 (⟨3, by decide⟩ : Fin 8) (⟨3, by decide⟩ : Fin 4) (a11.view.readCov (kernelRun0_B.sl.HS0_15 c a3 h3 a4 h4 a6 h6 a7 h7 a8 h8 a11 h11 x1 x2 x4 x5 x6 xs0) (rSt (⟨3, by decide⟩ : Fin 4)).toLoadRect) = outT x0 x1 x2 x3 x4 x5 x6 x7 (⟨3, by decide⟩ : Fin 8) (⟨3, by decide⟩ : Fin 4) (View.ld (stV x1 x2 x4 x5 x6 xs0 3) (rSt (⟨3, by decide⟩ : Fin 4))) :=
  (outR_eq a2 h2 a3 h3 a4 h4 a5 h5 a6 h6 a7 h7 a8 h8 a9 h9 x0 x1 x2 x3 x4 x5 x6 x7 (⟨3, by decide⟩ : Fin 8) (⟨3, by decide⟩ : Fin 4) _).trans (congrArg _ (Todo.read (todoB_14 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))

theorem tileB_16 : outR a2 h2 a3 h3 a4 h4 a5 h5 a6 h6 a7 h7 a8 h8 a9 h9 x0 x1 x2 x3 x4 x5 x6 x7 (⟨4, by decide⟩ : Fin 8) (⟨0, by decide⟩ : Fin 4) (a11.view.readCov (kernelRun0_B.sl.HS0_16 c a3 h3 a4 h4 a6 h6 a7 h7 a8 h8 a11 h11 x1 x2 x4 x5 x6 xs0) (rSt (⟨0, by decide⟩ : Fin 4)).toLoadRect) = outT x0 x1 x2 x3 x4 x5 x6 x7 (⟨4, by decide⟩ : Fin 8) (⟨0, by decide⟩ : Fin 4) (View.ld (stV x1 x2 x4 x5 x6 xs0 4) (rSt (⟨0, by decide⟩ : Fin 4))) :=
  (outR_eq a2 h2 a3 h3 a4 h4 a5 h5 a6 h6 a7 h7 a8 h8 a9 h9 x0 x1 x2 x3 x4 x5 x6 x7 (⟨4, by decide⟩ : Fin 8) (⟨0, by decide⟩ : Fin 4) _).trans (congrArg _ (Todo.read (todoB_15 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))

theorem tileB_17 : outR a2 h2 a3 h3 a4 h4 a5 h5 a6 h6 a7 h7 a8 h8 a9 h9 x0 x1 x2 x3 x4 x5 x6 x7 (⟨4, by decide⟩ : Fin 8) (⟨1, by decide⟩ : Fin 4) (a11.view.readCov (kernelRun0_B.sl.HS0_17 c a3 h3 a4 h4 a6 h6 a7 h7 a8 h8 a11 h11 x1 x2 x4 x5 x6 xs0) (rSt (⟨1, by decide⟩ : Fin 4)).toLoadRect) = outT x0 x1 x2 x3 x4 x5 x6 x7 (⟨4, by decide⟩ : Fin 8) (⟨1, by decide⟩ : Fin 4) (View.ld (stV x1 x2 x4 x5 x6 xs0 4) (rSt (⟨1, by decide⟩ : Fin 4))) :=
  (outR_eq a2 h2 a3 h3 a4 h4 a5 h5 a6 h6 a7 h7 a8 h8 a9 h9 x0 x1 x2 x3 x4 x5 x6 x7 (⟨4, by decide⟩ : Fin 8) (⟨1, by decide⟩ : Fin 4) _).trans (congrArg _ (Todo.read (todoB_16 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))

theorem tileB_18 : outR a2 h2 a3 h3 a4 h4 a5 h5 a6 h6 a7 h7 a8 h8 a9 h9 x0 x1 x2 x3 x4 x5 x6 x7 (⟨4, by decide⟩ : Fin 8) (⟨2, by decide⟩ : Fin 4) (a11.view.readCov (kernelRun0_B.sl.HS0_18 c a3 h3 a4 h4 a6 h6 a7 h7 a8 h8 a11 h11 x1 x2 x4 x5 x6 xs0) (rSt (⟨2, by decide⟩ : Fin 4)).toLoadRect) = outT x0 x1 x2 x3 x4 x5 x6 x7 (⟨4, by decide⟩ : Fin 8) (⟨2, by decide⟩ : Fin 4) (View.ld (stV x1 x2 x4 x5 x6 xs0 4) (rSt (⟨2, by decide⟩ : Fin 4))) :=
  (outR_eq a2 h2 a3 h3 a4 h4 a5 h5 a6 h6 a7 h7 a8 h8 a9 h9 x0 x1 x2 x3 x4 x5 x6 x7 (⟨4, by decide⟩ : Fin 8) (⟨2, by decide⟩ : Fin 4) _).trans (congrArg _ (Todo.read (todoB_17 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))

theorem tileB_19 : outR a2 h2 a3 h3 a4 h4 a5 h5 a6 h6 a7 h7 a8 h8 a9 h9 x0 x1 x2 x3 x4 x5 x6 x7 (⟨4, by decide⟩ : Fin 8) (⟨3, by decide⟩ : Fin 4) (a11.view.readCov (kernelRun0_B.sl.HS0_19 c a3 h3 a4 h4 a6 h6 a7 h7 a8 h8 a11 h11 x1 x2 x4 x5 x6 xs0) (rSt (⟨3, by decide⟩ : Fin 4)).toLoadRect) = outT x0 x1 x2 x3 x4 x5 x6 x7 (⟨4, by decide⟩ : Fin 8) (⟨3, by decide⟩ : Fin 4) (View.ld (stV x1 x2 x4 x5 x6 xs0 4) (rSt (⟨3, by decide⟩ : Fin 4))) :=
  (outR_eq a2 h2 a3 h3 a4 h4 a5 h5 a6 h6 a7 h7 a8 h8 a9 h9 x0 x1 x2 x3 x4 x5 x6 x7 (⟨4, by decide⟩ : Fin 8) (⟨3, by decide⟩ : Fin 4) _).trans (congrArg _ (Todo.read (todoB_18 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))

theorem tileB_20 : outR a2 h2 a3 h3 a4 h4 a5 h5 a6 h6 a7 h7 a8 h8 a9 h9 x0 x1 x2 x3 x4 x5 x6 x7 (⟨5, by decide⟩ : Fin 8) (⟨0, by decide⟩ : Fin 4) (a11.view.readCov (kernelRun0_B.sl.HS0_20 c a3 h3 a4 h4 a6 h6 a7 h7 a8 h8 a11 h11 x1 x2 x4 x5 x6 xs0) (rSt (⟨0, by decide⟩ : Fin 4)).toLoadRect) = outT x0 x1 x2 x3 x4 x5 x6 x7 (⟨5, by decide⟩ : Fin 8) (⟨0, by decide⟩ : Fin 4) (View.ld (stV x1 x2 x4 x5 x6 xs0 5) (rSt (⟨0, by decide⟩ : Fin 4))) :=
  (outR_eq a2 h2 a3 h3 a4 h4 a5 h5 a6 h6 a7 h7 a8 h8 a9 h9 x0 x1 x2 x3 x4 x5 x6 x7 (⟨5, by decide⟩ : Fin 8) (⟨0, by decide⟩ : Fin 4) _).trans (congrArg _ (Todo.read (todoB_19 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))

theorem tileB_21 : outR a2 h2 a3 h3 a4 h4 a5 h5 a6 h6 a7 h7 a8 h8 a9 h9 x0 x1 x2 x3 x4 x5 x6 x7 (⟨5, by decide⟩ : Fin 8) (⟨1, by decide⟩ : Fin 4) (a11.view.readCov (kernelRun0_B.sl.HS0_21 c a3 h3 a4 h4 a6 h6 a7 h7 a8 h8 a11 h11 x1 x2 x4 x5 x6 xs0) (rSt (⟨1, by decide⟩ : Fin 4)).toLoadRect) = outT x0 x1 x2 x3 x4 x5 x6 x7 (⟨5, by decide⟩ : Fin 8) (⟨1, by decide⟩ : Fin 4) (View.ld (stV x1 x2 x4 x5 x6 xs0 5) (rSt (⟨1, by decide⟩ : Fin 4))) :=
  (outR_eq a2 h2 a3 h3 a4 h4 a5 h5 a6 h6 a7 h7 a8 h8 a9 h9 x0 x1 x2 x3 x4 x5 x6 x7 (⟨5, by decide⟩ : Fin 8) (⟨1, by decide⟩ : Fin 4) _).trans (congrArg _ (Todo.read (todoB_20 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))

theorem tileB_22 : outR a2 h2 a3 h3 a4 h4 a5 h5 a6 h6 a7 h7 a8 h8 a9 h9 x0 x1 x2 x3 x4 x5 x6 x7 (⟨5, by decide⟩ : Fin 8) (⟨2, by decide⟩ : Fin 4) (a11.view.readCov (kernelRun0_B.sl.HS0_22 c a3 h3 a4 h4 a6 h6 a7 h7 a8 h8 a11 h11 x1 x2 x4 x5 x6 xs0) (rSt (⟨2, by decide⟩ : Fin 4)).toLoadRect) = outT x0 x1 x2 x3 x4 x5 x6 x7 (⟨5, by decide⟩ : Fin 8) (⟨2, by decide⟩ : Fin 4) (View.ld (stV x1 x2 x4 x5 x6 xs0 5) (rSt (⟨2, by decide⟩ : Fin 4))) :=
  (outR_eq a2 h2 a3 h3 a4 h4 a5 h5 a6 h6 a7 h7 a8 h8 a9 h9 x0 x1 x2 x3 x4 x5 x6 x7 (⟨5, by decide⟩ : Fin 8) (⟨2, by decide⟩ : Fin 4) _).trans (congrArg _ (Todo.read (todoB_21 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))

theorem tileB_23 : outR a2 h2 a3 h3 a4 h4 a5 h5 a6 h6 a7 h7 a8 h8 a9 h9 x0 x1 x2 x3 x4 x5 x6 x7 (⟨5, by decide⟩ : Fin 8) (⟨3, by decide⟩ : Fin 4) (a11.view.readCov (kernelRun0_B.sl.HS0_23 c a3 h3 a4 h4 a6 h6 a7 h7 a8 h8 a11 h11 x1 x2 x4 x5 x6 xs0) (rSt (⟨3, by decide⟩ : Fin 4)).toLoadRect) = outT x0 x1 x2 x3 x4 x5 x6 x7 (⟨5, by decide⟩ : Fin 8) (⟨3, by decide⟩ : Fin 4) (View.ld (stV x1 x2 x4 x5 x6 xs0 5) (rSt (⟨3, by decide⟩ : Fin 4))) :=
  (outR_eq a2 h2 a3 h3 a4 h4 a5 h5 a6 h6 a7 h7 a8 h8 a9 h9 x0 x1 x2 x3 x4 x5 x6 x7 (⟨5, by decide⟩ : Fin 8) (⟨3, by decide⟩ : Fin 4) _).trans (congrArg _ (Todo.read (todoB_22 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))

theorem tileB_24 : outR a2 h2 a3 h3 a4 h4 a5 h5 a6 h6 a7 h7 a8 h8 a9 h9 x0 x1 x2 x3 x4 x5 x6 x7 (⟨6, by decide⟩ : Fin 8) (⟨0, by decide⟩ : Fin 4) (a11.view.readCov (kernelRun0_B.sl.HS0_24 c a3 h3 a4 h4 a6 h6 a7 h7 a8 h8 a11 h11 x1 x2 x4 x5 x6 xs0) (rSt (⟨0, by decide⟩ : Fin 4)).toLoadRect) = outT x0 x1 x2 x3 x4 x5 x6 x7 (⟨6, by decide⟩ : Fin 8) (⟨0, by decide⟩ : Fin 4) (View.ld (stV x1 x2 x4 x5 x6 xs0 6) (rSt (⟨0, by decide⟩ : Fin 4))) :=
  (outR_eq a2 h2 a3 h3 a4 h4 a5 h5 a6 h6 a7 h7 a8 h8 a9 h9 x0 x1 x2 x3 x4 x5 x6 x7 (⟨6, by decide⟩ : Fin 8) (⟨0, by decide⟩ : Fin 4) _).trans (congrArg _ (Todo.read (todoB_23 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))

theorem tileB_25 : outR a2 h2 a3 h3 a4 h4 a5 h5 a6 h6 a7 h7 a8 h8 a9 h9 x0 x1 x2 x3 x4 x5 x6 x7 (⟨6, by decide⟩ : Fin 8) (⟨1, by decide⟩ : Fin 4) (a11.view.readCov (kernelRun0_B.sl.HS0_25 c a3 h3 a4 h4 a6 h6 a7 h7 a8 h8 a11 h11 x1 x2 x4 x5 x6 xs0) (rSt (⟨1, by decide⟩ : Fin 4)).toLoadRect) = outT x0 x1 x2 x3 x4 x5 x6 x7 (⟨6, by decide⟩ : Fin 8) (⟨1, by decide⟩ : Fin 4) (View.ld (stV x1 x2 x4 x5 x6 xs0 6) (rSt (⟨1, by decide⟩ : Fin 4))) :=
  (outR_eq a2 h2 a3 h3 a4 h4 a5 h5 a6 h6 a7 h7 a8 h8 a9 h9 x0 x1 x2 x3 x4 x5 x6 x7 (⟨6, by decide⟩ : Fin 8) (⟨1, by decide⟩ : Fin 4) _).trans (congrArg _ (Todo.read (todoB_24 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))

theorem tileB_26 : outR a2 h2 a3 h3 a4 h4 a5 h5 a6 h6 a7 h7 a8 h8 a9 h9 x0 x1 x2 x3 x4 x5 x6 x7 (⟨6, by decide⟩ : Fin 8) (⟨2, by decide⟩ : Fin 4) (a11.view.readCov (kernelRun0_B.sl.HS0_26 c a3 h3 a4 h4 a6 h6 a7 h7 a8 h8 a11 h11 x1 x2 x4 x5 x6 xs0) (rSt (⟨2, by decide⟩ : Fin 4)).toLoadRect) = outT x0 x1 x2 x3 x4 x5 x6 x7 (⟨6, by decide⟩ : Fin 8) (⟨2, by decide⟩ : Fin 4) (View.ld (stV x1 x2 x4 x5 x6 xs0 6) (rSt (⟨2, by decide⟩ : Fin 4))) :=
  (outR_eq a2 h2 a3 h3 a4 h4 a5 h5 a6 h6 a7 h7 a8 h8 a9 h9 x0 x1 x2 x3 x4 x5 x6 x7 (⟨6, by decide⟩ : Fin 8) (⟨2, by decide⟩ : Fin 4) _).trans (congrArg _ (Todo.read (todoB_25 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))

theorem tileB_27 : outR a2 h2 a3 h3 a4 h4 a5 h5 a6 h6 a7 h7 a8 h8 a9 h9 x0 x1 x2 x3 x4 x5 x6 x7 (⟨6, by decide⟩ : Fin 8) (⟨3, by decide⟩ : Fin 4) (a11.view.readCov (kernelRun0_B.sl.HS0_27 c a3 h3 a4 h4 a6 h6 a7 h7 a8 h8 a11 h11 x1 x2 x4 x5 x6 xs0) (rSt (⟨3, by decide⟩ : Fin 4)).toLoadRect) = outT x0 x1 x2 x3 x4 x5 x6 x7 (⟨6, by decide⟩ : Fin 8) (⟨3, by decide⟩ : Fin 4) (View.ld (stV x1 x2 x4 x5 x6 xs0 6) (rSt (⟨3, by decide⟩ : Fin 4))) :=
  (outR_eq a2 h2 a3 h3 a4 h4 a5 h5 a6 h6 a7 h7 a8 h8 a9 h9 x0 x1 x2 x3 x4 x5 x6 x7 (⟨6, by decide⟩ : Fin 8) (⟨3, by decide⟩ : Fin 4) _).trans (congrArg _ (Todo.read (todoB_26 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))

theorem tileB_28 : outR a2 h2 a3 h3 a4 h4 a5 h5 a6 h6 a7 h7 a8 h8 a9 h9 x0 x1 x2 x3 x4 x5 x6 x7 (⟨7, by decide⟩ : Fin 8) (⟨0, by decide⟩ : Fin 4) (a11.view.readCov (kernelRun0_B.sl.HS0_28 c a3 h3 a4 h4 a6 h6 a7 h7 a8 h8 a11 h11 x1 x2 x4 x5 x6 xs0) (rSt (⟨0, by decide⟩ : Fin 4)).toLoadRect) = outT x0 x1 x2 x3 x4 x5 x6 x7 (⟨7, by decide⟩ : Fin 8) (⟨0, by decide⟩ : Fin 4) (View.ld (stV x1 x2 x4 x5 x6 xs0 7) (rSt (⟨0, by decide⟩ : Fin 4))) :=
  (outR_eq a2 h2 a3 h3 a4 h4 a5 h5 a6 h6 a7 h7 a8 h8 a9 h9 x0 x1 x2 x3 x4 x5 x6 x7 (⟨7, by decide⟩ : Fin 8) (⟨0, by decide⟩ : Fin 4) _).trans (congrArg _ (Todo.read (todoB_27 c i a2 h2 a3 h3 a4 h4 a5 h5 a6 h6 a7 h7 a8 h8 a9 h9 a10 h10 a11 h11 x0 x1 x2 x3 x4 x5 x6 x7 xs0) (⟨0, by decide⟩ : Fin 4) (Nat.le_refl _) a11.view))

theorem tileB_29 : outR a2 h2 a3 h3 a4 h4 a5 h5 a6 h6 a7 h7 a8 h8 a9 h9 x0 x1 x2 x3 x4 x5 x6 x7 (⟨7, by decide⟩ : Fin 8) (⟨1, by decide⟩ : Fin 4) (a11.view.readCov (kernelRun0_B.sl.HS0_29 c a3 h3 a4 h4 a6 h6 a7 h7 a8 h8 a11 h11 x1 x2 x4 x5 x6 xs0) (rSt (⟨1, by decide⟩ : Fin 4)).toLoadRect) = outT x0 x1 x2 x3 x4 x5 x6 x7 (⟨7, by decide⟩ : Fin 8) (⟨1, by decide⟩ : Fin 4) (View.ld (stV x1 x2 x4 x5 x6 xs0 7) (rSt (⟨1, by decide⟩ : Fin 4))) :=
  (outR_eq a2 h2 a3 h3 a4 h4 a5 h5 a6 h6 a7 h7 a8 h8 a9 h9 x0 x1 x2 x3 x4 x5 x6 x7 (⟨7, by decide⟩ : Fin 8) (⟨1, by decide⟩ : Fin 4) _).trans (congrArg _ (Todo.read (todoB_28 c i a2 h2 a3 h3 a4 h4 a5 h5 a6 h6 a7 h7 a8 h8 a9 h9 a10 h10 a11 h11 x0 x1 x2 x3 x4 x5 x6 x7 xs0) (⟨1, by decide⟩ : Fin 4) (Nat.le_refl _) a11.view))

theorem tileB_30 : outR a2 h2 a3 h3 a4 h4 a5 h5 a6 h6 a7 h7 a8 h8 a9 h9 x0 x1 x2 x3 x4 x5 x6 x7 (⟨7, by decide⟩ : Fin 8) (⟨2, by decide⟩ : Fin 4) (a11.view.readCov (kernelRun0_B.sl.HS0_30 c a3 h3 a4 h4 a6 h6 a7 h7 a8 h8 a11 h11 x1 x2 x4 x5 x6 xs0) (rSt (⟨2, by decide⟩ : Fin 4)).toLoadRect) = outT x0 x1 x2 x3 x4 x5 x6 x7 (⟨7, by decide⟩ : Fin 8) (⟨2, by decide⟩ : Fin 4) (View.ld (stV x1 x2 x4 x5 x6 xs0 7) (rSt (⟨2, by decide⟩ : Fin 4))) :=
  (outR_eq a2 h2 a3 h3 a4 h4 a5 h5 a6 h6 a7 h7 a8 h8 a9 h9 x0 x1 x2 x3 x4 x5 x6 x7 (⟨7, by decide⟩ : Fin 8) (⟨2, by decide⟩ : Fin 4) _).trans (congrArg _ (Todo.read (todoB_29 c i a2 h2 a3 h3 a4 h4 a5 h5 a6 h6 a7 h7 a8 h8 a9 h9 a10 h10 a11 h11 x0 x1 x2 x3 x4 x5 x6 x7 xs0) (⟨2, by decide⟩ : Fin 4) (Nat.le_refl _) a11.view))

theorem tileB_31 : outR a2 h2 a3 h3 a4 h4 a5 h5 a6 h6 a7 h7 a8 h8 a9 h9 x0 x1 x2 x3 x4 x5 x6 x7 (⟨7, by decide⟩ : Fin 8) (⟨3, by decide⟩ : Fin 4) (a11.view.readCov (kernelRun0_B.sl.HS0_31 c a3 h3 a4 h4 a6 h6 a7 h7 a8 h8 a11 h11 x1 x2 x4 x5 x6 xs0) (rSt (⟨3, by decide⟩ : Fin 4)).toLoadRect) = outT x0 x1 x2 x3 x4 x5 x6 x7 (⟨7, by decide⟩ : Fin 8) (⟨3, by decide⟩ : Fin 4) (View.ld (stV x1 x2 x4 x5 x6 xs0 7) (rSt (⟨3, by decide⟩ : Fin 4))) :=
  (outR_eq a2 h2 a3 h3 a4 h4 a5 h5 a6 h6 a7 h7 a8 h8 a9 h9 x0 x1 x2 x3 x4 x5 x6 x7 (⟨7, by decide⟩ : Fin 8) (⟨3, by decide⟩ : Fin 4) _).trans (congrArg _ (Todo.read (todoB_30 c i a2 h2 a3 h3 a4 h4 a5 h5 a6 h6 a7 h7 a8 h8 a9 h9 a10 h10 a11 h11 x0 x1 x2 x3 x4 x5 x6 x7 xs0) (⟨3, by decide⟩ : Fin 4) (Nat.le_refl _) a11.view))

theorem outB (hc0 : ¬cond0_0 i) : out0_B_8 c i a2 h2 a3 h3 a4 h4 a5 h5 a6 h6 a7 h7 a8 h8 a9 h9 a10 h10 a11 h11 hc0 x0 x1 x2 x3 x4 x5 x6 x7 xs0 = outG x0 x1 x2 x3 x4 x5 x6 x7 xs0 := by
  funext y
  have hcov := cover0_B_8 c i a2 h2 a3 h3 a4 h4 a5 h5 a6 h6 a7 h7 a8 h8 a9 h9 a10 h10 a11 h11 hc0 x0 x1 x2 x3 x4 x5 x6 x7 xs0 y
  unfold out0_B_8
  rw [View.read_writes_eq_canon _ _ _ (cover0_B_8 c i a2 h2 a3 h3 a4 h4 a5 h5 a6 h6 a7 h7 a8 h8 a9 h9 a10 h10 a11 h11 hc0 x0 x1 x2 x3 x4 x5 x6 x7 xs0)]
  refine View.canon_apply_of_pieces (outG x0 x1 x2 x3 x4 x5 x6 x7 xs0) _ (fun p hp => ?_) y hcov
  unfold kernelRun0_B at hp
  dsimp only at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact outG_tile x0 x1 x2 x3 x4 x5 x6 x7 xs0 (⟨7, by decide⟩ : Fin 8) (⟨3, by decide⟩ : Fin 4) _ (tileB_31 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨7, by decide⟩ : Fin 8) (⟨2, by decide⟩ : Fin 4) _ (tileB_30 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨7, by decide⟩ : Fin 8) (⟨1, by decide⟩ : Fin 4) _ (tileB_29 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨7, by decide⟩ : Fin 8) (⟨0, by decide⟩ : Fin 4) _ (tileB_28 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨6, by decide⟩ : Fin 8) (⟨3, by decide⟩ : Fin 4) _ (tileB_27 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨6, by decide⟩ : Fin 8) (⟨2, by decide⟩ : Fin 4) _ (tileB_26 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨6, by decide⟩ : Fin 8) (⟨1, by decide⟩ : Fin 4) _ (tileB_25 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨6, by decide⟩ : Fin 8) (⟨0, by decide⟩ : Fin 4) _ (tileB_24 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨5, by decide⟩ : Fin 8) (⟨3, by decide⟩ : Fin 4) _ (tileB_23 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨5, by decide⟩ : Fin 8) (⟨2, by decide⟩ : Fin 4) _ (tileB_22 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨5, by decide⟩ : Fin 8) (⟨1, by decide⟩ : Fin 4) _ (tileB_21 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨5, by decide⟩ : Fin 8) (⟨0, by decide⟩ : Fin 4) _ (tileB_20 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨4, by decide⟩ : Fin 8) (⟨3, by decide⟩ : Fin 4) _ (tileB_19 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨4, by decide⟩ : Fin 8) (⟨2, by decide⟩ : Fin 4) _ (tileB_18 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨4, by decide⟩ : Fin 8) (⟨1, by decide⟩ : Fin 4) _ (tileB_17 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨4, by decide⟩ : Fin 8) (⟨0, by decide⟩ : Fin 4) _ (tileB_16 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨3, by decide⟩ : Fin 8) (⟨3, by decide⟩ : Fin 4) _ (tileB_15 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨3, by decide⟩ : Fin 8) (⟨2, by decide⟩ : Fin 4) _ (tileB_14 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨3, by decide⟩ : Fin 8) (⟨1, by decide⟩ : Fin 4) _ (tileB_13 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨3, by decide⟩ : Fin 8) (⟨0, by decide⟩ : Fin 4) _ (tileB_12 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨2, by decide⟩ : Fin 8) (⟨3, by decide⟩ : Fin 4) _ (tileB_11 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨2, by decide⟩ : Fin 8) (⟨2, by decide⟩ : Fin 4) _ (tileB_10 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨2, by decide⟩ : Fin 8) (⟨1, by decide⟩ : Fin 4) _ (tileB_9 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨2, by decide⟩ : Fin 8) (⟨0, by decide⟩ : Fin 4) _ (tileB_8 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨1, by decide⟩ : Fin 8) (⟨3, by decide⟩ : Fin 4) _ (tileB_7 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨1, by decide⟩ : Fin 8) (⟨2, by decide⟩ : Fin 4) _ (tileB_6 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨1, by decide⟩ : Fin 8) (⟨1, by decide⟩ : Fin 4) _ (tileB_5 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨1, by decide⟩ : Fin 8) (⟨0, by decide⟩ : Fin 4) _ (tileB_4 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨0, by decide⟩ : Fin 8) (⟨3, by decide⟩ : Fin 4) _ (tileB_3 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨0, by decide⟩ : Fin 8) (⟨2, by decide⟩ : Fin 4) _ (tileB_2 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨0, by decide⟩ : Fin 8) (⟨1, by decide⟩ : Fin 4) _ (tileB_1 c i a2 h2 a3 h3 a4 h4 a5 h5 a6 h6 a7 h7 a8 h8 a9 h9 a10 h10 a11 h11 x0 x1 x2 x3 x4 x5 x6 x7 xs0)
  · exact outG_tile x0 x1 x2 x3 x4 x5 x6 x7 xs0 (⟨0, by decide⟩ : Fin 8) (⟨0, by decide⟩ : Fin 4) _ (tileB_0 c i a2 h2 a3 h3 a4 h4 a5 h5 a6 h6 a7 h7 a8 h8 a9 h9 a10 h10 a11 h11 x0 x1 x2 x3 x4 x5 x6 x7 xs0)

end Cert.Gla

end
-- ==== Proof.Gla.Points.lean ====
/- The kernel's 64 grid points, one after the other: the state carried from block to block, and the result array read at an index. -/
module

public import proofs.«01_k».proof.Proof.Gla.Blocks
public import proofs.«01_k».proof.Proof.Gla.Host
public import proofs.«01_k».proof.Proof.Gla.Arrays
public import proofs.«01_k».proof.Proof.Gla.Block
public import proofs.«01_k».proof.Proof.Gla.Args
public import proofs.«01_k».proof.Proof.Gla.OutA
public import proofs.«01_k».proof.Proof.Gla.OutB

@[expose] public section

set_option maxRecDepth 16384

noncomputable section

namespace Cert.Gla

open Cert.KernelIdeal Cert.KernelIdeal.Gen Cert.KernelIdeal.Value Idealize.ShloMosaic Idealize.ShloMosaic.TcCoe Idealize.SL.Sem

section
variable (t : Fin cfg0.N) (q k : Vec Ideal S4x8192x192 .bf16) (v : Vec Ideal S4x8192x384 .bf16) (lr : Vec Ideal S4x8192x16 .bf16)
    (r : Vec Ideal S4x8192x384 .bf16) (gw : Vec Ideal S16x192 .f32) (gb : Vec Ideal S192 .f32) (ng : Vec Ideal S96 .f32)

theorem rt_tok (n : Fin 8) (s : Fin 64) : rt t (rw_ n s) = tok (8 * (t.val % 16) + n.val) s :=
  Fin.ext (by show 512 * (t.val % 16) + (64 * n.val + s.val) = (64 * (8 * (t.val % 16) + n.val) + s.val) % 8192; omega)

/-- Each point's blocks hold the arguments of its 512 tokens. -/
theorem blk_holds : Blk (argsOf q k v lr r gw gb ng) (bt t) (t.val % 16)
    (((cfg0.win 0).blk t).view.read (Elt Ideal) (padK q) : Vec Ideal S1x512x512 .bf16)
    (((cfg0.win 1).blk t).view.read (Elt Ideal) (padK k) : Vec Ideal S1x512x512 .bf16)
    (((cfg0.win 2).blk t).view.read (Elt Ideal) (padV v) : Vec Ideal S1x512x512 .bf16)
    (((cfg0.win 3).blk t).view.read (Elt Ideal) (padV r) : Vec Ideal S1x512x512 .bf16)
    (((cfg0.win 4).blk t).view.read (Elt Ideal) (padL lr) : Vec Ideal S1x512x128 .bf16)
    (((cfg0.win 5).blk t).view.read (Elt Ideal) (padW gw) : Vec Ideal S128x512 .bf16)
    (((cfg0.win 6).blk t).view.read (Elt Ideal) (padB gb) : Vec Ideal S1x512 .f32)
    (((cfg0.win 7).blk t).view.read (Elt Ideal) (padN ng) : Vec Ideal S1x512 .f32) where
  q n s h d := by rw [rd0, rt_tok, padK_at]; rfl
  k n s h d := by rw [rd1, rt_tok, padK_at]; rfl
  v n s h d := by rw [rd2, rt_tok, padV_at]; rfl
  r n s h e := by rw [rd3, rt_tok, padV_at, dif_pos e.isLt]; rfl
  lr n s x := by rw [rd4, rt_tok, padL_at]; rfl
  gw x h d := by rw [rd5, padW_at]; rfl
  gb h d := by rw [rd6, padB_at]; rfl
  ng h e := by rw [rd7, padN_at]; rfl
end

variable (m : (ℓ : Loc nD τ sig) → Buf (Elt Ideal) ℓ) (c : Dev nD)

/-- The arguments in a memory. -/
def argsK : Args :=
  argsOf (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))
    (m (c, Proc.devRef .tc main_arg6)) (m (c, Proc.devRef .tc main_arg7))

theorem blkK (t : Fin cfg0.N) : Blk (argsK m c) (bt t) (t.val % 16) (iblk m c 0 t) (iblk m c 1 t) (iblk m c 2 t) (iblk m c 3 t)
    (iblk m c 4 t) (iblk m c 5 t) (iblk m c 6 t) (iblk m c 7 t) := by
  rw [ib0 m c t _ (V_v34 m c), ib1 m c t _ (V_v35 m c), ib2 m c t _ (V_v36 m c), ib3 m c t _ (V_v37 m c), ib4 m c t _ (V_v38 m c),
    ib5 m c t _ (V_v39 m c), ib6 m c t _ (V_v26 m c), ib7 m c t _ (V_v33 m c)]
  exact blk_holds t _ _ _ _ _ _ _ _

/-- What a point stores, at an index, where it starts from the right state. -/
theorem outG_at (t : Fin cfg0.N) (xs : Vec Ideal S4x128x128 .f32)
    (hs : ∀ h, Holds (argsK m c) (bt t) (8 * (t.val % 16)) h (View.ld xs (rSt h))) (n : Fin 8) (s : Fin 64) (h : Fin 4) (e : Fin 128) :
    outG (iblk m c 0 t) (iblk m c 1 t) (iblk m c 2 t) (iblk m c 3 t) (iblk m c 4 t) (iblk m c 5 t) (iblk m c 6 t) (iblk m c 7 t) xs
      (ix3 0 (rw_ n s) (ln h e)) = if he : e.val < 96 then (argsK m c).RES (bt t) (8 * (t.val % 16) + n.val) h s ⟨e.val, he⟩ else 0 := by
  have B := blkK m c t
  generalize (iblk m c 0 t : Vec Ideal S1x512x512 .bf16) = x0 at B ⊢
  generalize (iblk m c 1 t : Vec Ideal S1x512x512 .bf16) = x1 at B ⊢
  generalize (iblk m c 2 t : Vec Ideal S1x512x512 .bf16) = x2 at B ⊢
  generalize (iblk m c 3 t : Vec Ideal S1x512x512 .bf16) = x3 at B ⊢
  generalize (iblk m c 4 t : Vec Ideal S1x512x128 .bf16) = x4 at B ⊢
  generalize (iblk m c 5 t : Vec Ideal S128x512 .bf16) = x5 at B ⊢
  generalize (iblk m c 6 t : Vec Ideal S1x512 .f32) = x6 at B ⊢
  generalize (iblk m c 7 t : Vec Ideal S1x512 .f32) = x7 at B ⊢
  rw [← B.out n h _ (B.states xs hs n.val (by omega) h) s e, outG_tile x0 x1 x2 x3 x4 x5 x6 x7 xs n h _ rfl]
  refine congrArg _ (funext fun a => Fin.ext ?_)
  match a with
  | ⟨0, _⟩ => rfl
  | ⟨1, _⟩ => show 64 * n.val + s.val = 64 * n.val + 1 * s.val; omega
  | ⟨2, _⟩ => show 128 * h.val + e.val = 128 * h.val + 1 * e.val; omega

/-- A sequence's first block starts from the zero state. -/
theorem holds_zero (A : Args) (b : Fin 4) (h : Fin 4) : Holds A b 0 h (View.ld (k0_pay2 (F := Ideal)) (rSt h)) := by
  intro e d
  have e0 : Ideal.ofBits .f32 0x00000000#32 = (0 : EReal) := by
    rw [Ideal.ofBits_zero_f32]
  refine Eq.trans (b := (0 : EReal)) e0 ?_
  split <;> rfl

theorem outs_A (t : Fin cfg0.N) (h0 : t.val % 16 = 0) : outsAt0 m c t.val t.isLt =
    (outG (iblk m c 0 t) (iblk m c 1 t) (iblk m c 2 t) (iblk m c 3 t) (iblk m c 4 t) (iblk m c 5 t) (iblk m c 6 t) (iblk m c 7 t) (k0_pay2 (F := Ideal)),
      stV (iblk m c 1 t) (iblk m c 2 t) (iblk m c 4 t) (iblk m c 5 t) (iblk m c 6 t) (k0_pay2 (F := Ideal)) 8) :=
  (outsAt0_A m c t h0).trans (congrArg₂ Prod.mk (outA ..) (soutA ..))

theorem outs_B (t : Fin cfg0.N) (h0 : ¬t.val % 16 = 0) : outsAt0 m c t.val t.isLt =
    (outG (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2,
      stV (iblk m c 1 t) (iblk m c 2 t) (iblk m c 4 t) (iblk m c 5 t) (iblk m c 6 t) (outsAt0 m c (t.val - 1) (Nat.lt_of_le_of_lt (Nat.sub_le _ _) t.isLt)).2 8) :=
  (outsAt0_B m c t h0).trans (congrArg₂ Prod.mk (outB ..) (soutB ..))

/-- The state left after a point is the state after its eight chunks. -/
theorem state_after (n : ℕ) : ∀ hn : n < cfg0.N, ∀ h, Holds (argsK m c) (bt ⟨n, hn⟩) (8 * (n % 16) + 8) h (View.ld (outsAt0 m c n hn).2 (rSt h)) := by
  induction n with
  | zero =>
    intro hn h
    rw [outs_A m c ⟨0, hn⟩ rfl]
    exact (blkK m c ⟨0, hn⟩).states _ (holds_zero _ _) 8 (le_refl _) h
  | succ n ih =>
    intro hn h
    by_cases h0 : (n + 1) % 16 = 0
    · rw [outs_A m c ⟨n + 1, hn⟩ h0]
      refine (blkK m c ⟨n + 1, hn⟩).states _ (fun h => ?_) 8 (le_refl _) h
      show Holds _ _ (8 * ((n + 1) % 16)) _ _
      rw [h0]
      exact holds_zero _ _ h
    · rw [outs_B m c ⟨n + 1, hn⟩ h0]
      refine (blkK m c ⟨n + 1, hn⟩).states _ (fun h => ?_) 8 (le_refl _) h
      have hp := ih (Nat.lt_of_succ_lt hn) h
      have e1 : 8 * (n % 16) + 8 = 8 * ((n + 1) % 16) := by omega
      have e2 : bt ⟨n, Nat.lt_of_succ_lt hn⟩ = bt ⟨n + 1, hn⟩ := Fin.ext (by show n / 16 = (n + 1) / 16; omega)
      rw [e1, e2] at hp
      exact hp

/-- The block a point stores, at an index. -/
theorem out_at_point (t : Fin cfg0.N) (n : Fin 8) (s : Fin 64) (h : Fin 4) (e : Fin 128) :
    (outsAt0 m c t.val t.isLt).1 (ix3 0 (rw_ n s) (ln h e)) =
      if he : e.val < 96 then (argsK m c).RES (bt t) (8 * (t.val % 16) + n.val) h s ⟨e.val, he⟩ else 0 := by
  by_cases h0 : t.val % 16 = 0
  · rw [outs_A m c t h0]
    exact outG_at m c t _ (fun h => by rw [h0]; exact holds_zero _ _ h) n s h e
  · rw [outs_B m c t h0]
    refine outG_at m c t _ (fun h => ?_) n s h e
    have hp := state_after m c (t.val - 1) (Nat.lt_of_le_of_lt (Nat.sub_le _ _) t.isLt) h
    have e1 : 8 * ((t.val - 1) % 16) + 8 = 8 * (t.val % 16) := by omega
    have e2 : bt ⟨t.val - 1, Nat.lt_of_le_of_lt (Nat.sub_le _ _) t.isLt⟩ = bt t := Fin.ext (by show (t.val - 1) / 16 = t.val / 16; omega)
    rw [e1, e2] at hp
    exact hp

/-- The kernel's result, at an index. -/
theorem result_at (b : Fin 4) (N : Fin 128) (s : Fin 64) (h : Fin 4) (e : Fin 128) :
    (G8 m c : Vec Ideal S4x8192x512 .bf16) (ix3 b (tok N.val s) (ln h e)) =
      if he : e.val < 96 then (argsK m c).RES b N.val h s ⟨e.val, he⟩ else 0 := by
  have hN : 16 * b.val + N.val / 8 < cfg0.N := lt_of_lt_of_eq (by omega) N_0.symm
  have hp : pt8Of (ix3 b (tok N.val s) (ln h e)) = 16 * b.val + N.val / 8 := by
    show 16 * (b.val / 1 - 0) + 1 * (((64 * N.val + s.val) % 8192) / 512 - 0) + 1 * ((128 * h.val + e.val) / 512 - 0) = _
    omega
  have hl : loc8Of (ix3 b (tok N.val s) (ln h e)) = ix3 0 (rw_ ⟨N.val % 8, Nat.mod_lt _ (by decide)⟩ s) (ln h e) := by
    funext a
    apply Fin.ext
    match a with
    | ⟨0, _⟩ => show b.val % 1 = 0; omega
    | ⟨1, _⟩ => show ((64 * N.val + s.val) % 8192) % 512 = 64 * (N.val % 8) + s.val; omega
    | ⟨2, _⟩ => show (128 * h.val + e.val) % 512 = 128 * h.val + e.val; omega
  have key := out_at_point m c ⟨16 * b.val + N.val / 8, hN⟩ ⟨N.val % 8, Nat.mod_lt _ (by decide)⟩ s h e
  have eb : bt ⟨16 * b.val + N.val / 8, hN⟩ = b := Fin.ext (by show (16 * b.val + N.val / 8) / 16 = b.val; omega)
  have eN : 8 * ((16 * b.val + N.val / 8) % 16) + N.val % 8 = N.val := by omega
  rw [eb] at key
  dsimp only at key
  rw [eN, outsAt0_sweep, ← hl] at key
  rw [← key]
  unfold G8
  rw [dif_pos (by rw [hp]; exact hN)]
  exact congrArg (fun z : Vec Ideal S1x512x512 .bf16 × Vec Ideal S4x128x128 .f32 => z.1 (loc8Of (ix3 b (tok N.val s) (ln h e)))) (fold0_congr m c _ _ _ _ hp)

end Cert.Gla

end
-- ==== Proof.GlaRef.Terms.lean ====
/- The reference's arrays, stretch by stretch, as functions of its arguments. -/
module

public import proofs.«01_k».proof.Proof.Gen.ReferenceIdeal.Run

@[expose] public section

set_option maxRecDepth 100000

noncomputable section

namespace Cert.GlaRef

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]

/-- The gate's argument: the low-rank activations times the gate's weights, plus the bias. -/
def glR (lr : Vec F S4x8192x16 .bf16) (gw : Vec F S16x192 .f32) (gb : Vec F S192 .f32) : Vec F S4x8192x192 .f32 :=
  addf (Host.dotGeneral dot_S4x8192x16_S16x192_S4x8192x192_2_0_01_1_n_n none (extf .f32 lr bitsLt_bf16_f32 : FVec F S4x8192x16 .f32) gw)
    (broadcastInDim S4x8192x192 ![0, 1, 2] bcast_S1x1x192_S4x8192x192_0_1_2 (broadcastInDim S1x1x192 ![2] bcast_S192_S1x1x192_2 gb))

/-- The logarithm of the sigmoid. -/
def lsR (x : FVec F S4x8192x192 .f32) : FVec F S4x8192x192 .f32 :=
  let z : FVec F S4x8192x192 .f32 := broadcastInDim S4x8192x192 ![] bcast_S_S4x8192x192 (constant S_ .f32 0x00000000#32)
  let n := Host.negf x
  let d := subf n z
  Host.negf (select (cmpf .une d d) (addf n z) (addf (maximumf n z) (Host.log1p (Host.exp (Host.negf (Host.absf d))))))

/-- The gates. -/
def gR (lr : Vec F S4x8192x16 .bf16) (gw : Vec F S16x192 .f32) (gb : Vec F S192 .f32) : FVec F S4x8192x192 .f32 :=
  Host.divf (lsR (glR lr gw gb)) (broadcastInDim S4x8192x192 ![] bcast_S_S4x8192x192 (constant S_ .f32 0x41800000#32))

/-- An array of 48 channels a head, by head and chunk. -/
def hdK (t : FVec F S4x8192x192 .f32) : FVec F S4x4x128x64x48 .f32 :=
  transpose S4x4x128x64x48 [0, 3, 1, 2, 4] (shapeCast S4x128x64x4x48 t shapeCasts_S4x8192x192_S4x128x64x4x48) transposes_S4x128x64x4x48_S4x4x128x64x48_0_3_1_2_4

/-- An array of 96 channels a head, by head and chunk. -/
def hdV (t : FVec F S4x8192x384 .f32) : FVec F S4x4x128x64x96 .f32 :=
  transpose S4x4x128x64x96 [0, 3, 1, 2, 4] (shapeCast S4x128x64x4x96 t shapeCasts_S4x8192x384_S4x128x64x4x96) transposes_S4x128x64x4x96_S4x4x128x64x96_0_3_1_2_4

/-- The running sum over each chunk. -/
def csR (g : FVec F S4x4x128x64x48 .f32) : FVec F S4x4x128x64x48 .f32 :=
  Host.reduceWindowAdd ![1, 1, 1, 64, 1] ![1, 1, 1, 1, 1] ![0, 0, 0, 63, 0] ![0, 0, 0, 0, 0] g
    (broadcastInDim S_ ![] bcast_S_S_ (constant S_ .f32 0x00000000#32)) reduceWindows_S4x4x128x64x48_S4x4x128x64x48_w1s1p0_0_w1s1p0_0_w1s1p0_0_w64s1p63_0_w1s1p0_0 h_S_

/-- Its last row. -/
def blR (bc : FVec F S4x4x128x64x48 .f32) : FVec F S4x4x128x1x48 .f32 :=
  extractStridedSlice S4x4x128x1x48 ![0, 0, 0, 63, 0] bc slices_S4x4x128x64x48_S4x4x128x1x48_0_0_0_63_0

/-- The decayed queries. -/
def qdR (q : Vec F S4x8192x192 .bf16) (bc : FVec F S4x4x128x64x48 .f32) : FVec F S4x4x128x64x48 .f32 :=
  mulf (mulf (hdK (extf .f32 q bitsLt_bf16_f32)) (broadcastInDim S4x4x128x64x48 ![] bcast_S_S4x4x128x64x48 (constant S_ .f32 0x3E13CD3A#32))) (Host.exp bc)

/-- The lower triangle. -/
def trilR : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The attention inside a chunk. -/
def oiR (q k : Vec F S4x8192x192 .bf16) (v : Vec F S4x8192x384 .bf16) (bc : FVec F S4x4x128x64x48 .f32) : FVec F S4x4x128x64x96 .f32 :=
  Host.dotGeneral dot_S4x4x128x64x64_S4x4x128x64x96_S4x4x128x64x96_4_3_3_4_012_012 none
    (select (broadcastInDim S4x4x128x64x64 ![3, 4] bcast_S64x64_S4x4x128x64x64_3_4 trilR)
      (Host.dotGeneral dot_S4x4x128x64x48_S4x4x128x64x48_S4x4x128x64x64_4_4_3_3_012_012 none (qdR q bc)
        (mulf (hdK (extf .f32 k bitsLt_bf16_f32)) (Host.exp (Host.negf bc))))
      (broadcastInDim S4x4x128x64x64 ![] bcast_S_S4x4x128x64x64 (constant S_ .f32 0x00000000#32)))
    (hdV (extf .f32 v bitsLt_bf16_f32))

/-- What each chunk adds to the state. -/
def updR (k : Vec F S4x8192x192 .bf16) (v : Vec F S4x8192x384 .bf16) (bc : FVec F S4x4x128x64x48 .f32) : FVec F S4x4x128x48x96 .f32 :=
  Host.dotGeneral dot_S4x4x128x64x48_S4x4x128x64x96_S4x4x128x48x96_3_3_4_4_012_012 none
    (mulf (hdK (extf .f32 k bitsLt_bf16_f32))
      (Host.exp (subf (broadcastInDim S4x4x128x64x48 ![0, 1, 2, 3, 4] bcast_S4x4x128x1x48_S4x4x128x64x48_0_1_2_3_4 (blR bc)) bc)))
    (hdV (extf .f32 v bitsLt_bf16_f32))

/-- What each chunk adds, chunk first. -/
def updT (k : Vec F S4x8192x192 .bf16) (v : Vec F S4x8192x384 .bf16) (bc : FVec F S4x4x128x64x48 .f32) : FVec F S128x4x4x48x96 .f32 :=
  transpose S128x4x4x48x96 [2, 0, 1, 3, 4] (updR k v bc) transposes_S4x4x128x48x96_S128x4x4x48x96_2_0_1_3_4

/-- Each chunk's decay, chunk first. -/
def decT (bc : FVec F S4x4x128x64x48 .f32) : FVec F S128x4x4x48 .f32 :=
  transpose S128x4x4x48 [2, 0, 1, 3] (Host.exp (shapeCast S4x4x128x48 (blR bc) shapeCasts_S4x4x128x1x48_S4x4x128x48)) transposes_S4x4x128x48_S128x4x4x48_2_0_1_3

end Cert.GlaRef

end
-- ==== Proof.GlaRef.Scan.lean ====
/- The reference's running sum over a chunk, at an index. -/
module

public import proofs.«01_k».proof.Proof.GlaRef.Terms
public import proofs.«01_k».proof.Proof.Gla.Spec
public import Idealize.ShloMosaic.Lib.Pointwise

@[expose] public section

set_option maxRecDepth 16384

noncomputable section

namespace Cert.GlaRef

open Cert.ReferenceIdeal Cert.ReferenceIdeal.Gen Cert.ReferenceIdeal.Value Idealize.ShloMosaic Idealize.ShloMosaic.TcCoe Idealize.SL.Sem
open Cert.Gla

/-- A left fold of sums is a sum. -/
theorem foldl_sum {ι : Type} (f : ι → EReal) : ∀ (l : List ι) (a : EReal), l.foldl (fun r n => r + f n) a = a + (l.map f).sum
  | [], a => by simp
  | n :: l, a => by simp [foldl_sum f l, add_assoc]

/-- The window's shape. -/
abbrev Wd : Shape := ⟨5, ![1, 1, 1, 64, 1]⟩

theorem wd_row : ∀ n : Fin 64, (Wd.rowMajor.symm n 3).val = n.val := by decide +kernel

theorem csR_at (g : FVec Ideal S4x4x128x64x48 .f32) (b h : Fin 4) (N : Fin 128) (s : Fin 64) (d : Fin 48) :
    csR g (ix5 b h N s d) = cum (fun x => g (ix5 b h N x d)) s := by
  unfold csR Host.reduceWindowAdd
  rw [Ideal.hostReduceWindowAdd_def]
  unfold Ideal.hostReduceWindowAdd Host.reduceWindow
  dsimp only
  rw [foldl_sum]
  have z : (broadcastInDim S_ ![] bcast_S_S_ (constant (F := Ideal) S_ .f32 0x00000000#32) : FVec Ideal S_ .f32) (Shape.Idx.first h_S_) = (0 : EReal) := Ideal.ofBits_zero_f32
  rw [z, zero_add, ← Fin.sum_univ_def]
  unfold cum
  refine Fintype.sum_equiv (Equiv.addRight (s + 1) : Fin 64 ≃ Fin 64) _ _ fun n => ?_
  have hn := wd_row n
  have hv : ((Equiv.addRight (s + 1)) n : Fin 64).val = (n.val + (s.val + 1) % 64) % 64 := by
    simp [Fin.val_add]
    omega
  have y0 : (Wd.rowMajor.symm n 0).val < 1 := (Wd.rowMajor.symm n 0).isLt
  have y1 : (Wd.rowMajor.symm n 1).val < 1 := (Wd.rowMajor.symm n 1).isLt
  have y2 : (Wd.rowMajor.symm n 2).val < 1 := (Wd.rowMajor.symm n 2).isLt
  have y4 : (Wd.rowMajor.symm n 4).val < 1 := (Wd.rowMajor.symm n 4).isLt
  by_cases hc : 63 ≤ s.val + n.val
  · rw [dif_pos, if_pos (by rw [hv]; omega)]
    · refine congrArg g (funext fun a => Fin.ext ?_)
      match a with
      | ⟨0, _⟩ => show b.val * 1 + (Wd.rowMajor.symm n 0).val - 0 = b.val; omega
      | ⟨1, _⟩ => show h.val * 1 + (Wd.rowMajor.symm n 1).val - 0 = h.val; omega
      | ⟨2, _⟩ => show N.val * 1 + (Wd.rowMajor.symm n 2).val - 0 = N.val; omega
      | ⟨3, _⟩ => show s.val * 1 + (Wd.rowMajor.symm n 3).val - 63 = ((Equiv.addRight (s + 1)) n : Fin 64).val; rw [hv, hn]; omega
      | ⟨4, _⟩ => show d.val * 1 + (Wd.rowMajor.symm n 4).val - 0 = d.val; omega
    · intro a
      match a with
      | ⟨0, _⟩ => show 0 ≤ b.val * 1 + (Wd.rowMajor.symm n 0).val ∧ b.val * 1 + (Wd.rowMajor.symm n 0).val - 0 < 4; omega
      | ⟨1, _⟩ => show 0 ≤ h.val * 1 + (Wd.rowMajor.symm n 1).val ∧ h.val * 1 + (Wd.rowMajor.symm n 1).val - 0 < 4; omega
      | ⟨2, _⟩ => show 0 ≤ N.val * 1 + (Wd.rowMajor.symm n 2).val ∧ N.val * 1 + (Wd.rowMajor.symm n 2).val - 0 < 128; omega
      | ⟨3, _⟩ => show 63 ≤ s.val * 1 + (Wd.rowMajor.symm n 3).val ∧ s.val * 1 + (Wd.rowMajor.symm n 3).val - 63 < 64; omega
      | ⟨4, _⟩ => show 0 ≤ d.val * 1 + (Wd.rowMajor.symm n 4).val ∧ d.val * 1 + (Wd.rowMajor.symm n 4).val - 0 < 48; omega
  · rw [dif_neg, if_neg (by rw [hv]; omega)]
    intro hin
    have h3 : 63 ≤ s.val * 1 + (Wd.rowMajor.symm n 3).val := (hin 3).1
    omega

end Cert.GlaRef

end
-- ==== Proof.GlaRef.Post.lean ====
/- What the reference's stretches after its loop leave in the result. -/
module

public import proofs.«01_k».proof.Proof.Gen.ReferenceIdeal.Run

@[expose] public section

set_option maxRecDepth 100000

noncomputable section

namespace Cert.GlaRef

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]

/-- The attention's output in the token's order, from the decayed queries, the attention inside the chunks and the states before them. -/
def oR (qd : FVec F S4x4x128x64x48 .f32) (oi : FVec F S4x4x128x64x96 .f32) (st : FVec F S128x4x4x48x96 .f32) : FVec F S4x8192x4x96 .f32 :=
  shapeCast S4x8192x4x96 (transpose S4x128x64x4x96 [0, 2, 3, 1, 4]
    (addf oi (Host.dotGeneral dot_S4x4x128x64x48_S4x4x128x48x96_S4x4x128x64x96_4_3_3_4_012_012 none qd
      (transpose S4x4x128x48x96 [1, 2, 0, 3, 4] st transposes_S128x4x4x48x96_S4x4x128x48x96_1_2_0_3_4 : FVec F S4x4x128x48x96 .f32)))
    transposes_S4x4x128x64x96_S4x128x64x4x96_0_2_3_1_4) shapeCasts_S4x128x64x4x96_S4x8192x4x96

/-- The normalisation of each head, with its gain. -/
def nrmR (o : FVec F S4x8192x4x96 .f32) (ng : Vec F S96 .f32) : FVec F S4x8192x4x96 .f32 :=
  mulf (mulf o (broadcastInDim S4x8192x4x96 ![0, 1, 2, 3] bcast_S4x8192x4x1_S4x8192x4x96_0_1_2_3 (Host.rsqrt
      (addf (Host.divf (broadcastInDim S4x8192x4x1 ![0, 1, 2] bcast_S4x8192x4_S4x8192x4x1_0_1_2
        (Host.reduceAdd (mulf o o) (constant S_ .f32 0x00000000#32) reducesTo_S4x8192x4x96_S4x8192x4_d3 h_S_))
        (broadcastInDim S4x8192x4x1 ![] bcast_S_S4x8192x4x1 (constant S_ .f32 0x42C00000#32)))
        (broadcastInDim S4x8192x4x1 ![] bcast_S_S4x8192x4x1 (constant S_ .f32 0x358637BD#32))))))
    (broadcastInDim S4x8192x4x96 ![0, 1, 2, 3] bcast_S1x1x1x96_S4x8192x4x96_0_1_2_3 (broadcastInDim S1x1x1x96 ![3] bcast_S96_S1x1x1x96_3 ng))

/-- The output gate's activation. -/
def silR (r : FVec F S4x8192x384 .f32) : FVec F S4x8192x384 .f32 :=
  mulf r (Host.divf (broadcastInDim S4x8192x384 ![] bcast_S_S4x8192x384 (constant S_ .f32 0x3F800000#32))
    (addf (broadcastInDim S4x8192x384 ![] bcast_S_S4x8192x384 (constant S_ .f32 0x3F800000#32)) (Host.exp (Host.negf r))))

/-- The normalised output times the gate's activation. -/
def gatR (y : FVec F S4x8192x4x96 .f32) (sl : FVec F S4x8192x384 .f32) : FVec F S4x8192x4x96 .f32 :=
  mulf y (shapeCast S4x8192x4x96 sl shapeCasts_S4x8192x384_S4x8192x4x96)

/-- Each head's channels filled up to 128. -/
def padR (y : FVec F S4x8192x4x96 .f32) (z : IVec S_ 32) : FVec F S4x8192x4x128 .f32 :=
  pad S4x8192x4x128 ![0, 0, 0, 0] ![0, 0, 0, 32] ![0, 0, 0, 0] y (sitofp .f32 z : FVec F S_ .f32) pads_S4x8192x4x96_S4x8192x4x128_000_000_000_0320 h_S_

variable (V : Valuation τ sig (Elt F))

theorem s9_v62 : after hostOps0_9 V (Proc.devRef .tc main_v62) =
    nrmR (oR (V (Proc.devRef .tc main_v24)) (V (Proc.devRef .tc main_v32)) (V (Proc.devRef .tc main_v44_4))) (V (Proc.devRef .tc main_arg7)) := by
  after_results_simp
  rfl
theorem s9_v63 : after hostOps0_9 V (Proc.devRef .tc main_v63) = extf .f32 (V (Proc.devRef .tc main_arg4)) bitsLt_bf16_f32 := by
  after_results
theorem s10_v64 : after hostOps0_10 V (Proc.devRef .tc main_v64) = silR (V (Proc.devRef .tc main_v63)) := by
  after_results
  rfl
theorem s11_v66 : after hostOps0_11 V (Proc.devRef .tc main_v66) = gatR (V (Proc.devRef .tc main_v62)) (V (Proc.devRef .tc main_v64)) := by
  after_results
  rfl
theorem s11_c_8 : after hostOps0_11 V (Proc.devRef .tc main_c_8) = constantI S_ 32 0#32 := by
  after_results
theorem s12_v67 : after hostOps0_12 V (Proc.devRef .tc main_v67) = padR (V (Proc.devRef .tc main_v66)) (V (Proc.devRef .tc main_c_8)) := by
  after_results
  rfl
theorem s13_v69 : after hostOps0_13 V (Proc.devRef .tc main_v69) =
    truncf .bf16 (shapeCast S4x8192x512 (V (Proc.devRef .tc main_v67)) shapeCasts_S4x8192x4x128_S4x8192x512 : FVec F S4x8192x512 .f32) bitsLt_bf16_f32 := by
  after_results
  rfl

theorem s10_writes : (hostOps0_10 : List (HloOp τ sig (Elt F))).Forall fun op => op.writes ⊆
    (([main_call7_v0, main_call7_v1, main_call7_cst, main_call7_v2, main_call7_v3, main_call7_cst_0, main_call7_v4, main_call7_v5, main_v64] : List (Ref sig .tc)).map (Proc.devRef (τ := τ) .tc)).toFinset :=
  StableHlo.forall_writes_sub_of_map rfl
theorem s10_v62 : after hostOps0_10 V (Proc.devRef .tc main_v62) = V (Proc.devRef .tc main_v62) :=
  after_of_writes_sub hostOps0_10 V s10_writes (by decide +kernel)

/-- What the stretches after the loop leave in the result. -/
theorem post_res : afterL postI V (Proc.devRef .tc main_v69) =
    truncf .bf16 (shapeCast S4x8192x512 (padR (gatR (nrmR (oR (V (Proc.devRef .tc main_v24)) (V (Proc.devRef .tc main_v32)) (V (Proc.devRef .tc main_v44_4)))
      (V (Proc.devRef .tc main_arg7))) (silR (extf .f32 (V (Proc.devRef .tc main_arg4)) bitsLt_bf16_f32))) (constantI S_ 32 0#32))
      shapeCasts_S4x8192x4x128_S4x8192x512 : FVec F S4x8192x512 .f32) bitsLt_bf16_f32 := by
  simp only [afterL_cons, afterL_nil]
  rw [s13_v69, s12_v67, s11_v66, s11_c_8, s10_v64, s9_v63, s10_v62, s9_v62]

end Cert.GlaRef

end
-- ==== Proof.GlaRef.Read.lean ====
/- The reference's arrays at an index. -/
module

public import proofs.«01_k».proof.Proof.GlaRef.Scan
public import proofs.«01_k».proof.Proof.GlaRef.Post
public import proofs.«01_k».proof.Proof.Gla.Arrays
public import Idealize.ShloMosaic.Lib.Pointwise

@[expose] public section

set_option maxRecDepth 16384

noncomputable section

namespace Cert.GlaRef

open Cert.ReferenceIdeal Cert.ReferenceIdeal.Gen Cert.ReferenceIdeal.Value Idealize.ShloMosaic Idealize.ShloMosaic.TcCoe Idealize.SL.Sem
open Cert.Gla

theorem hdK_at (x : FVec Ideal S4x8192x192 .f32) (b h : Fin 4) (N : Fin 128) (s : Fin 64) (d : Fin 48) :
    hdK x (ix5 b h N s d) = x (ix3 b (tok N.val s) (kc h d)) := by
  pointwise [hdK]
  exact congrArg₂ (fun t c => x (ix3 b t c)) (Fin.ext (by show N.val * 64 + s.val = (64 * N.val + s.val) % 8192; omega)) (Fin.ext (by show h.val * 48 + d.val = 48 * h.val + d.val; omega))

theorem hdV_at (x : FVec Ideal S4x8192x384 .f32) (b h : Fin 4) (N : Fin 128) (s : Fin 64) (e : Fin 96) :
    hdV x (ix5 b h N s e) = x (ix3 b (tok N.val s) (vc h e)) := by
  pointwise [hdV]
  exact congrArg₂ (fun t c => x (ix3 b t c)) (Fin.ext (by show N.val * 64 + s.val = (64 * N.val + s.val) % 8192; omega)) (Fin.ext (by show h.val * 96 + e.val = 96 * h.val + e.val; omega))

theorem gR_at (lr : Vec Ideal S4x8192x16 .bf16) (gw : Vec Ideal S16x192 .f32) (gb : Vec Ideal S192 .f32) (b : Fin 4) (t : Fin 8192) (c : Fin 192) :
    gR lr gw gb (ix3 b t c) = gate ((∑ x : Fin 16, lr (ix3 b t x) * gw (ix2 x c)) + gb (ix1 c)) := by
  pointwise [gR, lsR, glR]
  rw [bits_sixteen]
  generalize (∑ x, lr (ix3 b t x) * gw (ix2 x c)) + gb (ix1 c) = y
  rw [if_neg (fun hne => hne rfl)]
  exact gate_eq y

theorem qdR_at (q : Vec Ideal S4x8192x192 .bf16) (bc : FVec Ideal S4x4x128x64x48 .f32) (b h : Fin 4) (N : Fin 128) (s : Fin 64) (d : Fin 48) :
    qdR q bc (ix5 b h N s d) = q (ix3 b (tok N.val s) (kc h d)) * c48 * Ideal.exp (bc (ix5 b h N s d)) := by
  unfold qdR
  generalize hx : hdK (F := Ideal) _ = x
  pointwise []
  rw [← hx, hdK_at]
  rfl

theorem trilR_at (s x : Fin 64) : trilR (ix2 s x) = BitVec.ofBool (decide (x.val ≤ s.val)) := by
  pointwise [trilR]
  have e : IntOp.addi (BitVec.ofNat 32 s.val) 0#32 = BitVec.ofNat 32 s.val := by simp [IntOp.addi]
  rw [e, sge_small]
  by_cases hx : x.val ≤ s.val
  · simp [hx, Scalar.select]
  · simp [hx, Scalar.select]

theorem oiR_at (q k : Vec Ideal S4x8192x192 .bf16) (v : Vec Ideal S4x8192x384 .bf16) (bc : FVec Ideal S4x4x128x64x48 .f32) (b h : Fin 4) (N : Fin 128) (s : Fin 64) (e : Fin 96) :
    oiR q k v bc (ix5 b h N s e) = ∑ x : Fin 64, (if x.val ≤ s.val then ∑ d : Fin 48, (q (ix3 b (tok N.val s) (kc h d)) * c48 * Ideal.exp (bc (ix5 b h N s d))) *
      (k (ix3 b (tok N.val x) (kc h d)) * Ideal.exp (-(bc (ix5 b h N x d)))) else 0) * v (ix3 b (tok N.val x) (vc h e)) := by
  unfold oiR
  generalize hq : qdR q bc = q'
  generalize hk : hdK (F := Ideal) _ = k'
  generalize hv : hdV (F := Ideal) _ = v'
  generalize ht : trilR = t'
  pointwise []
  refine Finset.sum_congr rfl fun x _ => ?_
  rw [← ht, trilR_at, ← hv, hdV_at]
  by_cases hx : x.val ≤ s.val
  · rw [if_pos hx, decide_eq_true hx]
    show (∑ _, _) * _ = _
    refine congrArg (· * _) (Finset.sum_congr rfl fun d _ => ?_)
    rw [← hq, ← hk, qdR_at, hdK_at]
    rfl
  · rw [if_neg hx, decide_eq_false hx, zero_mul]
    rfl

theorem updT_at (k : Vec Ideal S4x8192x192 .bf16) (v : Vec Ideal S4x8192x384 .bf16) (bc : FVec Ideal S4x4x128x64x48 .f32) (b h : Fin 4) (N : Fin 128) (d : Fin 48) (e : Fin 96) :
    updT k v bc (ix5 N b h d e) = ∑ s : Fin 64, (k (ix3 b (tok N.val s) (kc h d)) * Ideal.exp (bc (ix5 b h N 63 d) - bc (ix5 b h N s d))) * v (ix3 b (tok N.val s) (vc h e)) := by
  unfold updT updR
  generalize hk : hdK (F := Ideal) _ = k'
  generalize hv : hdV (F := Ideal) _ = v'
  pointwise [blR]
  refine Finset.sum_congr rfl fun s _ => ?_
  rw [← hk, ← hv, hdK_at, hdV_at]
  rfl

theorem decT_at (bc : FVec Ideal S4x4x128x64x48 .f32) (b h : Fin 4) (N : Fin 128) (d : Fin 48) :
    decT bc (ix4 N b h d) = Ideal.exp (bc (ix5 b h N 63 d)) := by
  pointwise [decT, blR]

theorem oR_at (qd : FVec Ideal S4x4x128x64x48 .f32) (oi : FVec Ideal S4x4x128x64x96 .f32) (st : FVec Ideal S128x4x4x48x96 .f32)
    (b : Fin 4) (N : Fin 128) (s : Fin 64) (h : Fin 4) (e : Fin 96) :
    oR qd oi st (ix4 b (tok N.val s) h e) = oi (ix5 b h N s e) + ∑ d : Fin 48, qd (ix5 b h N s d) * st (ix5 N b h d e) := by
  generalize ht : tok N.val s = t
  have ht' : t.val = 64 * N.val + s.val := by rw [← ht]; show (64 * N.val + s.val) % 8192 = _; omega
  pointwise [oR]
  have e1 : (⟨t.val / 64, by omega⟩ : Fin 128) = N := Fin.ext (by show t.val / 64 = N.val; omega)
  have e2 : (⟨t.val % 64, by omega⟩ : Fin 64) = s := Fin.ext (by show t.val % 64 = s.val; omega)
  show oi (ix5 b h (⟨t.val / 64, by omega⟩ : Fin 128) (⟨t.val % 64, by omega⟩ : Fin 64) e) +
    ∑ x : Fin 48, qd (ix5 b h (⟨t.val / 64, by omega⟩ : Fin 128) (⟨t.val % 64, by omega⟩ : Fin 64) x) * st (ix5 (⟨t.val / 64, by omega⟩ : Fin 128) b h x e) = _
  rw [e1, e2]

theorem nrmR_at (o : FVec Ideal S4x8192x4x96 .f32) (ng : Vec Ideal S96 .f32) (b : Fin 4) (t : Fin 8192) (h : Fin 4) (e : Fin 96) :
    nrmR o ng (ix4 b t h e) = o (ix4 b t h e) * Ideal.rsqrt ((∑ x : Fin 96, o (ix4 b t h x) * o (ix4 b t h x)) * ((96⁻¹ : ℝ) : EReal) + Ideal.ofBits .f32 0x358637BD#32)
      * ng (ix1 e) := by
  pointwise [nrmR]
  rw [bits_ninetysix, div_real _ _ (by norm_num)]

theorem silR_at (r : FVec Ideal S4x8192x384 .f32) (b : Fin 4) (t : Fin 8192) (c : Fin 384) :
    silR r (ix3 b t c) = r (ix3 b t c) * Ideal.div 1 (1 + Ideal.exp (-(r (ix3 b t c)))) := by
  pointwise [silR]

theorem gatR_at (y : FVec Ideal S4x8192x4x96 .f32) (sl : FVec Ideal S4x8192x384 .f32) (b : Fin 4) (t : Fin 8192) (h : Fin 4) (e : Fin 96) :
    gatR y sl (ix4 b t h e) = y (ix4 b t h e) * sl (ix3 b t (vc h e)) := by
  pointwise [gatR]
  exact congrArg (fun z => _ * sl (ix3 b t z)) (Fin.ext (by show h.val * 96 + e.val = 96 * h.val + e.val; omega))

theorem padR_at (y : FVec Ideal S4x8192x4x96 .f32) (b : Fin 4) (t : Fin 8192) (h : Fin 4) (e : Fin 128) :
    (shapeCast S4x8192x512 (padR y (constantI S_ 32 0#32)) shapeCasts_S4x8192x4x128_S4x8192x512 : FVec Ideal S4x8192x512 .f32) (ix3 b t (ln h e)) =
      if he : e.val < 96 then y (ix4 b t h ⟨e.val, he⟩) else 0 := by
  generalize hl : ln h e = l
  have hl' : l.val = 128 * h.val + e.val := by rw [← hl]
  pointwise [padR]
  rw [zero_word]
  by_cases he : e.val < 96
  · rw [dif_pos he, dif_pos (by omega)]
    exact congrArg₂ (fun h e => y (ix4 b t h e)) (Fin.ext (by show l.val / 128 = h.val; omega)) (Fin.ext (by show l.val % 128 = e.val; omega))
  · rw [dif_neg he, dif_neg (by omega)]

end Cert.GlaRef

end
-- ==== Proof.GlaRef.Pre.lean ====
/- What the reference's stretches before its loop leave. -/
module

public import proofs.«01_k».proof.Proof.GlaRef.Terms

@[expose] public section

set_option maxRecDepth 100000

noncomputable section

namespace Cert.GlaRef

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]

/-! ## What the stretches before the loop leave -/

variable (V : Valuation τ sig (Elt F))

theorem s0_v4 : after hostOps0 V (Proc.devRef .tc main_v4) = glR (V (Proc.devRef .tc main_arg3)) (V (Proc.devRef .tc main_arg5)) (V (Proc.devRef .tc main_arg6)) := by
  after_results
  rfl
theorem s1_v5 : after hostOps0_1 V (Proc.devRef .tc main_v5) = lsR (V (Proc.devRef .tc main_v4)) := by
  after_results
  rfl
theorem s2_v12 : after hostOps0_2 V (Proc.devRef .tc main_v12) =
    mulf (hdK (extf .f32 (V (Proc.devRef .tc main_arg0)) bitsLt_bf16_f32)) (broadcastInDim S4x4x128x64x48 ![] bcast_S_S4x4x128x64x48 (constant S_ .f32 0x3E13CD3A#32)) := by
  after_results
  rfl
theorem s2_v15 : after hostOps0_2 V (Proc.devRef .tc main_v15) = hdK (extf .f32 (V (Proc.devRef .tc main_arg1)) bitsLt_bf16_f32) := by
  after_results
  rfl
theorem s2_v18 : after hostOps0_2 V (Proc.devRef .tc main_v18) = hdV (extf .f32 (V (Proc.devRef .tc main_arg2)) bitsLt_bf16_f32) := by
  after_results
  rfl
theorem s2_v20 : after hostOps0_2 V (Proc.devRef .tc main_v20) =
    hdK (Host.divf (V (Proc.devRef .tc main_v5)) (broadcastInDim S4x8192x192 ![] bcast_S_S4x8192x192 (constant S_ .f32 0x41800000#32))) := by
  after_results
  rfl
theorem s3_v21 : after hostOps0_3 V (Proc.devRef .tc main_v21) = csR (V (Proc.devRef .tc main_v20)) := by
  after_results
  simp only [StableHlo.TRef.ofBuf_toBuf]
  rfl
theorem s4_v22 : after hostOps0_4 V (Proc.devRef .tc main_v22) = blR (V (Proc.devRef .tc main_v21)) := by
  after_results
  rfl
theorem s4_v24 : after hostOps0_4 V (Proc.devRef .tc main_v24) = mulf (V (Proc.devRef .tc main_v12)) (Host.exp (V (Proc.devRef .tc main_v21))) := by
  after_results
theorem s4_v25 : after hostOps0_4 V (Proc.devRef .tc main_v25) = broadcastInDim S64x64 ![] bcast_S_S64x64 (constantI S_ 1 1#1) := by
  after_results
theorem s5_v26 (h : V (Proc.devRef .tc main_v25) = broadcastInDim S64x64 ![] bcast_S_S64x64 (constantI S_ 1 1#1)) :
    after hostOps0_5 V (Proc.devRef .tc main_v26) = trilR := by
  after_results
  unfold trilR
  rw [← h]
  rfl
theorem s6_v30 : after hostOps0_6 V (Proc.devRef .tc main_v30) =
    Host.dotGeneral dot_S4x4x128x64x48_S4x4x128x64x48_S4x4x128x64x64_4_4_3_3_012_012 none (V (Proc.devRef .tc main_v24))
        (mulf (V (Proc.devRef .tc main_v15)) (Host.exp (Host.negf (V (Proc.devRef .tc main_v21))))) := by
  after_results
theorem s6_cst : after hostOps0_6 V (Proc.devRef .tc main_cst_1) = constant S_ .f32 0x00000000#32 := by
  after_results
theorem s7_v31 : after hostOps0_7 V (Proc.devRef .tc main_v31) =
    select (broadcastInDim S4x4x128x64x64 ![3, 4] bcast_S64x64_S4x4x128x64x64_3_4 (V (Proc.devRef .tc main_v26))) (V (Proc.devRef .tc main_v30))
      (broadcastInDim S4x4x128x64x64 ![] bcast_S_S4x4x128x64x64 (V (Proc.devRef .tc main_cst_1))) := by
  after_results
  rfl
theorem s8_v32 : after hostOps0_8 V (Proc.devRef .tc main_v32) =
    Host.dotGeneral dot_S4x4x128x64x64_S4x4x128x64x96_S4x4x128x64x96_4_3_3_4_012_012 none (V (Proc.devRef .tc main_v31)) (V (Proc.devRef .tc main_v18)) := by
  after_results
theorem s8_v44_0 : after hostOps0_8 V (Proc.devRef .tc main_v44_0) =
    transpose S128x4x4x48 [2, 0, 1, 3] (Host.exp (shapeCast S4x4x128x48 (V (Proc.devRef .tc main_v22)) shapeCasts_S4x4x128x1x48_S4x4x128x48)) transposes_S4x4x128x48_S128x4x4x48_2_0_1_3 := by
  after_results
  rfl
theorem s8_v44_1 : after hostOps0_8 V (Proc.devRef .tc main_v44_1) =
    transpose S128x4x4x48x96 [2, 0, 1, 3, 4] (Host.dotGeneral dot_S4x4x128x64x48_S4x4x128x64x96_S4x4x128x48x96_3_3_4_4_012_012 none
      (mulf (V (Proc.devRef .tc main_v15)) (Host.exp (subf (broadcastInDim S4x4x128x64x48 ![0, 1, 2, 3, 4] bcast_S4x4x128x1x48_S4x4x128x64x48_0_1_2_3_4 (V (Proc.devRef .tc main_v22))) (V (Proc.devRef .tc main_v21)))))
      (V (Proc.devRef .tc main_v18))) transposes_S4x4x128x48x96_S128x4x4x48x96_2_0_1_3_4 := by
  after_results
  rfl
theorem s8_v44_3 : after hostOps0_8 V (Proc.devRef .tc main_v44_3) = broadcastInDim S4x4x48x96 ![] bcast_S_S4x4x48x96 (constant S_ .f32 0x00000000#32) := by
  after_results
  rfl

end Cert.GlaRef

end
-- ==== Proof.GlaRef.Entry.lean ====
/- What the reference's buffers hold when its loop is entered, and what its loop leaves alone. -/
module

public import proofs.«01_k».proof.Proof.GlaRef.Pre

@[expose] public section

set_option maxRecDepth 100000

noncomputable section

namespace Cert.GlaRef

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F] (V : Valuation τ sig (Elt F))

theorem keep0 (r : Ref sig .tc) (h : r ∉ hostOps0_W) : after hostOps0 V (Proc.devRef .tc r) = V (Proc.devRef .tc r) :=
  after_of_writes_sub hostOps0 V hostOps0_writes h
theorem keep1 (r : Ref sig .tc) (h : r ∉ hostOps0_1_W) : after hostOps0_1 V (Proc.devRef .tc r) = V (Proc.devRef .tc r) :=
  after_of_writes_sub hostOps0_1 V hostOps0_1_writes h
theorem keep2 (r : Ref sig .tc) (h : r ∉ hostOps0_2_W) : after hostOps0_2 V (Proc.devRef .tc r) = V (Proc.devRef .tc r) :=
  after_of_writes_sub hostOps0_2 V hostOps0_2_writes h
theorem keep3 (r : Ref sig .tc) (h : r ∉ hostOps0_3_W) : after hostOps0_3 V (Proc.devRef .tc r) = V (Proc.devRef .tc r) :=
  after_of_writes_sub hostOps0_3 V hostOps0_3_writes h
theorem keep4 (r : Ref sig .tc) (h : r ∉ hostOps0_4_W) : after hostOps0_4 V (Proc.devRef .tc r) = V (Proc.devRef .tc r) :=
  after_of_writes_sub hostOps0_4 V hostOps0_4_writes h
theorem keep5 (r : Ref sig .tc) (h : r ∉ hostOps0_5_W) : after hostOps0_5 V (Proc.devRef .tc r) = V (Proc.devRef .tc r) :=
  after_of_writes_sub hostOps0_5 V hostOps0_5_writes h
theorem keep6 (r : Ref sig .tc) (h : r ∉ hostOps0_6_W) : after hostOps0_6 V (Proc.devRef .tc r) = V (Proc.devRef .tc r) :=
  after_of_writes_sub hostOps0_6 V hostOps0_6_writes h
theorem keep7 (r : Ref sig .tc) (h : r ∉ hostOps0_7_W) : after hostOps0_7 V (Proc.devRef .tc r) = V (Proc.devRef .tc r) :=
  after_of_writes_sub hostOps0_7 V hostOps0_7_writes h
theorem keep8 (r : Ref sig .tc) (h : r ∉ hostOps0_8_W) : after hostOps0_8 V (Proc.devRef .tc r) = V (Proc.devRef .tc r) :=
  after_of_writes_sub hostOps0_8 V hostOps0_8_writes h

/-- The contents after the first stretches. -/
def E0 : Valuation τ sig (Elt F) := after hostOps0 V
def E1 : Valuation τ sig (Elt F) := after hostOps0_1 (E0 V)
def E2 : Valuation τ sig (Elt F) := after hostOps0_2 (E1 V)
def E3 : Valuation τ sig (Elt F) := after hostOps0_3 (E2 V)
def E4 : Valuation τ sig (Elt F) := after hostOps0_4 (E3 V)
def E5 : Valuation τ sig (Elt F) := after hostOps0_5 (E4 V)
def E6 : Valuation τ sig (Elt F) := after hostOps0_6 (E5 V)
def E7 : Valuation τ sig (Elt F) := after hostOps0_7 (E6 V)
def E8 : Valuation τ sig (Elt F) := after hostOps0_8 (E7 V)
theorem E0_keep (r : Ref sig .tc) (h : r ∉ hostOps0_W) : E0 V (Proc.devRef .tc r) = V (Proc.devRef .tc r) := keep0 _ r h
theorem E1_keep (r : Ref sig .tc) (h : r ∉ hostOps0_1_W) : E1 V (Proc.devRef .tc r) = E0 V (Proc.devRef .tc r) := keep1 _ r h
theorem E2_keep (r : Ref sig .tc) (h : r ∉ hostOps0_2_W) : E2 V (Proc.devRef .tc r) = E1 V (Proc.devRef .tc r) := keep2 _ r h
theorem E3_keep (r : Ref sig .tc) (h : r ∉ hostOps0_3_W) : E3 V (Proc.devRef .tc r) = E2 V (Proc.devRef .tc r) := keep3 _ r h
theorem E4_keep (r : Ref sig .tc) (h : r ∉ hostOps0_4_W) : E4 V (Proc.devRef .tc r) = E3 V (Proc.devRef .tc r) := keep4 _ r h
theorem E5_keep (r : Ref sig .tc) (h : r ∉ hostOps0_5_W) : E5 V (Proc.devRef .tc r) = E4 V (Proc.devRef .tc r) := keep5 _ r h
theorem E6_keep (r : Ref sig .tc) (h : r ∉ hostOps0_6_W) : E6 V (Proc.devRef .tc r) = E5 V (Proc.devRef .tc r) := keep6 _ r h
theorem E7_keep (r : Ref sig .tc) (h : r ∉ hostOps0_7_W) : E7 V (Proc.devRef .tc r) = E6 V (Proc.devRef .tc r) := keep7 _ r h
theorem E8_keep (r : Ref sig .tc) (h : r ∉ hostOps0_8_W) : E8 V (Proc.devRef .tc r) = E7 V (Proc.devRef .tc r) := keep8 _ r h
theorem pre_eq : afterL preI V = E8 V := by
  simp only [afterL_cons, afterL_nil]
  rfl

section Entry
variable (q k : Vec F S4x8192x192 .bf16) (v : Vec F S4x8192x384 .bf16) (lr : Vec F S4x8192x16 .bf16) (gw : Vec F S16x192 .f32) (gb : Vec F S192 .f32)

/-- The running sum of the gates. -/
def bcR : FVec F S4x4x128x64x48 .f32 := csR (hdK (gR lr gw gb))

variable (h0 : V (Proc.devRef .tc main_arg0) = q) (h1 : V (Proc.devRef .tc main_arg1) = k) (h2 : V (Proc.devRef .tc main_arg2) = v)
  (h3 : V (Proc.devRef .tc main_arg3) = lr) (h5 : V (Proc.devRef .tc main_arg5) = gw) (h6 : V (Proc.devRef .tc main_arg6) = gb)
include h3 h5 h6

theorem E0_v4 : E0 V (Proc.devRef .tc main_v4) = glR lr gw gb := by rw [E0, s0_v4, h3, h5, h6]
theorem E1_v5 : E1 V (Proc.devRef .tc main_v5) = lsR (glR lr gw gb) := by rw [E1, s1_v5, E0_v4 V lr gw gb h3 h5 h6]
theorem E2_v20 : E2 V (Proc.devRef .tc main_v20) = hdK (gR lr gw gb) := by rw [E2, s2_v20, E1_v5 V lr gw gb h3 h5 h6]; rfl
theorem E3_v21 : E3 V (Proc.devRef .tc main_v21) = bcR lr gw gb := by rw [E3, s3_v21, E2_v20 V lr gw gb h3 h5 h6]; rfl
theorem E4_v21 : E4 V (Proc.devRef .tc main_v21) = bcR lr gw gb := by rw [E4_keep V main_v21 (by decide), E3_v21 V lr gw gb h3 h5 h6]
theorem E4_v22 : E4 V (Proc.devRef .tc main_v22) = blR (bcR lr gw gb) := by rw [E4, s4_v22, E3_v21 V lr gw gb h3 h5 h6]
omit h3 h5 h6
include h0 in
theorem E2_v12 : E2 V (Proc.devRef .tc main_v12) =
    mulf (hdK (extf .f32 q bitsLt_bf16_f32)) (broadcastInDim S4x4x128x64x48 ![] bcast_S_S4x4x128x64x48 (constant S_ .f32 0x3E13CD3A#32)) := by
  rw [E2, s2_v12, E1_keep V main_arg0 (by decide), E0_keep V main_arg0 (by decide), h0]
include h1 in
theorem E2_v15 : E2 V (Proc.devRef .tc main_v15) = hdK (extf .f32 k bitsLt_bf16_f32) := by
  rw [E2, s2_v15, E1_keep V main_arg1 (by decide), E0_keep V main_arg1 (by decide), h1]
include h2 in
theorem E2_v18 : E2 V (Proc.devRef .tc main_v18) = hdV (extf .f32 v bitsLt_bf16_f32) := by
  rw [E2, s2_v18, E1_keep V main_arg2 (by decide), E0_keep V main_arg2 (by decide), h2]
include h0 h3 h5 h6 in
theorem E4_v24 : E4 V (Proc.devRef .tc main_v24) = qdR q (bcR lr gw gb) := by
  rw [E4, s4_v24, E3_v21 V lr gw gb h3 h5 h6, E3_keep V main_v12 (by decide), E2_v12 V q h0]; rfl
theorem E4_v25 : E4 V (Proc.devRef .tc main_v25) = broadcastInDim S64x64 ![] bcast_S_S64x64 (constantI S_ 1 1#1) := by rw [E4, s4_v25]
theorem E5_v26 : E5 V (Proc.devRef .tc main_v26) = trilR := by rw [E5, s5_v26 _ (E4_v25 V)]
include h0 h1 h3 h5 h6 in
theorem E6_v30 : E6 V (Proc.devRef .tc main_v30) =
    Host.dotGeneral dot_S4x4x128x64x48_S4x4x128x64x48_S4x4x128x64x64_4_4_3_3_012_012 none (qdR q (bcR lr gw gb))
        (mulf (hdK (extf .f32 k bitsLt_bf16_f32)) (Host.exp (Host.negf (bcR lr gw gb)))) := by
  rw [E6, s6_v30, E5_keep V main_v24 (by decide), E4_v24 V q lr gw gb h0 h3 h5 h6, E5_keep V main_v21 (by decide), E4_v21 V lr gw gb h3 h5 h6,
    E5_keep V main_v15 (by decide), E4_keep V main_v15 (by decide), E3_keep V main_v15 (by decide), E2_v15 V k h1]
include h0 h1 h3 h5 h6 in
theorem E7_v31 : E7 V (Proc.devRef .tc main_v31) =
    select (broadcastInDim S4x4x128x64x64 ![3, 4] bcast_S64x64_S4x4x128x64x64_3_4 trilR)
      (Host.dotGeneral dot_S4x4x128x64x48_S4x4x128x64x48_S4x4x128x64x64_4_4_3_3_012_012 none (qdR q (bcR lr gw gb))
        (mulf (hdK (extf .f32 k bitsLt_bf16_f32)) (Host.exp (Host.negf (bcR lr gw gb)))))
      (broadcastInDim S4x4x128x64x64 ![] bcast_S_S4x4x128x64x64 (constant S_ .f32 0x00000000#32)) := by
  rw [E7, s7_v31, E6_keep V main_v26 (by decide), E5_v26, E6_v30 V q k lr gw gb h0 h1 h3 h5 h6]
  have h : E6 V (Proc.devRef .tc main_cst_1) = constant S_ .f32 0x00000000#32 := by rw [E6, s6_cst]
  rw [h]
include h0 h1 h2 h3 h5 h6 in
theorem E8_v32 : E8 V (Proc.devRef .tc main_v32) = oiR q k v (bcR lr gw gb) := by
  rw [E8, s8_v32, E7_v31 V q k lr gw gb h0 h1 h3 h5 h6, E7_keep V main_v18 (by decide), E6_keep V main_v18 (by decide), E5_keep V main_v18 (by decide), E4_keep V main_v18 (by decide), E3_keep V main_v18 (by decide), E2_v18 V v h2]; rfl
include h0 h3 h5 h6 in
theorem E8_v24 : E8 V (Proc.devRef .tc main_v24) = qdR q (bcR lr gw gb) := by
  rw [E8_keep V main_v24 (by decide), E7_keep V main_v24 (by decide), E6_keep V main_v24 (by decide), E5_keep V main_v24 (by decide), E4_v24 V q lr gw gb h0 h3 h5 h6]
include h3 h5 h6 in
theorem E8_v44_0 : E8 V (Proc.devRef .tc main_v44_0) = decT (bcR lr gw gb) := by
  rw [E8, s8_v44_0, E7_keep V main_v22 (by decide), E6_keep V main_v22 (by decide), E5_keep V main_v22 (by decide), E4_v22 V lr gw gb h3 h5 h6]; rfl
include h1 h2 h3 h5 h6 in
theorem E8_v44_1 : E8 V (Proc.devRef .tc main_v44_1) = updT k v (bcR lr gw gb) := by
  rw [E8, s8_v44_1, E7_keep V main_v22 (by decide), E6_keep V main_v22 (by decide), E5_keep V main_v22 (by decide), E4_v22 V lr gw gb h3 h5 h6, E7_keep V main_v21 (by decide), E6_keep V main_v21 (by decide), E5_keep V main_v21 (by decide), E4_v21 V lr gw gb h3 h5 h6,
    E7_keep V main_v15 (by decide), E6_keep V main_v15 (by decide), E5_keep V main_v15 (by decide), E4_keep V main_v15 (by decide), E3_keep V main_v15 (by decide), E2_v15 V k h1, E7_keep V main_v18 (by decide), E6_keep V main_v18 (by decide), E5_keep V main_v18 (by decide), E4_keep V main_v18 (by decide), E3_keep V main_v18 (by decide), E2_v18 V v h2]; rfl
theorem E8_v44_3 : E8 V (Proc.devRef .tc main_v44_3) = broadcastInDim S4x4x48x96 ![] bcast_S_S4x4x48x96 (constant S_ .f32 0x00000000#32) := by rw [E8, s8_v44_3]
theorem E8_arg4 : E8 V (Proc.devRef .tc main_arg4) = V (Proc.devRef .tc main_arg4) := by
  rw [E8_keep V main_arg4 (by decide), E7_keep V main_arg4 (by decide), E6_keep V main_arg4 (by decide), E5_keep V main_arg4 (by decide), E4_keep V main_arg4 (by decide), E3_keep V main_arg4 (by decide), E2_keep V main_arg4 (by decide), E1_keep V main_arg4 (by decide), E0_keep V main_arg4 (by decide)]
theorem E8_arg7 : E8 V (Proc.devRef .tc main_arg7) = V (Proc.devRef .tc main_arg7) := by
  rw [E8_keep V main_arg7 (by decide), E7_keep V main_arg7 (by decide), E6_keep V main_arg7 (by decide), E5_keep V main_arg7 (by decide), E4_keep V main_arg7 (by decide), E3_keep V main_arg7 (by decide), E2_keep V main_arg7 (by decide), E1_keep V main_arg7 (by decide), E0_keep V main_arg7 (by decide)]
end Entry

/-! ## The loop leaves alone what it does not carry -/

theorem keepW0 (r : Ref sig .tc) (h : r ∉ while0Ops0_W) : after while0Ops0 V (Proc.devRef .tc r) = V (Proc.devRef .tc r) :=
  after_of_writes_sub while0Ops0 V while0Ops0_writes h
theorem keepW1 (r : Ref sig .tc) (h : r ∉ while0Ops0_1_W) : after while0Ops0_1 V (Proc.devRef .tc r) = V (Proc.devRef .tc r) :=
  after_of_writes_sub while0Ops0_1 V while0Ops0_1_writes h
theorem keepW2 (r : Ref sig .tc) (h : r ∉ while0Ops0_2_W) : after while0Ops0_2 V (Proc.devRef .tc r) = V (Proc.devRef .tc r) :=
  after_of_writes_sub while0Ops0_2 V while0Ops0_2_writes h
theorem keepW3 (r : Ref sig .tc) (h : r ∉ while0Ops0_3_W) : after while0Ops0_3 V (Proc.devRef .tc r) = V (Proc.devRef .tc r) :=
  after_of_writes_sub while0Ops0_3 V while0Ops0_3_writes h
theorem keepW4 (r : Ref sig .tc) (h : r ∉ while0Ops0_4_W) : after while0Ops0_4 V (Proc.devRef .tc r) = V (Proc.devRef .tc r) :=
  after_of_writes_sub while0Ops0_4 V while0Ops0_4_writes h
theorem keepC (r : Ref sig .tc) (h : r ∉ condOps_W) : after condOps V (Proc.devRef .tc r) = V (Proc.devRef .tc r) :=
  after_of_writes_sub condOps V condOps_writes h

theorem body_keep (r : Ref sig .tc) (h : r ∉ condOps_W ∧ r ∉ while0Ops0_W ∧ r ∉ while0Ops0_1_W ∧ r ∉ while0Ops0_2_W ∧ r ∉ while0Ops0_3_W ∧ r ∉ while0Ops0_4_W) :
    afterL bodyI (after condOps V) (Proc.devRef .tc r) = V (Proc.devRef .tc r) := by
  obtain ⟨hc, a, b, c, d, e⟩ := h
  simp only [afterL_cons, afterL_nil]
  rw [keepW4 _ r e, keepW3 _ r d, keepW2 _ r c, keepW1 _ r b, keepW0 _ r a, keepC _ r hc]

variable (m : (ℓ : Loc nD τ sig) → Buf (Elt F) ℓ) (c : Dev nD)

theorem atK_keep (r : Ref sig .tc) (h : r ∉ condOps_W ∧ r ∉ while0Ops0_W ∧ r ∉ while0Ops0_1_W ∧ r ∉ while0Ops0_2_W ∧ r ∉ while0Ops0_3_W ∧ r ∉ while0Ops0_4_W) :
    ∀ n : ℕ, atK m n c (Proc.devRef .tc r) = entryContents preI m c (Proc.devRef .tc r)
  | 0 => rfl
  | n + 1 => (body_keep (atK m n c) r h).trans (atK_keep r h n)

end Cert.GlaRef

end
-- ==== Proof.GlaRef.Loop.lean ====
/- The reference's loop over the chunks: the state before each chunk, and the array of these states. -/
module

public import proofs.«01_k».proof.Proof.GlaRef.Read
public import proofs.«01_k».proof.Proof.GlaRef.Entry
public import proofs.«01_k».proof.Proof.Gla.Args

@[expose] public section

set_option maxRecDepth 16384

noncomputable section

namespace Cert.GlaRef

open Cert.ReferenceIdeal Cert.ReferenceIdeal.Gen Cert.ReferenceIdeal.Value Idealize.ShloMosaic Idealize.ShloMosaic.TcCoe Idealize.SL.Sem
open Idealize.ShloMosaic.StableHlo
open Cert.Gla

/-- A row of a four-axis array, sliced at its number. -/
theorem row4_at (x : FVec Ideal S128x4x4x48 .f32) (start : Fin 4 → Int) (N : Fin 128) (h0 : start 0 = N.val) (h1 : start 1 = 0) (h2 : start 2 = 0)
    (h3 : start 3 = 0) (b h : Fin 4) (d : Fin 48) :
    Host.dynamicSlice S1x4x4x48 x start sliceFits_S128x4x4x48_S1x4x4x48 (ix4 0 b h d) = x (ix4 N b h d) := by
  unfold Host.dynamicSlice extractStridedSlice
  refine congrArg x (funext fun a => Fin.ext ?_)
  match a with
  | ⟨0, _⟩ => show (min (max (start 0) 0) (127 : ℕ)).toNat + 0 = N.val; rw [h0]; omega
  | ⟨1, _⟩ => show (min (max (start 1) 0) (0 : ℕ)).toNat + b.val = b.val; rw [h1]; omega
  | ⟨2, _⟩ => show (min (max (start 2) 0) (0 : ℕ)).toNat + h.val = h.val; rw [h2]; omega
  | ⟨3, _⟩ => show (min (max (start 3) 0) (0 : ℕ)).toNat + d.val = d.val; rw [h3]; omega

/-- A row of a five-axis array, sliced at its number. -/
theorem row5_at (x : FVec Ideal S128x4x4x48x96 .f32) (start : Fin 5 → Int) (N : Fin 128) (h0 : start 0 = N.val) (h1 : start 1 = 0) (h2 : start 2 = 0)
    (h3 : start 3 = 0) (h4 : start 4 = 0) (b h : Fin 4) (d : Fin 48) (e : Fin 96) :
    Host.dynamicSlice S1x4x4x48x96 x start sliceFits_S128x4x4x48x96_S1x4x4x48x96 (ix5 0 b h d e) = x (ix5 N b h d e) := by
  unfold Host.dynamicSlice extractStridedSlice
  refine congrArg x (funext fun a => Fin.ext ?_)
  match a with
  | ⟨0, _⟩ => show (min (max (start 0) 0) (127 : ℕ)).toNat + 0 = N.val; rw [h0]; omega
  | ⟨1, _⟩ => show (min (max (start 1) 0) (0 : ℕ)).toNat + b.val = b.val; rw [h1]; omega
  | ⟨2, _⟩ => show (min (max (start 2) 0) (0 : ℕ)).toNat + h.val = h.val; rw [h2]; omega
  | ⟨3, _⟩ => show (min (max (start 3) 0) (0 : ℕ)).toNat + d.val = d.val; rw [h3]; omega
  | ⟨4, _⟩ => show (min (max (start 4) 0) (0 : ℕ)).toNat + e.val = e.val; rw [h4]; omega

/-- An array with one row written. -/
theorem put_at (x : FVec Ideal S128x4x4x48x96 .f32) (u : FVec Ideal S1x4x4x48x96 .f32) (start : Fin 5 → Int) (N : Fin 128) (h0 : start 0 = N.val)
    (h1 : start 1 = 0) (h2 : start 2 = 0) (h3 : start 3 = 0) (h4 : start 4 = 0) (n : Fin 128) (b h : Fin 4) (d : Fin 48) (e : Fin 96) :
    Host.dynamicUpdateSlice x u start updateFits_S128x4x4x48x96_S1x4x4x48x96 (ix5 n b h d e) =
      if n = N then u (ix5 0 b h d e) else x (ix5 n b h d e) := by
  unfold Host.dynamicUpdateSlice updateSlice
  dsimp only
  by_cases hn : n = N
  · subst hn
    rw [if_pos rfl, dif_pos]
    · refine congrArg u (funext fun a => Fin.ext ?_)
      match a with
      | ⟨0, _⟩ => show n.val - (min (max (start 0) 0) (127 : ℕ)).toNat = 0; rw [h0]; omega
      | ⟨1, _⟩ => show b.val - (min (max (start 1) 0) (0 : ℕ)).toNat = b.val; rw [h1]; omega
      | ⟨2, _⟩ => show h.val - (min (max (start 2) 0) (0 : ℕ)).toNat = h.val; rw [h2]; omega
      | ⟨3, _⟩ => show d.val - (min (max (start 3) 0) (0 : ℕ)).toNat = d.val; rw [h3]; omega
      | ⟨4, _⟩ => show e.val - (min (max (start 4) 0) (0 : ℕ)).toNat = e.val; rw [h4]; omega
    · intro a
      match a with
      | ⟨0, _⟩ => show (min (max (start 0) 0) (127 : ℕ)).toNat ≤ n.val ∧ n.val < (min (max (start 0) 0) (127 : ℕ)).toNat + 1; rw [h0]; omega
      | ⟨1, _⟩ => show (min (max (start 1) 0) (0 : ℕ)).toNat ≤ b.val ∧ b.val < (min (max (start 1) 0) (0 : ℕ)).toNat + 4; rw [h1]; omega
      | ⟨2, _⟩ => show (min (max (start 2) 0) (0 : ℕ)).toNat ≤ h.val ∧ h.val < (min (max (start 2) 0) (0 : ℕ)).toNat + 4; rw [h2]; omega
      | ⟨3, _⟩ => show (min (max (start 3) 0) (0 : ℕ)).toNat ≤ d.val ∧ d.val < (min (max (start 3) 0) (0 : ℕ)).toNat + 48; rw [h3]; omega
      | ⟨4, _⟩ => show (min (max (start 4) 0) (0 : ℕ)).toNat ≤ e.val ∧ e.val < (min (max (start 4) 0) (0 : ℕ)).toNat + 96; rw [h4]; omega
  · rw [if_neg hn, dif_neg]
    intro hin
    have h5 : (min (max (start 0) 0) (127 : ℕ)).toNat ≤ n.val ∧ n.val < (min (max (start 0) 0) (127 : ℕ)).toNat + 1 := hin 0
    rw [h0] at h5
    exact hn (Fin.ext (by omega))

/-- The state after a trip. -/
def nxtS (dec : FVec Ideal S128x4x4x48 .f32) (upd : FVec Ideal S128x4x4x48x96 .f32) (i : IVec S_ 32) (st : FVec Ideal S4x4x48x96 .f32) : FVec Ideal S4x4x48x96 .f32 :=
  addf (mulf (broadcastInDim S4x4x48x96 ![0, 1, 2, 3] bcast_S4x4x48x1_S4x4x48x96_0_1_2_3 (broadcastInDim S4x4x48x1 ![0, 1, 2] bcast_S4x4x48_S4x4x48x1_0_1_2 (shapeCast S4x4x48 (Host.dynamicSlice S1x4x4x48 dec (fun k => (((![i, constantI S_ 32 0#32, constantI S_ 32 0#32, constantI S_ 32 0#32] : Fin 4 → IVec S_ 32)) k (Shape.Idx.first h_S_)).toInt) sliceFits_S128x4x4x48_S1x4x4x48) shapeCasts_S1x4x4x48_S4x4x48))) st) (shapeCast S4x4x48x96 (Host.dynamicSlice S1x4x4x48x96 upd (fun k => (((![i, constantI S_ 32 0#32, constantI S_ 32 0#32, constantI S_ 32 0#32, constantI S_ 32 0#32] : Fin 5 → IVec S_ 32)) k (Shape.Idx.first h_S_)).toInt) sliceFits_S128x4x4x48x96_S1x4x4x48x96) shapeCasts_S1x4x4x48x96_S4x4x48x96)

/-- The array of states after a trip. -/
def nxtY (ys : FVec Ideal S128x4x4x48x96 .f32) (i : IVec S_ 32) (st : FVec Ideal S4x4x48x96 .f32) : FVec Ideal S128x4x4x48x96 .f32 :=
  Host.dynamicUpdateSlice ys (broadcastInDim S1x4x4x48x96 ![1, 2, 3, 4] bcast_S4x4x48x96_S1x4x4x48x96_1_2_3_4 st) (fun k => (((![i, constantI S_ 32 0#32, constantI S_ 32 0#32, constantI S_ 32 0#32, constantI S_ 32 0#32] : Fin 5 → IVec S_ 32)) k (Shape.Idx.first h_S_)).toInt) updateFits_S128x4x4x48x96_S1x4x4x48x96

theorem nxtS_at (dec : FVec Ideal S128x4x4x48 .f32) (upd : FVec Ideal S128x4x4x48x96 .f32) (i : IVec S_ 32) (st : FVec Ideal S4x4x48x96 .f32)
    (N : Fin 128) (hi : (i (Shape.Idx.first h_S_)).toInt = N.val) (b h : Fin 4) (d : Fin 48) (e : Fin 96) :
    nxtS dec upd i st (ix4 b h d e) = dec (ix4 N b h d) * st (ix4 b h d e) + upd (ix5 N b h d e) := by
  rw [← row4_at dec (fun k => (((![i, constantI S_ 32 0#32, constantI S_ 32 0#32, constantI S_ 32 0#32] : Fin 4 → IVec S_ 32)) k (Shape.Idx.first h_S_)).toInt) N hi rfl rfl rfl,
    ← row5_at upd (fun k => (((![i, constantI S_ 32 0#32, constantI S_ 32 0#32, constantI S_ 32 0#32, constantI S_ 32 0#32] : Fin 5 → IVec S_ 32)) k (Shape.Idx.first h_S_)).toInt) N hi rfl rfl rfl rfl]
  unfold nxtS
  generalize Host.dynamicSlice S1x4x4x48 dec _ _ = x
  generalize Host.dynamicSlice S1x4x4x48x96 upd _ _ = y
  pointwise []

theorem nxtY_at (ys : FVec Ideal S128x4x4x48x96 .f32) (i : IVec S_ 32) (st : FVec Ideal S4x4x48x96 .f32)
    (N : Fin 128) (hi : (i (Shape.Idx.first h_S_)).toInt = N.val) (n : Fin 128) (b h : Fin 4) (d : Fin 48) (e : Fin 96) :
    nxtY ys i st (ix5 n b h d e) = if n = N then st (ix4 b h d e) else ys (ix5 n b h d e) := by
  unfold nxtY
  rw [put_at _ _ _ N hi rfl rfl rfl rfl]
  by_cases hn : n = N
  · rw [if_pos hn, if_pos hn]
    pointwise []
  · rw [if_neg hn, if_neg hn]

variable (m : (ℓ : Loc nD τ sig) → Buf (Elt Ideal) ℓ) (c : Dev nD)

theorem trip_S (k : ℕ) : atK m (k + 1) c (Proc.devRef .tc main_v44_3) =
    nxtS (atK m k c (Proc.devRef .tc main_v44_0)) (atK m k c (Proc.devRef .tc main_v44_1)) (atK m k c (Proc.devRef .tc main_v44_2)) (atK m k c (Proc.devRef .tc main_v44_3)) := by
  show afterL bodyI (after condOps (atK m k c)) (Proc.devRef .tc main_v44_3) = _
  generalize atK m k c = V
  rw [trip_main_v44_3, keepC V main_v44_0 (by decide), keepC V main_v44_1 (by decide), keepC V main_v44_2 (by decide), keepC V main_v44_3 (by decide)]
  rfl

theorem trip_Y (k : ℕ) : atK m (k + 1) c (Proc.devRef .tc main_v44_4) =
    nxtY (atK m k c (Proc.devRef .tc main_v44_4)) (atK m k c (Proc.devRef .tc main_v44_2)) (atK m k c (Proc.devRef .tc main_v44_3)) := by
  show afterL bodyI (after condOps (atK m k c)) (Proc.devRef .tc main_v44_4) = _
  generalize atK m k c = V
  rw [trip_main_v44_4, keepC V main_v44_4 (by decide), keepC V main_v44_2 (by decide), keepC V main_v44_3 (by decide)]
  rfl

theorem iv_int : ∀ k : Fin 128, (Scf.iv 0#32 1#32 k.val : BitVec 32).toInt = k.val := by decide +kernel

section
variable (q k : Vec Ideal S4x8192x192 .bf16) (v : Vec Ideal S4x8192x384 .bf16) (lr : Vec Ideal S4x8192x16 .bf16)
    (r : Vec Ideal S4x8192x384 .bf16) (gw : Vec Ideal S16x192 .f32) (gb : Vec Ideal S192 .f32) (ng : Vec Ideal S96 .f32)

theorem bc_at (b h : Fin 4) (N : Fin 128) (s : Fin 64) (d : Fin 48) :
    bcR lr gw gb (ix5 b h N s d) = (argsOf q k v lr r gw gb ng).BC b N.val s (kc h d) := by
  unfold bcR Args.BC
  rw [csR_at]
  refine congrArg (cum · s) (funext fun x => ?_)
  rw [hdK_at, gR_at]
  rfl

theorem dec_at (N : Fin 128) (b h : Fin 4) (d : Fin 48) :
    decT (bcR lr gw gb) (ix4 N b h d) = Ideal.exp ((argsOf q k v lr r gw gb ng).BC b N.val 63 (kc h d)) := by
  rw [decT_at, bc_at q k v lr r gw gb ng]

theorem upd_at' (N : Fin 128) (b h : Fin 4) (d : Fin 48) (e : Fin 96) :
    updT k v (bcR lr gw gb) (ix5 N b h d e) =
      ∑ s : Fin 64, (argsOf q k v lr r gw gb ng).KU b N.val h s d * (argsOf q k v lr r gw gb ng).v b (tok N.val s) (vc h e) := by
  rw [updT_at]
  refine Finset.sum_congr rfl fun s _ => ?_
  rw [bc_at q k v lr r gw gb ng, bc_at q k v lr r gw gb ng]
  rfl

theorem qd_at' (b h : Fin 4) (N : Fin 128) (s : Fin 64) (d : Fin 48) :
    qdR q (bcR lr gw gb) (ix5 b h N s d) = (argsOf q k v lr r gw gb ng).QD b N.val h s d := by
  rw [qdR_at, bc_at q k v lr r gw gb ng]
  rfl

theorem oi_at' (b h : Fin 4) (N : Fin 128) (s : Fin 64) (e : Fin 96) :
    oiR q k v (bcR lr gw gb) (ix5 b h N s e) = ∑ x : Fin 64, (if x.val ≤ s.val then
      ∑ d : Fin 48, (argsOf q k v lr r gw gb ng).QD b N.val h s d * (argsOf q k v lr r gw gb ng).KD b N.val h x d else 0)
        * (argsOf q k v lr r gw gb ng).v b (tok N.val x) (vc h e) := by
  rw [oiR_at]
  refine Finset.sum_congr rfl fun x _ => ?_
  refine congrArg (· * _) (if_congr Iff.rfl (Finset.sum_congr rfl fun d _ => ?_) rfl)
  rw [bc_at q k v lr r gw gb ng, bc_at q k v lr r gw gb ng]
  rfl

variable (e0 : entryContents preI m c (Proc.devRef .tc main_v44_0) = decT (bcR lr gw gb))
  (e1 : entryContents preI m c (Proc.devRef .tc main_v44_1) = updT k v (bcR lr gw gb))
  (e3 : ∀ i : S4x4x48x96.Idx, (entryContents preI m c (Proc.devRef .tc main_v44_3) : FVec Ideal S4x4x48x96 .f32) i = (0 : EReal))
include e0 e1 e3

theorem loop_at : ∀ n : ℕ, n ≤ 128 →
    (∀ (b h : Fin 4) (d : Fin 48) (e : Fin 96), (atK m n c (Proc.devRef .tc main_v44_3) : FVec Ideal S4x4x48x96 .f32) (ix4 b h d e) = (argsOf q k v lr r gw gb ng).ST b h d e n)
    ∧ ∀ (N : Fin 128), N.val < n → ∀ (b h : Fin 4) (d : Fin 48) (e : Fin 96),
      (atK m n c (Proc.devRef .tc main_v44_4) : FVec Ideal S128x4x4x48x96 .f32) (ix5 N b h d e) = (argsOf q k v lr r gw gb ng).ST b h d e N.val
  | 0, _ => by
    refine ⟨fun b h d e => ?_, fun N hN => absurd hN (Nat.not_lt_zero _)⟩
    rw [show atK m 0 c = entryContents preI m c from rfl, e3]
    rfl
  | n + 1, hn => by
    obtain ⟨ihS, ihY⟩ := loop_at n (by omega)
    have hi : ((atK m n c (Proc.devRef .tc main_v44_2) : IVec S_ 32) (Shape.Idx.first h_S_)).toInt = ((⟨n, hn⟩ : Fin 128).val : Int) := by
      rw [atK_ctr m c n]
      exact iv_int ⟨n, hn⟩
    refine ⟨fun b h d e => ?_, fun N hN b h d e => ?_⟩
    · rw [trip_S, nxtS_at _ _ _ _ ⟨n, hn⟩ hi, ihS, atK_keep m c main_v44_0 (by decide) n, atK_keep m c main_v44_1 (by decide) n, e0, e1,
        dec_at q k v lr r gw gb ng, upd_at' q k v lr r gw gb ng]
      rfl
    · rw [trip_Y, nxtY_at _ _ _ ⟨n, hn⟩ hi, ihS]
      by_cases h1 : N = ⟨n, hn⟩
      · rw [if_pos h1, h1]
      · rw [if_neg h1]
        exact ihY N (by have : N.val ≠ n := fun h => h1 (Fin.ext h); omega) b h d e
end

end Cert.GlaRef

end
-- ==== Proof.GlaRef.Result.lean ====
/- The reference's result, at an index. -/
module

public import proofs.«01_k».proof.Proof.GlaRef.Loop

@[expose] public section

set_option maxRecDepth 16384

noncomputable section

namespace Cert.GlaRef

open Cert.ReferenceIdeal Cert.ReferenceIdeal.Gen Cert.ReferenceIdeal.Value Idealize.ShloMosaic Idealize.ShloMosaic.TcCoe Idealize.SL.Sem
open Idealize.ShloMosaic.StableHlo
open Cert.Gla

/-- What follows the loop, at an index, from the attention's parts. -/
theorem tail_at (A : Args) (qd : FVec Ideal S4x4x128x64x48 .f32) (oi : FVec Ideal S4x4x128x64x96 .f32) (st : FVec Ideal S128x4x4x48x96 .f32)
    (ng : Vec Ideal S96 .f32) (r : Vec Ideal S4x8192x384 .bf16)
    (hq : ∀ b h N s d, qd (ix5 b h N s d) = A.QD b N.val h s d)
    (ho : ∀ (b h : Fin 4) (N : Fin 128) (s : Fin 64) (e : Fin 96), oi (ix5 b h N s e) = ∑ x : Fin 64, (if x.val ≤ s.val then
      ∑ d : Fin 48, A.QD b N.val h s d * A.KD b N.val h x d else 0) * A.v b (tok N.val x) (vc h e))
    (hs : ∀ (N : Fin 128) (b h : Fin 4) (d : Fin 48) (e : Fin 96), st (ix5 N b h d e) = A.ST b h d e N.val)
    (hn : ∀ e, ng (ix1 e) = A.ng e) (hr : ∀ b t c, r (ix3 b t c) = A.r b t c)
    (b : Fin 4) (N : Fin 128) (s : Fin 64) (h : Fin 4) (e : Fin 128) :
    (truncf .bf16 (shapeCast S4x8192x512 (padR (gatR (nrmR (oR qd oi st) ng) (silR (extf .f32 r bitsLt_bf16_f32))) (constantI S_ 32 0#32))
      shapeCasts_S4x8192x4x128_S4x8192x512 : FVec Ideal S4x8192x512 .f32) bitsLt_bf16_f32 : FVec Ideal S4x8192x512 .bf16) (ix3 b (tok N.val s) (ln h e)) =
      if he : e.val < 96 then A.RES b N.val h s ⟨e.val, he⟩ else 0 := by
  have O_at : ∀ e : Fin 96, oR qd oi st (ix4 b (tok N.val s) h e) = A.O b N.val h s e := fun e => by
    rw [oR_at, ho]
    refine congrArg (_ + ·) (Finset.sum_congr rfl fun d _ => ?_)
    rw [hq, hs]
  refine (padR_at _ b (tok N.val s) h e).trans ?_
  by_cases he : e.val < 96
  · rw [dif_pos he, dif_pos he, gatR_at, nrmR_at, silR_at, O_at, hn]
    unfold Args.RES fin
    have er : ∀ i, (extf .f32 r bitsLt_bf16_f32 : FVec Ideal S4x8192x384 .f32) i = r i := fun _ => rfl
    rw [er, hr]
    simp only [O_at]
  · rw [dif_neg he, dif_neg he]

variable (m : (ℓ : Loc nD τ sig) → Buf (Elt Ideal) ℓ) (c : Dev nD)

/-- The arguments in a memory. -/
def argsR : Args :=
  argsOf (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))
    (m (c, Proc.devRef .tc main_arg6)) (m (c, Proc.devRef .tc main_arg7))

/-- The reference's result. -/
def resR : FVec Ideal S4x8192x512 .bf16 := finalContents condOps preI bodyI postI 128 m c (Proc.devRef .tc main_v69)

theorem entry_E8 : entryContents preI m c = E8 (fun r => m (c, r)) := pre_eq _

theorem resR_at (b : Fin 4) (N : Fin 128) (s : Fin 64) (h : Fin 4) (e : Fin 128) :
    resR m c (ix3 b (tok N.val s) (ln h e)) = if he : e.val < 96 then (argsR m c).RES b N.val h s ⟨e.val, he⟩ else 0 := by
  have f : resR m c = afterL postI (after condOps (atK m 128 c)) (Proc.devRef .tc main_v69) := rfl
  have k24 : after condOps (atK m 128 c) (Proc.devRef .tc main_v24) = E8 (fun r => m (c, r)) (Proc.devRef .tc main_v24) := by
    rw [keepC _ main_v24 (by decide), atK_keep m c main_v24 (by decide), entry_E8]
  have k32 : after condOps (atK m 128 c) (Proc.devRef .tc main_v32) = E8 (fun r => m (c, r)) (Proc.devRef .tc main_v32) := by
    rw [keepC _ main_v32 (by decide), atK_keep m c main_v32 (by decide), entry_E8]
  have k4 : after condOps (atK m 128 c) (Proc.devRef .tc main_arg4) = m (c, Proc.devRef .tc main_arg4) := by
    rw [keepC _ main_arg4 (by decide), atK_keep m c main_arg4 (by decide), entry_E8, E8_arg4]
  have k7 : after condOps (atK m 128 c) (Proc.devRef .tc main_arg7) = m (c, Proc.devRef .tc main_arg7) := by
    rw [keepC _ main_arg7 (by decide), atK_keep m c main_arg7 (by decide), entry_E8, E8_arg7]
  have kY : after condOps (atK m 128 c) (Proc.devRef .tc main_v44_4) = atK m 128 c (Proc.devRef .tc main_v44_4) := keepC _ main_v44_4 (by decide)
  rw [f, post_res, k24, k32, k4, k7, kY, E8_v24 _ _ _ _ _ rfl rfl rfl rfl, E8_v32 _ _ _ _ _ _ _ rfl rfl rfl rfl rfl rfl]
  refine tail_at (argsR m c) _ _ _ _ _ (fun b h N s d => ?_) (fun b h N s e => ?_) (fun N b h d e => ?_) (fun e => rfl) (fun b t c => rfl) b N s h e
  · exact qd_at' _ _ _ _ _ _ _ _ b h N s d
  · exact oi_at' _ _ _ _ _ _ _ _ b h N s e
  · refine (loop_at m c _ _ _ _ _ _ _ _ ?_ ?_ ?_ 128 (le_refl _)).2 N N.isLt b h d e
    · rw [entry_E8]
      exact E8_v44_0 _ _ _ _ rfl rfl rfl
    · rw [entry_E8]
      exact E8_v44_1 _ _ _ _ _ _ rfl rfl rfl rfl rfl
    · intro i
      rw [entry_E8, E8_v44_3]
      exact Ideal.ofBits_zero_f32

end Cert.GlaRef

end
-- ==== Proof.GlaRef.Unchanged.lean ====
/- The reference's run: its result, and its arguments unchanged. -/
module

public import proofs.«01_k».proof.Proof.GlaRef.Result
public import Idealize.ShloMosaic.Lib.Quiescent

@[expose] public section

set_option maxRecDepth 16384

noncomputable section

namespace Cert.GlaRef

open Cert.ReferenceIdeal Cert.ReferenceIdeal.Gen Cert.ReferenceIdeal.Value Idealize.ShloMosaic Idealize.ShloMosaic.TcCoe Idealize.SL.Sem
open Idealize.ShloMosaic.StableHlo

section

variable {F : FTy → Type} [FloatOps F]

variable (m : (ℓ : Loc nD τ sig) → Buf (Elt F) ℓ) (c : Dev nD)

/-! What the stretches after the loop write. -/

abbrev hostOps0_9_W : List (Ref sig .tc) := [main_v45, main_v46, main_v47, main_v48, main_v49, main_v50, main_cst_5, main_v51, main_v52, main_cst_6, main_v53, main_v54, main_cst_7, main_v55, main_v56, main_v57, main_v58, main_v59, main_v60, main_v61, main_v62, main_v63]
theorem hostOps0_9_writes : (hostOps0_9 : List (HloOp τ sig (Elt F))).Forall fun op => op.writes ⊆ (hostOps0_9_W.map (Proc.devRef (τ := τ) .tc)).toFinset :=
  StableHlo.forall_writes_sub_of_map rfl
abbrev hostOps0_10_W : List (Ref sig .tc) := [main_call7_v0, main_call7_v1, main_call7_cst, main_call7_v2, main_call7_v3, main_call7_cst_0, main_call7_v4, main_call7_v5, main_v64]
theorem hostOps0_10_writes : (hostOps0_10 : List (HloOp τ sig (Elt F))).Forall fun op => op.writes ⊆ (hostOps0_10_W.map (Proc.devRef (τ := τ) .tc)).toFinset :=
  StableHlo.forall_writes_sub_of_map rfl
abbrev hostOps0_11_W : List (Ref sig .tc) := [main_v65, main_v66, main_c_8]
theorem hostOps0_11_writes : (hostOps0_11 : List (HloOp τ sig (Elt F))).Forall fun op => op.writes ⊆ (hostOps0_11_W.map (Proc.devRef (τ := τ) .tc)).toFinset :=
  StableHlo.forall_writes_sub_of_map rfl
abbrev hostOps0_12_W : List (Ref sig .tc) := [main_call8_v0, main_v67]
theorem hostOps0_12_writes : (hostOps0_12 : List (HloOp τ sig (Elt F))).Forall fun op => op.writes ⊆ (hostOps0_12_W.map (Proc.devRef (τ := τ) .tc)).toFinset :=
  StableHlo.forall_writes_sub_of_map rfl
abbrev hostOps0_13_W : List (Ref sig .tc) := [main_v68, main_v69]
theorem hostOps0_13_writes : (hostOps0_13 : List (HloOp τ sig (Elt F))).Forall fun op => op.writes ⊆ (hostOps0_13_W.map (Proc.devRef (τ := τ) .tc)).toFinset :=
  StableHlo.forall_writes_sub_of_map rfl

theorem E8_same (V : Valuation τ sig (Elt F)) (r : Ref sig .tc) (h : r ∉ hostOps0_W ∧ r ∉ hostOps0_1_W ∧ r ∉ hostOps0_2_W ∧ r ∉ hostOps0_3_W ∧
    r ∉ hostOps0_4_W ∧ r ∉ hostOps0_5_W ∧ r ∉ hostOps0_6_W ∧ r ∉ hostOps0_7_W ∧ r ∉ hostOps0_8_W) : E8 V (Proc.devRef .tc r) = V (Proc.devRef .tc r) := by
  obtain ⟨a0, a1, a2, a3, a4, a5, a6, a7, a8⟩ := h
  rw [E8_keep V r a8, E7_keep V r a7, E6_keep V r a6, E5_keep V r a5, E4_keep V r a4, E3_keep V r a3, E2_keep V r a2, E1_keep V r a1, E0_keep V r a0]

theorem post_same (V : Valuation τ sig (Elt F)) (r : Ref sig .tc) (h : r ∉ hostOps0_9_W ∧ r ∉ hostOps0_10_W ∧ r ∉ hostOps0_11_W ∧ r ∉ hostOps0_12_W ∧
    r ∉ hostOps0_13_W) : afterL postI V (Proc.devRef .tc r) = V (Proc.devRef .tc r) := by
  obtain ⟨a0, a1, a2, a3, a4⟩ := h
  simp only [afterL_cons, afterL_nil]
  rw [after_of_writes_sub hostOps0_13 _ hostOps0_13_writes a4, after_of_writes_sub hostOps0_12 _ hostOps0_12_writes a3,
    after_of_writes_sub hostOps0_11 _ hostOps0_11_writes a2, after_of_writes_sub hostOps0_10 _ hostOps0_10_writes a1,
    after_of_writes_sub hostOps0_9 _ hostOps0_9_writes a0]

/-- A buffer no operation writes ends as it began. -/
theorem final_same (r : Ref sig .tc)
    (h0 : r ∉ hostOps0_W ∧ r ∉ hostOps0_1_W ∧ r ∉ hostOps0_2_W ∧ r ∉ hostOps0_3_W ∧
      r ∉ hostOps0_4_W ∧ r ∉ hostOps0_5_W ∧ r ∉ hostOps0_6_W ∧ r ∉ hostOps0_7_W ∧ r ∉ hostOps0_8_W)
    (h1 : r ∉ condOps_W ∧ r ∉ while0Ops0_W ∧ r ∉ while0Ops0_1_W ∧ r ∉ while0Ops0_2_W ∧ r ∉ while0Ops0_3_W ∧ r ∉ while0Ops0_4_W)
    (h2 : r ∉ hostOps0_9_W ∧ r ∉ hostOps0_10_W ∧ r ∉ hostOps0_11_W ∧ r ∉ hostOps0_12_W ∧ r ∉ hostOps0_13_W) :
    finalContents condOps preI bodyI postI 128 m c (Proc.devRef .tc r) = m (c, Proc.devRef .tc r) := by
  show afterL postI (after condOps (atK m 128 c)) (Proc.devRef .tc r) = _
  rw [post_same _ r h2, keepC _ r h1.1, atK_keep m c r h1]
  show afterL preI (fun r => m (c, r)) (Proc.devRef .tc r) = _
  rw [pre_eq]
  exact E8_same _ r h0

end

variable (m : (ℓ : Loc nD τ sig) → Buf (Elt Ideal) ℓ) (ρ : Dev nD → PrngReg)

/-- The reference's run: the result, and the arguments unchanged. -/
theorem run : θ_run (defs (F := Ideal)) (onTc (τ := τ) (main (F := Ideal))) ⟨m, fun _ => 0, ρ⟩ fun r => ∀ c : Dev nD,
      r.2.mem ((c.tc : Thread nD τ).loc main_v69) = resR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨h c main_v69 rfl,
      (h c main_arg0 rfl).trans (final_same m c main_arg0 (by decide) (by decide) (by decide)),
      (h c main_arg1 rfl).trans (final_same m c main_arg1 (by decide) (by decide) (by decide)),
      (h c main_arg2 rfl).trans (final_same m c main_arg2 (by decide) (by decide) (by decide)),
      (h c main_arg3 rfl).trans (final_same m c main_arg3 (by decide) (by decide) (by decide)),
      (h c main_arg4 rfl).trans (final_same m c main_arg4 (by decide) (by decide) (by decide)),
      (h c main_arg5 rfl).trans (final_same m c main_arg5 (by decide) (by decide) (by decide)),
      (h c main_arg6 rfl).trans (final_same m c main_arg6 (by decide) (by decide) (by decide)),
      (h c main_arg7 rfl).trans (final_same m c main_arg7 (by decide) (by decide) (by decide))⟩)
    (run_fold m ρ)

end Cert.GlaRef

end
-- ==== Proof.GlaClaims.Claims.lean ====
/- The attention's claims: what the kernel and the reference leave is one array. -/
module

public import proofs.«01_k».proof.Defs
public import proofs.«01_k».proof.Proof.Gen.Kernel.Frame
public import proofs.«01_k».proof.Proof.Gla.Points
public import proofs.«01_k».proof.Proof.GlaRef.Unchanged
public import Idealize.ShloMosaic.Lib.Quiescent

@[expose] public section

noncomputable section

namespace Cert.GlaClaims

open Idealize.ShloMosaic Idealize.SL.Sem
open Cert.Gla Cert.GlaRef

/-- Every index of the result is a token of a chunk and a lane of a head. -/
theorem split (i : (⟨3, ![4, 8192, 512]⟩ : Shape).Idx) : ∃ (b : Fin 4) (N : Fin 128) (s : Fin 64) (h : Fin 4) (e : Fin 128),
    i = ix3 b (tok N.val s) (ln h e) := by
  have h0 : (i 0).val < 4 := (i 0).isLt
  have h1 : (i 1).val < 8192 := (i 1).isLt
  have h2 : (i 2).val < 512 := (i 2).isLt
  refine ⟨⟨(i 0).val, h0⟩, ⟨(i 1).val / 64, by omega⟩, ⟨(i 1).val % 64, by omega⟩, ⟨(i 2).val / 128, by omega⟩, ⟨(i 2).val % 128, by omega⟩, ?_⟩
  funext a
  apply Fin.ext
  match a with
  | ⟨0, _⟩ => rfl
  | ⟨1, _⟩ => show (i 1).val = (64 * ((i 1).val / 64) + (i 1).val % 64) % 8192; omega
  | ⟨2, _⟩ => show (i 2).val = 128 * ((i 2).val / 128) + (i 2).val % 128; omega

/-- From memories with the same arguments, the two results are one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : argsR m' c = argsK m c) : (resR m' c : Vec Ideal ⟨3, ![4, 8192, 512]⟩ .bf16) = Cert.KernelIdeal.Value.G8 m c := by
  funext i
  obtain ⟨b, N, s, hd, e, rfl⟩ := split i
  refine (resR_at m' c b N s hd e).trans (Eq.trans ?_ (result_at m c b N s hd e).symm)
  rw [h]

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩) (Cert.GlaRef.run m ρ)

theorem preserves : Cert.preserves_Kernel_KernelIdeal :=
  IdealRules.named_const.statement Cert.KernelIdeal.κ "inv96" .f32 0x3C2AAAAB#32 ((96⁻¹ : ℝ) : EReal) rfl

theorem algebraic : Cert.algebraic_KernelIdeal_ReferenceIdeal := by
  intro m ρ m' ρ' _ hagree
  refine ⟨fun c => Cert.KernelIdeal.Value.G8 m c, Cert.KernelIdeal.Value.run (F := Ideal) m ρ, ?_⟩
  refine (θ_run Cert.ReferenceIdeal.defs _ _).mono (fun _ h c => ⟨(h c).1.trans ?_, (h c).2⟩) (Cert.GlaRef.run m' ρ')
  refine result_eq m m' c ?_
  obtain ⟨h0, h1, h2, h3, h4, h5, h6, h7⟩ := hagree c
  unfold argsR argsK
  congr 1

end Cert.GlaClaims

end
-- ==== Proof.Proj.Spec.lean ====
/- The input projection, entry by entry: the layer's input normalised, scaled and shifted, times a column of the projection's weights. -/
module

public import proofs.«01_k».proof.Proof.Gla.Spec
public import Idealize.ShloMosaic.Lib.Pointwise

@[expose] public section

set_option maxRecDepth 16384

noncomputable section

namespace Cert.ProjSpec

open Idealize.ShloMosaic

/-- The epsilon under the norm's root. -/
def eps : EReal := Ideal.ofBits .f32 0x358637BD#32

/-- An entry of a row normalised, times the gain and the modulation's scale, plus its shift: from the row's entry, the sum of
    its squares, and the gain, scale and shift of the channel. -/
def nrm (x ss g sc sh : EReal) : EReal :=
  x * Ideal.rsqrt (ss * ((1024⁻¹ : ℝ) : EReal) + eps) * g * (1 + sc) + sh

/-- The normalised input at a token and a channel. -/
def H (x : (⟨2, ![32768, 1024]⟩ : Shape).Idx → EReal) (g : (⟨1, ![1024]⟩ : Shape).Idx → EReal) (sc sh : (⟨2, ![4, 1024]⟩ : Shape).Idx → EReal)
    (t : Fin 32768) (k : Fin 1024) : EReal :=
  nrm (x (ix2 t k)) (∑ j : Fin 1024, x (ix2 t j) * x (ix2 t j)) (g (ix1 k)) (sc (ix2 ⟨t.val / 8192, by omega⟩ k)) (sh (ix2 ⟨t.val / 8192, by omega⟩ k))

/-- A column of the weights, by its number; past the last column, zeros. -/
def col (w : (⟨2, ![1024, 2616]⟩ : Shape).Idx → EReal) (o : ℕ) (k : Fin 1024) : EReal := if h : o < 2616 then w (ix2 k ⟨o, h⟩) else 0

/-- The column of the weights a lane of a result reads: heads of 48 or 96 channels starting at a column and filled up to 128
    lanes each; a number of columns filled up; a number of columns repeated. Lanes that are filled up read no column. -/
def heads (o d : ℕ) (l : ℕ) : ℕ := if l % 128 < d then o + d * (l / 128) + l % 128 else 2616
def cols (o n : ℕ) (l : ℕ) : ℕ := if l < n then o + l else 2616
def tiled (o n : ℕ) (l : ℕ) : ℕ := o + l % n

/-- One entry of the projection. -/
def out (x : (⟨2, ![32768, 1024]⟩ : Shape).Idx → EReal) (g : (⟨1, ![1024]⟩ : Shape).Idx → EReal) (sc sh : (⟨2, ![4, 1024]⟩ : Shape).Idx → EReal)
    (w : (⟨2, ![1024, 2616]⟩ : Shape).Idx → EReal) (t : Fin 32768) (o : ℕ) : EReal :=
  ∑ k : Fin 1024, H x g sc sh t k * col w o k

theorem col_of_lt (w : (⟨2, ![1024, 2616]⟩ : Shape).Idx → EReal) {o : ℕ} (h : o < 2616) (k : Fin 1024) : col w o k = w (ix2 k ⟨o, h⟩) := dif_pos h
theorem col_pad (w : (⟨2, ![1024, 2616]⟩ : Shape).Idx → EReal) (k : Fin 1024) : col w 2616 k = 0 := dif_neg (by omega)

/-- A lane that is filled up holds zero. -/
theorem out_pad (x g sc sh w) (t : Fin 32768) : out x g sc sh w t 2616 = 0 := by
  unfold out
  refine Finset.sum_eq_zero fun k _ => ?_
  rw [col_pad, mul_zero]

end Cert.ProjSpec

end
-- ==== Proof.Proj.Tile.lean ====
/- The blocks the projection's body stores, at an index: rows of the normalised input times columns of the weights' layout. -/
module

public import proofs.«01_k».proof.Proof.Proj.Spec
public import proofs.«01_k».proof.Proof.Gla.Law
public import proofs.«01_k».proof.Proof.Gen.ProjIdeal.Frame

@[expose] public section

set_option maxRecDepth 16384

noncomputable section

namespace Cert.Proj

open Cert.ProjIdeal Cert.ProjIdeal.Gen Idealize.ShloMosaic Idealize.ShloMosaic.TcCoe Idealize.SL.Sem Cert.ProjSpec

theorem bits_eps : Ideal.ofBits .f32 0x358637BD#32 = eps := rfl
theorem bits_mean : Ideal.ofBits .f32 0x3A800000#32 = ((1024⁻¹ : ℝ) : EReal) := by
  simp [Ideal.ofBits, Ideal.ieee, -EReal.coe_mul]
  norm_num

theorem hz2 : (![0, 0] : Fin 2 → Nat) = fun _ => 0 := by decide
theorem hz3 : (![0, 0, 0] : Fin 3 → Nat) = fun _ => 0 := by decide

variable (x : Vec Ideal S512x1024 .f32) (g : Vec Ideal S1x1024 .f32) (sc sh : Vec Ideal S1x1x1024 .f32) (w : Vec Ideal S1024x3968 .bf16)

/-- The normalised input of a block, at a row and a channel. -/
def hB (a : Fin 512) (k : Fin 1024) : EReal :=
  nrm (x (ix2 a k)) (∑ j : Fin 1024, x (ix2 a j) * x (ix2 a j)) (g (ix2 0 k)) (sc (ix3 0 0 k)) (sh (ix3 0 0 k))

theorem pay6_at (a : Fin 512) (k : Fin 1024) : k0_pay6 x g sc sh (ix2 a k) = hB x g sc sh a k := by
  pointwise [k0_pay6]
  rw [bits_mean]
  rfl

theorem pay14_at (a : Fin 512) (k : Fin 1024) : k0_pay14 x g sc sh w (ix2 a k) = hB x g sc sh a k := by
  unfold k0_pay14
  rw [View.ld_unit_zero hz2, View.ld_unit_zero hz2, View.ld_unit_zero hz3, View.ld_unit_zero hz3]
  exact pay6_at x g sc sh a k

theorem tile5 (a : Fin 512) (l : Fin 512) : out0_5 x g sc sh w (ix2 a l) = ∑ k : Fin 1024, hB x g sc sh a k * w (ix2 k ⟨0 + l.val, by omega⟩) := by
  unfold out0_5
  rw [View.canon_unit_zero hz2]
  rw [View.ld_unit_zero hz2, View.ld_unit_zero hz2, View.ld_unit_zero hz3, View.ld_unit_zero hz3]
  generalize hw : View.ld w r0_3 = y
  have hy : ∀ k, y (ix2 k l) = w (ix2 k ⟨0 + l.val, by omega⟩) := fun k => by rw [← hw]; pointwise []
  unfold k0_pay7
  generalize hp : k0_pay6 x g sc sh = p
  pointwise []
  refine Finset.sum_congr rfl fun k _ => ?_
  rw [hy, ← hp, pay6_at]
  exact congrArg (fun j => hB x g sc sh a k * w (ix2 k j)) (Fin.ext (Nat.zero_add l.val).symm).symm

theorem tile6 (a : Fin 512) (l : Fin 512) : out0_6 x g sc sh w (ix2 a l) = ∑ k : Fin 1024, hB x g sc sh a k * w (ix2 k ⟨512 + l.val, by omega⟩) := by
  unfold out0_6
  rw [View.canon_unit_zero hz2]
  rw [View.ld_unit_zero hz2, View.ld_unit_zero hz2, View.ld_unit_zero hz3, View.ld_unit_zero hz3]
  generalize hw : View.ld w r0_5 = y
  have hy : ∀ k, y (ix2 k l) = w (ix2 k ⟨512 + l.val, by omega⟩) := fun k => by rw [← hw]; pointwise []
  unfold k0_pay8
  generalize hp : k0_pay6 x g sc sh = p
  pointwise []
  refine Finset.sum_congr rfl fun k _ => ?_
  rw [hy, ← hp, pay6_at]

theorem tile7 (a : Fin 512) (l : Fin 512) : out0_7 x g sc sh w (ix2 a l) = ∑ k : Fin 1024, hB x g sc sh a k * w (ix2 k ⟨1024 + l.val, by omega⟩) := by
  unfold out0_7
  rw [View.canon_unit_zero hz2]
  generalize hp : k0_pay14 x g sc sh w = p
  generalize hw : View.ld w r0_6 = y
  have hy : ∀ k, y (ix2 k l) = w (ix2 k ⟨1024 + l.val, by omega⟩) := fun k => by rw [← hw]; pointwise []
  pointwise [k0_pay9]
  refine Finset.sum_congr rfl fun k _ => ?_
  rw [hy, ← hp, pay14_at]

theorem tile8 (a : Fin 512) (l : Fin 512) : out0_8 x g sc sh w (ix2 a l) = ∑ k : Fin 1024, hB x g sc sh a k * w (ix2 k ⟨1536 + l.val, by omega⟩) := by
  unfold out0_8
  rw [View.canon_unit_zero hz2]
  generalize hp : k0_pay14 x g sc sh w = p
  generalize hw : View.ld w r0_7 = y
  have hy : ∀ k, y (ix2 k l) = w (ix2 k ⟨1536 + l.val, by omega⟩) := fun k => by rw [← hw]; pointwise []
  pointwise [k0_pay10]
  refine Finset.sum_congr rfl fun k _ => ?_
  rw [hy, ← hp, pay14_at]

theorem tile9 (a : Fin 512) (l : Fin 128) : out0_9 x g sc sh w (ix2 a l) = ∑ k : Fin 1024, hB x g sc sh a k * w (ix2 k ⟨2048 + l.val, by omega⟩) := by
  unfold out0_9
  rw [View.canon_unit_zero hz2]
  generalize hp : k0_pay14 x g sc sh w = p
  generalize hw : View.ld w r0_8 = y
  have hy : ∀ k, y (ix2 k l) = w (ix2 k ⟨2048 + l.val, by omega⟩) := fun k => by rw [← hw]; pointwise []
  pointwise [k0_pay11]
  refine Finset.sum_congr rfl fun k _ => ?_
  rw [hy, ← hp, pay14_at]

theorem tile10 (a : Fin 512) (l : Fin 256) : out0_10 x g sc sh w (ix2 a l) = ∑ k : Fin 1024, hB x g sc sh a k * w (ix2 k ⟨2176 + l.val, by omega⟩) := by
  unfold out0_10
  rw [View.canon_unit_zero hz2]
  generalize hp : k0_pay14 x g sc sh w = p
  generalize hw : View.ld w r0_10 = y
  have hy : ∀ k, y (ix2 k l) = w (ix2 k ⟨2176 + l.val, by omega⟩) := fun k => by rw [← hw]; pointwise []
  pointwise [k0_pay12]
  refine Finset.sum_congr rfl fun k _ => ?_
  rw [hy, ← hp, pay14_at]

theorem tile11 (a : Fin 512) (l : Fin 256) : out0_11 x g sc sh w (ix2 a l) = ∑ k : Fin 1024, hB x g sc sh a k * w (ix2 k ⟨2432 + l.val, by omega⟩) := by
  unfold out0_11
  rw [View.canon_unit_zero hz2]
  generalize hp : k0_pay14 x g sc sh w = p
  generalize hw : View.ld w r0_12 = y
  have hy : ∀ k, y (ix2 k l) = w (ix2 k ⟨2432 + l.val, by omega⟩) := fun k => by rw [← hw]; pointwise []
  pointwise [k0_pay13]
  refine Finset.sum_congr rfl fun k _ => ?_
  rw [hy, ← hp, pay14_at]

theorem tile12 (a : Fin 512) (l : Fin 256) : out0_12 x g sc sh w (ix2 a l) = ∑ k : Fin 1024, hB x g sc sh a k * w (ix2 k ⟨2688 + l.val, by omega⟩) := by
  unfold out0_12
  rw [View.canon_unit_zero hz2]
  generalize hp : k0_pay14 x g sc sh w = p
  generalize hw : View.ld w r0_13 = y
  have hy : ∀ k, y (ix2 k l) = w (ix2 k ⟨2688 + l.val, by omega⟩) := fun k => by rw [← hw]; pointwise []
  pointwise [k0_pay1]
  refine Finset.sum_congr rfl fun k _ => ?_
  rw [hy, ← hp, pay14_at]

theorem tile13 (a : Fin 512) (l : Fin 256) : out0_13 x g sc sh w (ix2 a l) = ∑ k : Fin 1024, hB x g sc sh a k * w (ix2 k ⟨2944 + l.val, by omega⟩) := by
  unfold out0_13
  rw [View.canon_unit_zero hz2]
  generalize hp : k0_pay14 x g sc sh w = p
  generalize hw : View.ld w r0_14 = y
  have hy : ∀ k, y (ix2 k l) = w (ix2 k ⟨2944 + l.val, by omega⟩) := fun k => by rw [← hw]; pointwise []
  pointwise [k0_pay2]
  refine Finset.sum_congr rfl fun k _ => ?_
  rw [hy, ← hp, pay14_at]

theorem tile14 (a : Fin 512) (l : Fin 256) : out0_14 x g sc sh w (ix2 a l) = ∑ k : Fin 1024, hB x g sc sh a k * w (ix2 k ⟨3200 + l.val, by omega⟩) := by
  unfold out0_14
  rw [View.canon_unit_zero hz2]
  generalize hp : k0_pay14 x g sc sh w = p
  generalize hw : View.ld w r0_15 = y
  have hy : ∀ k, y (ix2 k l) = w (ix2 k ⟨3200 + l.val, by omega⟩) := fun k => by rw [← hw]; pointwise []
  pointwise [k0_pay3]
  refine Finset.sum_congr rfl fun k _ => ?_
  rw [hy, ← hp, pay14_at]

theorem tile15 (a : Fin 512) (l : Fin 128) : out0_15 x g sc sh w (ix2 a l) = ∑ k : Fin 1024, hB x g sc sh a k * w (ix2 k ⟨3456 + l.val, by omega⟩) := by
  unfold out0_15
  rw [View.canon_unit_zero hz2]
  generalize hp : k0_pay14 x g sc sh w = p
  generalize hw : View.ld w r0_16 = y
  have hy : ∀ k, y (ix2 k l) = w (ix2 k ⟨3456 + l.val, by omega⟩) := fun k => by rw [← hw]; pointwise []
  pointwise [k0_pay4]
  refine Finset.sum_congr rfl fun k _ => ?_
  rw [hy, ← hp, pay14_at]

theorem tile16 (a : Fin 512) (l : Fin 384) : out0_16 x g sc sh w (ix2 a l) = ∑ k : Fin 1024, hB x g sc sh a k * w (ix2 k ⟨3584 + l.val, by omega⟩) := by
  unfold out0_16
  rw [View.canon_unit_zero hz2]
  generalize hp : k0_pay14 x g sc sh w = p
  generalize hw : View.ld w r0_17 = y
  have hy : ∀ k, y (ix2 k l) = w (ix2 k ⟨3584 + l.val, by omega⟩) := fun k => by rw [← hw]; pointwise []
  pointwise [k0_pay5]
  refine Finset.sum_congr rfl fun k _ => ?_
  rw [hy, ← hp, pay14_at]

end Cert.Proj

end
-- ==== Proof.Proj.Host.lean ====
/- What the projection's windows' arrays hold when the grid is entered: the weights' columns in the kernel's layout, and the
   arguments as they are. -/
module

public import proofs.«01_k».proof.Proof.Proj.Spec
public import proofs.«01_k».proof.Proof.Gen.ProjIdeal.Frame
public import Idealize.ShloMosaic.Lib.StableHlo.ReadAt

@[expose] public section

set_option maxRecDepth 100000

noncomputable section

namespace Cert.Proj

open Cert.ProjIdeal Cert.ProjIdeal.Gen Idealize.ShloMosaic Idealize.ShloMosaic.TcCoe Idealize.SL.Sem Cert.ProjSpec

variable {F : FTy → Type} [FloatOps F]

/-- The filling. -/
def zf : FVec F S_ .f32 := sitofp .f32 (constantI S_ 32 0#32)

/-- Columns of heads of 48 channels, each filled up to 128 lanes. -/
def hd48 (x : Vec F S1024x192 .f32) : Vec F S1024x512 .f32 :=
  shapeCast S1024x512 (pad S1024x4x128 ![0, 0, 0] ![0, 0, 80] ![0, 0, 0] (shapeCast S1024x4x48 x shapeCasts_S1024x192_S1024x4x48) zf
    pads_S1024x4x48_S1024x4x128_000_000_0800 h_S_) shapeCasts_S1024x4x128_S1024x512
/-- Columns of heads of 96 channels, each filled up to 128 lanes. -/
def hd96 (x : Vec F S1024x384 .f32) : Vec F S1024x512 .f32 :=
  shapeCast S1024x512 (pad S1024x4x128 ![0, 0, 0] ![0, 0, 32] ![0, 0, 0] (shapeCast S1024x4x96 x shapeCasts_S1024x384_S1024x4x96) zf
    pads_S1024x4x96_S1024x4x128_000_000_0320 h_S_) shapeCasts_S1024x4x128_S1024x512
/-- 16 columns filled up to 128. -/
def fill16 (x : Vec F S1024x16 .f32) : Vec F S1024x128 .f32 := pad S1024x128 ![0, 0] ![0, 112] ![0, 0] x zf pads_S1024x16_S1024x128_000_01120 h_S_
/-- 8 columns filled up to 128. -/
def fill8 (x : Vec F S1024x8 .f32) : Vec F S1024x128 .f32 := pad S1024x128 ![0, 0] ![0, 120] ![0, 0] x zf pads_S1024x8_S1024x128_000_01200 h_S_
/-- 32 columns eight times over. -/
def rep32 (x : Vec F S1024x32 .f32) : Vec F S1024x256 .f32 :=
  shapeCast S1024x256 (broadcastInDim S1x1024x8x32 ![0, 1, 2, 3] bcast_S1x1024x1x32_S1x1024x8x32_0_1_2_3
    (shapeCast S1x1024x1x32 x shapeCasts_S1024x32_S1x1024x1x32)) shapeCasts_S1x1024x8x32_S1024x256

/-- Twelve groups of columns side by side. -/
def join (p0 p1 p2 p3 : Vec F S1024x512 .f32) (p4 : Vec F S1024x128 .f32) (p5 p6 p7 p8 p9 : Vec F S1024x256 .f32) (p10 : Vec F S1024x128 .f32)
    (p11 : Vec F S1024x384 .f32) : Vec F S1024x3968 .bf16 :=
  truncf .bf16 (concatenate S1024x3968 1 [⟨S1024x512, p0⟩, ⟨S1024x512, p1⟩, ⟨S1024x512, p2⟩, ⟨S1024x512, p3⟩, ⟨S1024x128, p4⟩, ⟨S1024x256, p5⟩,
    ⟨S1024x256, p6⟩, ⟨S1024x256, p7⟩, ⟨S1024x256, p8⟩, ⟨S1024x256, p9⟩, ⟨S1024x128, p10⟩, ⟨S1024x384, p11⟩]
    concatenates_S1024x512_S1024x512_S1024x512_S1024x512_S1024x128_S1024x256_S1024x256_S1024x256_S1024x256_S1024x256_S1024x128_S1024x384_S1024x3968_d1 : FVec F S1024x3968 .f32) bitsLt_bf16_f32

/-- The weights in the kernel's layout. -/
def layW (w : Vec F S1024x2616 .f32) : Vec F S1024x3968 .bf16 :=
  join (hd48 (extractStridedSlice S1024x192 ![0, 0] w slices_S1024x2616_S1024x192_0_0)) (hd48 (extractStridedSlice S1024x192 ![0, 192] w slices_S1024x2616_S1024x192_0_192))
    (hd96 (extractStridedSlice S1024x384 ![0, 384] w slices_S1024x2616_S1024x384_0_384)) (hd96 (extractStridedSlice S1024x384 ![0, 784] w slices_S1024x2616_S1024x384_0_784))
    (fill16 (extractStridedSlice S1024x16 ![0, 768] w slices_S1024x2616_S1024x16_0_768))
    (extractStridedSlice S1024x256 ![0, 1168] w slices_S1024x2616_S1024x256_0_1168) (extractStridedSlice S1024x256 ![0, 1424] w slices_S1024x2616_S1024x256_0_1424)
    (extractStridedSlice S1024x256 ![0, 1680] w slices_S1024x2616_S1024x256_0_1680) (extractStridedSlice S1024x256 ![0, 1936] w slices_S1024x2616_S1024x256_0_1936)
    (rep32 (extractStridedSlice S1024x32 ![0, 2192] w slices_S1024x2616_S1024x32_0_2192)) (fill8 (extractStridedSlice S1024x8 ![0, 2224] w slices_S1024x2616_S1024x8_0_2224))
    (extractStridedSlice S1024x384 ![0, 2232] w slices_S1024x2616_S1024x384_0_2232)

variable (m : (ℓ : Loc nD τ sig) → Buf (Elt F) ℓ) (c : Dev nD)

/-- What the last host operations make of the twelve groups. -/
theorem joined (U : Valuation τ sig (Elt F)) : StableHlo.after hostOps0_12 U (Proc.devRef .tc main_v30) =
    join (U (Proc.devRef .tc main_v14)) (U (Proc.devRef .tc main_v17)) (U (Proc.devRef .tc main_v20)) (U (Proc.devRef .tc main_v23)) (U (Proc.devRef .tc main_v24)) (U (Proc.devRef .tc main_v5)) (U (Proc.devRef .tc main_v6)) (U (Proc.devRef .tc main_v7)) (U (Proc.devRef .tc main_v8)) (U (Proc.devRef .tc main_v27)) (U (Proc.devRef .tc main_v28)) (U (Proc.devRef .tc main_v11)) := by
  after_results
  rfl

/-- The buffers before them. -/
def V0 : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11]) (fun b => m (c, b))

theorem V0_v14 : V0 m c (Proc.devRef .tc main_v14) = (hd48 (extractStridedSlice S1024x192 ![0, 0] (m (c, Proc.devRef .tc main_arg4) : Vec F S1024x2616 .f32) slices_S1024x2616_S1024x192_0_0)) := by
  unfold V0
  after_reads_simp
  simp -implicitDefEqProofs only [StableHlo.TRef.toBuf, StableHlo.TRef.ofBuf, cast_cast, cast_eq]
  clean_types
  unfold hd48
  rfl
theorem V0_v17 : V0 m c (Proc.devRef .tc main_v17) = (hd48 (extractStridedSlice S1024x192 ![0, 192] (m (c, Proc.devRef .tc main_arg4) : Vec F S1024x2616 .f32) slices_S1024x2616_S1024x192_0_192)) := by
  unfold V0
  after_reads_simp
  simp -implicitDefEqProofs only [StableHlo.TRef.toBuf, StableHlo.TRef.ofBuf, cast_cast, cast_eq]
  clean_types
  unfold hd48
  rfl
theorem V0_v20 : V0 m c (Proc.devRef .tc main_v20) = (hd96 (extractStridedSlice S1024x384 ![0, 384] (m (c, Proc.devRef .tc main_arg4) : Vec F S1024x2616 .f32) slices_S1024x2616_S1024x384_0_384)) := by
  unfold V0
  after_reads_simp
  simp -implicitDefEqProofs only [StableHlo.TRef.toBuf, StableHlo.TRef.ofBuf, cast_cast, cast_eq]
  clean_types
  unfold hd96
  rfl
theorem V0_v23 : V0 m c (Proc.devRef .tc main_v23) = (hd96 (extractStridedSlice S1024x384 ![0, 784] (m (c, Proc.devRef .tc main_arg4) : Vec F S1024x2616 .f32) slices_S1024x2616_S1024x384_0_784)) := by
  unfold V0
  after_reads_simp
  simp -implicitDefEqProofs only [StableHlo.TRef.toBuf, StableHlo.TRef.ofBuf, cast_cast, cast_eq]
  clean_types
  unfold hd96
  rfl
theorem V0_v24 : V0 m c (Proc.devRef .tc main_v24) = (fill16 (extractStridedSlice S1024x16 ![0, 768] (m (c, Proc.devRef .tc main_arg4) : Vec F S1024x2616 .f32) slices_S1024x2616_S1024x16_0_768)) := by
  unfold V0
  after_reads_simp
  simp -implicitDefEqProofs only [StableHlo.TRef.toBuf, StableHlo.TRef.ofBuf, cast_cast, cast_eq]
  clean_types
  unfold fill16
  rfl
theorem V0_v5 : V0 m c (Proc.devRef .tc main_v5) = ((extractStridedSlice S1024x256 ![0, 1168] (m (c, Proc.devRef .tc main_arg4) : Vec F S1024x2616 .f32) slices_S1024x2616_S1024x256_0_1168)) := by
  unfold V0
  after_reads_simp
theorem V0_v6 : V0 m c (Proc.devRef .tc main_v6) = ((extractStridedSlice S1024x256 ![0, 1424] (m (c, Proc.devRef .tc main_arg4) : Vec F S1024x2616 .f32) slices_S1024x2616_S1024x256_0_1424)) := by
  unfold V0
  after_reads_simp
theorem V0_v7 : V0 m c (Proc.devRef .tc main_v7) = ((extractStridedSlice S1024x256 ![0, 1680] (m (c, Proc.devRef .tc main_arg4) : Vec F S1024x2616 .f32) slices_S1024x2616_S1024x256_0_1680)) := by
  unfold V0
  after_reads_simp
theorem V0_v8 : V0 m c (Proc.devRef .tc main_v8) = ((extractStridedSlice S1024x256 ![0, 1936] (m (c, Proc.devRef .tc main_arg4) : Vec F S1024x2616 .f32) slices_S1024x2616_S1024x256_0_1936)) := by
  unfold V0
  after_reads_simp
theorem V0_v27 : V0 m c (Proc.devRef .tc main_v27) = (rep32 (extractStridedSlice S1024x32 ![0, 2192] (m (c, Proc.devRef .tc main_arg4) : Vec F S1024x2616 .f32) slices_S1024x2616_S1024x32_0_2192)) := by
  unfold V0
  after_reads_simp
  clean_types
  rfl
theorem V0_v28 : V0 m c (Proc.devRef .tc main_v28) = (fill8 (extractStridedSlice S1024x8 ![0, 2224] (m (c, Proc.devRef .tc main_arg4) : Vec F S1024x2616 .f32) slices_S1024x2616_S1024x8_0_2224)) := by
  unfold V0
  after_reads_simp
  simp -implicitDefEqProofs only [StableHlo.TRef.toBuf, StableHlo.TRef.ofBuf, cast_cast, cast_eq]
  clean_types
  unfold fill8
  rfl
theorem V0_v11 : V0 m c (Proc.devRef .tc main_v11) = ((extractStridedSlice S1024x384 ![0, 2232] (m (c, Proc.devRef .tc main_arg4) : Vec F S1024x2616 .f32) slices_S1024x2616_S1024x384_0_2232)) := by
  unfold V0
  after_reads_simp

theorem V_last (b : Ref sig .tc) : V m c b = StableHlo.after hostOps0_12 (V0 m c) (Proc.devRef .tc b) := by
  unfold V V0
  rw [show ([hostOps0, hostOps0_1, hostOps0_2, hostOps0_3, hostOps0_4, hostOps0_5, hostOps0_6, hostOps0_7, hostOps0_8, hostOps0_9, hostOps0_10, hostOps0_11, hostOps0_12] : List (List (HloOp τ sig (Elt F)))).flatten =
    [hostOps0, hostOps0_1, hostOps0_2, hostOps0_3, hostOps0_4, hostOps0_5, hostOps0_6, hostOps0_7, hostOps0_8, hostOps0_9, hostOps0_10, hostOps0_11].flatten ++ hostOps0_12 from rfl, StableHlo.after_append]

theorem V_v30 : V m c main_v30 = layW (m (c, Proc.devRef .tc main_arg4)) := by
  rw [V_last, joined, V0_v14, V0_v17, V0_v20, V0_v23, V0_v24, V0_v5, V0_v6, V0_v7, V0_v8, V0_v27, V0_v28, V0_v11]
  rfl
theorem V_v31 : V m c main_v31 = (shapeCast S1x1024 (m (c, Proc.devRef .tc main_arg1) : Vec F S1024 .f32) shapeCasts_S1024_S1x1024 : Vec F S1x1024 .f32) := by
  unfold V
  after_reads_simp
  clean_types
  rfl
theorem V_v32 : V m c main_v32 = (broadcastInDim S4x1x1024 ![0, 2] bcast_S4x1024_S4x1x1024_0_2 (m (c, Proc.devRef .tc main_arg2) : Vec F S4x1024 .f32) : Vec F S4x1x1024 .f32) := by
  unfold V
  after_reads_simp
theorem V_v33 : V m c main_v33 = (broadcastInDim S4x1x1024 ![0, 2] bcast_S4x1024_S4x1x1024_0_2 (m (c, Proc.devRef .tc main_arg3) : Vec F S4x1024 .f32) : Vec F S4x1x1024 .f32) := by
  unfold V
  after_reads_simp

end Cert.Proj

end
-- ==== Proof.Proj.Layout.lean ====
/- The weights' layout at an index: each lane holds the column it is laid out from, or zero. -/
module

public import proofs.«01_k».proof.Proof.Proj.Host

@[expose] public section

set_option maxRecDepth 16384

noncomputable section

namespace Cert.Proj

open Cert.ProjIdeal Cert.ProjIdeal.Gen Idealize.ShloMosaic Idealize.ShloMosaic.TcCoe Idealize.SL.Sem Cert.ProjSpec

theorem zero_word (φ : FTy) : FloatOps.sitofp (F := Ideal) φ (0#32) = (0 : EReal) := by
  show (((0#32).toInt : ℝ) : EReal) = 0
  simp

theorem hd48_at (x : Vec Ideal S1024x192 .f32) (k : Fin 1024) (l : Fin 512) :
    hd48 x (ix2 k l) = if h : l.val % 128 < 48 then x (ix2 k ⟨48 * (l.val / 128) + l.val % 128, by omega⟩) else 0 := by
  pointwise [hd48, zf]
  rw [zero_word]
  by_cases h : l.val % 128 < 48
  · rw [dif_pos h, dif_pos (by omega)]
    exact congrArg₂ (fun a b => x (ix2 a b)) (Fin.ext (by simp only [] <;> omega)) (Fin.ext (by simp only [] <;> omega))
  · rw [dif_neg h, dif_neg (by omega)]

theorem hd96_at (x : Vec Ideal S1024x384 .f32) (k : Fin 1024) (l : Fin 512) :
    hd96 x (ix2 k l) = if h : l.val % 128 < 96 then x (ix2 k ⟨96 * (l.val / 128) + l.val % 128, by omega⟩) else 0 := by
  pointwise [hd96, zf]
  rw [zero_word]
  by_cases h : l.val % 128 < 96
  · rw [dif_pos h, dif_pos (by omega)]
    exact congrArg₂ (fun a b => x (ix2 a b)) (Fin.ext (by simp only [] <;> omega)) (Fin.ext (by simp only [] <;> omega))
  · rw [dif_neg h, dif_neg (by omega)]

theorem fill16_at (x : Vec Ideal S1024x16 .f32) (k : Fin 1024) (l : Fin 128) :
    fill16 x (ix2 k l) = if h : l.val < 16 then x (ix2 k ⟨l.val, h⟩) else 0 := by
  pointwise [fill16, zf]
  rw [zero_word]

theorem fill8_at (x : Vec Ideal S1024x8 .f32) (k : Fin 1024) (l : Fin 128) :
    fill8 x (ix2 k l) = if h : l.val < 8 then x (ix2 k ⟨l.val, h⟩) else 0 := by
  pointwise [fill8, zf]
  rw [zero_word]

theorem rep32_at (x : Vec Ideal S1024x32 .f32) (k : Fin 1024) (l : Fin 256) :
    rep32 x (ix2 k l) = x (ix2 k ⟨l.val % 32, by omega⟩) := by
  pointwise [rep32]

section
variable (p0 p1 p2 p3 : Vec Ideal S1024x512 .f32) (p4 : Vec Ideal S1024x128 .f32) (p5 p6 p7 p8 p9 : Vec Ideal S1024x256 .f32) (p10 : Vec Ideal S1024x128 .f32)
    (p11 : Vec Ideal S1024x384 .f32) (k : Fin 1024)

theorem join0 (l : Fin 512) : join p0 p1 p2 p3 p4 p5 p6 p7 p8 p9 p10 p11 (ix2 k ⟨0 + l.val, by omega⟩) = p0 (ix2 k l) := by
  pointwise [join]

theorem join1 (l : Fin 512) : join p0 p1 p2 p3 p4 p5 p6 p7 p8 p9 p10 p11 (ix2 k ⟨512 + l.val, by omega⟩) = p1 (ix2 k l) := by
  pointwise [join]

theorem join2 (l : Fin 512) : join p0 p1 p2 p3 p4 p5 p6 p7 p8 p9 p10 p11 (ix2 k ⟨1024 + l.val, by omega⟩) = p2 (ix2 k l) := by
  pointwise [join]
  rw [dif_neg (by omega), dif_neg (by omega), dif_pos (by omega)]
  exact congrArg (fun j => p2 (ix2 k j)) (Fin.ext (by simp only [] <;> omega))

theorem join3 (l : Fin 512) : join p0 p1 p2 p3 p4 p5 p6 p7 p8 p9 p10 p11 (ix2 k ⟨1536 + l.val, by omega⟩) = p3 (ix2 k l) := by
  pointwise [join]
  rw [dif_neg (by omega), dif_neg (by omega), dif_neg (by omega), dif_pos (by omega)]
  exact congrArg (fun j => p3 (ix2 k j)) (Fin.ext (by simp only [] <;> omega))

theorem join4 (l : Fin 128) : join p0 p1 p2 p3 p4 p5 p6 p7 p8 p9 p10 p11 (ix2 k ⟨2048 + l.val, by omega⟩) = p4 (ix2 k l) := by
  pointwise [join]
  rw [dif_neg (by omega), dif_neg (by omega), dif_neg (by omega), dif_neg (by omega), dif_pos (by omega)]
  exact congrArg (fun j => p4 (ix2 k j)) (Fin.ext (by simp only [] <;> omega))

theorem join5 (l : Fin 256) : join p0 p1 p2 p3 p4 p5 p6 p7 p8 p9 p10 p11 (ix2 k ⟨2176 + l.val, by omega⟩) = p5 (ix2 k l) := by
  pointwise [join]
  rw [dif_neg (by omega), dif_neg (by omega), dif_neg (by omega), dif_neg (by omega), dif_neg (by omega), dif_pos (by omega)]
  exact congrArg (fun j => p5 (ix2 k j)) (Fin.ext (by simp only [] <;> omega))

theorem join6 (l : Fin 256) : join p0 p1 p2 p3 p4 p5 p6 p7 p8 p9 p10 p11 (ix2 k ⟨2432 + l.val, by omega⟩) = p6 (ix2 k l) := by
  pointwise [join]
  rw [dif_neg (by omega), dif_neg (by omega), dif_neg (by omega), dif_neg (by omega), dif_neg (by omega), dif_neg (by omega), dif_pos (by omega)]
  exact congrArg (fun j => p6 (ix2 k j)) (Fin.ext (by simp only [] <;> omega))

theorem join7 (l : Fin 256) : join p0 p1 p2 p3 p4 p5 p6 p7 p8 p9 p10 p11 (ix2 k ⟨2688 + l.val, by omega⟩) = p7 (ix2 k l) := by
  pointwise [join]
  rw [dif_neg (by omega), dif_neg (by omega), dif_neg (by omega), dif_neg (by omega), dif_neg (by omega), dif_neg (by omega), dif_neg (by omega), dif_pos (by omega)]
  exact congrArg (fun j => p7 (ix2 k j)) (Fin.ext (by simp only [] <;> omega))

theorem join8 (l : Fin 256) : join p0 p1 p2 p3 p4 p5 p6 p7 p8 p9 p10 p11 (ix2 k ⟨2944 + l.val, by omega⟩) = p8 (ix2 k l) := by
  pointwise [join]
  rw [dif_neg (by omega), dif_neg (by omega), dif_neg (by omega), dif_neg (by omega), dif_neg (by omega), dif_neg (by omega), dif_neg (by omega), dif_neg (by omega), dif_pos (by omega)]
  exact congrArg (fun j => p8 (ix2 k j)) (Fin.ext (by simp only [] <;> omega))

theorem join9 (l : Fin 256) : join p0 p1 p2 p3 p4 p5 p6 p7 p8 p9 p10 p11 (ix2 k ⟨3200 + l.val, by omega⟩) = p9 (ix2 k l) := by
  pointwise [join]
  rw [dif_neg (by omega), dif_neg (by omega), dif_neg (by omega), dif_neg (by omega), dif_neg (by omega), dif_neg (by omega), dif_neg (by omega), dif_neg (by omega), dif_neg (by omega), dif_pos (by omega)]
  exact congrArg (fun j => p9 (ix2 k j)) (Fin.ext (by simp only [] <;> omega))

theorem join10 (l : Fin 128) : join p0 p1 p2 p3 p4 p5 p6 p7 p8 p9 p10 p11 (ix2 k ⟨3456 + l.val, by omega⟩) = p10 (ix2 k l) := by
  pointwise [join]
  rw [dif_neg (by omega), dif_neg (by omega), dif_neg (by omega), dif_neg (by omega), dif_neg (by omega), dif_neg (by omega), dif_neg (by omega), dif_neg (by omega), dif_neg (by omega), dif_neg (by omega), dif_pos (by omega)]
  exact congrArg (fun j => p10 (ix2 k j)) (Fin.ext (by simp only [] <;> omega))

theorem join11 (l : Fin 384) : join p0 p1 p2 p3 p4 p5 p6 p7 p8 p9 p10 p11 (ix2 k ⟨3584 + l.val, by omega⟩) = p11 (ix2 k l) := by
  pointwise [join]
  rw [dif_neg (by omega), dif_neg (by omega), dif_neg (by omega), dif_neg (by omega), dif_neg (by omega), dif_neg (by omega), dif_neg (by omega), dif_neg (by omega), dif_neg (by omega), dif_neg (by omega), dif_neg (by omega)]
  exact congrArg (fun j => p11 (ix2 k j)) (Fin.ext (by simp only [] <;> omega))

end

variable (w : Vec Ideal S1024x2616 .f32) (k : Fin 1024)

theorem lay0 (l : Fin 512) : layW w (ix2 k ⟨0 + l.val, by omega⟩) = col w (heads 0 48 l.val) k := by
  unfold layW
  rw [join0]
  rw [hd48_at]
  unfold heads
  by_cases h : l.val % 128 < 48
  · rw [dif_pos h, if_pos h, col_of_lt w (by omega)]
    pointwise []
  · rw [dif_neg h, if_neg h, col_pad]

theorem lay1 (l : Fin 512) : layW w (ix2 k ⟨512 + l.val, by omega⟩) = col w (heads 192 48 l.val) k := by
  unfold layW
  rw [join1]
  rw [hd48_at]
  unfold heads
  by_cases h : l.val % 128 < 48
  · rw [dif_pos h, if_pos h, col_of_lt w (by omega)]
    pointwise []
    exact congrArg (fun j => w (ix2 k j)) (Fin.ext (by simp only [] <;> omega))
  · rw [dif_neg h, if_neg h, col_pad]

theorem lay2 (l : Fin 512) : layW w (ix2 k ⟨1024 + l.val, by omega⟩) = col w (heads 384 96 l.val) k := by
  unfold layW
  rw [join2]
  rw [hd96_at]
  unfold heads
  by_cases h : l.val % 128 < 96
  · rw [dif_pos h, if_pos h, col_of_lt w (by omega)]
    pointwise []
    exact congrArg (fun j => w (ix2 k j)) (Fin.ext (by simp only [] <;> omega))
  · rw [dif_neg h, if_neg h, col_pad]

theorem lay3 (l : Fin 512) : layW w (ix2 k ⟨1536 + l.val, by omega⟩) = col w (heads 784 96 l.val) k := by
  unfold layW
  rw [join3]
  rw [hd96_at]
  unfold heads
  by_cases h : l.val % 128 < 96
  · rw [dif_pos h, if_pos h, col_of_lt w (by omega)]
    pointwise []
    exact congrArg (fun j => w (ix2 k j)) (Fin.ext (by simp only [] <;> omega))
  · rw [dif_neg h, if_neg h, col_pad]

theorem lay4 (l : Fin 128) : layW w (ix2 k ⟨2048 + l.val, by omega⟩) = col w (cols 768 16 l.val) k := by
  unfold layW
  rw [join4]
  rw [fill16_at]
  unfold cols
  by_cases h : l.val < 16
  · rw [dif_pos h, if_pos h, col_of_lt w (by omega)]
    pointwise []
  · rw [dif_neg h, if_neg h, col_pad]

theorem lay5 (l : Fin 256) : layW w (ix2 k ⟨2176 + l.val, by omega⟩) = col w (cols 1168 256 l.val) k := by
  unfold layW
  rw [join5]
  unfold cols
  rw [if_pos l.isLt, col_of_lt w (by omega)]
  pointwise []

theorem lay6 (l : Fin 256) : layW w (ix2 k ⟨2432 + l.val, by omega⟩) = col w (cols 1424 256 l.val) k := by
  unfold layW
  rw [join6]
  unfold cols
  rw [if_pos l.isLt, col_of_lt w (by omega)]
  pointwise []

theorem lay7 (l : Fin 256) : layW w (ix2 k ⟨2688 + l.val, by omega⟩) = col w (cols 1680 256 l.val) k := by
  unfold layW
  rw [join7]
  unfold cols
  rw [if_pos l.isLt, col_of_lt w (by omega)]
  pointwise []

theorem lay8 (l : Fin 256) : layW w (ix2 k ⟨2944 + l.val, by omega⟩) = col w (cols 1936 256 l.val) k := by
  unfold layW
  rw [join8]
  unfold cols
  rw [if_pos l.isLt, col_of_lt w (by omega)]
  pointwise []

theorem lay9 (l : Fin 256) : layW w (ix2 k ⟨3200 + l.val, by omega⟩) = col w (tiled 2192 32 l.val) k := by
  unfold layW
  rw [join9]
  rw [rep32_at]
  unfold tiled
  rw [col_of_lt w (by omega)]
  pointwise []

theorem lay10 (l : Fin 128) : layW w (ix2 k ⟨3456 + l.val, by omega⟩) = col w (cols 2224 8 l.val) k := by
  unfold layW
  rw [join10]
  rw [fill8_at]
  unfold cols
  by_cases h : l.val < 8
  · rw [dif_pos h, if_pos h, col_of_lt w (by omega)]
    pointwise []
  · rw [dif_neg h, if_neg h, col_pad]

theorem lay11 (l : Fin 384) : layW w (ix2 k ⟨3584 + l.val, by omega⟩) = col w (cols 2232 384 l.val) k := by
  unfold layW
  rw [join11]
  unfold cols
  rw [if_pos l.isLt, col_of_lt w (by omega)]
  pointwise []

end Cert.Proj

end
-- ==== Proof.Proj.Blocks.lean ====
/- The blocks of each of the projection's grid points: 512 tokens, the gain, the modulation of the tokens' sequence, and the weights whole. -/
module

public import proofs.«01_k».proof.Proof.Proj.Host
public import proofs.«01_k».proof.Proof.Gen.ProjIdeal.Value

@[expose] public section

set_option maxRecDepth 16384

noncomputable section

namespace Cert.Proj

open Cert.ProjIdeal Cert.ProjIdeal.Gen Idealize.ShloMosaic Idealize.ShloMosaic.TcCoe Idealize.SL.Sem Cert.ProjSpec

variable {F : FTy → Type} [FloatOps F] (m : (ℓ : Loc nD τ sig) → Buf (Elt F) ℓ) (c : Dev nD) (t : Fin cfg0.N)

theorem t_lt : t.val < 64 := lt_of_lt_of_eq t.isLt N_0

/-- The token at a row of a grid point's block. -/
def rt (a : Fin 512) : Fin 32768 := ⟨512 * t.val + a.val, by have := t_lt t; omega⟩
/-- The sequence of a grid point. -/
def bt : Fin 4 := ⟨t.val / 16, by have := t_lt t; omega⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

theorem rd0 (X : Vec F S32768x1024 .f32) (a : Fin 512) (k : Fin 1024) :
    (((cfg0.win 0).blk t).view.read (Elt F) X : Vec F S512x1024 .f32) (ix2 a k) = X (ix2 (rt t a) k) := by
  obtain ⟨e0, e1⟩ := idx0 t
  rw [View.read_apply]
  refine congrArg X (funext fun i => Fin.ext ?_)
  match i with
  | ⟨0, _⟩ => show win0_0.index t 0 * 512 + 1 * a.val = 512 * t.val + a.val; rw [e0]; omega
  | ⟨1, _⟩ => show win0_0.index t 1 * 1024 + 1 * k.val = k.val; rw [e1]; omega

theorem rd1 (X : Vec F S1x1024 .f32) : (((cfg0.win 1).blk t).view.read (Elt F) X : Vec F S1x1024 .f32) = X := by
  obtain ⟨e0, e1⟩ := idx1 t
  funext j
  rw [View.read_apply]
  refine congrArg X (funext fun i => Fin.ext ?_)
  match i with
  | ⟨0, _⟩ => show win0_1.index t 0 * 1 + 1 * (j 0).val = (j 0).val; rw [e0]; omega
  | ⟨1, _⟩ => show win0_1.index t 1 * 1024 + 1 * (j 1).val = (j 1).val; rw [e1]; omega

theorem rd4 (X : Vec F S1024x3968 .bf16) : (((cfg0.win 4).blk t).view.read (Elt F) X : Vec F S1024x3968 .bf16) = X := by
  obtain ⟨e0, e1⟩ := idx4 t
  funext j
  rw [View.read_apply]
  refine congrArg X (funext fun i => Fin.ext ?_)
  match i with
  | ⟨0, _⟩ => show win0_4.index t 0 * 1024 + 1 * (j 0).val = (j 0).val; rw [e0]; omega
  | ⟨1, _⟩ => show win0_4.index t 1 * 3968 + 1 * (j 1).val = (j 1).val; rw [e1]; omega

theorem rd2 (X : Vec F S4x1x1024 .f32) (k : Fin 1024) :
    (((cfg0.win 2).blk t).view.read (Elt F) X : Vec F S1x1x1024 .f32) (ix3 0 0 k) = X (ix3 (bt t) 0 k) := by
  obtain ⟨e0, e1, e2⟩ := idx2 t
  rw [View.read_apply]
  refine congrArg X (funext fun i => Fin.ext ?_)
  match i with
  | ⟨0, _⟩ => show win0_2.index t 0 * 1 + 1 * 0 = t.val / 16; rw [e0]; omega
  | ⟨1, _⟩ => show win0_2.index t 1 * 1 + 1 * 0 = 0; rw [e1]
  | ⟨2, _⟩ => show win0_2.index t 2 * 1024 + 1 * k.val = k.val; rw [e2]; omega

theorem rd3 (X : Vec F S4x1x1024 .f32) (k : Fin 1024) :
    (((cfg0.win 3).blk t).view.read (Elt F) X : Vec F S1x1x1024 .f32) (ix3 0 0 k) = X (ix3 (bt t) 0 k) := by
  obtain ⟨e0, e1, e2⟩ := idx3 t
  rw [View.read_apply]
  refine congrArg X (funext fun i => Fin.ext ?_)
  match i with
  | ⟨0, _⟩ => show win0_3.index t 0 * 1 + 1 * 0 = t.val / 16; rw [e0]; omega
  | ⟨1, _⟩ => show win0_3.index t 1 * 1 + 1 * 0 = 0; rw [e1]
  | ⟨2, _⟩ => show win0_3.index t 2 * 1024 + 1 * k.val = k.val; rw [e2]; omega

theorem rd5 (X : Vec F S32768x512 .bf16) (a : Fin 512) (l : Fin 512) :
    (((cfg0.win 5).blk t).view.read (Elt F) X : Vec F S512x512 .bf16) (ix2 a l) = X (ix2 (rt t a) l) := by
  obtain ⟨e0, e1⟩ := idx5 t
  rw [View.read_apply]
  refine congrArg X (funext fun i => Fin.ext ?_)
  match i with
  | ⟨0, _⟩ => show win0_5.index t 0 * 512 + 1 * a.val = 512 * t.val + a.val; rw [e0]; omega
  | ⟨1, _⟩ => show win0_5.index t 1 * 512 + 1 * l.val = l.val; rw [e1]; omega

theorem rd6 (X : Vec F S32768x512 .bf16) (a : Fin 512) (l : Fin 512) :
    (((cfg0.win 6).blk t).view.read (Elt F) X : Vec F S512x512 .bf16) (ix2 a l) = X (ix2 (rt t a) l) := by
  obtain ⟨e0, e1⟩ := idx6 t
  rw [View.read_apply]
  refine congrArg X (funext fun i => Fin.ext ?_)
  match i with
  | ⟨0, _⟩ => show win0_6.index t 0 * 512 + 1 * a.val = 512 * t.val + a.val; rw [e0]; omega
  | ⟨1, _⟩ => show win0_6.index t 1 * 512 + 1 * l.val = l.val; rw [e1]; omega

theorem rd7 (X : Vec F S32768x512 .bf16) (a : Fin 512) (l : Fin 512) :
    (((cfg0.win 7).blk t).view.read (Elt F) X : Vec F S512x512 .bf16) (ix2 a l) = X (ix2 (rt t a) l) := by
  obtain ⟨e0, e1⟩ := idx7 t
  rw [View.read_apply]
  refine congrArg X (funext fun i => Fin.ext ?_)
  match i with
  | ⟨0, _⟩ => show win0_7.index t 0 * 512 + 1 * a.val = 512 * t.val + a.val; rw [e0]; omega
  | ⟨1, _⟩ => show win0_7.index t 1 * 512 + 1 * l.val = l.val; rw [e1]; omega

theorem rd8 (X : Vec F S32768x512 .bf16) (a : Fin 512) (l : Fin 512) :
    (((cfg0.win 8).blk t).view.read (Elt F) X : Vec F S512x512 .bf16) (ix2 a l) = X (ix2 (rt t a) l) := by
  obtain ⟨e0, e1⟩ := idx8 t
  rw [View.read_apply]
  refine congrArg X (funext fun i => Fin.ext ?_)
  match i with
  | ⟨0, _⟩ => show win0_8.index t 0 * 512 + 1 * a.val = 512 * t.val + a.val; rw [e0]; omega
  | ⟨1, _⟩ => show win0_8.index t 1 * 512 + 1 * l.val = l.val; rw [e1]; omega

theorem rd9 (X : Vec F S32768x128 .bf16) (a : Fin 512) (l : Fin 128) :
    (((cfg0.win 9).blk t).view.read (Elt F) X : Vec F S512x128 .bf16) (ix2 a l) = X (ix2 (rt t a) l) := by
  obtain ⟨e0, e1⟩ := idx9 t
  rw [View.read_apply]
  refine congrArg X (funext fun i => Fin.ext ?_)
  match i with
  | ⟨0, _⟩ => show win0_9.index t 0 * 512 + 1 * a.val = 512 * t.val + a.val; rw [e0]; omega
  | ⟨1, _⟩ => show win0_9.index t 1 * 128 + 1 * l.val = l.val; rw [e1]; omega

theorem rd10 (X : Vec F S32768x256 .bf16) (a : Fin 512) (l : Fin 256) :
    (((cfg0.win 10).blk t).view.read (Elt F) X : Vec F S512x256 .bf16) (ix2 a l) = X (ix2 (rt t a) l) := by
  obtain ⟨e0, e1⟩ := idx10 t
  rw [View.read_apply]
  refine congrArg X (funext fun i => Fin.ext ?_)
  match i with
  | ⟨0, _⟩ => show win0_10.index t 0 * 512 + 1 * a.val = 512 * t.val + a.val; rw [e0]; omega
  | ⟨1, _⟩ => show win0_10.index t 1 * 256 + 1 * l.val = l.val; rw [e1]; omega

theorem rd11 (X : Vec F S32768x256 .bf16) (a : Fin 512) (l : Fin 256) :
    (((cfg0.win 11).blk t).view.read (Elt F) X : Vec F S512x256 .bf16) (ix2 a l) = X (ix2 (rt t a) l) := by
  obtain ⟨e0, e1⟩ := idx11 t
  rw [View.read_apply]
  refine congrArg X (funext fun i => Fin.ext ?_)
  match i with
  | ⟨0, _⟩ => show win0_11.index t 0 * 512 + 1 * a.val = 512 * t.val + a.val; rw [e0]; omega
  | ⟨1, _⟩ => show win0_11.index t 1 * 256 + 1 * l.val = l.val; rw [e1]; omega

theorem rd12 (X : Vec F S32768x256 .bf16) (a : Fin 512) (l : Fin 256) :
    (((cfg0.win 12).blk t).view.read (Elt F) X : Vec F S512x256 .bf16) (ix2 a l) = X (ix2 (rt t a) l) := by
  obtain ⟨e0, e1⟩ := idx12 t
  rw [View.read_apply]
  refine congrArg X (funext fun i => Fin.ext ?_)
  match i with
  | ⟨0, _⟩ => show win0_12.index t 0 * 512 + 1 * a.val = 512 * t.val + a.val; rw [e0]; omega
  | ⟨1, _⟩ => show win0_12.index t 1 * 256 + 1 * l.val = l.val; rw [e1]; omega

theorem rd13 (X : Vec F S32768x256 .bf16) (a : Fin 512) (l : Fin 256) :
    (((cfg0.win 13).blk t).view.read (Elt F) X : Vec F S512x256 .bf16) (ix2 a l) = X (ix2 (rt t a) l) := by
  obtain ⟨e0, e1⟩ := idx13 t
  rw [View.read_apply]
  refine congrArg X (funext fun i => Fin.ext ?_)
  match i with
  | ⟨0, _⟩ => show win0_13.index t 0 * 512 + 1 * a.val = 512 * t.val + a.val; rw [e0]; omega
  | ⟨1, _⟩ => show win0_13.index t 1 * 256 + 1 * l.val = l.val; rw [e1]; omega

theorem rd14 (X : Vec F S32768x256 .bf16) (a : Fin 512) (l : Fin 256) :
    (((cfg0.win 14).blk t).view.read (Elt F) X : Vec F S512x256 .bf16) (ix2 a l) = X (ix2 (rt t a) l) := by
  obtain ⟨e0, e1⟩ := idx14 t
  rw [View.read_apply]
  refine congrArg X (funext fun i => Fin.ext ?_)
  match i with
  | ⟨0, _⟩ => show win0_14.index t 0 * 512 + 1 * a.val = 512 * t.val + a.val; rw [e0]; omega
  | ⟨1, _⟩ => show win0_14.index t 1 * 256 + 1 * l.val = l.val; rw [e1]; omega

theorem rd15 (X : Vec F S32768x128 .f32) (a : Fin 512) (l : Fin 128) :
    (((cfg0.win 15).blk t).view.read (Elt F) X : Vec F S512x128 .f32) (ix2 a l) = X (ix2 (rt t a) l) := by
  obtain ⟨e0, e1⟩ := idx15 t
  rw [View.read_apply]
  refine congrArg X (funext fun i => Fin.ext ?_)
  match i with
  | ⟨0, _⟩ => show win0_15.index t 0 * 512 + 1 * a.val = 512 * t.val + a.val; rw [e0]; omega
  | ⟨1, _⟩ => show win0_15.index t 1 * 128 + 1 * l.val = l.val; rw [e1]; omega

theorem rd16 (X : Vec F S32768x384 .f32) (a : Fin 512) (l : Fin 384) :
    (((cfg0.win 16).blk t).view.read (Elt F) X : Vec F S512x384 .f32) (ix2 a l) = X (ix2 (rt t a) l) := by
  obtain ⟨e0, e1⟩ := idx16 t
  rw [View.read_apply]
  refine congrArg X (funext fun i => Fin.ext ?_)
  match i with
  | ⟨0, _⟩ => show win0_16.index t 0 * 512 + 1 * a.val = 512 * t.val + a.val; rw [e0]; omega
  | ⟨1, _⟩ => show win0_16.index t 1 * 384 + 1 * l.val = l.val; rw [e1]; omega

theorem ib0 (X : Vec F S32768x1024 .f32) (hX : V m c main_arg0 = X) : iblk m c 0 t = ((cfg0.win 0).blk t).view.read (Elt F) X := by
  subst hX; rfl

theorem ib1 (X : Vec F S1x1024 .f32) (hX : V m c main_v31 = X) : iblk m c 1 t = ((cfg0.win 1).blk t).view.read (Elt F) X := by
  subst hX; rfl

theorem ib2 (X : Vec F S4x1x1024 .f32) (hX : V m c main_v32 = X) : iblk m c 2 t = ((cfg0.win 2).blk t).view.read (Elt F) X := by
  subst hX; rfl

theorem ib3 (X : Vec F S4x1x1024 .f32) (hX : V m c main_v33 = X) : iblk m c 3 t = ((cfg0.win 3).blk t).view.read (Elt F) X := by
  subst hX; rfl

theorem ib4 (X : Vec F S1024x3968 .bf16) (hX : V m c main_v30 = X) : iblk m c 4 t = ((cfg0.win 4).blk t).view.read (Elt F) X := by
  subst hX; rfl

end Cert.Proj

end
-- ==== Proof.Proj.Points.lean ====
/- The twelve arrays the projection's kernel leaves, read at an index. -/
module

public import proofs.«01_k».proof.Proof.Proj.Tile
public import proofs.«01_k».proof.Proof.Proj.Layout
public import proofs.«01_k».proof.Proof.Proj.Blocks

@[expose] public section

set_option maxRecDepth 16384

noncomputable section

namespace Cert.Proj

open Cert.ProjIdeal Cert.ProjIdeal.Gen Cert.ProjIdeal.Value Idealize.ShloMosaic Idealize.ShloMosaic.TcCoe Idealize.SL.Sem Cert.ProjSpec

section
variable (t : Fin cfg0.N) (x : Vec Ideal S32768x1024 .f32) (g : Vec Ideal S1024 .f32) (sc sh : Vec Ideal S4x1024 .f32)

/-- A block's normalised input is the input's, at its tokens. -/
theorem hB_blk (a : Fin 512) (k : Fin 1024) :
    hB (((cfg0.win 0).blk t).view.read (Elt Ideal) x : Vec Ideal S512x1024 .f32)
      (((cfg0.win 1).blk t).view.read (Elt Ideal) (shapeCast S1x1024 g shapeCasts_S1024_S1x1024 : Vec Ideal S1x1024 .f32) : Vec Ideal S1x1024 .f32)
      (((cfg0.win 2).blk t).view.read (Elt Ideal) (broadcastInDim S4x1x1024 ![0, 2] bcast_S4x1024_S4x1x1024_0_2 sc : Vec Ideal S4x1x1024 .f32) : Vec Ideal S1x1x1024 .f32)
      (((cfg0.win 3).blk t).view.read (Elt Ideal) (broadcastInDim S4x1x1024 ![0, 2] bcast_S4x1024_S4x1x1024_0_2 sh : Vec Ideal S4x1x1024 .f32) : Vec Ideal S1x1x1024 .f32) a k
      = H x g sc sh (rt t a) k := by
  have eg : (shapeCast S1x1024 g shapeCasts_S1024_S1x1024 : Vec Ideal S1x1024 .f32) (ix2 0 k) = g (ix1 k) := by pointwise []
  have es : ∀ y : Vec Ideal S4x1024 .f32, (broadcastInDim S4x1x1024 ![0, 2] bcast_S4x1024_S4x1x1024_0_2 y : Vec Ideal S4x1x1024 .f32) (ix3 (bt t) 0 k)
      = y (ix2 ⟨(rt t a).val / 8192, by omega⟩ k) := fun y => by
    have e : (⟨(rt t a).val / 8192, by omega⟩ : Fin 4) = bt t := Fin.ext (by show (512 * t.val + a.val) / 8192 = t.val / 16; omega)
    rw [e]
    pointwise []
  unfold hB H
  have hs := Finset.sum_congr rfl fun (j : Fin 1024) (_ : j ∈ Finset.univ) => congrArg₂ (fun p q : EReal => p * q) (rd0 t x a j) (rd0 t x a j)
  exact congr (congr (congr (congr (congrArg nrm (rd0 t x a k)) hs) ((congrFun (rd1 t _) (ix2 0 k)).trans eg)) ((rd2 t _ k).trans (es sc))) ((rd3 t _ k).trans (es sh))
end

variable (m : (ℓ : Loc nD τ sig) → Buf (Elt Ideal) ℓ) (c : Dev nD)

/-- One entry of the projection, of the arguments in a memory. -/
def outK (t : Fin 32768) (o : ℕ) : EReal :=
  out (m (c, Proc.devRef .tc main_arg0)) (m (c, Proc.devRef .tc main_arg1)) (m (c, Proc.devRef .tc main_arg2)) (m (c, Proc.devRef .tc main_arg3))
    (m (c, Proc.devRef .tc main_arg4)) t o

/-- A row of a grid point's blocks, times a column of its weights. -/
theorem row_col (t : Fin cfg0.N) (a : Fin 512) (j : Fin 3968) (o : ℕ)
    (hj : ∀ k, layW (F := Ideal) (m (c, Proc.devRef .tc main_arg4)) (ix2 k j) = col (m (c, Proc.devRef .tc main_arg4)) o k) :
    (∑ k : Fin 1024, hB (iblk m c 0 t) (iblk m c 1 t) (iblk m c 2 t) (iblk m c 3 t) a k * (iblk m c 4 t : Vec Ideal S1024x3968 .bf16) (ix2 k j))
      = outK m c (rt t a) o := by
  rw [ib0 m c t _ (V_main_arg0 m c), ib1 m c t _ (V_v31 m c), ib2 m c t _ (V_v32 m c), ib3 m c t _ (V_v33 m c), ib4 m c t _ (V_v30 m c)]
  unfold outK out
  refine Finset.sum_congr rfl fun k _ => ?_
  rw [hB_blk, rd4, hj]

/-- The point a token belongs to, and its row in the point's block. -/
def ptOf (t : Fin 32768) : Fin cfg0.N := ⟨t.val / 512, lt_of_lt_of_eq (by omega) N_0.symm⟩
def rowOf (t : Fin 32768) : Fin 512 := ⟨t.val % 512, Nat.mod_lt _ (by decide)⟩
theorem rt_of (t : Fin 32768) : rt (ptOf t) (rowOf t) = t := Fin.ext (by show 512 * (t.val / 512) + t.val % 512 = t.val; omega)

theorem res5 (t : Fin 32768) (l : Fin 512) : ((dats m 0 c).arrAt 5 cfg0.N : Vec Ideal S32768x512 .bf16) (ix2 t l) = outK m c t (heads 0 48 l.val) := by
  have hb := blocks5 m c (ptOf t) (flush0_5 (ptOf t))
  rw [flushed5] at hb
  generalize (dats m 0 c).arrAt 5 cfg0.N = A at hb ⊢
  have h := (rd5 (ptOf t) A (rowOf t) l).symm.trans (congrFun hb (ix2 (rowOf t) l))
  rw [rt_of] at h
  refine h.trans ((tile5 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨0 + l.val, by omega⟩ (heads 0 48 l.val) (fun k => lay0 _ k l), rt_of]

theorem res6 (t : Fin 32768) (l : Fin 512) : ((dats m 0 c).arrAt 6 cfg0.N : Vec Ideal S32768x512 .bf16) (ix2 t l) = outK m c t (heads 192 48 l.val) := by
  have hb := blocks6 m c (ptOf t) (flush0_6 (ptOf t))
  rw [flushed6] at hb
  generalize (dats m 0 c).arrAt 6 cfg0.N = A at hb ⊢
  have h := (rd6 (ptOf t) A (rowOf t) l).symm.trans (congrFun hb (ix2 (rowOf t) l))
  rw [rt_of] at h
  refine h.trans ((tile6 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨512 + l.val, by omega⟩ (heads 192 48 l.val) (fun k => lay1 _ k l), rt_of]

theorem res7 (t : Fin 32768) (l : Fin 512) : ((dats m 0 c).arrAt 7 cfg0.N : Vec Ideal S32768x512 .bf16) (ix2 t l) = outK m c t (heads 384 96 l.val) := by
  have hb := blocks7 m c (ptOf t) (flush0_7 (ptOf t))
  rw [flushed7] at hb
  generalize (dats m 0 c).arrAt 7 cfg0.N = A at hb ⊢
  have h := (rd7 (ptOf t) A (rowOf t) l).symm.trans (congrFun hb (ix2 (rowOf t) l))
  rw [rt_of] at h
  refine h.trans ((tile7 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨1024 + l.val, by omega⟩ (heads 384 96 l.val) (fun k => lay2 _ k l), rt_of]

theorem res8 (t : Fin 32768) (l : Fin 512) : ((dats m 0 c).arrAt 8 cfg0.N : Vec Ideal S32768x512 .bf16) (ix2 t l) = outK m c t (heads 784 96 l.val) := by
  have hb := blocks8 m c (ptOf t) (flush0_8 (ptOf t))
  rw [flushed8] at hb
  generalize (dats m 0 c).arrAt 8 cfg0.N = A at hb ⊢
  have h := (rd8 (ptOf t) A (rowOf t) l).symm.trans (congrFun hb (ix2 (rowOf t) l))
  rw [rt_of] at h
  refine h.trans ((tile8 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨1536 + l.val, by omega⟩ (heads 784 96 l.val) (fun k => lay3 _ k l), rt_of]

theorem res9 (t : Fin 32768) (l : Fin 128) : ((dats m 0 c).arrAt 9 cfg0.N : Vec Ideal S32768x128 .bf16) (ix2 t l) = outK m c t (cols 768 16 l.val) := by
  have hb := blocks9 m c (ptOf t) (flush0_9 (ptOf t))
  rw [flushed9] at hb
  generalize (dats m 0 c).arrAt 9 cfg0.N = A at hb ⊢
  have h := (rd9 (ptOf t) A (rowOf t) l).symm.trans (congrFun hb (ix2 (rowOf t) l))
  rw [rt_of] at h
  refine h.trans ((tile9 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨2048 + l.val, by omega⟩ (cols 768 16 l.val) (fun k => lay4 _ k l), rt_of]

theorem res10 (t : Fin 32768) (l : Fin 256) : ((dats m 0 c).arrAt 10 cfg0.N : Vec Ideal S32768x256 .bf16) (ix2 t l) = outK m c t (cols 1168 256 l.val) := by
  have hb := blocks10 m c (ptOf t) (flush0_10 (ptOf t))
  rw [flushed10] at hb
  generalize (dats m 0 c).arrAt 10 cfg0.N = A at hb ⊢
  have h := (rd10 (ptOf t) A (rowOf t) l).symm.trans (congrFun hb (ix2 (rowOf t) l))
  rw [rt_of] at h
  refine h.trans ((tile10 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨2176 + l.val, by omega⟩ (cols 1168 256 l.val) (fun k => lay5 _ k l), rt_of]

theorem res11 (t : Fin 32768) (l : Fin 256) : ((dats m 0 c).arrAt 11 cfg0.N : Vec Ideal S32768x256 .bf16) (ix2 t l) = outK m c t (cols 1424 256 l.val) := by
  have hb := blocks11 m c (ptOf t) (flush0_11 (ptOf t))
  rw [flushed11] at hb
  generalize (dats m 0 c).arrAt 11 cfg0.N = A at hb ⊢
  have h := (rd11 (ptOf t) A (rowOf t) l).symm.trans (congrFun hb (ix2 (rowOf t) l))
  rw [rt_of] at h
  refine h.trans ((tile11 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨2432 + l.val, by omega⟩ (cols 1424 256 l.val) (fun k => lay6 _ k l), rt_of]

theorem res12 (t : Fin 32768) (l : Fin 256) : ((dats m 0 c).arrAt 12 cfg0.N : Vec Ideal S32768x256 .bf16) (ix2 t l) = outK m c t (cols 1680 256 l.val) := by
  have hb := blocks12 m c (ptOf t) (flush0_12 (ptOf t))
  rw [flushed12] at hb
  generalize (dats m 0 c).arrAt 12 cfg0.N = A at hb ⊢
  have h := (rd12 (ptOf t) A (rowOf t) l).symm.trans (congrFun hb (ix2 (rowOf t) l))
  rw [rt_of] at h
  refine h.trans ((tile12 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨2688 + l.val, by omega⟩ (cols 1680 256 l.val) (fun k => lay7 _ k l), rt_of]

theorem res13 (t : Fin 32768) (l : Fin 256) : ((dats m 0 c).arrAt 13 cfg0.N : Vec Ideal S32768x256 .bf16) (ix2 t l) = outK m c t (cols 1936 256 l.val) := by
  have hb := blocks13 m c (ptOf t) (flush0_13 (ptOf t))
  rw [flushed13] at hb
  generalize (dats m 0 c).arrAt 13 cfg0.N = A at hb ⊢
  have h := (rd13 (ptOf t) A (rowOf t) l).symm.trans (congrFun hb (ix2 (rowOf t) l))
  rw [rt_of] at h
  refine h.trans ((tile13 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨2944 + l.val, by omega⟩ (cols 1936 256 l.val) (fun k => lay8 _ k l), rt_of]

theorem res14 (t : Fin 32768) (l : Fin 256) : ((dats m 0 c).arrAt 14 cfg0.N : Vec Ideal S32768x256 .bf16) (ix2 t l) = outK m c t (tiled 2192 32 l.val) := by
  have hb := blocks14 m c (ptOf t) (flush0_14 (ptOf t))
  rw [flushed14] at hb
  generalize (dats m 0 c).arrAt 14 cfg0.N = A at hb ⊢
  have h := (rd14 (ptOf t) A (rowOf t) l).symm.trans (congrFun hb (ix2 (rowOf t) l))
  rw [rt_of] at h
  refine h.trans ((tile14 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨3200 + l.val, by omega⟩ (tiled 2192 32 l.val) (fun k => lay9 _ k l), rt_of]

theorem res15 (t : Fin 32768) (l : Fin 128) : ((dats m 0 c).arrAt 15 cfg0.N : Vec Ideal S32768x128 .f32) (ix2 t l) = outK m c t (cols 2224 8 l.val) := by
  have hb := blocks15 m c (ptOf t) (flush0_15 (ptOf t))
  rw [flushed15] at hb
  generalize (dats m 0 c).arrAt 15 cfg0.N = A at hb ⊢
  have h := (rd15 (ptOf t) A (rowOf t) l).symm.trans (congrFun hb (ix2 (rowOf t) l))
  rw [rt_of] at h
  refine h.trans ((tile15 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨3456 + l.val, by omega⟩ (cols 2224 8 l.val) (fun k => lay10 _ k l), rt_of]

theorem res16 (t : Fin 32768) (l : Fin 384) : ((dats m 0 c).arrAt 16 cfg0.N : Vec Ideal S32768x384 .f32) (ix2 t l) = outK m c t (cols 2232 384 l.val) := by
  have hb := blocks16 m c (ptOf t) (flush0_16 (ptOf t))
  rw [flushed16] at hb
  generalize (dats m 0 c).arrAt 16 cfg0.N = A at hb ⊢
  have h := (rd16 (ptOf t) A (rowOf t) l).symm.trans (congrFun hb (ix2 (rowOf t) l))
  rw [rt_of] at h
  refine h.trans ((tile16 (iblk m c 0 (ptOf t)) (iblk m c 1 (ptOf t)) (iblk m c 2 (ptOf t)) (iblk m c 3 (ptOf t)) (iblk m c 4 (ptOf t)) (rowOf t) l).trans ?_)
  rw [row_col m c (ptOf t) (rowOf t) ⟨3584 + l.val, by omega⟩ (cols 2232 384 l.val) (fun k => lay11 _ k l), rt_of]

end Cert.Proj

end
-- ==== Proof.ProjRef.Result.lean ====
/- The reference of the input projection, read at an index. -/
module

public import proofs.«01_k».proof.Proof.Proj.Spec
public import proofs.«01_k».proof.Proof.Gla.Law
public import proofs.«01_k».proof.Proof.Gen.ProjReferenceIdeal.Run
public import Idealize.ShloMosaic.Lib.Pointwise

@[expose] public section

set_option maxRecDepth 16384

noncomputable section

namespace Cert.ProjRef

open Cert.ProjReferenceIdeal Cert.ProjReferenceIdeal.Gen Cert.ProjReferenceIdeal.Value Idealize.ShloMosaic Idealize.ShloMosaic.TcCoe Idealize.SL.Sem Cert.ProjSpec

/-- The input normalised, scaled and shifted. -/
def hR (x : FVec Ideal S32768x1024 .f32) (g : FVec Ideal S1024 .f32) (sc sh : FVec Ideal S4x1024 .f32) : FVec Ideal S4x8192x1024 .f32 :=
  addf (mulf (mulf (mulf (shapeCast _ x shapeCasts_S32768x1024_S4x8192x1024) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (shapeCast _ x shapeCasts_S32768x1024_S4x8192x1024) (shapeCast _ x shapeCasts_S32768x1024_S4x8192x1024)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x8192x1024 ![0, 1, 2] bcast_S4x1x1024_S4x8192x1024_0_1_2 (broadcastInDim S4x1x1024 ![0, 2] bcast_S4x1024_S4x1x1024_0_2 sh))

/-- The projection. -/
def pR (h : FVec Ideal S4x8192x1024 .f32) (w : FVec Ideal S1024x2616 .f32) : FVec Ideal S4x8192x2616 .f32 :=
  Host.dotGeneral dot_S4x8192x1024_S1024x2616_S4x8192x2616_2_0_01_1_n_n none h w

/-- The twelve results, from the projection: its parts laid out for the mixers. -/
def r0 (P : FVec Ideal S4x8192x2616 .f32) : FVec Ideal S32768x512 .bf16 :=
  truncf .bf16 (shapeCast _ (pad S4x8192x4x128 ![0, 0, 0, 0] ![0, 0, 0, 80] ![0, 0, 0, 0] (shapeCast _ (extractStridedSlice S4x8192x192 ![0, 0, 0] P slices_S4x8192x2616_S4x8192x192_0_0_0) shapeCasts_S4x8192x192_S4x8192x4x48) (sitofp .f32 (constantI S_ 32 0#32)) pads_S4x8192x4x48_S4x8192x4x128_000_000_000_0800 h_S_) shapeCasts_S4x8192x4x128_S32768x512) bitsLt_bf16_f32

def r1 (P : FVec Ideal S4x8192x2616 .f32) : FVec Ideal S32768x512 .bf16 :=
  truncf .bf16 (shapeCast _ (pad S4x8192x4x128 ![0, 0, 0, 0] ![0, 0, 0, 80] ![0, 0, 0, 0] (shapeCast _ (extractStridedSlice S4x8192x192 ![0, 0, 192] P slices_S4x8192x2616_S4x8192x192_0_0_192) shapeCasts_S4x8192x192_S4x8192x4x48) (sitofp .f32 (constantI S_ 32 0#32)) pads_S4x8192x4x48_S4x8192x4x128_000_000_000_0800 h_S_) shapeCasts_S4x8192x4x128_S32768x512) bitsLt_bf16_f32

def r2 (P : FVec Ideal S4x8192x2616 .f32) : FVec Ideal S32768x512 .bf16 :=
  truncf .bf16 (shapeCast _ (pad S4x8192x4x128 ![0, 0, 0, 0] ![0, 0, 0, 32] ![0, 0, 0, 0] (shapeCast _ (extractStridedSlice S4x8192x384 ![0, 0, 384] P slices_S4x8192x2616_S4x8192x384_0_0_384) shapeCasts_S4x8192x384_S4x8192x4x96) (sitofp .f32 (constantI S_ 32 0#32)) pads_S4x8192x4x96_S4x8192x4x128_000_000_000_0320 h_S_) shapeCasts_S4x8192x4x128_S32768x512) bitsLt_bf16_f32

def r3 (P : FVec Ideal S4x8192x2616 .f32) : FVec Ideal S32768x512 .bf16 :=
  truncf .bf16 (shapeCast _ (pad S4x8192x4x128 ![0, 0, 0, 0] ![0, 0, 0, 32] ![0, 0, 0, 0] (shapeCast _ (extractStridedSlice S4x8192x384 ![0, 0, 784] P slices_S4x8192x2616_S4x8192x384_0_0_784) shapeCasts_S4x8192x384_S4x8192x4x96) (sitofp .f32 (constantI S_ 32 0#32)) pads_S4x8192x4x96_S4x8192x4x128_000_000_000_0320 h_S_) shapeCasts_S4x8192x4x128_S32768x512) bitsLt_bf16_f32

def r4 (P : FVec Ideal S4x8192x2616 .f32) : FVec Ideal S32768x128 .bf16 :=
  truncf .bf16 (shapeCast _ (pad S4x8192x128 ![0, 0, 0] ![0, 0, 112] ![0, 0, 0] (extractStridedSlice S4x8192x16 ![0, 0, 768] P slices_S4x8192x2616_S4x8192x16_0_0_768) (sitofp .f32 (constantI S_ 32 0#32)) pads_S4x8192x16_S4x8192x128_000_000_01120 h_S_) shapeCasts_S4x8192x128_S32768x128) bitsLt_bf16_f32

def r5 (P : FVec Ideal S4x8192x2616 .f32) : FVec Ideal S32768x256 .bf16 :=
  truncf .bf16 (shapeCast _ (extractStridedSlice S4x8192x256 ![0, 0, 1168] P slices_S4x8192x2616_S4x8192x256_0_0_1168) shapeCasts_S4x8192x256_S32768x256) bitsLt_bf16_f32

def r6 (P : FVec Ideal S4x8192x2616 .f32) : FVec Ideal S32768x256 .bf16 :=
  truncf .bf16 (shapeCast _ (extractStridedSlice S4x8192x256 ![0, 0, 1424] P slices_S4x8192x2616_S4x8192x256_0_0_1424) shapeCasts_S4x8192x256_S32768x256) bitsLt_bf16_f32

def r7 (P : FVec Ideal S4x8192x2616 .f32) : FVec Ideal S32768x256 .bf16 :=
  truncf .bf16 (shapeCast _ (extractStridedSlice S4x8192x256 ![0, 0, 1680] P slices_S4x8192x2616_S4x8192x256_0_0_1680) shapeCasts_S4x8192x256_S32768x256) bitsLt_bf16_f32

def r8 (P : FVec Ideal S4x8192x2616 .f32) : FVec Ideal S32768x256 .bf16 :=
  truncf .bf16 (shapeCast _ (extractStridedSlice S4x8192x256 ![0, 0, 1936] P slices_S4x8192x2616_S4x8192x256_0_0_1936) shapeCasts_S4x8192x256_S32768x256) bitsLt_bf16_f32

def r9 (P : FVec Ideal S4x8192x2616 .f32) : FVec Ideal S32768x256 .bf16 :=
  truncf .bf16 (shapeCast _ (shapeCast _ (broadcastInDim S1x4x1x8192x8x32 ![0, 1, 2, 3, 4, 5] bcast_S1x4x1x8192x1x32_S1x4x1x8192x8x32_0_1_2_3_4_5 (shapeCast _ (extractStridedSlice S4x8192x32 ![0, 0, 2192] P slices_S4x8192x2616_S4x8192x32_0_0_2192) shapeCasts_S4x8192x32_S1x4x1x8192x1x32)) shapeCasts_S1x4x1x8192x8x32_S4x8192x256) shapeCasts_S4x8192x256_S32768x256) bitsLt_bf16_f32

def r10 (P : FVec Ideal S4x8192x2616 .f32) : FVec Ideal S32768x128 .f32 :=
  shapeCast _ (pad S4x8192x128 ![0, 0, 0] ![0, 0, 120] ![0, 0, 0] (extractStridedSlice S4x8192x8 ![0, 0, 2224] P slices_S4x8192x2616_S4x8192x8_0_0_2224) (sitofp .f32 (constantI S_ 32 0#32)) pads_S4x8192x8_S4x8192x128_000_000_01200 h_S_) shapeCasts_S4x8192x128_S32768x128

def r11 (P : FVec Ideal S4x8192x2616 .f32) : FVec Ideal S32768x384 .f32 :=
  shapeCast _ (extractStridedSlice S4x8192x384 ![0, 0, 2232] P slices_S4x8192x2616_S4x8192x384_0_0_2232) shapeCasts_S4x8192x384_S32768x384

theorem bits_width : Ideal.ofBits .f32 0x44800000#32 = ((1024 : ℝ) : EReal) := by
  simp [Ideal.ofBits, Ideal.ieee, -EReal.coe_mul]
  norm_num

theorem zero_word : (FloatOps.sitofp (F := Ideal) .f32 0#32 : EReal) = 0 := by
  show (((0#32).toInt : ℝ) : EReal) = 0
  simp

/-- The batch and the place a token has. -/
def bat (t : Fin 32768) : Fin 4 := ⟨t.val / 8192, by omega⟩
def pla (t : Fin 32768) : Fin 8192 := ⟨t.val % 8192, by omega⟩

theorem hR_at (x : FVec Ideal S32768x1024 .f32) (g : FVec Ideal S1024 .f32) (sc sh : FVec Ideal S4x1024 .f32) (t : Fin 32768) (k : Fin 1024) :
    hR x g sc sh (ix3 (bat t) (pla t) k) = H x g sc sh t k := by
  have ht : ∀ h, (⟨(bat t).val * 8192 + (pla t).val, h⟩ : Fin 32768) = t := fun h => Fin.ext (by show t.val / 8192 * 8192 + t.val % 8192 = t.val; omega)
  unfold H nrm
  pointwise [hR]
  rw [bits_width, Gla.div_real _ _ (by norm_num)]
  simp only [ht]
  rfl

theorem pR_at (h : FVec Ideal S4x8192x1024 .f32) (w : FVec Ideal S1024x2616 .f32) (b : Fin 4) (p : Fin 8192) (o : Fin 2616) :
    pR h w (ix3 b p o) = ∑ k : Fin 1024, h (ix3 b p k) * w (ix2 k o) := by
  pointwise [pR]

/-- An entry of the projection by the column's number; past the last column, zero. -/
def ent (P : FVec Ideal S4x8192x2616 .f32) (t : Fin 32768) (o : ℕ) : EReal := if h : o < 2616 then P (ix3 (bat t) (pla t) ⟨o, h⟩) else 0

theorem ent_eq (x : FVec Ideal S32768x1024 .f32) (g : FVec Ideal S1024 .f32) (sc sh : FVec Ideal S4x1024 .f32) (w : FVec Ideal S1024x2616 .f32)
    (t : Fin 32768) (o : ℕ) : ent (pR (hR x g sc sh) w) t o = out x g sc sh w t o := by
  unfold ent out
  by_cases h : o < 2616
  · rw [dif_pos h, pR_at]
    refine Finset.sum_congr rfl fun k _ => ?_
    rw [hR_at, col_of_lt w h]
  · rw [dif_neg h]
    refine (Finset.sum_eq_zero fun k _ => ?_).symm
    unfold col
    rw [dif_neg h, mul_zero]

variable (P : FVec Ideal S4x8192x2616 .f32) (t : Fin 32768)

theorem ent_pos {o : ℕ} (h : o < 2616) : ent P t o = P (ix3 (bat t) (pla t) ⟨o, h⟩) := dif_pos h
theorem ent_pad : ent P t 2616 = 0 := dif_neg (by omega)

/-- Two places of the projection with the same coordinates. -/
theorem same {a : Fin 4} {b : Fin 8192} {o o' : Fin 2616} (ha : a.val = t.val / 8192) (hb : b.val = t.val % 8192) (ho : o.val = o'.val) :
    P (ix3 a b o) = P (ix3 (bat t) (pla t) o') := by
  rw [show a = bat t from Fin.ext ha, show b = pla t from Fin.ext hb, Fin.ext ho]

theorem r0_at (l : Fin 512) : r0 P (ix2 t l) = ent P t (heads 0 48 l.val) := by
  unfold heads
  by_cases h : l.val % 128 < 48
  · rw [if_pos h, ent_pos P t (by omega)]
    pointwise [r0]
    rw [dif_pos (by omega)]
    exact same P t (by simp only [] <;> omega) (by simp only [] <;> omega) (by simp only [] <;> omega)
  · rw [if_neg h, ent_pad]
    pointwise [r0]
    rw [dif_neg (by omega), zero_word]

theorem r1_at (l : Fin 512) : r1 P (ix2 t l) = ent P t (heads 192 48 l.val) := by
  unfold heads
  by_cases h : l.val % 128 < 48
  · rw [if_pos h, ent_pos P t (by omega)]
    pointwise [r1]
    rw [dif_pos (by omega)]
    exact same P t (by simp only [] <;> omega) (by simp only [] <;> omega) (by simp only [] <;> omega)
  · rw [if_neg h, ent_pad]
    pointwise [r1]
    rw [dif_neg (by omega), zero_word]

theorem r2_at (l : Fin 512) : r2 P (ix2 t l) = ent P t (heads 384 96 l.val) := by
  unfold heads
  by_cases h : l.val % 128 < 96
  · rw [if_pos h, ent_pos P t (by omega)]
    pointwise [r2]
    rw [dif_pos (by omega)]
    exact same P t (by simp only [] <;> omega) (by simp only [] <;> omega) (by simp only [] <;> omega)
  · rw [if_neg h, ent_pad]
    pointwise [r2]
    rw [dif_neg (by omega), zero_word]

theorem r3_at (l : Fin 512) : r3 P (ix2 t l) = ent P t (heads 784 96 l.val) := by
  unfold heads
  by_cases h : l.val % 128 < 96
  · rw [if_pos h, ent_pos P t (by omega)]
    pointwise [r3]
    rw [dif_pos (by omega)]
    exact same P t (by simp only [] <;> omega) (by simp only [] <;> omega) (by simp only [] <;> omega)
  · rw [if_neg h, ent_pad]
    pointwise [r3]
    rw [dif_neg (by omega), zero_word]

theorem r4_at (l : Fin 128) : r4 P (ix2 t l) = ent P t (cols 768 16 l.val) := by
  unfold cols
  by_cases h : l.val < 16
  · rw [if_pos h, ent_pos P t (by omega)]
    pointwise [r4]
    rw [dif_pos (by omega)]
    exact same P t (by simp only [] <;> omega) (by simp only [] <;> omega) (by simp only [] <;> omega)
  · rw [if_neg h, ent_pad]
    pointwise [r4]
    rw [dif_neg (by omega), zero_word]

theorem r5_at (l : Fin 256) : r5 P (ix2 t l) = ent P t (cols 1168 256 l.val) := by
  unfold cols
  rw [if_pos l.isLt, ent_pos P t (by omega)]
  pointwise [r5]
  exact same P t (by simp only [] <;> omega) (by simp only [] <;> omega) (by simp only [] <;> omega)

theorem r6_at (l : Fin 256) : r6 P (ix2 t l) = ent P t (cols 1424 256 l.val) := by
  unfold cols
  rw [if_pos l.isLt, ent_pos P t (by omega)]
  pointwise [r6]
  exact same P t (by simp only [] <;> omega) (by simp only [] <;> omega) (by simp only [] <;> omega)

theorem r7_at (l : Fin 256) : r7 P (ix2 t l) = ent P t (cols 1680 256 l.val) := by
  unfold cols
  rw [if_pos l.isLt, ent_pos P t (by omega)]
  pointwise [r7]
  exact same P t (by simp only [] <;> omega) (by simp only [] <;> omega) (by simp only [] <;> omega)

theorem r8_at (l : Fin 256) : r8 P (ix2 t l) = ent P t (cols 1936 256 l.val) := by
  unfold cols
  rw [if_pos l.isLt, ent_pos P t (by omega)]
  pointwise [r8]
  exact same P t (by simp only [] <;> omega) (by simp only [] <;> omega) (by simp only [] <;> omega)

theorem r9_at (l : Fin 256) : r9 P (ix2 t l) = ent P t (tiled 2192 32 l.val) := by
  unfold tiled
  rw [ent_pos P t (by omega)]
  pointwise [r9]
  exact same P t (by simp only [] <;> omega) (by simp only [] <;> omega) (by simp only [] <;> omega)

theorem r10_at (l : Fin 128) : r10 P (ix2 t l) = ent P t (cols 2224 8 l.val) := by
  unfold cols
  by_cases h : l.val < 8
  · rw [if_pos h, ent_pos P t (by omega)]
    pointwise [r10]
    rw [dif_pos (by omega)]
    exact same P t (by simp only [] <;> omega) (by simp only [] <;> omega) (by simp only [] <;> omega)
  · rw [if_neg h, ent_pad]
    pointwise [r10]
    rw [dif_neg (by omega), zero_word]

theorem r11_at (l : Fin 384) : r11 P (ix2 t l) = ent P t (cols 2232 384 l.val) := by
  unfold cols
  rw [if_pos l.isLt, ent_pos P t (by omega)]
  pointwise [r11]
  exact same P t (by simp only [] <;> omega) (by simp only [] <;> omega) (by simp only [] <;> omega)

end Cert.ProjRef

end
-- ==== Proof.ProjClaims.Claims.lean ====
/- The input projection's claims: what the kernel and the reference leave are the same twelve arrays. -/
module

public import proofs.«01_k».proof.Defs
public import proofs.«01_k».proof.Proof.Gen.Proj.Frame
public import proofs.«01_k».proof.Proof.Proj.Points
public import proofs.«01_k».proof.Proof.ProjRef.Result
public import Idealize.ShloMosaic.Lib.Quiescent

@[expose] public section

noncomputable section

namespace Cert.ProjClaims

open Idealize.ShloMosaic Idealize.SL.Sem Idealize.ShloMosaic.TcCoe
open Cert.Proj Cert.ProjRef Cert.ProjSpec

/-- Two arrays whose entries are all the projection's entries at a token and a column are one array. -/
theorem arrays_eq {n : ℕ} (f : Fin 32768 → ℕ → EReal) (src : ℕ → ℕ) (X Y : (⟨2, ![32768, n]⟩ : Shape).Idx → EReal)
    (hX : ∀ t l, X (ix2 t l) = f t (src l.val)) (hY : ∀ t l, Y (ix2 t l) = f t (src l.val)) : X = Y := by
  funext i
  have e : i = ix2 (⟨(i 0).val, (i 0).isLt⟩ : Fin 32768) (⟨(i 1).val, (i 1).isLt⟩ : Fin n) := by
    funext a
    match a with
    | ⟨0, _⟩ => rfl
    | ⟨1, _⟩ => rfl
  rw [e, hX, hY]

theorem frame_p : Cert.quiescent_Proj := fun m ρ _ => Cert.Proj.Gen.frame m ρ

theorem frame_pi : Cert.quiescent_ProjIdeal := fun m ρ _ => Cert.ProjIdeal.Gen.frame m ρ

theorem frame_ri : Cert.quiescent_ProjReferenceIdeal := fun m ρ _ =>
  (θ_run Cert.ProjReferenceIdeal.defs _ _).mono (fun r h => ⟨fun c => (h c).2.2.2.2.2.2.2.2.2.2.2.2, sem_eq_zero_of_no_sems (by decide) r.2⟩)
    (Cert.ProjReferenceIdeal.Value.run m ρ)

theorem preserves : Cert.preserves_Proj_ProjIdeal := trivial

section
variable (m : (ℓ : Loc Cert.ProjIdeal.nD Cert.ProjIdeal.τ Cert.ProjIdeal.sig) → Buf (Elt Ideal) ℓ)
  (m' : (ℓ : Loc Cert.ProjReferenceIdeal.nD Cert.ProjReferenceIdeal.τ Cert.ProjReferenceIdeal.sig) → Buf (Elt Ideal) ℓ) (c : Dev Cert.ProjIdeal.nD)

/-- The reference's projection, of the arguments in a memory. -/
def projR : FVec Ideal Cert.ProjReferenceIdeal.S4x8192x2616 .f32 :=
  pR (hR (m' ((c.tc : Thread Cert.ProjReferenceIdeal.nD Cert.ProjReferenceIdeal.τ).loc Cert.ProjReferenceIdeal.main_arg0))
      (m' ((c.tc : Thread Cert.ProjReferenceIdeal.nD Cert.ProjReferenceIdeal.τ).loc Cert.ProjReferenceIdeal.main_arg1))
      (m' ((c.tc : Thread Cert.ProjReferenceIdeal.nD Cert.ProjReferenceIdeal.τ).loc Cert.ProjReferenceIdeal.main_arg2))
      (m' ((c.tc : Thread Cert.ProjReferenceIdeal.nD Cert.ProjReferenceIdeal.τ).loc Cert.ProjReferenceIdeal.main_arg3)))
    (m' ((c.tc : Thread Cert.ProjReferenceIdeal.nD Cert.ProjReferenceIdeal.τ).loc Cert.ProjReferenceIdeal.main_arg4))

/-- The two memories hold the same arguments. -/
def Agree : Prop :=
  m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
  ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
  ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
  ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
  ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)

variable (h : Agree m m' c)
include h

theorem entry (t : Fin 32768) (o : ℕ) : ent (projR m' c) t o = outK m c t o := by
  obtain ⟨h0, h1, h2, h3, h4⟩ := h
  unfold projR
  rw [ent_eq, h0, h1, h2, h3, h4]
  rfl

theorem eq0 : r0 (projR m' c) = (Cert.ProjIdeal.Gen.dats m 0 c).arrAt 5 Cert.ProjIdeal.cfg0.N :=
  arrays_eq (outK m c) (heads 0 48) _ _ (fun t l => (r0_at (projR m' c) t l).trans (entry m m' c h t _)) (fun t l => res5 m c t l)

theorem eq1 : r1 (projR m' c) = (Cert.ProjIdeal.Gen.dats m 0 c).arrAt 6 Cert.ProjIdeal.cfg0.N :=
  arrays_eq (outK m c) (heads 192 48) _ _ (fun t l => (r1_at (projR m' c) t l).trans (entry m m' c h t _)) (fun t l => res6 m c t l)

theorem eq2 : r2 (projR m' c) = (Cert.ProjIdeal.Gen.dats m 0 c).arrAt 7 Cert.ProjIdeal.cfg0.N :=
  arrays_eq (outK m c) (heads 384 96) _ _ (fun t l => (r2_at (projR m' c) t l).trans (entry m m' c h t _)) (fun t l => res7 m c t l)

theorem eq3 : r3 (projR m' c) = (Cert.ProjIdeal.Gen.dats m 0 c).arrAt 8 Cert.ProjIdeal.cfg0.N :=
  arrays_eq (outK m c) (heads 784 96) _ _ (fun t l => (r3_at (projR m' c) t l).trans (entry m m' c h t _)) (fun t l => res8 m c t l)

theorem eq4 : r4 (projR m' c) = (Cert.ProjIdeal.Gen.dats m 0 c).arrAt 9 Cert.ProjIdeal.cfg0.N :=
  arrays_eq (outK m c) (cols 768 16) _ _ (fun t l => (r4_at (projR m' c) t l).trans (entry m m' c h t _)) (fun t l => res9 m c t l)

theorem eq5 : r5 (projR m' c) = (Cert.ProjIdeal.Gen.dats m 0 c).arrAt 10 Cert.ProjIdeal.cfg0.N :=
  arrays_eq (outK m c) (cols 1168 256) _ _ (fun t l => (r5_at (projR m' c) t l).trans (entry m m' c h t _)) (fun t l => res10 m c t l)

theorem eq6 : r6 (projR m' c) = (Cert.ProjIdeal.Gen.dats m 0 c).arrAt 11 Cert.ProjIdeal.cfg0.N :=
  arrays_eq (outK m c) (cols 1424 256) _ _ (fun t l => (r6_at (projR m' c) t l).trans (entry m m' c h t _)) (fun t l => res11 m c t l)

theorem eq7 : r7 (projR m' c) = (Cert.ProjIdeal.Gen.dats m 0 c).arrAt 12 Cert.ProjIdeal.cfg0.N :=
  arrays_eq (outK m c) (cols 1680 256) _ _ (fun t l => (r7_at (projR m' c) t l).trans (entry m m' c h t _)) (fun t l => res12 m c t l)

theorem eq8 : r8 (projR m' c) = (Cert.ProjIdeal.Gen.dats m 0 c).arrAt 13 Cert.ProjIdeal.cfg0.N :=
  arrays_eq (outK m c) (cols 1936 256) _ _ (fun t l => (r8_at (projR m' c) t l).trans (entry m m' c h t _)) (fun t l => res13 m c t l)

theorem eq9 : r9 (projR m' c) = (Cert.ProjIdeal.Gen.dats m 0 c).arrAt 14 Cert.ProjIdeal.cfg0.N :=
  arrays_eq (outK m c) (tiled 2192 32) _ _ (fun t l => (r9_at (projR m' c) t l).trans (entry m m' c h t _)) (fun t l => res14 m c t l)

theorem eq10 : r10 (projR m' c) = (Cert.ProjIdeal.Gen.dats m 0 c).arrAt 15 Cert.ProjIdeal.cfg0.N :=
  arrays_eq (outK m c) (cols 2224 8) _ _ (fun t l => (r10_at (projR m' c) t l).trans (entry m m' c h t _)) (fun t l => res15 m c t l)

theorem eq11 : r11 (projR m' c) = (Cert.ProjIdeal.Gen.dats m 0 c).arrAt 16 Cert.ProjIdeal.cfg0.N :=
  arrays_eq (outK m c) (cols 2232 384) _ _ (fun t l => (r11_at (projR m' c) t l).trans (entry m m' c h t _)) (fun t l => res16 m c t l)

end

/-- The reference's results are the twelve parts of its projection. -/
theorem ref_run (m' : (ℓ : Loc Cert.ProjReferenceIdeal.nD Cert.ProjReferenceIdeal.τ Cert.ProjReferenceIdeal.sig) → Buf (Elt Ideal) ℓ)
    (ρ' : Dev Cert.ProjReferenceIdeal.nD → PrngReg) :
    θ_run (Cert.ProjReferenceIdeal.defs (F := Ideal)) (onTc (τ := Cert.ProjReferenceIdeal.τ) (Cert.ProjReferenceIdeal.main (F := Ideal))) ⟨m', fun _ => 0, ρ'⟩
      fun r => ∀ c : Dev Cert.ProjReferenceIdeal.nD,
    r.2.mem ((c.tc : Thread Cert.ProjReferenceIdeal.nD Cert.ProjReferenceIdeal.τ).loc Cert.ProjReferenceIdeal.main_v38) = r0 (projR m' c)
    ∧ r.2.mem ((c.tc : Thread Cert.ProjReferenceIdeal.nD Cert.ProjReferenceIdeal.τ).loc Cert.ProjReferenceIdeal.main_v42) = r1 (projR m' c)
    ∧ r.2.mem ((c.tc : Thread Cert.ProjReferenceIdeal.nD Cert.ProjReferenceIdeal.τ).loc Cert.ProjReferenceIdeal.main_v46) = r2 (projR m' c)
    ∧ r.2.mem ((c.tc : Thread Cert.ProjReferenceIdeal.nD Cert.ProjReferenceIdeal.τ).loc Cert.ProjReferenceIdeal.main_v50) = r3 (projR m' c)
    ∧ r.2.mem ((c.tc : Thread Cert.ProjReferenceIdeal.nD Cert.ProjReferenceIdeal.τ).loc Cert.ProjReferenceIdeal.main_v53) = r4 (projR m' c)
    ∧ r.2.mem ((c.tc : Thread Cert.ProjReferenceIdeal.nD Cert.ProjReferenceIdeal.τ).loc Cert.ProjReferenceIdeal.main_v55) = r5 (projR m' c)
    ∧ r.2.mem ((c.tc : Thread Cert.ProjReferenceIdeal.nD Cert.ProjReferenceIdeal.τ).loc Cert.ProjReferenceIdeal.main_v57) = r6 (projR m' c)
    ∧ r.2.mem ((c.tc : Thread Cert.ProjReferenceIdeal.nD Cert.ProjReferenceIdeal.τ).loc Cert.ProjReferenceIdeal.main_v59) = r7 (projR m' c)
    ∧ r.2.mem ((c.tc : Thread Cert.ProjReferenceIdeal.nD Cert.ProjReferenceIdeal.τ).loc Cert.ProjReferenceIdeal.main_v61) = r8 (projR m' c)
    ∧ r.2.mem ((c.tc : Thread Cert.ProjReferenceIdeal.nD Cert.ProjReferenceIdeal.τ).loc Cert.ProjReferenceIdeal.main_v66) = r9 (projR m' c)
    ∧ r.2.mem ((c.tc : Thread Cert.ProjReferenceIdeal.nD Cert.ProjReferenceIdeal.τ).loc Cert.ProjReferenceIdeal.main_v68) = r10 (projR m' c)
    ∧ r.2.mem ((c.tc : Thread Cert.ProjReferenceIdeal.nD Cert.ProjReferenceIdeal.τ).loc Cert.ProjReferenceIdeal.main_v69) = r11 (projR m' c)
    ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
    ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
    ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
    ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
    ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4) := by
  unfold r0 r1 r2 r3 r4 r5 r6 r7 r8 r9 r10 r11 projR pR hR
  exact Cert.ProjReferenceIdeal.Value.run (F := Ideal) m' ρ'

section
variable (m : (ℓ : Loc Cert.ProjIdeal.nD Cert.ProjIdeal.τ Cert.ProjIdeal.sig) → Buf (Elt Ideal) ℓ)
  (m' : (ℓ : Loc Cert.ProjReferenceIdeal.nD Cert.ProjReferenceIdeal.τ Cert.ProjReferenceIdeal.sig) → Buf (Elt Ideal) ℓ) (c : Dev Cert.ProjIdeal.nD)

/-- Where the reference ends with the twelve parts of its projection, it ends with what the kernel leaves. -/
theorem parts (h : Agree m m' c) (M : (ℓ : Loc Cert.ProjReferenceIdeal.nD Cert.ProjReferenceIdeal.τ Cert.ProjReferenceIdeal.sig) → Buf (Elt Ideal) ℓ) (Q : Prop) :
    (M ((c.tc : Thread Cert.ProjReferenceIdeal.nD Cert.ProjReferenceIdeal.τ).loc Cert.ProjReferenceIdeal.main_v38) = r0 (projR m' c)
    ∧ M ((c.tc : Thread Cert.ProjReferenceIdeal.nD Cert.ProjReferenceIdeal.τ).loc Cert.ProjReferenceIdeal.main_v42) = r1 (projR m' c)
    ∧ M ((c.tc : Thread Cert.ProjReferenceIdeal.nD Cert.ProjReferenceIdeal.τ).loc Cert.ProjReferenceIdeal.main_v46) = r2 (projR m' c)
    ∧ M ((c.tc : Thread Cert.ProjReferenceIdeal.nD Cert.ProjReferenceIdeal.τ).loc Cert.ProjReferenceIdeal.main_v50) = r3 (projR m' c)
    ∧ M ((c.tc : Thread Cert.ProjReferenceIdeal.nD Cert.ProjReferenceIdeal.τ).loc Cert.ProjReferenceIdeal.main_v53) = r4 (projR m' c)
    ∧ M ((c.tc : Thread Cert.ProjReferenceIdeal.nD Cert.ProjReferenceIdeal.τ).loc Cert.ProjReferenceIdeal.main_v55) = r5 (projR m' c)
    ∧ M ((c.tc : Thread Cert.ProjReferenceIdeal.nD Cert.ProjReferenceIdeal.τ).loc Cert.ProjReferenceIdeal.main_v57) = r6 (projR m' c)
    ∧ M ((c.tc : Thread Cert.ProjReferenceIdeal.nD Cert.ProjReferenceIdeal.τ).loc Cert.ProjReferenceIdeal.main_v59) = r7 (projR m' c)
    ∧ M ((c.tc : Thread Cert.ProjReferenceIdeal.nD Cert.ProjReferenceIdeal.τ).loc Cert.ProjReferenceIdeal.main_v61) = r8 (projR m' c)
    ∧ M ((c.tc : Thread Cert.ProjReferenceIdeal.nD Cert.ProjReferenceIdeal.τ).loc Cert.ProjReferenceIdeal.main_v66) = r9 (projR m' c)
    ∧ M ((c.tc : Thread Cert.ProjReferenceIdeal.nD Cert.ProjReferenceIdeal.τ).loc Cert.ProjReferenceIdeal.main_v68) = r10 (projR m' c)
    ∧ M ((c.tc : Thread Cert.ProjReferenceIdeal.nD Cert.ProjReferenceIdeal.τ).loc Cert.ProjReferenceIdeal.main_v69) = r11 (projR m' c)
    ∧ Q) →
    M ((c.tc : Thread Cert.ProjReferenceIdeal.nD Cert.ProjReferenceIdeal.τ).loc Cert.ProjReferenceIdeal.main_v38) = (Cert.ProjIdeal.Gen.dats m 0 c).arrAt 5 Cert.ProjIdeal.cfg0.N
    ∧ M ((c.tc : Thread Cert.ProjReferenceIdeal.nD Cert.ProjReferenceIdeal.τ).loc Cert.ProjReferenceIdeal.main_v42) = (Cert.ProjIdeal.Gen.dats m 0 c).arrAt 6 Cert.ProjIdeal.cfg0.N
    ∧ M ((c.tc : Thread Cert.ProjReferenceIdeal.nD Cert.ProjReferenceIdeal.τ).loc Cert.ProjReferenceIdeal.main_v46) = (Cert.ProjIdeal.Gen.dats m 0 c).arrAt 7 Cert.ProjIdeal.cfg0.N
    ∧ M ((c.tc : Thread Cert.ProjReferenceIdeal.nD Cert.ProjReferenceIdeal.τ).loc Cert.ProjReferenceIdeal.main_v50) = (Cert.ProjIdeal.Gen.dats m 0 c).arrAt 8 Cert.ProjIdeal.cfg0.N
    ∧ M ((c.tc : Thread Cert.ProjReferenceIdeal.nD Cert.ProjReferenceIdeal.τ).loc Cert.ProjReferenceIdeal.main_v53) = (Cert.ProjIdeal.Gen.dats m 0 c).arrAt 9 Cert.ProjIdeal.cfg0.N
    ∧ M ((c.tc : Thread Cert.ProjReferenceIdeal.nD Cert.ProjReferenceIdeal.τ).loc Cert.ProjReferenceIdeal.main_v55) = (Cert.ProjIdeal.Gen.dats m 0 c).arrAt 10 Cert.ProjIdeal.cfg0.N
    ∧ M ((c.tc : Thread Cert.ProjReferenceIdeal.nD Cert.ProjReferenceIdeal.τ).loc Cert.ProjReferenceIdeal.main_v57) = (Cert.ProjIdeal.Gen.dats m 0 c).arrAt 11 Cert.ProjIdeal.cfg0.N
    ∧ M ((c.tc : Thread Cert.ProjReferenceIdeal.nD Cert.ProjReferenceIdeal.τ).loc Cert.ProjReferenceIdeal.main_v59) = (Cert.ProjIdeal.Gen.dats m 0 c).arrAt 12 Cert.ProjIdeal.cfg0.N
    ∧ M ((c.tc : Thread Cert.ProjReferenceIdeal.nD Cert.ProjReferenceIdeal.τ).loc Cert.ProjReferenceIdeal.main_v61) = (Cert.ProjIdeal.Gen.dats m 0 c).arrAt 13 Cert.ProjIdeal.cfg0.N
    ∧ M ((c.tc : Thread Cert.ProjReferenceIdeal.nD Cert.ProjReferenceIdeal.τ).loc Cert.ProjReferenceIdeal.main_v66) = (Cert.ProjIdeal.Gen.dats m 0 c).arrAt 14 Cert.ProjIdeal.cfg0.N
    ∧ M ((c.tc : Thread Cert.ProjReferenceIdeal.nD Cert.ProjReferenceIdeal.τ).loc Cert.ProjReferenceIdeal.main_v68) = (Cert.ProjIdeal.Gen.dats m 0 c).arrAt 15 Cert.ProjIdeal.cfg0.N
    ∧ M ((c.tc : Thread Cert.ProjReferenceIdeal.nD Cert.ProjReferenceIdeal.τ).loc Cert.ProjReferenceIdeal.main_v69) = (Cert.ProjIdeal.Gen.dats m 0 c).arrAt 16 Cert.ProjIdeal.cfg0.N
    ∧ Q :=
  And.imp (fun e => e.trans (eq0 m m' c h)) (And.imp (fun e => e.trans (eq1 m m' c h)) (And.imp (fun e => e.trans (eq2 m m' c h)) (And.imp (fun e => e.trans (eq3 m m' c h)) (And.imp (fun e => e.trans (eq4 m m' c h)) (And.imp (fun e => e.trans (eq5 m m' c h)) (And.imp (fun e => e.trans (eq6 m m' c h)) (And.imp (fun e => e.trans (eq7 m m' c h)) (And.imp (fun e => e.trans (eq8 m m' c h)) (And.imp (fun e => e.trans (eq9 m m' c h)) (And.imp (fun e => e.trans (eq10 m m' c h)) (And.imp (fun e => e.trans (eq11 m m' c h)) (id))))))))))))

end

set_option maxHeartbeats 2000000 in
theorem algebraic : Cert.algebraic_ProjIdeal_ProjReferenceIdeal := by
  intro m ρ m' ρ' _ hagree
  refine ⟨fun c => (Cert.ProjIdeal.Gen.dats m 0 c).arrAt 5 Cert.ProjIdeal.cfg0.N, fun c => (Cert.ProjIdeal.Gen.dats m 0 c).arrAt 6 Cert.ProjIdeal.cfg0.N, fun c => (Cert.ProjIdeal.Gen.dats m 0 c).arrAt 7 Cert.ProjIdeal.cfg0.N, fun c => (Cert.ProjIdeal.Gen.dats m 0 c).arrAt 8 Cert.ProjIdeal.cfg0.N, fun c => (Cert.ProjIdeal.Gen.dats m 0 c).arrAt 9 Cert.ProjIdeal.cfg0.N, fun c => (Cert.ProjIdeal.Gen.dats m 0 c).arrAt 10 Cert.ProjIdeal.cfg0.N, fun c => (Cert.ProjIdeal.Gen.dats m 0 c).arrAt 11 Cert.ProjIdeal.cfg0.N, fun c => (Cert.ProjIdeal.Gen.dats m 0 c).arrAt 12 Cert.ProjIdeal.cfg0.N, fun c => (Cert.ProjIdeal.Gen.dats m 0 c).arrAt 13 Cert.ProjIdeal.cfg0.N, fun c => (Cert.ProjIdeal.Gen.dats m 0 c).arrAt 14 Cert.ProjIdeal.cfg0.N, fun c => (Cert.ProjIdeal.Gen.dats m 0 c).arrAt 15 Cert.ProjIdeal.cfg0.N, fun c => (Cert.ProjIdeal.Gen.dats m 0 c).arrAt 16 Cert.ProjIdeal.cfg0.N,
    Cert.ProjIdeal.Value.run_blocks m ρ, ?_⟩
  exact (θ_run Cert.ProjReferenceIdeal.defs _ _).mono (fun r h c => parts m m' c (hagree c) r.2.mem _ (h c)) (ref_run m' ρ')

end Cert.ProjClaims

end
-- ==== Proof.ExpertsRunBits.Point.lean ====
/- At machine numbers: One point of the experts' grid, at any contents of the two tables that name experts inside the arrays: the pipeline
   there, the buffers and blocks the body gets, and the two cases of the body. -/
module

public import proofs.«01_k».proof.Proof.Gen.Experts.Flash.Runs
public import proofs.«01_k».proof.Proof.Gen.Experts.Launch
public import Idealize.ShloMosaic.Lib.Pipeline.TableIdle
public import Idealize.ShloMosaic.Lib.Pipeline.FrameBody

@[expose] public section

set_option maxRecDepth 16384

noncomputable section

namespace Cert.ExpertsRunBits

open Cert.Experts Cert.Experts.Gen
open Idealize.ShloMosaic Idealize.ShloMosaic.TcCoe
open Idealize.SL.Sem

/-- Contents of the two tables with every block's expert inside the weights' arrays. -/
abbrev Tables := (pcfg0 (F := Bits)).Adm

variable (a : Tables)

/-- The experts of the blocks, and the number of blocks in use. -/
abbrev tb0 : S288.Idx → Elt Bits .i32 := a.1 0
abbrev tb1 : S1.Idx → Elt Bits .i32 := a.1 1

/-- The pipeline at these tables. -/
abbrev pipe : Pipeline.Cfg sig Λ₀ := cfg0 (F := Bits) a
abbrev pipes : Fin 1 → Pipeline.Cfg sig Λ₀ := Pipeline.pin (pcfgs (F := Bits)) fun _ => a

/-- The coordinates of a point. -/
abbrev crd (t : Fin (pipe a).N) : (pipe a).grid.Coords := (pipe a).grid.coords t

/-- The buffers of the rows, the three weights and the result at a point. -/
abbrev bx (t : Fin (pipe a).N) : Memref sig .tc .vmem S256x1024 .f32 := spec0_0.stage ((pipe a).slots t (0 : Fin 5))
abbrev hbx (t : Fin (pipe a).N) : (bx a t).IsWhole := hstage0_0 (((pipe a).slots t (0 : Fin 5)).cast nbuf0_0)
abbrev bg (t : Fin (pipe a).N) : Memref sig .tc .vmem S1x1024x512 .f32 := spec0_1.stage ((pipe a).slots t (1 : Fin 5))
abbrev hbg (t : Fin (pipe a).N) : (bg a t).IsWhole := hstage0_1 (((pipe a).slots t (1 : Fin 5)).cast nbuf0_1)
abbrev bu (t : Fin (pipe a).N) : Memref sig .tc .vmem S1x1024x512 .f32 := spec0_2.stage ((pipe a).slots t (2 : Fin 5))
abbrev hbu (t : Fin (pipe a).N) : (bu a t).IsWhole := hstage0_2 (((pipe a).slots t (2 : Fin 5)).cast nbuf0_2)
abbrev bd (t : Fin (pipe a).N) : Memref sig .tc .vmem S1x512x1024 .f32 := spec0_3.stage ((pipe a).slots t (3 : Fin 5))
abbrev hbd (t : Fin (pipe a).N) : (bd a t).IsWhole := hstage0_3 (((pipe a).slots t (3 : Fin 5)).cast nbuf0_3)
abbrev bo (t : Fin (pipe a).N) : Memref sig .tc .vmem S256x1024 .f32 := spec0_4.stage ((pipe a).slots t (4 : Fin 5))
abbrev hbo (t : Fin (pipe a).N) : (bo a t).IsWhole := hstage0_4 (((pipe a).slots t (4 : Fin 5)).cast nbuf0_4)

/-- The number of blocks in use, as the body reads it. -/
abbrev used : Elt Bits .i32 :=
  View.readAt (Elt Bits) tbM0_1.view (Rect.unit (s := S1) ![0] S1.size inb_S1_S1_0).toLoadRect (tb1 a) (Shape.Idx.first (numel1_S1.symm ▸ Nat.one_pos))

/-- The point's block is in use. -/
abbrev Live (t : Fin (pipe a).N) : Prop := k0_cond1 (crd a t) (used a) = 1#1

/-- The second condition of the body is the first one's negation. -/
theorem cond2_iff (i : grid0.Coords) (w : BitVec 32) : k0_cond2 i w = 1#1 ↔ ¬k0_cond1 i w = 1#1 := by
  have h : ∀ p : Bool, (Scalar.cmpi .ne (Scalar.extui (BitVec.ofBool p) : BitVec 32) 0#32 = 1#1) ↔ p = true := by decide
  show (Scalar.cmpi .ne (Scalar.extui (BitVec.ofBool (w.sle (BitVec.ofNat 32 (i 0).val)))) 0#32 = 1#1) ↔
    ¬(Scalar.cmpi .ne (Scalar.extui (BitVec.ofBool ((BitVec.ofNat 32 (i 0).val).slt w))) 0#32 = 1#1)
  rw [h, h, BitVec.sle_iff_toInt_le, BitVec.slt_iff_toInt_lt]
  omega

/-- Every point stores its block. -/
theorem idle_o (i : grid0.Coords) : (pipe a).idle (4 : Fin 5) i = false := by
  show (!(k0_cond1 i (a.1.atD 1 ![0]) == 1#1) && !(k0_cond2 i (a.1.atD 1 ![0]) == 1#1)) = false
  generalize (a.1.atD 1 ![0] : BitVec 32) = w
  have h := cond2_iff i w
  by_cases h1 : k0_cond1 i w = 1#1
  · rw [h1]; rfl
  · rw [h.2 h1]; simp

theorem moves_o : ∀ (t : Fin grid0.N) (h : t.val + 1 < grid0.N),
    cc0_transform_4 (grid0.coords ⟨t.val + 1, h⟩) 0 ≠ cc0_transform_4 (grid0.coords t) 0 := by decide +kernel

/-- Every point writes its block back. -/
theorem flush_o (t : Fin (pipe a).N) : ((pipe a).win (4 : Fin 5)).flush t = true := by
  rw [Pipeline.Window.flush_eq_flushF]
  unfold Pipeline.Window.flushF
  by_cases h : t.val + 1 = grid0.N
  · have : decide (t.val + 1 = (pipe a).N) = true := decide_eq_true h
    show (true && (decide (t.val + 1 = grid0.N) || _)) = true
    rw [decide_eq_true h]; rfl
  · have h1 : t.val + 1 < grid0.N := lt_of_le_of_ne t.isLt h
    show (true && (_ || decide _)) = true
    rw [decide_eq_true (p := ∃ h : t.val + 1 < (pipe a).grid.N, ∃ x, ((pipe a).win (4 : Fin 5)).index ⟨t.val + 1, h⟩ x ≠ ((pipe a).win (4 : Fin 5)).index t x)
      ⟨h1, 0, moves_o t h1⟩]
    simp

/-- Before every point the result's buffer holds nothing of the block. -/
theorem fresh_o (t : Fin (pipe a).N) : (pipe a).fresh (4 : Fin 5) t.val = true :=
  Pipeline.Cfg.fresh_tab (pipe a) (4 : Fin 5) (fun _ => true) rfl (fun t => by rw [flush_o]; rfl) t.val (Nat.le_of_lt t.isLt)

variable (m : (ℓ : Loc nD τ sig) → Buf (Elt Bits) ℓ) (ρ : Dev nD → PrngReg)

/-- A window's block at a point, read off its array. -/
def blockAt (c : Dev nD) (w : Fin (pipe a).W) (t : Fin (pipe a).N) : (((pipe a).win w).xblock (crd a t)).Idx → Elt Bits ((pipe a).win w).elt :=
  (((pipe a).win w).blk t).view.read (Elt Bits) ((s₀ m ρ).mem (((pipe a).win w).arr.view.loc (c : Thread nD τ)))

/-- The result's block after a point: the expert's value of the rows if the block is in use, zero if not. -/
def outAt (c : Dev nD) (t : Fin (pipe a).N) : S256x1024.Idx → Elt Bits .f32 :=
  if h : Live a t then
    out0_A_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h (fun h2 => (cond2_iff _ _).1 h2 h)
  else
    out0_B_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h ((cond2_iff _ _).2 h)

theorem outAt_live (c : Dev nD) (t : Fin (pipe a).N) (h : Live a t) : outAt a m ρ c t =
    out0_A_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h (fun h2 => (cond2_iff _ _).1 h2 h) := by
  unfold outAt; rw [dif_pos h]

theorem outAt_rest (c : Dev nD) (t : Fin (pipe a).N) (h : ¬Live a t) : outAt a m ρ c t =
    out0_B_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h ((cond2_iff _ _).2 h) := by
  unfold outAt; rw [dif_neg h]

end Cert.ExpertsRunBits

end
-- ==== Proof.ExpertsRunBits.Run.lean ====
/- At machine numbers: The run of the experts' call at any contents of the two tables that name experts inside the arrays: it ends, faults
   nowhere, leaves its arguments as they were, and leaves in the result what its points wrote. -/
module

public import proofs.«01_k».proof.Proof.ExpertsRunBits.Point
public import Idealize.ShloMosaic.Lib.Pipeline.Quiescent
public import Idealize.ShloMosaic.Lib.Claim
public import Idealize.ShloMosaic.Lib.Pipeline.Kit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384

noncomputable section

namespace Cert.ExpertsRunBits

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The algebra of the staging cells. -/
abbrev Alg := MT nD τ sig Unit (Elt Bits) ℕ (UR sig nD τ) ℕ
abbrev cells : Emb (UR sig nD τ) Alg := emb₁

variable (a : Tables)
variable (m : (ℓ : Loc nD τ sig) → Buf (Elt Bits) ℓ) (ρ : Dev nD → PrngReg)

/-- Between the points the body holds its share of the two tables. -/
def Inv (c : Dev nD) : sProp Alg :=
  iprop((tbM0_0.view.loc (c : Thread nD τ) ↦{fullShare.right} tb0 a) ∗ (tbM0_1.view.loc (c : Thread nD τ) ↦{fullShare.right} tb1 a))

/-- What each window's array holds at the start and each buffer after a point. -/
def data (_ : Fin 1) (c : Dev nD) : Dat τ (Elt Bits) Unit ℕ (UR sig nD τ) ℕ (pipe a) c where
  A w := (s₀ m ρ).mem (((pipe a).win w).arr.view.loc (c : Thread nD τ))
  after w t := match w with
    | ⟨0, _⟩ => blockAt a m ρ c (0 : Fin 5) t
    | ⟨1, _⟩ => blockAt a m ρ c (1 : Fin 5) t
    | ⟨2, _⟩ => blockAt a m ρ c (2 : Fin 5) t
    | ⟨3, _⟩ => blockAt a m ρ c (3 : Fin 5) t
    | ⟨4, _⟩ => outAt a m ρ c t
  Φ _ := Inv a c
  q _ := fullShare
  owed _ := 0

theorem after_0 (c : Dev nD) (t : Fin (pipe a).N) : (data a m ρ 0 c).after (0 : Fin 5) t = blockAt a m ρ c (0 : Fin 5) t := rfl
theorem after_1 (c : Dev nD) (t : Fin (pipe a).N) : (data a m ρ 0 c).after (1 : Fin 5) t = blockAt a m ρ c (1 : Fin 5) t := rfl
theorem after_2 (c : Dev nD) (t : Fin (pipe a).N) : (data a m ρ 0 c).after (2 : Fin 5) t = blockAt a m ρ c (2 : Fin 5) t := rfl
theorem after_3 (c : Dev nD) (t : Fin (pipe a).N) : (data a m ρ 0 c).after (3 : Fin 5) t = blockAt a m ρ c (3 : Fin 5) t := rfl
theorem after_4 (c : Dev nD) (t : Fin (pipe a).N) : (data a m ρ 0 c).after (4 : Fin 5) t = outAt a m ρ c t := rfl

/-- Each input's buffer holds the point's block when the body runs. -/
theorem before_0 (c : Dev nD) (t : Fin (pipe a).N) (d) : (data a m ρ 0 c).before (0 : Fin 5) t d = blockAt a m ρ c (0 : Fin 5) t :=
  ((data a m ρ 0 c).before_in_eq_fetched (0 : Fin 5) rfl (fun _ => rfl) (fun _ _ _ => rfl) (fun t => by rw [after_0]; unfold Dat.blockOf blockAt; rfl) t d).trans
    (by unfold Dat.fetched Dat.blockOf blockAt; rfl)
theorem before_1 (c : Dev nD) (t : Fin (pipe a).N) (d) : (data a m ρ 0 c).before (1 : Fin 5) t d = blockAt a m ρ c (1 : Fin 5) t :=
  ((data a m ρ 0 c).before_in_eq_fetched (1 : Fin 5) rfl (fun _ => rfl) (fun _ _ _ => rfl) (fun t => by rw [after_1]; unfold Dat.blockOf blockAt; rfl) t d).trans
    (by unfold Dat.fetched Dat.blockOf blockAt; rfl)
theorem before_2 (c : Dev nD) (t : Fin (pipe a).N) (d) : (data a m ρ 0 c).before (2 : Fin 5) t d = blockAt a m ρ c (2 : Fin 5) t :=
  ((data a m ρ 0 c).before_in_eq_fetched (2 : Fin 5) rfl (fun _ => rfl) (fun _ _ _ => rfl) (fun t => by rw [after_2]; unfold Dat.blockOf blockAt; rfl) t d).trans
    (by unfold Dat.fetched Dat.blockOf blockAt; rfl)
theorem before_3 (c : Dev nD) (t : Fin (pipe a).N) (d) : (data a m ρ 0 c).before (3 : Fin 5) t d = blockAt a m ρ c (3 : Fin 5) t :=
  ((data a m ρ 0 c).before_in_eq_fetched (3 : Fin 5) rfl (fun _ => rfl) (fun _ _ _ => rfl) (fun t => by rw [after_3]; unfold Dat.blockOf blockAt; rfl) t d).trans
    (by unfold Dat.fetched Dat.blockOf blockAt; rfl)

/-- The body at a point, on the point's buffers. -/
abbrev bodyAt (t : Fin (pipe a).N) : Prog (TpuEff nD τ sig (Elt Bits) Λ₀ .tc) PUnit :=
  cc0_moe_experts (crd a t) (Memref.whole main_arg0) (Memref.isWhole_whole _) (Memref.whole main_arg1) (Memref.isWhole_whole _) (bx a t) (hbx a t) (bg a t) (hbg a t) (bu a t) (hbu a t) (bd a t) (hbd a t) (bo a t) (hbo a t)

/-- The body at a point: from the blocks in the inputs' buffers it leaves the result's block in the result's buffer. -/
theorem body_at (c : Dev nD) (t : Fin (pipe a).N) :
    iprop((data a m ρ 0 c).Φ t.castSucc ∗ (data a m ρ 0 c).owesAt () t.castSucc
        ∗ (∃ d, owns (c : Thread nD τ) (bx a t) fullShare ((data a m ρ 0 c).before (0 : Fin 5) t d))
        ∗ (∃ d, owns (c : Thread nD τ) (bg a t) fullShare ((data a m ρ 0 c).before (1 : Fin 5) t d))
        ∗ (∃ d, owns (c : Thread nD τ) (bu a t) fullShare ((data a m ρ 0 c).before (2 : Fin 5) t d))
        ∗ (∃ d, owns (c : Thread nD τ) (bd a t) fullShare ((data a m ρ 0 c).before (3 : Fin 5) t d))
        ∗ (∃ d, owns (c : Thread nD τ) (bo a t) fullShare ((data a m ρ 0 c).before (4 : Fin 5) t d)))
      ⊢ wp frame (wpE (defs₀ (F := Bits)) Variants.none c none) Set.univ (bodyAt a t) fun _ =>
          iprop((data a m ρ 0 c).Φ t.succ ∗ (data a m ρ 0 c).owesAt () t.succ
            ∗ bigSep Finset.univ fun w : Fin (pipe a).W =>
                match (pipe a).idle w ((pipe a).grid.coords t) with
                | true =>
                  match ((pipe a).win w).flush t with
                  | false => iprop(∃ d, owns (c : Thread nD τ) (((pipe a).win w).stage ((pipe a).slots t w)) fullShare ((data a m ρ 0 c).before w t d))
                  | true => owns (c : Thread nD τ) (((pipe a).win w).stage ((pipe a).slots t w)) fullShare ((data a m ρ 0 c).after w t)
                | false => owns (c : Thread nD τ) (((pipe a).win w).stage ((pipe a).slots t w)) fullShare ((data a m ρ 0 c).after w t)) := by
  rw [bigSep_W0]
  rewrite [idle_o a]
  simp only [before_0, before_1, before_2, before_3, after_0, after_1, after_2, after_3, after_4]
  rewrite [show (data a m ρ 0 c).Φ t.succ = Inv a c from rfl, show (data a m ρ 0 c).Φ t.castSucc = Inv a c from rfl,
    show (data a m ρ 0 c).owesAt () t.succ = (data a m ρ 0 c).owesAt () t.castSucc from rfl]
  unfold Inv
  by_cases h : Live a t
  · rewrite [outAt_live a m ρ c t h]
    iintro ⟨⟨HT0, HT1⟩, Ho, ⟨%d0, H0⟩, ⟨%d1, H1⟩, ⟨%d2, H2⟩, ⟨%d3, H3⟩, ⟨%d4, H4⟩⟩
    iapply ((kernelRun0_A c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h (fun h2 => (cond2_iff _ _).1 h2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rewrite [outAt_rest a m ρ c t h]
    iintro ⟨⟨HT0, HT1⟩, Ho, ⟨%d0, H0⟩, ⟨%d1, H1⟩, ⟨%d2, H2⟩, ⟨%d3, H3⟩, ⟨%d4, H4⟩⟩
    iapply ((kernelRun0_B c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h ((cond2_iff _ _).2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

theorem body_every (c : Dev nD) : BodyObligation (data a m ρ 0 c) (defs₀ (F := Bits)) Variants.none () Set.univ := fun t => by
  rw [bigSep_W0]
  exact body_at a m ρ c t

/-- The staging cells at the start. -/
def start : UR sig nD τ :=
  initOf (Pipeline.cells (pipes a) ((launch0 (F := Bits)).cellOf_inj fun _ => a))
    (Pipeline.launchToks (pipes a) ((launch0 (F := Bits)).cellOf_inj fun _ => a))

theorem share_eq (c : Dev nD) (w : Fin (pipe a).W) : (data a m ρ 0 c).share w = fullShare := by unfold Dat.share; split <;> rfl

/-- The two tables, one by one. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp Alg)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem inv_intro (c : Dev nD) :
    iprop(BI.emp ∗ Pipeline.prefHeld pre0 c (fun _ => fullShare.right) a.1 ∗ Pipeline.scopedRest spec0 c) ⊢ (data a m ρ 0 c).Φ 0 := by
  rw [tables_held, scopedRest0_eq, show (data a m ρ 0 c).Φ 0 = Inv a c from rfl]
  unfold Inv
  iintro ⟨-, ⟨HT0, HT1⟩, -⟩
  isplitl [HT0]
  · iexact HT0
  iexact HT1

theorem inv_exit (c : Dev nD) : (data a m ρ 0 c).Φ (Fin.last (pipe a).N) ⊢ iprop(BI.emp ∗ Pipeline.scopedRest spec0 c) := by
  rw [scopedRest0_eq, show (data a m ρ 0 c).Φ (Fin.last (pipe a).N) = Inv a c from rfl]
  unfold Inv
  iintro ⟨-, -⟩
  isplitr; · iempintro
  iempintro

/-- The end of the run: each window's array at what the points left, each table as it was. -/
def End : PUnit × MemSt nD τ sig (Elt Bits) → Prop := fun r =>
  ∀ c : Dev nD, (∀ w : Fin (pipe a).W, r.2.mem (((pipe a).win w).arr.view.loc (c : Thread nD τ)) = (data a m ρ 0 c).arrAt w (pipe a).N)
    ∧ ∀ j, r.2.mem ((c : Thread nD τ).loc (pre0.ref j)) = a.1 j

set_option backward.isDefEq.respectTransparency.types false in
/-- The run from a memory that holds these tables. -/
theorem run (hp : ∀ (c : Dev nD) (j : Fin 2), m ((c : Thread nD τ).loc (pre0.ref j)) = a.1 j) :
    θ_run (defs (F := Bits)) (onTc (τ := τ) (main (F := Bits))) (s₀ m ρ) (fun r => End a m ρ r ∧ r.2.sem = fun _ => 0) :=
  Pipeline.θ_run_region_noSem_pf_quiescent pcfgs (fun _ => a) (data a m ρ) () ((launch0 (F := Bits)).cellOf_inj fun _ => a) (0 : Fin 1)
    (launch0 (F := Bits)).win.to₀ (launch0 (F := Bits)).pre cells defs₀ Variants.none m ρ main
    (hbody := fun c => (body_every a m ρ c).loose) (hne := (launch0 (F := Bits)).block_pos)
    (harr := (launch0 (F := Bits)).arr_whole) (hstage := (launch0 (F := Bits)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (data a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_intro a m ρ)
    (hout := inv_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem args_kept (hp : ∀ (c : Dev nD) (j : Fin 2), m ((c : Thread nD τ).loc (pre0.ref j)) = a.1 j)
    (r : PUnit × MemSt nD τ sig (Elt Bits)) (h : End a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp c 0).symm, ((h c).2 1).trans (hp c 1).symm, ((h c).1 (0 : Fin 5)).trans ((data a m ρ 0 c).arrAt_in (0 : Fin 5) rfl _),
    ((h c).1 (1 : Fin 5)).trans ((data a m ρ 0 c).arrAt_in (1 : Fin 5) rfl _), ((h c).1 (2 : Fin 5)).trans ((data a m ρ 0 c).arrAt_in (2 : Fin 5) rfl _),
    ((h c).1 (3 : Fin 5)).trans ((data a m ρ 0 c).arrAt_in (3 : Fin 5) rfl _)⟩

end Cert.ExpertsRunBits

end
-- ==== Proof.ExpertsRunBits.Tables.lean ====
/- At machine numbers: The tables the call reads, out of a memory whose blocks name one of the 32 experts: every block of weights they ask for lies inside its array. -/
module

public import proofs.«01_k».proof.Defs
public import proofs.«01_k».proof.Proof.Gen.Pre_blocks_name_experts
public import proofs.«01_k».proof.Proof.ExpertsRunBits.Run

@[expose] public section

set_option maxRecDepth 16384

noncomputable section

namespace Cert.ExpertsRunBits

open Cert.Experts Cert.Experts.Gen
open Idealize.ShloMosaic Idealize.ShloMosaic.TcCoe Idealize.SL.Sem

/-- A table of experts: every word is one of 0, …, 31. -/
def Names (x : S288.Idx → BitVec 32) : Prop := ∀ i, (x i).toNat < 32

theorem word_lt : ∀ w : BitVec 32, IntOp.andi (IntOp.cmpi .sge w 0#32) (IntOp.cmpi .slt w 32#32) = 1#1 → w.toNat < 32 := by
  intro w h
  have h' : (BitVec.ofBool (BitVec.sle 0#32 w)) &&& (BitVec.ofBool (BitVec.slt w 32#32)) = 1#1 := h
  have hb : ∀ p q : Bool, BitVec.ofBool p &&& BitVec.ofBool q = 1#1 → p = true ∧ q = true := by decide
  obtain ⟨h1, h2⟩ := hb _ _ h'
  rw [BitVec.sle_iff_toInt_le] at h1
  rw [BitVec.slt_iff_toInt_lt] at h2
  have e0 : (0#32 : BitVec 32).toInt = 0 := by decide
  have e1 : (32#32 : BitVec 32).toInt = 32 := by decide
  rw [e0] at h1
  rw [e1] at h2
  rw [BitVec.toInt_eq_toNat_cond] at h1 h2
  have := w.isLt
  split at h1 <;> omega

/-- What the precondition says of the table. -/
theorem names_of {F : FTy → Type} [FloatOps F] (x : S288.Idx → BitVec 32) (a1) (a2) (a3) (a4) (a5)
    (h : Cert.Pre_blocks_name_experts.fn (F := F) x a1 a2 a3 a4 a5 = (fun _ => 1#1)) : Names x := fun i =>
  word_lt (x i) (congrFun h i)

/-- The block a point's weights are taken from lies inside the array of the weights. -/
theorem block_in {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem admissible (pf : pre0.Contents (Elt Bits)) (h : Names (pf 0)) : ok0 (F := Bits) pf :=
  ⟨fun i => ⟨block_in ((Nat.mul_one _).le.trans (Nat.succ_le_of_lt (h _))) (by decide), .inl rfl⟩,
   fun i => ⟨block_in ((Nat.mul_one _).le.trans (Nat.succ_le_of_lt (h _))) (by decide), .inl rfl⟩,
   fun i => ⟨block_in ((Nat.mul_one _).le.trans (Nat.succ_le_of_lt (h _))) (by decide), .inl rfl⟩⟩

variable (m : (ℓ : Loc nD τ sig) → Buf (Elt Bits) ℓ)

/-- The tables of a memory. -/
def contents : pre0.Contents (Elt Bits) := fun j => m (((0 : Dev nD) : Thread nD τ).loc (pre0.ref j))

theorem names (h : Cert.Pre_Experts m) : Names (contents m 0) := names_of _ _ _ _ _ _ (h 0)

def tables (h : Cert.Pre_Experts m) : Tables := ⟨contents m, admissible _ (names m h)⟩

theorem held (h : Cert.Pre_Experts m) (c : Dev nD) (j : Fin 2) : m ((c : Thread nD τ).loc (pre0.ref j)) = (tables m h).1 j := by
  have e : c = 0 := Subsingleton.elim _ _
  subst e; rfl

/-- The call ends, and its arguments end as they were. -/
theorem frame : Cert.quiescent_Experts := fun m ρ h =>
  (θ_run (defs (F := Bits)) _ _).mono (fun r hr => ⟨fun c => args_kept (tables m h) m ρ (held m h) r hr.1 c, hr.2⟩) (run (tables m h) m ρ (held m h))

end Cert.ExpertsRunBits

end
-- ==== Proof.ExpertsRun.Point.lean ====
/- One point of the experts' grid, at any contents of the two tables that name experts inside the arrays: the pipeline
   there, the buffers and blocks the body gets, and the two cases of the body. -/
module

public import proofs.«01_k».proof.Proof.Gen.ExpertsIdeal.Flash.Runs
public import proofs.«01_k».proof.Proof.Gen.ExpertsIdeal.Launch
public import Idealize.ShloMosaic.Lib.Pipeline.TableIdle
public import Idealize.ShloMosaic.Lib.Pipeline.FrameBody

@[expose] public section

set_option maxRecDepth 16384

noncomputable section

namespace Cert.ExpertsRun

open Cert.ExpertsIdeal Cert.ExpertsIdeal.Gen
open Idealize.ShloMosaic Idealize.ShloMosaic.TcCoe
open Idealize.SL.Sem

/-- Contents of the two tables with every block's expert inside the weights' arrays. -/
abbrev Tables := (pcfg0 (F := Ideal)).Adm

variable (a : Tables)

/-- The experts of the blocks, and the number of blocks in use. -/
abbrev tb0 : S288.Idx → Elt Ideal .i32 := a.1 0
abbrev tb1 : S1.Idx → Elt Ideal .i32 := a.1 1

/-- The pipeline at these tables. -/
abbrev pipe : Pipeline.Cfg sig Λ₀ := cfg0 (F := Ideal) a
abbrev pipes : Fin 1 → Pipeline.Cfg sig Λ₀ := Pipeline.pin (pcfgs (F := Ideal)) fun _ => a

/-- The coordinates of a point. -/
abbrev crd (t : Fin (pipe a).N) : (pipe a).grid.Coords := (pipe a).grid.coords t

/-- The buffers of the rows, the three weights and the result at a point. -/
abbrev bx (t : Fin (pipe a).N) : Memref sig .tc .vmem S256x1024 .f32 := spec0_0.stage ((pipe a).slots t (0 : Fin 5))
abbrev hbx (t : Fin (pipe a).N) : (bx a t).IsWhole := hstage0_0 (((pipe a).slots t (0 : Fin 5)).cast nbuf0_0)
abbrev bg (t : Fin (pipe a).N) : Memref sig .tc .vmem S1x1024x512 .f32 := spec0_1.stage ((pipe a).slots t (1 : Fin 5))
abbrev hbg (t : Fin (pipe a).N) : (bg a t).IsWhole := hstage0_1 (((pipe a).slots t (1 : Fin 5)).cast nbuf0_1)
abbrev bu (t : Fin (pipe a).N) : Memref sig .tc .vmem S1x1024x512 .f32 := spec0_2.stage ((pipe a).slots t (2 : Fin 5))
abbrev hbu (t : Fin (pipe a).N) : (bu a t).IsWhole := hstage0_2 (((pipe a).slots t (2 : Fin 5)).cast nbuf0_2)
abbrev bd (t : Fin (pipe a).N) : Memref sig .tc .vmem S1x512x1024 .f32 := spec0_3.stage ((pipe a).slots t (3 : Fin 5))
abbrev hbd (t : Fin (pipe a).N) : (bd a t).IsWhole := hstage0_3 (((pipe a).slots t (3 : Fin 5)).cast nbuf0_3)
abbrev bo (t : Fin (pipe a).N) : Memref sig .tc .vmem S256x1024 .f32 := spec0_4.stage ((pipe a).slots t (4 : Fin 5))
abbrev hbo (t : Fin (pipe a).N) : (bo a t).IsWhole := hstage0_4 (((pipe a).slots t (4 : Fin 5)).cast nbuf0_4)

/-- The number of blocks in use, as the body reads it. -/
abbrev used : Elt Ideal .i32 :=
  View.readAt (Elt Ideal) tbM0_1.view (Rect.unit (s := S1) ![0] S1.size inb_S1_S1_0).toLoadRect (tb1 a) (Shape.Idx.first (numel1_S1.symm ▸ Nat.one_pos))

/-- The point's block is in use. -/
abbrev Live (t : Fin (pipe a).N) : Prop := k0_cond1 (crd a t) (used a) = 1#1

/-- The second condition of the body is the first one's negation. -/
theorem cond2_iff (i : grid0.Coords) (w : BitVec 32) : k0_cond2 i w = 1#1 ↔ ¬k0_cond1 i w = 1#1 := by
  have h : ∀ p : Bool, (Scalar.cmpi .ne (Scalar.extui (BitVec.ofBool p) : BitVec 32) 0#32 = 1#1) ↔ p = true := by decide
  show (Scalar.cmpi .ne (Scalar.extui (BitVec.ofBool (w.sle (BitVec.ofNat 32 (i 0).val)))) 0#32 = 1#1) ↔
    ¬(Scalar.cmpi .ne (Scalar.extui (BitVec.ofBool ((BitVec.ofNat 32 (i 0).val).slt w))) 0#32 = 1#1)
  rw [h, h, BitVec.sle_iff_toInt_le, BitVec.slt_iff_toInt_lt]
  omega

/-- Every point stores its block. -/
theorem idle_o (i : grid0.Coords) : (pipe a).idle (4 : Fin 5) i = false := by
  show (!(k0_cond1 i (a.1.atD 1 ![0]) == 1#1) && !(k0_cond2 i (a.1.atD 1 ![0]) == 1#1)) = false
  generalize (a.1.atD 1 ![0] : BitVec 32) = w
  have h := cond2_iff i w
  by_cases h1 : k0_cond1 i w = 1#1
  · rw [h1]; rfl
  · rw [h.2 h1]; simp

theorem moves_o : ∀ (t : Fin grid0.N) (h : t.val + 1 < grid0.N),
    cc0_transform_4 (grid0.coords ⟨t.val + 1, h⟩) 0 ≠ cc0_transform_4 (grid0.coords t) 0 := by decide +kernel

/-- Every point writes its block back. -/
theorem flush_o (t : Fin (pipe a).N) : ((pipe a).win (4 : Fin 5)).flush t = true := by
  rw [Pipeline.Window.flush_eq_flushF]
  unfold Pipeline.Window.flushF
  by_cases h : t.val + 1 = grid0.N
  · have : decide (t.val + 1 = (pipe a).N) = true := decide_eq_true h
    show (true && (decide (t.val + 1 = grid0.N) || _)) = true
    rw [decide_eq_true h]; rfl
  · have h1 : t.val + 1 < grid0.N := lt_of_le_of_ne t.isLt h
    show (true && (_ || decide _)) = true
    rw [decide_eq_true (p := ∃ h : t.val + 1 < (pipe a).grid.N, ∃ x, ((pipe a).win (4 : Fin 5)).index ⟨t.val + 1, h⟩ x ≠ ((pipe a).win (4 : Fin 5)).index t x)
      ⟨h1, 0, moves_o t h1⟩]
    simp

/-- Before every point the result's buffer holds nothing of the block. -/
theorem fresh_o (t : Fin (pipe a).N) : (pipe a).fresh (4 : Fin 5) t.val = true :=
  Pipeline.Cfg.fresh_tab (pipe a) (4 : Fin 5) (fun _ => true) rfl (fun t => by rw [flush_o]; rfl) t.val (Nat.le_of_lt t.isLt)

variable (m : (ℓ : Loc nD τ sig) → Buf (Elt Ideal) ℓ) (ρ : Dev nD → PrngReg)

/-- A window's block at a point, read off its array. -/
def blockAt (c : Dev nD) (w : Fin (pipe a).W) (t : Fin (pipe a).N) : (((pipe a).win w).xblock (crd a t)).Idx → Elt Ideal ((pipe a).win w).elt :=
  (((pipe a).win w).blk t).view.read (Elt Ideal) ((s₀ m ρ).mem (((pipe a).win w).arr.view.loc (c : Thread nD τ)))

/-- The result's block after a point: the expert's value of the rows if the block is in use, zero if not. -/
def outAt (c : Dev nD) (t : Fin (pipe a).N) : S256x1024.Idx → Elt Ideal .f32 :=
  if h : Live a t then
    out0_A_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h (fun h2 => (cond2_iff _ _).1 h2 h)
  else
    out0_B_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h ((cond2_iff _ _).2 h)

theorem outAt_live (c : Dev nD) (t : Fin (pipe a).N) (h : Live a t) : outAt a m ρ c t =
    out0_A_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h (fun h2 => (cond2_iff _ _).1 h2 h) := by
  unfold outAt; rw [dif_pos h]

theorem outAt_rest (c : Dev nD) (t : Fin (pipe a).N) (h : ¬Live a t) : outAt a m ρ c t =
    out0_B_4 c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h ((cond2_iff _ _).2 h) := by
  unfold outAt; rw [dif_neg h]

end Cert.ExpertsRun

end
-- ==== Proof.ExpertsRun.Run.lean ====
/- The run of the experts' call at any contents of the two tables that name experts inside the arrays: it ends, faults
   nowhere, leaves its arguments as they were, and leaves in the result what its points wrote. -/
module

public import proofs.«01_k».proof.Proof.ExpertsRun.Point
public import Idealize.ShloMosaic.Lib.Pipeline.Quiescent
public import Idealize.ShloMosaic.Lib.Claim
public import Idealize.ShloMosaic.Lib.Pipeline.Kit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384

noncomputable section

namespace Cert.ExpertsRun

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The algebra of the staging cells. -/
abbrev Alg := MT nD τ sig Unit (Elt Ideal) ℕ (UR sig nD τ) ℕ
abbrev cells : Emb (UR sig nD τ) Alg := emb₁

variable (a : Tables)
variable (m : (ℓ : Loc nD τ sig) → Buf (Elt Ideal) ℓ) (ρ : Dev nD → PrngReg)

/-- Between the points the body holds its share of the two tables. -/
def Inv (c : Dev nD) : sProp Alg :=
  iprop((tbM0_0.view.loc (c : Thread nD τ) ↦{fullShare.right} tb0 a) ∗ (tbM0_1.view.loc (c : Thread nD τ) ↦{fullShare.right} tb1 a))

/-- What each window's array holds at the start and each buffer after a point. -/
def data (_ : Fin 1) (c : Dev nD) : Dat τ (Elt Ideal) Unit ℕ (UR sig nD τ) ℕ (pipe a) c where
  A w := (s₀ m ρ).mem (((pipe a).win w).arr.view.loc (c : Thread nD τ))
  after w t := match w with
    | ⟨0, _⟩ => blockAt a m ρ c (0 : Fin 5) t
    | ⟨1, _⟩ => blockAt a m ρ c (1 : Fin 5) t
    | ⟨2, _⟩ => blockAt a m ρ c (2 : Fin 5) t
    | ⟨3, _⟩ => blockAt a m ρ c (3 : Fin 5) t
    | ⟨4, _⟩ => outAt a m ρ c t
  Φ _ := Inv a c
  q _ := fullShare
  owed _ := 0

theorem after_0 (c : Dev nD) (t : Fin (pipe a).N) : (data a m ρ 0 c).after (0 : Fin 5) t = blockAt a m ρ c (0 : Fin 5) t := rfl
theorem after_1 (c : Dev nD) (t : Fin (pipe a).N) : (data a m ρ 0 c).after (1 : Fin 5) t = blockAt a m ρ c (1 : Fin 5) t := rfl
theorem after_2 (c : Dev nD) (t : Fin (pipe a).N) : (data a m ρ 0 c).after (2 : Fin 5) t = blockAt a m ρ c (2 : Fin 5) t := rfl
theorem after_3 (c : Dev nD) (t : Fin (pipe a).N) : (data a m ρ 0 c).after (3 : Fin 5) t = blockAt a m ρ c (3 : Fin 5) t := rfl
theorem after_4 (c : Dev nD) (t : Fin (pipe a).N) : (data a m ρ 0 c).after (4 : Fin 5) t = outAt a m ρ c t := rfl

/-- Each input's buffer holds the point's block when the body runs. -/
theorem before_0 (c : Dev nD) (t : Fin (pipe a).N) (d) : (data a m ρ 0 c).before (0 : Fin 5) t d = blockAt a m ρ c (0 : Fin 5) t :=
  ((data a m ρ 0 c).before_in_eq_fetched (0 : Fin 5) rfl (fun _ => rfl) (fun _ _ _ => rfl) (fun t => by rw [after_0]; unfold Dat.blockOf blockAt; rfl) t d).trans
    (by unfold Dat.fetched Dat.blockOf blockAt; rfl)
theorem before_1 (c : Dev nD) (t : Fin (pipe a).N) (d) : (data a m ρ 0 c).before (1 : Fin 5) t d = blockAt a m ρ c (1 : Fin 5) t :=
  ((data a m ρ 0 c).before_in_eq_fetched (1 : Fin 5) rfl (fun _ => rfl) (fun _ _ _ => rfl) (fun t => by rw [after_1]; unfold Dat.blockOf blockAt; rfl) t d).trans
    (by unfold Dat.fetched Dat.blockOf blockAt; rfl)
theorem before_2 (c : Dev nD) (t : Fin (pipe a).N) (d) : (data a m ρ 0 c).before (2 : Fin 5) t d = blockAt a m ρ c (2 : Fin 5) t :=
  ((data a m ρ 0 c).before_in_eq_fetched (2 : Fin 5) rfl (fun _ => rfl) (fun _ _ _ => rfl) (fun t => by rw [after_2]; unfold Dat.blockOf blockAt; rfl) t d).trans
    (by unfold Dat.fetched Dat.blockOf blockAt; rfl)
theorem before_3 (c : Dev nD) (t : Fin (pipe a).N) (d) : (data a m ρ 0 c).before (3 : Fin 5) t d = blockAt a m ρ c (3 : Fin 5) t :=
  ((data a m ρ 0 c).before_in_eq_fetched (3 : Fin 5) rfl (fun _ => rfl) (fun _ _ _ => rfl) (fun t => by rw [after_3]; unfold Dat.blockOf blockAt; rfl) t d).trans
    (by unfold Dat.fetched Dat.blockOf blockAt; rfl)

/-- The body at a point, on the point's buffers. -/
abbrev bodyAt (t : Fin (pipe a).N) : Prog (TpuEff nD τ sig (Elt Ideal) Λ₀ .tc) PUnit :=
  cc0_moe_experts (crd a t) (Memref.whole main_arg0) (Memref.isWhole_whole _) (Memref.whole main_arg1) (Memref.isWhole_whole _) (bx a t) (hbx a t) (bg a t) (hbg a t) (bu a t) (hbu a t) (bd a t) (hbd a t) (bo a t) (hbo a t)

/-- The body at a point: from the blocks in the inputs' buffers it leaves the result's block in the result's buffer. -/
theorem body_at (c : Dev nD) (t : Fin (pipe a).N) :
    iprop((data a m ρ 0 c).Φ t.castSucc ∗ (data a m ρ 0 c).owesAt () t.castSucc
        ∗ (∃ d, owns (c : Thread nD τ) (bx a t) fullShare ((data a m ρ 0 c).before (0 : Fin 5) t d))
        ∗ (∃ d, owns (c : Thread nD τ) (bg a t) fullShare ((data a m ρ 0 c).before (1 : Fin 5) t d))
        ∗ (∃ d, owns (c : Thread nD τ) (bu a t) fullShare ((data a m ρ 0 c).before (2 : Fin 5) t d))
        ∗ (∃ d, owns (c : Thread nD τ) (bd a t) fullShare ((data a m ρ 0 c).before (3 : Fin 5) t d))
        ∗ (∃ d, owns (c : Thread nD τ) (bo a t) fullShare ((data a m ρ 0 c).before (4 : Fin 5) t d)))
      ⊢ wp frame (wpE (defs₀ (F := Ideal)) Variants.none c none) Set.univ (bodyAt a t) fun _ =>
          iprop((data a m ρ 0 c).Φ t.succ ∗ (data a m ρ 0 c).owesAt () t.succ
            ∗ bigSep Finset.univ fun w : Fin (pipe a).W =>
                match (pipe a).idle w ((pipe a).grid.coords t) with
                | true =>
                  match ((pipe a).win w).flush t with
                  | false => iprop(∃ d, owns (c : Thread nD τ) (((pipe a).win w).stage ((pipe a).slots t w)) fullShare ((data a m ρ 0 c).before w t d))
                  | true => owns (c : Thread nD τ) (((pipe a).win w).stage ((pipe a).slots t w)) fullShare ((data a m ρ 0 c).after w t)
                | false => owns (c : Thread nD τ) (((pipe a).win w).stage ((pipe a).slots t w)) fullShare ((data a m ρ 0 c).after w t)) := by
  rw [bigSep_W0]
  rewrite [idle_o a]
  simp only [before_0, before_1, before_2, before_3, after_0, after_1, after_2, after_3, after_4]
  rewrite [show (data a m ρ 0 c).Φ t.succ = Inv a c from rfl, show (data a m ρ 0 c).Φ t.castSucc = Inv a c from rfl,
    show (data a m ρ 0 c).owesAt () t.succ = (data a m ρ 0 c).owesAt () t.castSucc from rfl]
  unfold Inv
  by_cases h : Live a t
  · rewrite [outAt_live a m ρ c t h]
    iintro ⟨⟨HT0, HT1⟩, Ho, ⟨%d0, H0⟩, ⟨%d1, H1⟩, ⟨%d2, H2⟩, ⟨%d3, H3⟩, ⟨%d4, H4⟩⟩
    iapply ((kernelRun0_A c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h (fun h2 => (cond2_iff _ _).1 h2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rewrite [outAt_rest a m ρ c t h]
    iintro ⟨⟨HT0, HT1⟩, Ho, ⟨%d0, H0⟩, ⟨%d1, H1⟩, ⟨%d2, H2⟩, ⟨%d3, H3⟩, ⟨%d4, H4⟩⟩
    iapply ((kernelRun0_B c (crd a t) (bx a t) (hbx a t) (bg a t) (hbg a t) (bu a t) (hbu a t) (bd a t) (hbd a t) (bo a t) (hbo a t) (tb0 a) (tb1 a) (blockAt a m ρ c (0 : Fin 5) t) (blockAt a m ρ c (1 : Fin 5) t) (blockAt a m ρ c (2 : Fin 5) t) (blockAt a m ρ c (3 : Fin 5) t) h ((cond2_iff _ _).2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

theorem body_every (c : Dev nD) : BodyObligation (data a m ρ 0 c) (defs₀ (F := Ideal)) Variants.none () Set.univ := fun t => by
  rw [bigSep_W0]
  exact body_at a m ρ c t

/-- The staging cells at the start. -/
def start : UR sig nD τ :=
  initOf (Pipeline.cells (pipes a) ((launch0 (F := Ideal)).cellOf_inj fun _ => a))
    (Pipeline.launchToks (pipes a) ((launch0 (F := Ideal)).cellOf_inj fun _ => a))

theorem share_eq (c : Dev nD) (w : Fin (pipe a).W) : (data a m ρ 0 c).share w = fullShare := by unfold Dat.share; split <;> rfl

/-- The two tables, one by one. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp Alg)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem inv_intro (c : Dev nD) :
    iprop(BI.emp ∗ Pipeline.prefHeld pre0 c (fun _ => fullShare.right) a.1 ∗ Pipeline.scopedRest spec0 c) ⊢ (data a m ρ 0 c).Φ 0 := by
  rw [tables_held, scopedRest0_eq, show (data a m ρ 0 c).Φ 0 = Inv a c from rfl]
  unfold Inv
  iintro ⟨-, ⟨HT0, HT1⟩, -⟩
  isplitl [HT0]
  · iexact HT0
  iexact HT1

theorem inv_exit (c : Dev nD) : (data a m ρ 0 c).Φ (Fin.last (pipe a).N) ⊢ iprop(BI.emp ∗ Pipeline.scopedRest spec0 c) := by
  rw [scopedRest0_eq, show (data a m ρ 0 c).Φ (Fin.last (pipe a).N) = Inv a c from rfl]
  unfold Inv
  iintro ⟨-, -⟩
  isplitr; · iempintro
  iempintro

/-- The end of the run: each window's array at what the points left, each table as it was. -/
def End : PUnit × MemSt nD τ sig (Elt Ideal) → Prop := fun r =>
  ∀ c : Dev nD, (∀ w : Fin (pipe a).W, r.2.mem (((pipe a).win w).arr.view.loc (c : Thread nD τ)) = (data a m ρ 0 c).arrAt w (pipe a).N)
    ∧ ∀ j, r.2.mem ((c : Thread nD τ).loc (pre0.ref j)) = a.1 j

set_option backward.isDefEq.respectTransparency.types false in
/-- The run from a memory that holds these tables. -/
theorem run (hp : ∀ (c : Dev nD) (j : Fin 2), m ((c : Thread nD τ).loc (pre0.ref j)) = a.1 j) :
    θ_run (defs (F := Ideal)) (onTc (τ := τ) (main (F := Ideal))) (s₀ m ρ) (fun r => End a m ρ r ∧ r.2.sem = fun _ => 0) :=
  Pipeline.θ_run_region_noSem_pf_quiescent pcfgs (fun _ => a) (data a m ρ) () ((launch0 (F := Ideal)).cellOf_inj fun _ => a) (0 : Fin 1)
    (launch0 (F := Ideal)).win.to₀ (launch0 (F := Ideal)).pre cells defs₀ Variants.none m ρ main
    (hbody := fun c => (body_every a m ρ c).loose) (hne := (launch0 (F := Ideal)).block_pos)
    (harr := (launch0 (F := Ideal)).arr_whole) (hstage := (launch0 (F := Ideal)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (data a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_intro a m ρ)
    (hout := inv_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem args_kept (hp : ∀ (c : Dev nD) (j : Fin 2), m ((c : Thread nD τ).loc (pre0.ref j)) = a.1 j)
    (r : PUnit × MemSt nD τ sig (Elt Ideal)) (h : End a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp c 0).symm, ((h c).2 1).trans (hp c 1).symm, ((h c).1 (0 : Fin 5)).trans ((data a m ρ 0 c).arrAt_in (0 : Fin 5) rfl _),
    ((h c).1 (1 : Fin 5)).trans ((data a m ρ 0 c).arrAt_in (1 : Fin 5) rfl _), ((h c).1 (2 : Fin 5)).trans ((data a m ρ 0 c).arrAt_in (2 : Fin 5) rfl _),
    ((h c).1 (3 : Fin 5)).trans ((data a m ρ 0 c).arrAt_in (3 : Fin 5) rfl _)⟩

end Cert.ExpertsRun

end
-- ==== Proof.ExpertsRun.Tables.lean ====
/- The tables the call reads, out of a memory whose blocks name one of the 32 experts: every block of weights they ask for lies inside its array. -/
module

public import proofs.«01_k».proof.Defs
public import proofs.«01_k».proof.Proof.Gen.Pre_blocks_name_experts
public import proofs.«01_k».proof.Proof.ExpertsRun.Run

@[expose] public section

set_option maxRecDepth 16384

noncomputable section

namespace Cert.ExpertsRun

open Cert.ExpertsIdeal Cert.ExpertsIdeal.Gen
open Idealize.ShloMosaic Idealize.ShloMosaic.TcCoe Idealize.SL.Sem

/-- A table of experts: every word is one of 0, …, 31. -/
def Names (x : S288.Idx → BitVec 32) : Prop := ∀ i, (x i).toNat < 32

theorem word_lt : ∀ w : BitVec 32, IntOp.andi (IntOp.cmpi .sge w 0#32) (IntOp.cmpi .slt w 32#32) = 1#1 → w.toNat < 32 := by
  intro w h
  have h' : (BitVec.ofBool (BitVec.sle 0#32 w)) &&& (BitVec.ofBool (BitVec.slt w 32#32)) = 1#1 := h
  have hb : ∀ p q : Bool, BitVec.ofBool p &&& BitVec.ofBool q = 1#1 → p = true ∧ q = true := by decide
  obtain ⟨h1, h2⟩ := hb _ _ h'
  rw [BitVec.sle_iff_toInt_le] at h1
  rw [BitVec.slt_iff_toInt_lt] at h2
  have e0 : (0#32 : BitVec 32).toInt = 0 := by decide
  have e1 : (32#32 : BitVec 32).toInt = 32 := by decide
  rw [e0] at h1
  rw [e1] at h2
  rw [BitVec.toInt_eq_toNat_cond] at h1 h2
  have := w.isLt
  split at h1 <;> omega

/-- What the precondition says of the table. -/
theorem names_of {F : FTy → Type} [FloatOps F] (x : S288.Idx → BitVec 32) (a1) (a2) (a3) (a4) (a5)
    (h : Cert.Pre_blocks_name_experts.fn (F := F) x a1 a2 a3 a4 a5 = (fun _ => 1#1)) : Names x := fun i =>
  word_lt (x i) (congrFun h i)

/-- The block a point's weights are taken from lies inside the array of the weights. -/
theorem block_in {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem admissible (pf : pre0.Contents (Elt Ideal)) (h : Names (pf 0)) : ok0 (F := Ideal) pf :=
  ⟨fun i => ⟨block_in ((Nat.mul_one _).le.trans (Nat.succ_le_of_lt (h _))) (by decide), .inl rfl⟩,
   fun i => ⟨block_in ((Nat.mul_one _).le.trans (Nat.succ_le_of_lt (h _))) (by decide), .inl rfl⟩,
   fun i => ⟨block_in ((Nat.mul_one _).le.trans (Nat.succ_le_of_lt (h _))) (by decide), .inl rfl⟩⟩

variable (m : (ℓ : Loc nD τ sig) → Buf (Elt Ideal) ℓ)

/-- The tables of a memory. -/
def contents : pre0.Contents (Elt Ideal) := fun j => m (((0 : Dev nD) : Thread nD τ).loc (pre0.ref j))

theorem names (h : Cert.Pre_ExpertsIdeal m) : Names (contents m 0) := names_of _ _ _ _ _ _ (h 0)

def tables (h : Cert.Pre_ExpertsIdeal m) : Tables := ⟨contents m, admissible _ (names m h)⟩

theorem held (h : Cert.Pre_ExpertsIdeal m) (c : Dev nD) (j : Fin 2) : m ((c : Thread nD τ).loc (pre0.ref j)) = (tables m h).1 j := by
  have e : c = 0 := Subsingleton.elim _ _
  subst e; rfl

/-- The call ends, and its arguments end as they were. -/
theorem frame : Cert.quiescent_ExpertsIdeal := fun m ρ h =>
  (θ_run (defs (F := Ideal)) _ _).mono (fun r hr => ⟨fun c => args_kept (tables m h) m ρ (held m h) r hr.1 c, hr.2⟩) (run (tables m h) m ρ (held m h))

end Cert.ExpertsRun

end
-- ==== Proof.Experts.Spec.lean ====
/- The experts' mathematics: a row through the two weights of its block's expert, the activation, and the third weight; zero in the blocks past the ones in use. -/
module

public import Idealize.ShloMosaic.Lib.Pointwise
public import Idealize.ShloMosaic.PureOps.Ideal

@[expose] public section

noncomputable section

namespace Cert.ExpertsSpec

open Idealize.ShloMosaic

/-- A hidden unit: its first preactivation through `a ↦ a / (1 + e⁻ᵃ)`, times its second. -/
def act (a b : EReal) : EReal := a * Ideal.div 1 (1 + Ideal.exp (-a)) * b

variable (E : (⟨1, ![288]⟩ : Shape).Idx → BitVec 32) (hE : ∀ i, (E i).toNat < 32) (u : (⟨1, ![1]⟩ : Shape).Idx → BitVec 32)
  (x : (⟨2, ![73728, 1024]⟩ : Shape).Idx → EReal) (g w : (⟨3, ![32, 1024, 512]⟩ : Shape).Idx → EReal) (d : (⟨3, ![32, 512, 1024]⟩ : Shape).Idx → EReal)

/-- The expert of a block. -/
def expert (n : Fin 288) : Fin 32 := ⟨(E (ix1 n)).toNat, hE _⟩

/-- The block a row belongs to, and its place there. -/
def blockOf (t : Fin 73728) : Fin 288 := ⟨t.val / 256, by omega⟩
def placeOf (t : Fin 73728) : Fin 256 := ⟨t.val % 256, Nat.mod_lt _ (by decide)⟩
def rowAt (n : Fin 288) (r : Fin 256) : Fin 73728 := ⟨256 * n.val + r.val, by omega⟩

theorem rowAt_of (t : Fin 73728) : rowAt (blockOf t) (placeOf t) = t :=
  Fin.ext (by show 256 * (t.val / 256) + t.val % 256 = t.val; omega)

/-- The block is one of those in use. -/
def inUse (n : Fin 288) : Prop := IntOp.cmpi .slt (BitVec.ofNat 32 n.val) (u (ix1 0)) = 1#1

/-- One row's value under an expert. -/
def value (e : Fin 32) (t : Fin 73728) (j : Fin 1024) : EReal :=
  ∑ f : Fin 512, act (∑ k : Fin 1024, x (ix2 t k) * g (ix3 e k f)) (∑ k : Fin 1024, x (ix2 t k) * w (ix3 e k f)) * d (ix3 e f j)

open Classical in
/-- One entry of the result. -/
def result (t : Fin 73728) (j : Fin 1024) : EReal :=
  if inUse u (blockOf t) then value x g w d (expert E hE (blockOf t)) t j else 0

theorem result_use (t : Fin 73728) (j : Fin 1024) (h : inUse u (blockOf t)) : result E hE u x g w d t j = value x g w d (expert E hE (blockOf t)) t j := by
  unfold result; rw [if_pos h]

theorem result_rest (t : Fin 73728) (j : Fin 1024) (h : ¬inUse u (blockOf t)) : result E hE u x g w d t j = 0 := by
  unfold result; rw [if_neg h]

end Cert.ExpertsSpec

end
-- ==== Proof.Experts.Tile.lean ====
/- One block of the experts' call, read at an index. -/
module

public import proofs.«01_k».proof.Proof.ExpertsRun.Tables
public import proofs.«01_k».proof.Proof.Experts.Spec

@[expose] public section

set_option maxRecDepth 16384

noncomputable section

namespace Cert.ExpertsVal

open Cert.ExpertsIdeal Cert.ExpertsIdeal.Gen Idealize.ShloMosaic Idealize.ShloMosaic.TcCoe Idealize.SL.Sem Cert.ExpertsSpec

/-- A block in use: each row's value under the weights given. -/
theorem tile (x0 : Vec Ideal S256x1024 .f32) (x1 x2 : Vec Ideal S1x1024x512 .f32) (x3 : Vec Ideal S1x512x1024 .f32) (r : Fin 256) (j : Fin 1024) :
    k0_pay1 x0 x1 x2 x3 (ix2 r j) = ∑ f : Fin 512, act (∑ k : Fin 1024, x0 (ix2 r k) * x1 (ix3 0 k f)) (∑ k : Fin 1024, x0 (ix2 r k) * x2 (ix3 0 k f)) * x3 (ix3 0 f j) := by
  unfold act
  pointwise [k0_pay1]
  exact Finset.sum_congr rfl fun f _ => by rw [sub_eq_add_neg, zero_add]

/-- A block past those in use. -/
theorem tile0 (r : Fin 256) (j : Fin 1024) : k0_pay2 (F := Ideal) (ix2 r j) = 0 := by
  pointwise [k0_pay2]

end Cert.ExpertsVal
end
-- ==== Proof.Experts.Points.lean ====
/- The array the experts' call leaves, read at a row and a column: the row's value under its block's expert, zero in the blocks past those in use. -/
module

public import proofs.«01_k».proof.Proof.Experts.Tile
public import Idealize.ShloMosaic.Lib.VecWindow

@[expose] public section

set_option maxRecDepth 16384

noncomputable section

namespace Cert.ExpertsVal

open Cert.ExpertsIdeal Cert.ExpertsIdeal.Gen Cert.ExpertsRun Cert.ExpertsSpec
open Idealize.ShloMosaic Idealize.ShloMosaic.TcCoe Idealize.SL.Sem

variable (a : Tables)
variable (m : (ℓ : Loc nD τ sig) → Buf (Elt Ideal) ℓ) (ρ : Dev nD → PrngReg) (c : Dev nD) (t : Fin (pipe a).N)

theorem hz2 : (![0, 0] : Fin 2 → ℕ) = fun _ => 0 := by funext i; fin_cases i <;> rfl

/-- A point's block. -/
def pt : Fin 288 := ⟨t.val, lt_of_lt_of_eq t.isLt N_0⟩

theorem coord : ∀ t : Fin grid0.N, (grid0.coords t 0).val = t.val := by decide +kernel

theorem rows_idx : ∀ t : Fin grid0.N, cc0_transform_0 (grid0.coords t) 0 = t.val ∧ cc0_transform_0 (grid0.coords t) 1 = 0 := by decide +kernel
theorem out_idx : ∀ t : Fin grid0.N, cc0_transform_4 (grid0.coords t) 0 = t.val ∧ cc0_transform_4 (grid0.coords t) 1 = 0 := by decide +kernel

theorem word_at : ∀ t : Fin grid0.N, (Scalar.indexCast (BitVec.ofNat 32 (grid0.coords t 0).val) : Index).toNat = t.val := by decide +kernel

/-- The expert of a point's weights. -/
theorem gate_idx : cc0_transform_1 k0_off1_inb numel1_S1 a.1 (crd a t) 0 = (tb0 a (ix1 (pt a t))).toNat := by
  refine congrArg (fun i => (tb0 a i).toNat) (funext fun q => Fin.ext ?_)
  match q with
  | ⟨0, _⟩ =>
    show (Scalar.indexCast (BitVec.ofNat 32 (grid0.coords t 0).val) : Index).toNat + 1 * 0 = t.val
    rw [word_at t]; omega

theorem up_idx : cc0_transform_2 k0_off1_inb numel1_S1 a.1 (crd a t) 0 = (tb0 a (ix1 (pt a t))).toNat := by
  refine congrArg (fun i => (tb0 a i).toNat) (funext fun q => Fin.ext ?_)
  match q with
  | ⟨0, _⟩ =>
    show (Scalar.indexCast (BitVec.ofNat 32 (grid0.coords t 0).val) : Index).toNat + 1 * 0 = t.val
    rw [word_at t]; omega

theorem down_idx : cc0_transform_3 k0_off1_inb numel1_S1 a.1 (crd a t) 0 = (tb0 a (ix1 (pt a t))).toNat := by
  refine congrArg (fun i => (tb0 a i).toNat) (funext fun q => Fin.ext ?_)
  match q with
  | ⟨0, _⟩ =>
    show (Scalar.indexCast (BitVec.ofNat 32 (grid0.coords t 0).val) : Index).toNat + 1 * 0 = t.val
    rw [word_at t]; omega

/-- A block in use. -/
theorem outAt_use (h : Live a t) : outAt a m ρ c t = k0_pay1 (blockAt a m ρ c 0 t) (blockAt a m ρ c 1 t) (blockAt a m ρ c 2 t) (blockAt a m ρ c 3 t) := by
  rw [outAt_live a m ρ c t h]
  unfold out0_A_4
  unfold kernelRun0_A
  dsimp only [kernelRun0_A.sl.HO4_1]
  refine (View.read_writes_full VO0_4 _ _ _ _).trans ?_
  exact congr (congr (congr (congrArg k0_pay1 (View.readAt_rep_full (bx a t).view _ _)) (View.readAt_rep_full (bg a t).view _ _)) (View.readAt_rep_full (bu a t).view _ _)) (View.readAt_rep_full (bd a t).view _ _)

/-- A block past those in use. -/
theorem outAt_past (h : ¬Live a t) : outAt a m ρ c t = k0_pay2 (F := Ideal) := by
  rw [outAt_rest a m ρ c t h]
  unfold out0_B_4
  unfold kernelRun0_B
  dsimp only [kernelRun0_B.sl.HO4_1]
  exact View.read_writes_full VO0_4 _ _ _ _

theorem rows_at (X : Vec Ideal S73728x1024 .f32) (r : Fin 256) (k : Fin 1024) :
    ((((pipe a).win (0 : Fin 5)).blk t).view.read (Elt Ideal) X : Vec Ideal S256x1024 .f32) (ix2 r k) = X (ix2 (rowAt (pt a t) r) k) := by
  obtain ⟨e0, e1⟩ := rows_idx t
  rw [View.read_apply]
  refine congrArg X (funext fun i => Fin.ext ?_)
  match i with
  | ⟨0, _⟩ => show cc0_transform_0 (crd a t) 0 * 256 + 1 * r.val = 256 * t.val + r.val; rw [e0]; omega
  | ⟨1, _⟩ => show cc0_transform_0 (crd a t) 1 * 1024 + 1 * k.val = k.val; rw [e1]; omega

variable (hE : Names (tb0 a))

theorem gate_at (X : Vec Ideal S32x1024x512 .f32) (k : Fin 1024) (f : Fin 512) :
    ((((pipe a).win (1 : Fin 5)).blk t).view.read (Elt Ideal) X : Vec Ideal S1x1024x512 .f32) (ix3 0 k f) = X (ix3 (expert (tb0 a) hE (pt a t)) k f) := by
  rw [View.read_apply]
  refine congrArg X (funext fun i => Fin.ext ?_)
  match i with
  | ⟨0, _⟩ => show cc0_transform_1 k0_off1_inb numel1_S1 a.1 (crd a t) 0 * 1 + 1 * 0 = (tb0 a (ix1 (pt a t))).toNat; rw [gate_idx]; omega
  | ⟨1, _⟩ => show 0 * 1024 + 1 * k.val = k.val; omega
  | ⟨2, _⟩ => show 0 * 512 + 1 * f.val = f.val; omega

theorem up_at (X : Vec Ideal S32x1024x512 .f32) (k : Fin 1024) (f : Fin 512) :
    ((((pipe a).win (2 : Fin 5)).blk t).view.read (Elt Ideal) X : Vec Ideal S1x1024x512 .f32) (ix3 0 k f) = X (ix3 (expert (tb0 a) hE (pt a t)) k f) := by
  rw [View.read_apply]
  refine congrArg X (funext fun i => Fin.ext ?_)
  match i with
  | ⟨0, _⟩ => show cc0_transform_2 k0_off1_inb numel1_S1 a.1 (crd a t) 0 * 1 + 1 * 0 = (tb0 a (ix1 (pt a t))).toNat; rw [up_idx]; omega
  | ⟨1, _⟩ => show 0 * 1024 + 1 * k.val = k.val; omega
  | ⟨2, _⟩ => show 0 * 512 + 1 * f.val = f.val; omega

theorem down_at (X : Vec Ideal S32x512x1024 .f32) (k : Fin 512) (f : Fin 1024) :
    ((((pipe a).win (3 : Fin 5)).blk t).view.read (Elt Ideal) X : Vec Ideal S1x512x1024 .f32) (ix3 0 k f) = X (ix3 (expert (tb0 a) hE (pt a t)) k f) := by
  rw [View.read_apply]
  refine congrArg X (funext fun i => Fin.ext ?_)
  match i with
  | ⟨0, _⟩ => show cc0_transform_3 k0_off1_inb numel1_S1 a.1 (crd a t) 0 * 1 + 1 * 0 = (tb0 a (ix1 (pt a t))).toNat; rw [down_idx]; omega
  | ⟨1, _⟩ => show 0 * 512 + 1 * k.val = k.val; omega
  | ⟨2, _⟩ => show 0 * 1024 + 1 * f.val = f.val; omega

theorem out_at (X : Vec Ideal S73728x1024 .f32) (r : Fin 256) (k : Fin 1024) :
    ((((pipe a).win (4 : Fin 5)).blk t).view.read (Elt Ideal) X : Vec Ideal S256x1024 .f32) (ix2 r k) = X (ix2 (rowAt (pt a t) r) k) := by
  obtain ⟨e0, e1⟩ := out_idx t
  rw [View.read_apply]
  refine congrArg X (funext fun i => Fin.ext ?_)
  match i with
  | ⟨0, _⟩ => show cc0_transform_4 (crd a t) 0 * 256 + 1 * r.val = 256 * t.val + r.val; rw [e0]; omega
  | ⟨1, _⟩ => show cc0_transform_4 (crd a t) 1 * 1024 + 1 * k.val = k.val; rw [e1]; omega

/-- Two points write blocks that share no index. -/
theorem apart : ∀ t t' : Fin (pipe a).N, ((pipe a).win (4 : Fin 5)).flush t = true → ((pipe a).win (4 : Fin 5)).flush t' = true → t ≠ t' →
    Disjoint (((pipe a).win (4 : Fin 5)).blk t).view.set (((pipe a).win (4 : Fin 5)).blk t').view.set :=
  fun t t' _ _ hne => ((pipe a).win (4 : Fin 5)).disjoint_blk fun h =>
    hne (Fin.ext ((out_idx t).1.symm.trans ((congrFun h 0).trans (out_idx t').1)))

/-- A point's block of the array the call leaves is what the point stored. -/
theorem left_block : (((pipe a).win (4 : Fin 5)).blk t).view.read (Elt Ideal) ((data a m ρ 0 c).arrAt (4 : Fin 5) (pipe a).N) = outAt a m ρ c t := by
  rw [(data a m ρ 0 c).read_blk_arrAt_eq_flushed (4 : Fin 5) (apart a) (pipe a).N t t.isLt (flush_o a t)]
  show ((pipe a).win (4 : Fin 5)).cut (crd a t) ((data a m ρ 0 c).after (4 : Fin 5) t) = _
  rw [after_4]
  rfl

/-- The number of blocks in use, as the body reads it, is the second table's only word. -/
theorem used_eq : used a = tb1 a (ix1 0) := by
  unfold used
  rw [View.readAt_full]
  refine congrArg (tb1 a) (funext fun q => Fin.ext ?_)
  match q with
  | ⟨0, _⟩ => exact Nat.lt_one_iff.1 (Fin.isLt _)

/-- The body's condition says that the point's block is in use. -/
theorem live_iff : Live a t ↔ inUse (tb1 a) (pt a t) := by
  have h : ∀ b : BitVec 1, (Scalar.cmpi .ne (Scalar.extui b : BitVec 32) 0#32 = 1#1) ↔ b = 1#1 := by decide
  unfold Live inUse
  rw [used_eq]
  generalize (tb1 a (ix1 0) : BitVec 32) = w
  show Scalar.cmpi .ne (Scalar.extui (Scalar.cmpi .slt (BitVec.ofNat 32 (grid0.coords t 0).val) w) : BitVec 32) 0#32 = 1#1 ↔ IntOp.cmpi .slt (BitVec.ofNat 32 t.val) w = 1#1
  rw [h, coord t]
  rfl

/-- One entry of the array the call leaves. -/
theorem left_at (T : Fin 73728) (j : Fin 1024) :
    ((data a m ρ 0 c).arrAt (4 : Fin 5) (pipe a).N : Vec Ideal S73728x1024 .f32) (ix2 T j)
      = result (tb0 a) hE (tb1 a) (m ((c : Thread nD τ).loc main_arg2)) (m ((c : Thread nD τ).loc main_arg3)) (m ((c : Thread nD τ).loc main_arg4)) (m ((c : Thread nD τ).loc main_arg5)) T j := by
  have hN : (blockOf T).val < grid0.N := lt_of_lt_of_eq (blockOf T).isLt N_0.symm
  let t : Fin (pipe a).N := ⟨(blockOf T).val, hN⟩
  have ht : pt a t = blockOf T := rfl
  have h0 := congrFun (left_block a m ρ c t) (ix2 (placeOf T) j)
  have h1 := (out_at a t ((data a m ρ 0 c).arrAt (4 : Fin 5) (pipe a).N) (placeOf T) j).symm.trans h0
  rw [ht, rowAt_of] at h1
  refine h1.trans ?_
  by_cases h : Live a t
  · refine Eq.trans ?_ (result_use (tb0 a) hE (tb1 a) _ _ _ _ T j ((live_iff a t).1 h)).symm
    refine (congrFun (outAt_use a m ρ c t h) (ix2 (placeOf T) j)).trans ((tile _ _ _ _ (placeOf T) j).trans ?_)
    unfold value
    have ex : ∀ k, blockAt a m ρ c 0 t (ix2 (placeOf T) k) = m ((c : Thread nD τ).loc main_arg2) (ix2 T k) := fun k =>
      (rows_at a t (m ((c : Thread nD τ).loc main_arg2)) (placeOf T) k).trans (by rw [ht, rowAt_of])
    have eg : ∀ k f, blockAt a m ρ c 1 t (ix3 0 k f) = m ((c : Thread nD τ).loc main_arg3) (ix3 (expert (tb0 a) hE (blockOf T)) k f) :=
      gate_at a t hE (m ((c : Thread nD τ).loc main_arg3))
    have eu : ∀ k f, blockAt a m ρ c 2 t (ix3 0 k f) = m ((c : Thread nD τ).loc main_arg4) (ix3 (expert (tb0 a) hE (blockOf T)) k f) :=
      up_at a t hE (m ((c : Thread nD τ).loc main_arg4))
    have ed : ∀ k f, blockAt a m ρ c 3 t (ix3 0 k f) = m ((c : Thread nD τ).loc main_arg5) (ix3 (expert (tb0 a) hE (blockOf T)) k f) :=
      down_at a t hE (m ((c : Thread nD τ).loc main_arg5))
    refine Finset.sum_congr rfl fun f _ => congrArg₂ (· * ·) (congrArg₂ act ?_ ?_) (ed f j)
    · exact Finset.sum_congr rfl fun k _ => congrArg₂ (· * ·) (ex k) (eg k f)
    · exact Finset.sum_congr rfl fun k _ => congrArg₂ (· * ·) (ex k) (eu k f)
  · refine Eq.trans ?_ (result_rest (tb0 a) hE (tb1 a) _ _ _ _ T j (fun h' => h ((live_iff a t).2 h'))).symm
    exact (congrFun (outAt_past a m ρ c t h) (ix2 (placeOf T) j)).trans (tile0 (placeOf T) j)

end Cert.ExpertsVal

end
-- ==== Proof.ExpertsRef.Result.lean ====
/- The reference of the experts' call, read at an index. -/
module

public import proofs.«01_k».proof.Proof.Gen.ExpertsReferenceIdeal.Run
public import proofs.«01_k».proof.Proof.Experts.Spec

@[expose] public section

set_option maxRecDepth 16384

noncomputable section

namespace Cert.ExpertsRef

open Cert.ExpertsReferenceIdeal Cert.ExpertsReferenceIdeal.Gen Cert.ExpertsReferenceIdeal.Value Idealize.ShloMosaic Idealize.ShloMosaic.TcCoe Idealize.SL.Sem Cert.ExpertsSpec

/-- The block's rows through one weight of their experts. -/
def up (x : FVec Ideal S288x256x1024 .f32) (w : FVec Ideal S288x1024x512 .f32) : FVec Ideal S288x256x512 .f32 :=
  Host.dotGeneral dot_S288x256x1024_S288x1024x512_S288x256x512_2_1_1_2_0_0 none x w

/-- The hidden layer: the first weight's image through the activation, times the second's. -/
def hidden (p q : FVec Ideal S288x256x512 .f32) : FVec Ideal S288x256x512 .f32 :=
  mulf (mulf p (Host.divf (broadcastInDim S288x256x512 ![] bcast_S_S288x256x512 (constant S_ .f32 0x3F800000#32)) (addf (broadcastInDim S288x256x512 ![] bcast_S_S288x256x512 (constant S_ .f32 0x3F800000#32)) (Host.exp (Host.negf p))))) q

/-- The hidden layer through the third weight. -/
def down (h : FVec Ideal S288x256x512 .f32) (w : FVec Ideal S288x512x1024 .f32) : FVec Ideal S288x256x1024 .f32 :=
  Host.dotGeneral dot_S288x256x512_S288x512x1024_S288x256x1024_2_1_1_2_0_0 none h w

/-- The experts of the blocks, as the weights are picked by. -/
def pick (e : IVec S288 32) : IVec S288x1 32 :=
  broadcastInDim S288x1 ![0] bcast_S288_S288x1_0 (select (cmpi .slt e (broadcastInDim S288 ![] bcast_S_S288 (constantI S_ 32 0#32))) (addi e (broadcastInDim S288 ![] bcast_S_S288 (constantI S_ 32 32#32))) e)

/-- The blocks in use keep their values, the others are zero. -/
def keep (n : IVec S1 32) (o : FVec Ideal S288x256x1024 .f32) : FVec Ideal S288x256x1024 .f32 :=
  select (broadcastInDim S288x256x1024 ![0, 1, 2] bcast_S288x1x1_S288x256x1024_0_1_2 (cmpi .slt (broadcastInDim S288x1x1 ![0] bcast_S288_S288x1x1_0 (iotaInDim S288 32 0)) (broadcastInDim S288x1x1 ![] bcast_S_S288x1x1 (shapeCast _ n shapeCasts_S1_S_)))) o (broadcastInDim S288x256x1024 ![] bcast_S_S288x256x1024 (id (constant S_ .f32 0x00000000#32)))

theorem up_at (x w) (n : Fin 288) (r : Fin 256) (f : Fin 512) : up x w (ix3 n r f) = ∑ k : Fin 1024, x (ix3 n r k) * w (ix3 n k f) := by
  pointwise [up]

theorem hidden_at (p q) (n : Fin 288) (r : Fin 256) (f : Fin 512) : hidden p q (ix3 n r f) = act (p (ix3 n r f)) (q (ix3 n r f)) := by
  unfold act
  pointwise [hidden]

theorem down_at (h w) (n : Fin 288) (r : Fin 256) (j : Fin 1024) : down h w (ix3 n r j) = ∑ f : Fin 512, h (ix3 n r f) * w (ix3 n f j) := by
  pointwise [down]

theorem pick_at (e : IVec S288 32) (n : Fin 288) (h : (e (ix1 n)).toNat < 32) : pick e (ix2 n 0) = e (ix1 n) := by
  have h0 : IntOp.cmpi .slt (e (ix1 n)) 0#32 = 0#1 := by
    show BitVec.ofBool (BitVec.slt (e (ix1 n)) 0#32) = 0#1
    have : BitVec.slt (e (ix1 n)) 0#32 = false := by
      rw [← Bool.not_eq_true, BitVec.slt_iff_toInt_lt, BitVec.toInt_eq_toNat_cond, show (0#32 : BitVec 32).toInt = 0 from by decide]
      split <;> omega
    rw [this]; rfl
  have h1 : pick e (ix2 n 0) = Scalar.select (IntOp.cmpi .slt (e (ix1 n)) 0#32) (IntOp.addi (e (ix1 n)) 32#32) (e (ix1 n)) := by
    pointwise [pick]
  rw [h1, h0]; rfl

theorem keep_at (u : IVec S1 32) (o) (n : Fin 288) (r : Fin 256) (j : Fin 1024) :
    keep u o (ix3 n r j) = Scalar.select (IntOp.cmpi .slt (BitVec.ofNat 32 n.val) (u (ix1 0))) (o (ix3 n r j)) 0 := by
  have h0 : (constant S_ .f32 0x00000000#32 : FVec Ideal S_ .f32) ix0 = 0 := by pointwise []
  pointwise [keep]
  exact congrArg (Scalar.select (IntOp.cmpi .slt (BitVec.ofNat 32 n.val) (u (ix1 0))) (o (ix3 n r j))) h0

theorem rows_at (x : FVec Ideal S73728x1024 .f32) (n : Fin 288) (r : Fin 256) (k : Fin 1024) :
    (shapeCast S288x256x1024 x shapeCasts_S73728x1024_S288x256x1024 : FVec Ideal S288x256x1024 .f32) (ix3 n r k) = x (ix2 (rowAt n r) k) := by
  have e : rowAt n r = ⟨n.val * 256 + r.val, by omega⟩ := Fin.ext (by show 256 * n.val + r.val = n.val * 256 + r.val; omega)
  rw [e]
  pointwise []

theorem flat_at (x : FVec Ideal S288x256x1024 .f32) (t : Fin 73728) (k : Fin 1024) :
    (shapeCast S73728x1024 x shapeCasts_S288x256x1024_S73728x1024 : FVec Ideal S73728x1024 .f32) (ix2 t k) = x (ix3 (blockOf t) (placeOf t) k) := by
  unfold blockOf placeOf
  pointwise []

/-- Picking whole matrices out of a stack: the matrix at the index, which lies in the stack. -/
theorem gather_at {α : Type} (x : S32x1024x512.Idx → α) (i : IVec S288x1 32) (n : Fin 288) (k : Fin 1024) (f : Fin 512) (e : Fin 32) (he : (i (ix2 n 0)).toInt.toNat = e.val) :
    Host.gather gather_S32x1024x512_S288x1_S288x1024x512_12_0_n_n_0_1_11024512 x i (ix3 n k f) = x (ix3 e k f) := by
  unfold Host.gather
  congr 1
  funext a
  refine Fin.ext ?_
  show gather_S32x1024x512_S288x1_S288x1024x512_12_0_n_n_0_1_11024512.start (ix3 n k f) i a + gather_S32x1024x512_S288x1_S288x1024x512_12_0_n_n_0_1_11024512.batchCoord (ix3 n k f) a + gather_S32x1024x512_S288x1_S288x1024x512_12_0_n_n_0_1_11024512.offCoord (ix3 n k f) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x512_S288x1_S288x1024x512_12_0_n_n_0_1_11024512.startIndexMap from List.mem_singleton.mpr rfl)]
    have hsi : gather_S32x1024x512_S288x1_S288x1024x512_12_0_n_n_0_1_11024512.siIdx (ix3 n k f) ⟨List.idxOf (0 : Fin 3) gather_S32x1024x512_S288x1_S288x1024x512_12_0_n_n_0_1_11024512.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    show min (i (ix2 n 0)).toInt.toNat 31 = e.val
    rw [he]; omega
  · unfold GatherDims.start
    rw [dif_neg (show (1 : Fin 3) ∉ gather_S32x1024x512_S288x1_S288x1024x512_12_0_n_n_0_1_11024512.startIndexMap from by decide)]
    unfold GatherDims.offCoord
    rw [dif_pos ((GatherDims.mem_sKept _ _).mpr ⟨by decide, List.not_mem_nil⟩)]
    simp only [Nat.zero_add]
    rfl
  · unfold GatherDims.start
    rw [dif_neg (show (2 : Fin 3) ∉ gather_S32x1024x512_S288x1_S288x1024x512_12_0_n_n_0_1_11024512.startIndexMap from by decide)]
    unfold GatherDims.offCoord
    rw [dif_pos ((GatherDims.mem_sKept _ _).mpr ⟨by decide, List.not_mem_nil⟩)]
    simp only [Nat.zero_add]
    rfl

/-- Picking whole matrices out of a stack: the matrix at the index, which lies in the stack. -/
theorem gather_at' {α : Type} (x : S32x512x1024.Idx → α) (i : IVec S288x1 32) (n : Fin 288) (k : Fin 512) (f : Fin 1024) (e : Fin 32) (he : (i (ix2 n 0)).toInt.toNat = e.val) :
    Host.gather gather_S32x512x1024_S288x1_S288x512x1024_12_0_n_n_0_1_15121024 x i (ix3 n k f) = x (ix3 e k f) := by
  unfold Host.gather
  congr 1
  funext a
  refine Fin.ext ?_
  show gather_S32x512x1024_S288x1_S288x512x1024_12_0_n_n_0_1_15121024.start (ix3 n k f) i a + gather_S32x512x1024_S288x1_S288x512x1024_12_0_n_n_0_1_15121024.batchCoord (ix3 n k f) a + gather_S32x512x1024_S288x1_S288x512x1024_12_0_n_n_0_1_15121024.offCoord (ix3 n k f) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x512x1024_S288x1_S288x512x1024_12_0_n_n_0_1_15121024.startIndexMap from List.mem_singleton.mpr rfl)]
    have hsi : gather_S32x512x1024_S288x1_S288x512x1024_12_0_n_n_0_1_15121024.siIdx (ix3 n k f) ⟨List.idxOf (0 : Fin 3) gather_S32x512x1024_S288x1_S288x512x1024_12_0_n_n_0_1_15121024.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    show min (i (ix2 n 0)).toInt.toNat 31 = e.val
    rw [he]; omega
  · unfold GatherDims.start
    rw [dif_neg (show (1 : Fin 3) ∉ gather_S32x512x1024_S288x1_S288x512x1024_12_0_n_n_0_1_15121024.startIndexMap from by decide)]
    unfold GatherDims.offCoord
    rw [dif_pos ((GatherDims.mem_sKept _ _).mpr ⟨by decide, List.not_mem_nil⟩)]
    simp only [Nat.zero_add]
    rfl
  · unfold GatherDims.start
    rw [dif_neg (show (2 : Fin 3) ∉ gather_S32x512x1024_S288x1_S288x512x1024_12_0_n_n_0_1_15121024.startIndexMap from by decide)]
    unfold GatherDims.offCoord
    rw [dif_pos ((GatherDims.mem_sKept _ _).mpr ⟨by decide, List.not_mem_nil⟩)]
    simp only [Nat.zero_add]
    rfl

variable (E : IVec S288 32) (u : IVec S1 32) (x : FVec Ideal S73728x1024 .f32) (g w : FVec Ideal S32x1024x512 .f32) (d : FVec Ideal S32x512x1024 .f32)

/-- The rows by block. -/
def rows : FVec Ideal S288x256x1024 .f32 := shapeCast S288x256x1024 x shapeCasts_S73728x1024_S288x256x1024

/-- The weights of the blocks' experts. -/
def wUp (y : FVec Ideal S32x1024x512 .f32) : FVec Ideal S288x1024x512 .f32 := Host.gather gather_S32x1024x512_S288x1_S288x1024x512_12_0_n_n_0_1_11024512 y (pick E)
def wDown : FVec Ideal S288x512x1024 .f32 := Host.gather gather_S32x512x1024_S288x1_S288x512x1024_12_0_n_n_0_1_15121024 d (pick E)

/-- The reference's result. -/
def res : FVec Ideal S73728x1024 .f32 :=
  shapeCast S73728x1024 (keep u (down (hidden (up (rows x) (wUp E g)) (up (rows x) (wUp E w))) (wDown E d))) shapeCasts_S288x256x1024_S73728x1024

variable (hE : ∀ i, (E i).toNat < 32)

include hE in
theorem pick_nat (n : Fin 288) : (pick E (ix2 n 0)).toInt.toNat = (expert E hE n).val := by
  have h := hE (ix1 n)
  rw [pick_at E n h, BitVec.toInt_eq_toNat_cond]
  show (if 2 * (E (ix1 n)).toNat < 2 ^ 32 then ((E (ix1 n)).toNat : ℤ) else _).toNat = (E (ix1 n)).toNat
  rw [if_pos (by omega)]
  rfl

theorem up_row (y : FVec Ideal S32x1024x512 .f32) (n : Fin 288) (r : Fin 256) (f : Fin 512) :
    up (rows x) (wUp E y) (ix3 n r f) = ∑ k : Fin 1024, x (ix2 (rowAt n r) k) * y (ix3 (expert E hE n) k f) := by
  rw [up_at]
  exact Finset.sum_congr rfl fun k _ => congrArg₂ (fun p q : EReal => p * q) (rows_at x n r k) (gather_at y (pick E) n k f (expert E hE n) (pick_nat E hE n))

/-- The reference's result, read at an index. -/
theorem res_at (t : Fin 73728) (j : Fin 1024) : res E u x g w d (ix2 t j) = result E hE u x g w d t j := by
  unfold res
  rw [flat_at, keep_at]
  by_cases h : inUse u (blockOf t)
  · rw [result_use _ _ _ _ _ _ _ _ _ h]
    unfold inUse at h
    rw [h]
    show down _ _ _ = _
    rw [down_at]
    unfold value
    refine Finset.sum_congr rfl fun f _ => congrArg₂ (fun p q : EReal => p * q) ?_ (gather_at' d (pick E) _ f j (expert E hE (blockOf t)) (pick_nat E hE _))
    rw [hidden_at, up_row E x hE, up_row E x hE, rowAt_of]
  · rw [result_rest _ _ _ _ _ _ _ _ _ h]
    unfold inUse at h
    have h0 : IntOp.cmpi .slt (BitVec.ofNat 32 (blockOf t).val) (u (ix1 0)) = 0#1 := by
      have : ∀ b : BitVec 1, ¬b = 1#1 → b = 0#1 := by decide
      exact this _ h
    rw [h0]
    rfl

end Cert.ExpertsRef

end
-- ==== Proof.ExpertsClaims.Claims.lean ====
/- The experts' claims: what the kernel and the reference leave is the same array, whenever every block names one of the 32 experts. -/
module

public import proofs.«01_k».proof.Defs
public import proofs.«01_k».proof.Proof.ExpertsRunBits.Tables
public import proofs.«01_k».proof.Proof.Experts.Points
public import proofs.«01_k».proof.Proof.ExpertsRef.Result
public import Idealize.ShloMosaic.Lib.Quiescent

@[expose] public section

noncomputable section

namespace Cert.ExpertsClaims

open Idealize.ShloMosaic Idealize.SL.Sem Idealize.ShloMosaic.TcCoe

theorem frame_p : Cert.quiescent_Experts := Cert.ExpertsRunBits.frame

theorem frame_pi : Cert.quiescent_ExpertsIdeal := Cert.ExpertsRun.frame

theorem frame_ri : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run m ρ)

theorem frame_ri_pre : Cert.quiescent_ExpertsReferenceIdeal_pre_blocks_name_experts := fun m ρ _ => frame_ri m ρ trivial

theorem preserves : Cert.preserves_Experts_ExpertsIdeal := trivial

section
variable (m : (ℓ : Loc Cert.ExpertsIdeal.nD Cert.ExpertsIdeal.τ Cert.ExpertsIdeal.sig) → Buf (Elt Ideal) ℓ) (ρ : Dev Cert.ExpertsIdeal.nD → PrngReg)
  (m' : (ℓ : Loc Cert.ExpertsReferenceIdeal.nD Cert.ExpertsReferenceIdeal.τ Cert.ExpertsReferenceIdeal.sig) → Buf (Elt Ideal) ℓ) (c : Dev Cert.ExpertsIdeal.nD)

/-- The two memories hold the same arguments. -/
def Agree : Prop :=
  m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
  ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
  ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
  ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
  ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
  ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)

/-- The reference's result, of the arguments in a memory. -/
def resR : FVec Ideal Cert.ExpertsReferenceIdeal.S73728x1024 .f32 :=
  Cert.ExpertsRef.res (m' ((c.tc : Thread Cert.ExpertsReferenceIdeal.nD Cert.ExpertsReferenceIdeal.τ).loc Cert.ExpertsReferenceIdeal.main_arg0))
    (m' ((c.tc : Thread Cert.ExpertsReferenceIdeal.nD Cert.ExpertsReferenceIdeal.τ).loc Cert.ExpertsReferenceIdeal.main_arg1))
    (m' ((c.tc : Thread Cert.ExpertsReferenceIdeal.nD Cert.ExpertsReferenceIdeal.τ).loc Cert.ExpertsReferenceIdeal.main_arg2))
    (m' ((c.tc : Thread Cert.ExpertsReferenceIdeal.nD Cert.ExpertsReferenceIdeal.τ).loc Cert.ExpertsReferenceIdeal.main_arg3))
    (m' ((c.tc : Thread Cert.ExpertsReferenceIdeal.nD Cert.ExpertsReferenceIdeal.τ).loc Cert.ExpertsReferenceIdeal.main_arg4))
    (m' ((c.tc : Thread Cert.ExpertsReferenceIdeal.nD Cert.ExpertsReferenceIdeal.τ).loc Cert.ExpertsReferenceIdeal.main_arg5))

/-- What the kernel leaves in its result. -/
def resK (hp : Cert.Pre_ExpertsIdeal m) : Buf (Elt Ideal) ((c.tc : Thread Cert.ExpertsIdeal.nD Cert.ExpertsIdeal.τ).loc Cert.ExpertsIdeal.main_v0) :=
  (Cert.ExpertsRun.data (Cert.ExpertsRun.tables m hp) m ρ 0 c).arrAt (4 : Fin 5) (Cert.ExpertsRun.pipe (Cert.ExpertsRun.tables m hp)).N

/-- The two results are one array. -/
theorem same (hp : Cert.Pre_ExpertsIdeal m) (h : Agree m m' c) : resR m' c = resK m ρ c hp := by
  obtain ⟨h0, h1, h2, h3, h4, h5⟩ := h
  have hc : c = 0 := Subsingleton.elim _ _
  subst hc
  have hE := Cert.ExpertsRun.names m hp
  funext i
  have e : i = ix2 (⟨(i 0).val, (i 0).isLt⟩ : Fin 73728) (⟨(i 1).val, (i 1).isLt⟩ : Fin 1024) := by
    funext a
    match a with
    | ⟨0, _⟩ => rfl
    | ⟨1, _⟩ => rfl
  rw [e]
  refine Eq.trans ?_ (Cert.ExpertsVal.left_at (Cert.ExpertsRun.tables m hp) m ρ 0 hE _ _).symm
  unfold resR
  rw [h0, h1, h2, h3, h4, h5]
  exact Cert.ExpertsRef.res_at _ _ _ _ _ _ hE _ _

end

/-- The reference's result is its lines' value of the arguments. -/
theorem ref_run (m' : (ℓ : Loc Cert.ExpertsReferenceIdeal.nD Cert.ExpertsReferenceIdeal.τ Cert.ExpertsReferenceIdeal.sig) → Buf (Elt Ideal) ℓ)
    (ρ' : Dev Cert.ExpertsReferenceIdeal.nD → PrngReg) :
    θ_run (Cert.ExpertsReferenceIdeal.defs (F := Ideal)) (onTc (τ := Cert.ExpertsReferenceIdeal.τ) (Cert.ExpertsReferenceIdeal.main (F := Ideal))) ⟨m', fun _ => 0, ρ'⟩
      fun r => ∀ c : Dev Cert.ExpertsReferenceIdeal.nD,
    r.2.mem ((c.tc : Thread Cert.ExpertsReferenceIdeal.nD Cert.ExpertsReferenceIdeal.τ).loc Cert.ExpertsReferenceIdeal.main_v33) = resR m' c
    ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
    ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
    ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
    ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
    ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
    ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5) := by
  unfold resR Cert.ExpertsRef.res Cert.ExpertsRef.keep Cert.ExpertsRef.down Cert.ExpertsRef.hidden Cert.ExpertsRef.up Cert.ExpertsRef.rows Cert.ExpertsRef.wUp Cert.ExpertsRef.wDown Cert.ExpertsRef.pick
  exact Cert.ExpertsReferenceIdeal.Value.run (F := Ideal) m' ρ'

set_option maxHeartbeats 2000000 in
theorem algebraic : Cert.algebraic_ExpertsIdeal_ExpertsReferenceIdeal := by
  intro m ρ m' ρ' hp hagree
  refine ⟨fun c => resK m ρ c hp, ?_, ?_⟩
  · exact (θ_run (Cert.ExpertsIdeal.defs (F := Ideal)) _ _).mono
      (fun r hr c => ⟨(hr.1 c).1 (4 : Fin 5), Cert.ExpertsRun.args_kept _ m ρ (Cert.ExpertsRun.held m hp) r hr.1 c⟩)
      (Cert.ExpertsRun.run (Cert.ExpertsRun.tables m hp) m ρ (Cert.ExpertsRun.held m hp))
  · exact (θ_run Cert.ExpertsReferenceIdeal.defs _ _).mono (fun r h c => ⟨(h c).1.trans (same m ρ m' c hp (hagree c)), (h c).2⟩) (ref_run m' ρ')

end Cert.ExpertsClaims

end
-- ==== Proof.lean ====
/- The proof of the certificate's claim: the gated linear attention's claims, the input projection's and the experts', behind the witnesses of the facts the programs state. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.GlaClaims.Claims
public import proofs.«01_k».proof.Proof.ProjClaims.Claims
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_blocks_name_experts
public import proofs.«01_k».proof.Proof.ExpertsClaims.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Experts.Gen.facts, Cert.ExpertsIdeal.Gen.facts, Cert.ExpertsReferenceIdeal.Gen.facts, Cert.Pre_blocks_name_experts.Gen.facts,
  GlaClaims.frame_p, GlaClaims.frame_pi, GlaClaims.frame_ri, ProjClaims.frame_p, ProjClaims.frame_pi, ProjClaims.frame_ri,
  ExpertsClaims.frame_p, ExpertsClaims.frame_pi, ExpertsClaims.frame_ri, ExpertsClaims.frame_ri_pre,
  GlaClaims.preserves, GlaClaims.algebraic, ProjClaims.preserves, ProjClaims.algebraic,
  ExpertsClaims.preserves, ExpertsClaims.algebraic⟩

end Cert.Proof

end
